-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S4x192x4096 : Shape := ⟨3, ![4, 192, 4096]⟩
abbrev S4x3x2x48x4096 : Shape := ⟨5, ![4, 3, 2, 48, 4096]⟩
abbrev S4x64x4096 : Shape := ⟨3, ![4, 64, 4096]⟩
abbrev S3x4x64x4096 : Shape := ⟨4, ![3, 4, 64, 4096]⟩
abbrev S16x8x128 : Shape := ⟨3, ![16, 8, 128]⟩
abbrev S3 : Shape := ⟨1, ![3]⟩
abbrev S4x3x2 : Shape := ⟨3, ![4, 3, 2]⟩
abbrev S15 : Shape := ⟨1, ![15]⟩
abbrev S_ : Shape := ⟨0, ![]⟩
abbrev S192x4096 : Shape := ⟨2, ![192, 4096]⟩
abbrev S1x192x4096 : Shape := ⟨3, ![1, 192, 4096]⟩
abbrev S1 : Shape := ⟨1, ![1]⟩
abbrev S64x4096 : Shape := ⟨2, ![64, 4096]⟩
abbrev S1x64x4096 : Shape := ⟨3, ![1, 64, 4096]⟩
abbrev S1x1x1 : Shape := ⟨3, ![1, 1, 1]⟩
abbrev S1x1x1x48x4096 : Shape := ⟨5, ![1, 1, 1, 48, 4096]⟩
abbrev S48x4096 : Shape := ⟨2, ![48, 4096]⟩
abbrev S1x48x4096 : Shape := ⟨3, ![1, 48, 4096]⟩
abbrev S1x32x4096 : Shape := ⟨3, ![1, 32, 4096]⟩
abbrev S32x4096 : Shape := ⟨2, ![32, 4096]⟩
abbrev S256x128 : Shape := ⟨2, ![256, 128]⟩
abbrev S1x256x128 : Shape := ⟨3, ![1, 256, 128]⟩
abbrev S32x128 : Shape := ⟨2, ![32, 128]⟩
abbrev S1x32x128 : Shape := ⟨3, ![1, 32, 128]⟩
abbrev S48x128 : Shape := ⟨2, ![48, 128]⟩
abbrev S1x48x128 : Shape := ⟨3, ![1, 48, 128]⟩
abbrev S192x128 : Shape := ⟨2, ![192, 128]⟩
abbrev S1x192x128 : Shape := ⟨3, ![1, 192, 128]⟩
abbrev S1x4x64x4096 : Shape := ⟨4, ![1, 4, 64, 4096]⟩
abbrev S1x1x64x4096 : Shape := ⟨4, ![1, 1, 64, 4096]⟩
abbrev S64x128 : Shape := ⟨2, ![64, 128]⟩
abbrev S1x64x128 : Shape := ⟨3, ![1, 64, 128]⟩
abbrev S8x128 : Shape := ⟨2, ![8, 128]⟩
abbrev S1x8x128 : Shape := ⟨3, ![1, 8, 128]⟩

abbrev nBuf : Space → Nat
  | .hbm => 3
  | .vmem => 10
  | .smem => 0
  | _ => 0

abbrev bufTy : (tb : Table) → Fin (tcTables nBuf tb) → BufTy
  | .hbm, ⟨0, _⟩ => ⟨S256x4096, .bf16⟩
  | .hbm, ⟨1, _⟩ => ⟨S4096x128, .bf16⟩
  | .hbm, ⟨2, _⟩ => ⟨S4096x128, .f32⟩
  | .local _ .vmem, ⟨0, _⟩ => ⟨S256x4096, .bf16⟩
  | .local _ .vmem, ⟨1, _⟩ => ⟨S4096x128, .bf16⟩
  | .local _ .vmem, ⟨2, _⟩ => ⟨S4096x128, .f32⟩
  | .local _ .vmem, ⟨3, _⟩ => ⟨S4x192x4096, .bf16⟩
  | .local _ .vmem, ⟨4, _⟩ => ⟨S4x3x2x48x4096, .bf16⟩
  | .local _ .vmem, ⟨5, _⟩ => ⟨S4x3x2x48x4096, .bf16⟩
  | .local _ .vmem, ⟨6, _⟩ => ⟨S4x64x4096, .bf16⟩
  | .local _ .vmem, ⟨7, _⟩ => ⟨S3x4x64x4096, .bf16⟩
  | .local _ .vmem, ⟨8, _⟩ => ⟨S4096x128, .bf16⟩
  | .local _ .vmem, ⟨9, _⟩ => ⟨S16x8x128, .f32⟩
  | _, _ => ⟨S256x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 153 → Bool
  | ⟨i, _⟩ => dmaSemScopedAt i

abbrev sig : RefSig :=
  (ofTc nBuf bufTy 1 153 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v5 : BitVec 32 := Scalar.addi v2 c4_i32_0
  let c16_i32_1 : BitVec 32 := 16#32
  let v6 : BitVec 32 := Scalar.remsi v5 c16_i32_1
  let c1_i32_7 : BitVec 32 := 1#32
  let v16 : BitVec 32 := Scalar.muli v6 c1_i32_7
  let v17 : BitVec 32 := Scalar.addi c0_i32 v16
  v17.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v7 : BitVec 32 := Scalar.addi v2 c12_i32
  let c16_i32_2 : BitVec 32 := 16#32
  let v8 : BitVec 32 := Scalar.remsi v7 c16_i32_2
  let c1_i32_9 : BitVec 32 := 1#32
  let v18 : BitVec 32 := Scalar.muli v8 c1_i32_9
  let v19 : BitVec 32 := Scalar.addi c0_i32_10 v18
  v19.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_12 : BitVec 32 := 1#32
  let v20 : BitVec 32 := Scalar.muli v11 c1_i32_12
  let v21 : BitVec 32 := Scalar.addi c0_i32_13 v20
  v21.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_15 : BitVec 32 := 1#32
  let v22 : BitVec 32 := Scalar.muli v14 c1_i32_15
  let v23 : BitVec 32 := Scalar.addi c0_i32_16 v22
  v23.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v5 : BitVec 32 := Scalar.addi v2 c4_i32_0
  let c16_i32_1 : BitVec 32 := 16#32
  let v6 : BitVec 32 := Scalar.remsi v5 c16_i32_1
  let c1_i32_25 : BitVec 32 := 1#32
  let v30 : BitVec 32 := Scalar.muli v6 c1_i32_25
  let v31 : BitVec 32 := Scalar.addi c0_i32_26 v30
  v31.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v7 : BitVec 32 := Scalar.addi v2 c12_i32
  let c16_i32_2 : BitVec 32 := 16#32
  let v8 : BitVec 32 := Scalar.remsi v7 c16_i32_2
  let c1_i32_34 : BitVec 32 := 1#32
  let v40 : BitVec 32 := Scalar.muli v8 c1_i32_34
  let v41 : BitVec 32 := Scalar.addi c0_i32_35 v40
  v41.toNat
def k0_dev7 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_53 : BitVec 32 := 1#32
  let v54 : BitVec 32 := Scalar.muli v11 c1_i32_53
  let v55 : BitVec 32 := Scalar.addi c0_i32_54 v54
  v55.toNat
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_69 : BitVec 32 := 1#32
  let v64 : BitVec 32 := Scalar.muli v14 c1_i32_69
  let v65 : BitVec 32 := Scalar.addi c0_i32_70 v64
  v65.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_84 : BitVec 32 := 1#32
  let v74 : BitVec 32 := Scalar.muli v11 c1_i32_84
  let v75 : BitVec 32 := Scalar.addi c0_i32_85 v74
  v75.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_99 : BitVec 32 := 1#32
  let v84 : BitVec 32 := Scalar.muli v14 c1_i32_99
  let v85 : BitVec 32 := Scalar.addi c0_i32_100 v84
  v85.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_108 : BitVec 32 := 1#32
  let v94 : BitVec 32 := Scalar.muli v11 c1_i32_108
  let v95 : BitVec 32 := Scalar.addi c0_i32_109 v94
  v95.toNat
def k0_dev12 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_118 : BitVec 32 := 1#32
  let v104 : BitVec 32 := Scalar.muli v14 c1_i32_118
  let v105 : BitVec 32 := Scalar.addi c0_i32_119 v104
  v105.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v119 : BitVec 32 := Scalar.muli v2 c256_i32
  let v124 : Index := Scalar.indexCast v119
  let c0_130 : Index := 0#32
  ![v124.toNat, 0]
def k0_dev13 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_176 : BitVec 32 := 1#32
  let v146 : BitVec 32 := Scalar.muli v11 c1_i32_176
  let v147 : BitVec 32 := Scalar.addi c0_i32_177 v146
  v147.toNat
def k0_dev14 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_194 : BitVec 32 := 1#32
  let v156 : BitVec 32 := Scalar.muli v14 c1_i32_194
  let v157 : BitVec 32 := Scalar.addi c0_i32_195 v156
  v157.toNat
def k0_dev15 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_244 : BitVec 32 := 1#32
  let v182 : BitVec 32 := Scalar.muli v11 c1_i32_244
  let v183 : BitVec 32 := Scalar.addi c0_i32_245 v182
  v183.toNat
def k0_dev16 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_262 : BitVec 32 := 1#32
  let v192 : BitVec 32 := Scalar.muli v14 c1_i32_262
  let v193 : BitVec 32 := Scalar.addi c0_i32_263 v192
  v193.toNat
def k0_dev17 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_292 : BitVec 32 := 1#32
  let v218 : BitVec 32 := Scalar.muli v11 c1_i32_292
  let v219 : BitVec 32 := Scalar.addi c0_i32_293 v218
  v219.toNat
def k0_dev18 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_302 : BitVec 32 := 1#32
  let v228 : BitVec 32 := Scalar.muli v14 c1_i32_302
  let v229 : BitVec 32 := Scalar.addi c0_i32_303 v228
  v229.toNat
def k0_off2 (d0 : Dev nD) (c0_i32_308 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v238 : BitVec 32 := Scalar.subi v3 c0_i32_308
  let c1_i32_309 : BitVec 32 := 1#32
  let v239 : BitVec 32 := Scalar.subi v238 c1_i32_309
  let c8_i32 : BitVec 32 := 8#32
  let v240 : BitVec 32 := Scalar.addi v239 c8_i32
  let c4_i32_310 : BitVec 32 := 4#32
  let v241 : BitVec 32 := Scalar.remsi v240 c4_i32_310
  let v242 : BitVec 32 := Scalar.addi v4 v241
  let c16_i32_311 : BitVec 32 := 16#32
  let v243 : BitVec 32 := Scalar.remsi v242 c16_i32_311
  let c256_i32_319 : BitVec 32 := 256#32
  let v251 : BitVec 32 := Scalar.muli v243 c256_i32_319
  let c192_i32 : BitVec 32 := 192#32
  let v252 : BitVec 32 := Scalar.addi v251 c192_i32
  let v257 : Index := Scalar.indexCast v252
  let c0_324 : Index := 0#32
  ![v257.toNat, 0]
def k0_off3 (d0 : Dev nD) (c0_i32_312 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v244 : BitVec 32 := Scalar.addi v3 c0_i32_312
  let c1_i32_313 : BitVec 32 := 1#32
  let v245 : BitVec 32 := Scalar.addi v244 c1_i32_313
  let c4_i32_314 : BitVec 32 := 4#32
  let v246 : BitVec 32 := Scalar.remsi v245 c4_i32_314
  let v247 : BitVec 32 := Scalar.addi v4 v246
  let c16_i32_315 : BitVec 32 := 16#32
  let v248 : BitVec 32 := Scalar.remsi v247 c16_i32_315
  let c256_i32_327 : BitVec 32 := 256#32
  let v265 : BitVec 32 := Scalar.muli v248 c256_i32_327
  let c192_i32_328 : BitVec 32 := 192#32
  let v266 : BitVec 32 := Scalar.addi v265 c192_i32_328
  let c32_i32_329 : BitVec 32 := 32#32
  let v267 : BitVec 32 := Scalar.addi v266 c32_i32_329
  let v272 : Index := Scalar.indexCast v267
  let c0_334 : Index := 0#32
  ![v272.toNat, 0]
def k0_off4 (d0 : Dev nD) (c0_i32_336 : BitVec 32) (c0_i32_343 : BitVec 32) (c0_i32_355 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v280 : BitVec 32 := Scalar.subi v3 c0_i32_336
  let c1_i32_337 : BitVec 32 := 1#32
  let v281 : BitVec 32 := Scalar.subi v280 c1_i32_337
  let c8_i32_338 : BitVec 32 := 8#32
  let v282 : BitVec 32 := Scalar.addi v281 c8_i32_338
  let c4_i32_339 : BitVec 32 := 4#32
  let v283 : BitVec 32 := Scalar.remsi v282 c4_i32_339
  let v284 : BitVec 32 := Scalar.addi v4 v283
  let v289 : BitVec 32 := Scalar.addi v284 c0_i32_343
  let c32_i32_344 : BitVec 32 := 32#32
  let v290 : BitVec 32 := Scalar.addi v289 c32_i32_344
  let c16_i32_345 : BitVec 32 := 16#32
  let v291 : BitVec 32 := Scalar.remsi v290 c16_i32_345
  let c256_i32_354 : BitVec 32 := 256#32
  let v297 : BitVec 32 := Scalar.muli v291 c256_i32_354
  let v298 : BitVec 32 := Scalar.addi v297 c0_i32_355
  let v303 : Index := Scalar.indexCast v298
  let c0_360 : Index := 0#32
  ![v303.toNat, 0]
def k0_off4_at (r : Fin 24) : BitVec 32 × BitVec 32 × BitVec 32 :=
  if r.val < 12 then
    if r.val < 6 then
      if r.val < 3 then
        if r.val < 1 then
          (0#32, 0#32, 0#32)
        else
          if r.val < 2 then
            (0#32, 0#32, 48#32)
          else
            (1#32, 0#32, 0#32)
      else
        if r.val < 4 then
          (1#32, 0#32, 48#32)
        else
          if r.val < 5 then
            (2#32, 0#32, 0#32)
          else
            (2#32, 0#32, 48#32)
    else
      if r.val < 9 then
        if r.val < 7 then
          (0#32, 4294967292#32, 0#32)
        else
          if r.val < 8 then
            (0#32, 4294967292#32, 48#32)
          else
            (1#32, 4294967292#32, 0#32)
      else
        if r.val < 10 then
          (1#32, 4294967292#32, 48#32)
        else
          if r.val < 11 then
            (2#32, 4294967292#32, 0#32)
          else
            (2#32, 4294967292#32, 48#32)
  else
    if r.val < 18 then
      if r.val < 15 then
        if r.val < 13 then
          (0#32, 4#32, 0#32)
        else
          if r.val < 14 then
            (0#32, 4#32, 48#32)
          else
            (1#32, 4#32, 0#32)
      else
        if r.val < 16 then
          (1#32, 4#32, 48#32)
        else
          if r.val < 17 then
            (2#32, 4#32, 0#32)
          else
            (2#32, 4#32, 48#32)
    else
      if r.val < 21 then
        if r.val < 19 then
          (0#32, 4294967288#32, 0#32)
        else
          if r.val < 20 then
            (0#32, 4294967288#32, 48#32)
          else
            (1#32, 4294967288#32, 0#32)
      else
        if r.val < 22 then
          (1#32, 4294967288#32, 48#32)
        else
          if r.val < 23 then
            (2#32, 4294967288#32, 0#32)
          else
            (2#32, 4294967288#32, 48#32)
def k0_off5 (d0 : Dev nD) (c0_i32_340 : BitVec 32) (c0_i32_346 : BitVec 32) (c0_i32_369 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v285 : BitVec 32 := Scalar.addi v3 c0_i32_340
  let c1_i32_341 : BitVec 32 := 1#32
  let v286 : BitVec 32 := Scalar.addi v285 c1_i32_341
  let c4_i32_342 : BitVec 32 := 4#32
  let v287 : BitVec 32 := Scalar.remsi v286 c4_i32_342
  let v288 : BitVec 32 := Scalar.addi v4 v287
  let v292 : BitVec 32 := Scalar.addi v288 c0_i32_346
  let c32_i32_347 : BitVec 32 := 32#32
  let v293 : BitVec 32 := Scalar.addi v292 c32_i32_347
  let c16_i32_348 : BitVec 32 := 16#32
  let v294 : BitVec 32 := Scalar.remsi v293 c16_i32_348
  let c256_i32_367 : BitVec 32 := 256#32
  let v311 : BitVec 32 := Scalar.muli v294 c256_i32_367
  let c96_i32_368 : BitVec 32 := 96#32
  let v312 : BitVec 32 := Scalar.addi v311 c96_i32_368
  let v313 : BitVec 32 := Scalar.addi v312 c0_i32_369
  let v318 : Index := Scalar.indexCast v313
  let c0_374 : Index := 0#32
  ![v318.toNat, 0]
def k0_off5_at (r : Fin 24) : BitVec 32 × BitVec 32 × BitVec 32 :=
  if r.val < 12 then
    if r.val < 6 then
      if r.val < 3 then
        if r.val < 1 then
          (0#32, 0#32, 0#32)
        else
          if r.val < 2 then
            (0#32, 0#32, 48#32)
          else
            (1#32, 0#32, 0#32)
      else
        if r.val < 4 then
          (1#32, 0#32, 48#32)
        else
          if r.val < 5 then
            (2#32, 0#32, 0#32)
          else
            (2#32, 0#32, 48#32)
    else
      if r.val < 9 then
        if r.val < 7 then
          (0#32, 4294967292#32, 0#32)
        else
          if r.val < 8 then
            (0#32, 4294967292#32, 48#32)
          else
            (1#32, 4294967292#32, 0#32)
      else
        if r.val < 10 then
          (1#32, 4294967292#32, 48#32)
        else
          if r.val < 11 then
            (2#32, 4294967292#32, 0#32)
          else
            (2#32, 4294967292#32, 48#32)
  else
    if r.val < 18 then
      if r.val < 15 then
        if r.val < 13 then
          (0#32, 4#32, 0#32)
        else
          if r.val < 14 then
            (0#32, 4#32, 48#32)
          else
            (1#32, 4#32, 0#32)
      else
        if r.val < 16 then
          (1#32, 4#32, 48#32)
        else
          if r.val < 17 then
            (2#32, 4#32, 0#32)
          else
            (2#32, 4#32, 48#32)
    else
      if r.val < 21 then
        if r.val < 19 then
          (0#32, 4294967288#32, 0#32)
        else
          if r.val < 20 then
            (0#32, 4294967288#32, 48#32)
          else
            (1#32, 4294967288#32, 0#32)
      else
        if r.val < 22 then
          (1#32, 4294967288#32, 48#32)
        else
          if r.val < 23 then
            (2#32, 4294967288#32, 0#32)
          else
            (2#32, 4294967288#32, 48#32)
def k0_dev19 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_451 : BitVec 32 := 1#32
  let v373 : BitVec 32 := Scalar.muli v11 c1_i32_451
  let v374 : BitVec 32 := Scalar.addi c0_i32_452 v373
  v374.toNat
def k0_dev20 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_469 : BitVec 32 := 1#32
  let v383 : BitVec 32 := Scalar.muli v14 c1_i32_469
  let v384 : BitVec 32 := Scalar.addi c0_i32_470 v383
  v384.toNat
def k0_dev21 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_523 : BitVec 32 := 1#32
  let v409 : BitVec 32 := Scalar.muli v11 c1_i32_523
  let v410 : BitVec 32 := Scalar.addi c0_i32_524 v409
  v410.toNat
def k0_dev22 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_541 : BitVec 32 := 1#32
  let v419 : BitVec 32 := Scalar.muli v14 c1_i32_541
  let v420 : BitVec 32 := Scalar.addi c0_i32_542 v419
  v420.toNat
def k0_dev23 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_571 : BitVec 32 := 1#32
  let v445 : BitVec 32 := Scalar.muli v11 c1_i32_571
  let v446 : BitVec 32 := Scalar.addi c0_i32_572 v445
  v446.toNat
def k0_dev24 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_581 : BitVec 32 := 1#32
  let v455 : BitVec 32 := Scalar.muli v14 c1_i32_581
  let v456 : BitVec 32 := Scalar.addi c0_i32_582 v455
  v456.toNat
def k0_dev25 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v5 : BitVec 32 := Scalar.addi v2 c4_i32_0
  let c16_i32_1 : BitVec 32 := 16#32
  let v6 : BitVec 32 := Scalar.remsi v5 c16_i32_1
  let c1_i32_632 : BitVec 32 := 1#32
  let v515 : BitVec 32 := Scalar.muli v6 c1_i32_632
  let v516 : BitVec 32 := Scalar.addi c0_i32_633 v515
  v516.toNat
def k0_off6 (d0 : Dev nD) (c_m4_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v525 : BitVec 32 := Scalar.addi v2 c_m4_i32
  let c32_i32_638 : BitVec 32 := 32#32
  let v526 : BitVec 32 := Scalar.addi v525 c32_i32_638
  let c16_i32_639 : BitVec 32 := 16#32
  let v527 : BitVec 32 := Scalar.remsi v526 c16_i32_639
  let c256_i32_643 : BitVec 32 := 256#32
  let v530 : BitVec 32 := Scalar.muli v527 c256_i32_643
  let v535 : Index := Scalar.indexCast v530
  let c0_648 : Index := 0#32
  ![v535.toNat, 0]
def k0_off6_at (r : Fin 3) : BitVec 32 :=
  if r.val < 1 then
    4294967292#32
  else
    if r.val < 2 then
      4#32
    else
      4294967288#32
def k0_dev26 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_660 : BitVec 32 := 1#32
  let v542 : BitVec 32 := Scalar.muli v11 c1_i32_660
  let v543 : BitVec 32 := Scalar.addi c0_i32_661 v542
  v543.toNat
def k0_dev27 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_676 : BitVec 32 := 1#32
  let v552 : BitVec 32 := Scalar.muli v14 c1_i32_676
  let v553 : BitVec 32 := Scalar.addi c0_i32_677 v552
  v553.toNat
def k0_dev28 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_692 : BitVec 32 := 1#32
  let v562 : BitVec 32 := Scalar.muli v11 c1_i32_692
  let v563 : BitVec 32 := Scalar.addi c0_i32_693 v562
  v563.toNat
def k0_dev29 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_708 : BitVec 32 := 1#32
  let v572 : BitVec 32 := Scalar.muli v14 c1_i32_708
  let v573 : BitVec 32 := Scalar.addi c0_i32_709 v572
  v573.toNat
def k0_dev30 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v5 : BitVec 32 := Scalar.addi v2 c4_i32_0
  let c16_i32_1 : BitVec 32 := 16#32
  let v6 : BitVec 32 := Scalar.remsi v5 c16_i32_1
  let c1_i32_876 : BitVec 32 := 1#32
  let v707 : BitVec 32 := Scalar.muli v6 c1_i32_876
  let v708 : BitVec 32 := Scalar.addi c0_i32_877 v707
  v708.toNat
def k0_dev31 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v7 : BitVec 32 := Scalar.addi v2 c12_i32
  let c16_i32_2 : BitVec 32 := 16#32
  let v8 : BitVec 32 := Scalar.remsi v7 c16_i32_2
  let c1_i32_884 : BitVec 32 := 1#32
  let v715 : BitVec 32 := Scalar.muli v8 c1_i32_884
  let v716 : BitVec 32 := Scalar.addi c0_i32_885 v715
  v716.toNat
def k0_dev32 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1032 : BitVec 32 := 1#32
  let v858 : BitVec 32 := Scalar.muli v11 c1_i32_1032
  let v859 : BitVec 32 := Scalar.addi c0_i32_1033 v858
  v859.toNat
def k0_dev33 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1050 : BitVec 32 := 1#32
  let v868 : BitVec 32 := Scalar.muli v14 c1_i32_1050
  let v869 : BitVec 32 := Scalar.addi c0_i32_1051 v868
  v869.toNat
def k0_dev34 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1100 : BitVec 32 := 1#32
  let v894 : BitVec 32 := Scalar.muli v11 c1_i32_1100
  let v895 : BitVec 32 := Scalar.addi c0_i32_1101 v894
  v895.toNat
def k0_dev35 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1118 : BitVec 32 := 1#32
  let v904 : BitVec 32 := Scalar.muli v14 c1_i32_1118
  let v905 : BitVec 32 := Scalar.addi c0_i32_1119 v904
  v905.toNat
def k0_dev36 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1239 : BitVec 32 := 1#32
  let v1007 : BitVec 32 := Scalar.muli v11 c1_i32_1239
  let v1008 : BitVec 32 := Scalar.addi c0_i32_1240 v1007
  v1008.toNat
def k0_dev37 (d0 : Dev nD) : Nat :=
  let c0_i32_1258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1257 : BitVec 32 := 1#32
  let v1017 : BitVec 32 := Scalar.muli v14 c1_i32_1257
  let v1018 : BitVec 32 := Scalar.addi c0_i32_1258 v1017
  v1018.toNat
def k0_dev38 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1311 : BitVec 32 := 1#32
  let v1043 : BitVec 32 := Scalar.muli v11 c1_i32_1311
  let v1044 : BitVec 32 := Scalar.addi c0_i32_1312 v1043
  v1044.toNat
def k0_dev39 (d0 : Dev nD) : Nat :=
  let c0_i32_1330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1329 : BitVec 32 := 1#32
  let v1053 : BitVec 32 := Scalar.muli v14 c1_i32_1329
  let v1054 : BitVec 32 := Scalar.addi c0_i32_1330 v1053
  v1054.toNat
def k0_dev40 (d0 : Dev nD) : Nat :=
  let c0_i32_1369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1368 : BitVec 32 := 1#32
  let v1088 : BitVec 32 := Scalar.muli v11 c1_i32_1368
  let v1089 : BitVec 32 := Scalar.addi c0_i32_1369 v1088
  v1089.toNat
def k0_dev41 (d0 : Dev nD) : Nat :=
  let c0_i32_1385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1384 : BitVec 32 := 1#32
  let v1098 : BitVec 32 := Scalar.muli v14 c1_i32_1384
  let v1099 : BitVec 32 := Scalar.addi c0_i32_1385 v1098
  v1099.toNat
def k0_dev42 (d0 : Dev nD) : Nat :=
  let c0_i32_1401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1400 : BitVec 32 := 1#32
  let v1108 : BitVec 32 := Scalar.muli v11 c1_i32_1400
  let v1109 : BitVec 32 := Scalar.addi c0_i32_1401 v1108
  v1109.toNat
def k0_dev43 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1416 : BitVec 32 := 1#32
  let v1118 : BitVec 32 := Scalar.muli v14 c1_i32_1416
  let v1119 : BitVec 32 := Scalar.addi c0_i32_1417 v1118
  v1119.toNat
def k0_dev44 (d0 : Dev nD) : Nat :=
  let c0_i32_1673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1672 : BitVec 32 := 1#32
  let v1330 : BitVec 32 := Scalar.muli v11 c1_i32_1672
  let v1331 : BitVec 32 := Scalar.addi c0_i32_1673 v1330
  v1331.toNat
def k0_dev45 (d0 : Dev nD) : Nat :=
  let c0_i32_1691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1690 : BitVec 32 := 1#32
  let v1340 : BitVec 32 := Scalar.muli v14 c1_i32_1690
  let v1341 : BitVec 32 := Scalar.addi c0_i32_1691 v1340
  v1341.toNat
def k0_dev46 (d0 : Dev nD) : Nat :=
  let c0_i32_1741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1740 : BitVec 32 := 1#32
  let v1366 : BitVec 32 := Scalar.muli v11 c1_i32_1740
  let v1367 : BitVec 32 := Scalar.addi c0_i32_1741 v1366
  v1367.toNat
def k0_dev47 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1758 : BitVec 32 := 1#32
  let v1376 : BitVec 32 := Scalar.muli v14 c1_i32_1758
  let v1377 : BitVec 32 := Scalar.addi c0_i32_1759 v1376
  v1377.toNat
def k0_dev48 (d0 : Dev nD) : Nat :=
  let c0_i32_1880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1879 : BitVec 32 := 1#32
  let v1479 : BitVec 32 := Scalar.muli v11 c1_i32_1879
  let v1480 : BitVec 32 := Scalar.addi c0_i32_1880 v1479
  v1480.toNat
def k0_dev49 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1897 : BitVec 32 := 1#32
  let v1489 : BitVec 32 := Scalar.muli v14 c1_i32_1897
  let v1490 : BitVec 32 := Scalar.addi c0_i32_1898 v1489
  v1490.toNat
def k0_dev50 (d0 : Dev nD) : Nat :=
  let c0_i32_1952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_1951 : BitVec 32 := 1#32
  let v1515 : BitVec 32 := Scalar.muli v11 c1_i32_1951
  let v1516 : BitVec 32 := Scalar.addi c0_i32_1952 v1515
  v1516.toNat
def k0_dev51 (d0 : Dev nD) : Nat :=
  let c0_i32_1970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_1969 : BitVec 32 := 1#32
  let v1525 : BitVec 32 := Scalar.muli v14 c1_i32_1969
  let v1526 : BitVec 32 := Scalar.addi c0_i32_1970 v1525
  v1526.toNat
def k0_dev52 (d0 : Dev nD) : Nat :=
  let c0_i32_2008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_2007 : BitVec 32 := 1#32
  let v1560 : BitVec 32 := Scalar.muli v11 c1_i32_2007
  let v1561 : BitVec 32 := Scalar.addi c0_i32_2008 v1560
  v1561.toNat
def k0_dev53 (d0 : Dev nD) : Nat :=
  let c0_i32_2024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_2023 : BitVec 32 := 1#32
  let v1570 : BitVec 32 := Scalar.muli v14 c1_i32_2023
  let v1571 : BitVec 32 := Scalar.addi c0_i32_2024 v1570
  v1571.toNat
def k0_dev54 (d0 : Dev nD) : Nat :=
  let c0_i32_2040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_2039 : BitVec 32 := 1#32
  let v1580 : BitVec 32 := Scalar.muli v11 c1_i32_2039
  let v1581 : BitVec 32 := Scalar.addi c0_i32_2040 v1580
  v1581.toNat
def k0_dev55 (d0 : Dev nD) : Nat :=
  let c0_i32_2056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_2055 : BitVec 32 := 1#32
  let v1590 : BitVec 32 := Scalar.muli v14 c1_i32_2055
  let v1591 : BitVec 32 := Scalar.addi c0_i32_2056 v1590
  v1591.toNat
def k0_dev56 (d0 : Dev nD) : Nat :=
  let c0_i32_2074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v5 : BitVec 32 := Scalar.addi v2 c4_i32_0
  let c16_i32_1 : BitVec 32 := 16#32
  let v6 : BitVec 32 := Scalar.remsi v5 c16_i32_1
  let c1_i32_2073 : BitVec 32 := 1#32
  let v1606 : BitVec 32 := Scalar.muli v6 c1_i32_2073
  let v1607 : BitVec 32 := Scalar.addi c0_i32_2074 v1606
  v1607.toNat
def k0_off7 (d0 : Dev nD) (c12_i32_2081 : BitVec 32) (c0_i32_2082 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v1616 : BitVec 32 := Scalar.addi v4 c12_i32_2081
  let v1617 : BitVec 32 := Scalar.addi v3 c0_i32_2082
  let c4_i32_2083 : BitVec 32 := 4#32
  let v1618 : BitVec 32 := Scalar.remsi v1617 c4_i32_2083
  let v1619 : BitVec 32 := Scalar.addi v1616 v1618
  let c16_i32_2084 : BitVec 32 := 16#32
  let v1620 : BitVec 32 := Scalar.remsi v1619 c16_i32_2084
  let c256_i32_2089 : BitVec 32 := 256#32
  let v1623 : BitVec 32 := Scalar.muli v1620 c256_i32_2089
  let c192_i32_2090 : BitVec 32 := 192#32
  let v1624 : BitVec 32 := Scalar.addi v1623 c192_i32_2090
  let v1629 : Index := Scalar.indexCast v1624
  let c0_2095 : Index := 0#32
  ![v1629.toNat, 0]
def k0_dev57 (d0 : Dev nD) : Nat :=
  let c0_i32_2393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_2392 : BitVec 32 := 1#32
  let v1895 : BitVec 32 := Scalar.muli v11 c1_i32_2392
  let v1896 : BitVec 32 := Scalar.addi c0_i32_2393 v1895
  v1896.toNat
def k0_dev58 (d0 : Dev nD) : Nat :=
  let c0_i32_2411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_2410 : BitVec 32 := 1#32
  let v1905 : BitVec 32 := Scalar.muli v14 c1_i32_2410
  let v1906 : BitVec 32 := Scalar.addi c0_i32_2411 v1905
  v1906.toNat
def k0_dev59 (d0 : Dev nD) : Nat :=
  let c0_i32_2461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_2460 : BitVec 32 := 1#32
  let v1931 : BitVec 32 := Scalar.muli v11 c1_i32_2460
  let v1932 : BitVec 32 := Scalar.addi c0_i32_2461 v1931
  v1932.toNat
def k0_dev60 (d0 : Dev nD) : Nat :=
  let c0_i32_2479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_2478 : BitVec 32 := 1#32
  let v1941 : BitVec 32 := Scalar.muli v14 c1_i32_2478
  let v1942 : BitVec 32 := Scalar.addi c0_i32_2479 v1941
  v1942.toNat
def k0_dev61 (d0 : Dev nD) : Nat :=
  let c0_i32_2669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_2668 : BitVec 32 := 1#32
  let v2127 : BitVec 32 := Scalar.muli v11 c1_i32_2668
  let v2128 : BitVec 32 := Scalar.addi c0_i32_2669 v2127
  v2128.toNat
def k0_dev62 (d0 : Dev nD) : Nat :=
  let c0_i32_2687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_2686 : BitVec 32 := 1#32
  let v2137 : BitVec 32 := Scalar.muli v14 c1_i32_2686
  let v2138 : BitVec 32 := Scalar.addi c0_i32_2687 v2137
  v2138.toNat
def k0_dev63 (d0 : Dev nD) : Nat :=
  let c0_i32_2741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_3 : BitVec 32 := 1#32
  let v9 : BitVec 32 := Scalar.addi v3 c1_i32_3
  let c4_i32_4 : BitVec 32 := 4#32
  let v10 : BitVec 32 := Scalar.remsi v9 c4_i32_4
  let v11 : BitVec 32 := Scalar.addi v4 v10
  let c1_i32_2740 : BitVec 32 := 1#32
  let v2163 : BitVec 32 := Scalar.muli v11 c1_i32_2740
  let v2164 : BitVec 32 := Scalar.addi c0_i32_2741 v2163
  v2164.toNat
def k0_dev64 (d0 : Dev nD) : Nat :=
  let c0_i32_2759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v12 : BitVec 32 := Scalar.addi v3 c3_i32
  let c4_i32_5 : BitVec 32 := 4#32
  let v13 : BitVec 32 := Scalar.remsi v12 c4_i32_5
  let v14 : BitVec 32 := Scalar.addi v4 v13
  let c1_i32_2758 : BitVec 32 := 1#32
  let v2173 : BitVec 32 := Scalar.muli v14 c1_i32_2758
  let v2174 : BitVec 32 := Scalar.addi c0_i32_2759 v2173
  v2174.toNat
def k0_dev65 (d0 : Dev nD) : Nat :=
  let c0_i32_3941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3935 : BitVec 32 := 1#32
  let v2814 : BitVec 32 := Scalar.addi v2 c1_i32_3935
  let c16_i32_3936 : BitVec 32 := 16#32
  let v2815 : BitVec 32 := Scalar.remsi v2814 c16_i32_3936
  let c1_i32_3940 : BitVec 32 := 1#32
  let v2816 : BitVec 32 := Scalar.muli v2815 c1_i32_3940
  let v2817 : BitVec 32 := Scalar.addi c0_i32_3941 v2816
  v2817.toNat
def k0_dev66 (d0 : Dev nD) : Nat :=
  let c0_i32_3953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3946 : BitVec 32 := 2#32
  let v2826 : BitVec 32 := Scalar.addi v2 c2_i32_3946
  let c16_i32_3947 : BitVec 32 := 16#32
  let v2827 : BitVec 32 := Scalar.remsi v2826 c16_i32_3947
  let c1_i32_3952 : BitVec 32 := 1#32
  let v2828 : BitVec 32 := Scalar.muli v2827 c1_i32_3952
  let v2829 : BitVec 32 := Scalar.addi c0_i32_3953 v2828
  v2829.toNat
def k0_dev67 (d0 : Dev nD) : Nat :=
  let c0_i32_3965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3958 : BitVec 32 := 3#32
  let v2838 : BitVec 32 := Scalar.addi v2 c3_i32_3958
  let c16_i32_3959 : BitVec 32 := 16#32
  let v2839 : BitVec 32 := Scalar.remsi v2838 c16_i32_3959
  let c1_i32_3964 : BitVec 32 := 1#32
  let v2840 : BitVec 32 := Scalar.muli v2839 c1_i32_3964
  let v2841 : BitVec 32 := Scalar.addi c0_i32_3965 v2840
  v2841.toNat
def k0_dev68 (d0 : Dev nD) : Nat :=
  let c0_i32_3977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3970 : BitVec 32 := 4#32
  let v2850 : BitVec 32 := Scalar.addi v2 c4_i32_3970
  let c16_i32_3971 : BitVec 32 := 16#32
  let v2851 : BitVec 32 := Scalar.remsi v2850 c16_i32_3971
  let c1_i32_3976 : BitVec 32 := 1#32
  let v2852 : BitVec 32 := Scalar.muli v2851 c1_i32_3976
  let v2853 : BitVec 32 := Scalar.addi c0_i32_3977 v2852
  v2853.toNat
def k0_dev69 (d0 : Dev nD) : Nat :=
  let c0_i32_3988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v2862 : BitVec 32 := Scalar.addi v2 c5_i32
  let c16_i32_3982 : BitVec 32 := 16#32
  let v2863 : BitVec 32 := Scalar.remsi v2862 c16_i32_3982
  let c1_i32_3987 : BitVec 32 := 1#32
  let v2864 : BitVec 32 := Scalar.muli v2863 c1_i32_3987
  let v2865 : BitVec 32 := Scalar.addi c0_i32_3988 v2864
  v2865.toNat
def k0_dev70 (d0 : Dev nD) : Nat :=
  let c0_i32_3999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v2874 : BitVec 32 := Scalar.addi v2 c6_i32
  let c16_i32_3993 : BitVec 32 := 16#32
  let v2875 : BitVec 32 := Scalar.remsi v2874 c16_i32_3993
  let c1_i32_3998 : BitVec 32 := 1#32
  let v2876 : BitVec 32 := Scalar.muli v2875 c1_i32_3998
  let v2877 : BitVec 32 := Scalar.addi c0_i32_3999 v2876
  v2877.toNat
def k0_dev71 (d0 : Dev nD) : Nat :=
  let c0_i32_4010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v2886 : BitVec 32 := Scalar.addi v2 c7_i32
  let c16_i32_4004 : BitVec 32 := 16#32
  let v2887 : BitVec 32 := Scalar.remsi v2886 c16_i32_4004
  let c1_i32_4009 : BitVec 32 := 1#32
  let v2888 : BitVec 32 := Scalar.muli v2887 c1_i32_4009
  let v2889 : BitVec 32 := Scalar.addi c0_i32_4010 v2888
  v2889.toNat
def k0_dev72 (d0 : Dev nD) : Nat :=
  let c0_i32_4022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_4015 : BitVec 32 := 8#32
  let v2898 : BitVec 32 := Scalar.addi v2 c8_i32_4015
  let c16_i32_4016 : BitVec 32 := 16#32
  let v2899 : BitVec 32 := Scalar.remsi v2898 c16_i32_4016
  let c1_i32_4021 : BitVec 32 := 1#32
  let v2900 : BitVec 32 := Scalar.muli v2899 c1_i32_4021
  let v2901 : BitVec 32 := Scalar.addi c0_i32_4022 v2900
  v2901.toNat
def k0_dev73 (d0 : Dev nD) : Nat :=
  let c0_i32_4033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v2910 : BitVec 32 := Scalar.addi v2 c9_i32
  let c16_i32_4027 : BitVec 32 := 16#32
  let v2911 : BitVec 32 := Scalar.remsi v2910 c16_i32_4027
  let c1_i32_4032 : BitVec 32 := 1#32
  let v2912 : BitVec 32 := Scalar.muli v2911 c1_i32_4032
  let v2913 : BitVec 32 := Scalar.addi c0_i32_4033 v2912
  v2913.toNat
def k0_dev74 (d0 : Dev nD) : Nat :=
  let c0_i32_4044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v2922 : BitVec 32 := Scalar.addi v2 c10_i32
  let c16_i32_4038 : BitVec 32 := 16#32
  let v2923 : BitVec 32 := Scalar.remsi v2922 c16_i32_4038
  let c1_i32_4043 : BitVec 32 := 1#32
  let v2924 : BitVec 32 := Scalar.muli v2923 c1_i32_4043
  let v2925 : BitVec 32 := Scalar.addi c0_i32_4044 v2924
  v2925.toNat
def k0_dev75 (d0 : Dev nD) : Nat :=
  let c0_i32_4055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v2934 : BitVec 32 := Scalar.addi v2 c11_i32
  let c16_i32_4049 : BitVec 32 := 16#32
  let v2935 : BitVec 32 := Scalar.remsi v2934 c16_i32_4049
  let c1_i32_4054 : BitVec 32 := 1#32
  let v2936 : BitVec 32 := Scalar.muli v2935 c1_i32_4054
  let v2937 : BitVec 32 := Scalar.addi c0_i32_4055 v2936
  v2937.toNat
def k0_dev76 (d0 : Dev nD) : Nat :=
  let c0_i32_4067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_4060 : BitVec 32 := 12#32
  let v2946 : BitVec 32 := Scalar.addi v2 c12_i32_4060
  let c16_i32_4061 : BitVec 32 := 16#32
  let v2947 : BitVec 32 := Scalar.remsi v2946 c16_i32_4061
  let c1_i32_4066 : BitVec 32 := 1#32
  let v2948 : BitVec 32 := Scalar.muli v2947 c1_i32_4066
  let v2949 : BitVec 32 := Scalar.addi c0_i32_4067 v2948
  v2949.toNat
def k0_dev77 (d0 : Dev nD) : Nat :=
  let c0_i32_4078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v2958 : BitVec 32 := Scalar.addi v2 c13_i32
  let c16_i32_4072 : BitVec 32 := 16#32
  let v2959 : BitVec 32 := Scalar.remsi v2958 c16_i32_4072
  let c1_i32_4077 : BitVec 32 := 1#32
  let v2960 : BitVec 32 := Scalar.muli v2959 c1_i32_4077
  let v2961 : BitVec 32 := Scalar.addi c0_i32_4078 v2960
  v2961.toNat
def k0_dev78 (d0 : Dev nD) : Nat :=
  let c0_i32_4089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v2970 : BitVec 32 := Scalar.addi v2 c14_i32
  let c16_i32_4083 : BitVec 32 := 16#32
  let v2971 : BitVec 32 := Scalar.remsi v2970 c16_i32_4083
  let c1_i32_4088 : BitVec 32 := 1#32
  let v2972 : BitVec 32 := Scalar.muli v2971 c1_i32_4088
  let v2973 : BitVec 32 := Scalar.addi c0_i32_4089 v2972
  v2973.toNat
def k0_dev79 (d0 : Dev nD) : Nat :=
  let c0_i32_4101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_4094 : BitVec 32 := 15#32
  let v2982 : BitVec 32 := Scalar.addi v2 c15_i32_4094
  let c16_i32_4095 : BitVec 32 := 16#32
  let v2983 : BitVec 32 := Scalar.remsi v2982 c16_i32_4095
  let c1_i32_4100 : BitVec 32 := 1#32
  let v2984 : BitVec 32 := Scalar.muli v2983 c1_i32_4100
  let v2985 : BitVec 32 := Scalar.addi c0_i32_4101 v2984
  v2985.toNat
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Copies.lean ====
/-
# The copies of the all-gather, the pieces of the buffers they move, and the order in which a device runs them
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.KernelIdealProof

open Cert.KernelIdeal Cert.KernelIdeal.Gen
open Idealize.ShloMosaic
open Idealize.ShloMosaic.TcCoe

/-! ## The copies -/

/-- The 75 remote copies a device issues: `a1` the three column-ring copies of the forwarded rows; `cwA`, `cwB` the
    clockwise row-ring copies (first hop, later hops), `ccwA`, `ccwB` the counter-clockwise ones; `bcw`, `bccw` the
    row-ring copies of the aggregated rows; `b2A`, `b2B` the column-ring copies of the aggregate; `ax` the maxima. -/
inductive Cp
  | a1 (k : Fin 3)
  | cwA (i : Fin 4) (j : Fin 2)
  | ccwA (i : Fin 4) (j : Fin 2)
  | cwB (i : Fin 4) (h : Fin 2) (j : Fin 2)
  | ccwB (i : Fin 4) (h : Fin 2) (j : Fin 2)
  | bcw (h : Fin 3)
  | bccw (h : Fin 3)
  | b2A (k : Fin 2)
  | b2B
  | ax (d : Fin 15)
  deriving DecidableEq

def Cp.all : List Cp := [.a1 0, .a1 1, .a1 2, .cwA 0 0, .cwA 0 1, .cwA 1 0, .cwA 1 1, .cwA 2 0, .cwA 2 1, .cwA 3 0, .cwA 3 1, .ccwA 0 0, .ccwA 0 1, .ccwA 1 0, .ccwA 1 1, .ccwA 2 0, .ccwA 2 1, .ccwA 3 0, .ccwA 3 1, .cwB 0 0 0, .cwB 0 0 1, .cwB 0 1 0, .cwB 0 1 1, .cwB 1 0 0, .cwB 1 0 1, .cwB 1 1 0, .cwB 1 1 1, .cwB 2 0 0, .cwB 2 0 1, .cwB 2 1 0, .cwB 2 1 1, .cwB 3 0 0, .cwB 3 0 1, .cwB 3 1 0, .cwB 3 1 1, .ccwB 0 0 0, .ccwB 0 0 1, .ccwB 0 1 0, .ccwB 0 1 1, .ccwB 1 0 0, .ccwB 1 0 1, .ccwB 1 1 0, .ccwB 1 1 1, .ccwB 2 0 0, .ccwB 2 0 1, .ccwB 2 1 0, .ccwB 2 1 1, .ccwB 3 0 0, .ccwB 3 0 1, .ccwB 3 1 0, .ccwB 3 1 1, .bcw 0, .bcw 1, .bcw 2, .bccw 0, .bccw 1, .bccw 2, .b2A 0, .b2A 1, .b2B, .ax 0, .ax 1, .ax 2, .ax 3, .ax 4, .ax 5, .ax 6, .ax 7, .ax 8, .ax 9, .ax 10, .ax 11, .ax 12, .ax 13, .ax 14]

theorem Cp.all_nodup : Cp.all.Nodup := by decide +kernel
theorem Cp.mem_all (κ : Cp) : κ ∈ Cp.all := by
  cases κ with
  | a1 k => revert k; decide +kernel
  | cwA i j => revert i j; decide +kernel
  | ccwA i j => revert i j; decide +kernel
  | cwB i h j => revert i h j; decide +kernel
  | ccwB i h j => revert i h j; decide +kernel
  | bcw h => revert h; decide +kernel
  | bccw h => revert h; decide +kernel
  | b2A k => revert k; decide +kernel
  | b2B => decide +kernel
  | ax d => revert d; decide +kernel

instance : Fintype Cp := ⟨⟨(Cp.all : Multiset Cp), Cp.all_nodup⟩, Cp.mem_all⟩

/-- The pieces the buffers are cut into: every copy's source and destination is a union of pieces. -/
inductive Pc
  | col (s : Fin 4) (q : Fin 4)
  | cw (i : Fin 4) (d : Fin 3) (j : Fin 2)
  | ccw (i : Fin 4) (d : Fin 3) (j : Fin 2)
  | agg (s : Fin 4) (f : Fin 2)
  | aggr (s : Fin 3)
  | am (s : Fin 16)
  deriving DecidableEq

def Pc.all : List Pc := [.col 0 0, .col 0 1, .col 0 2, .col 0 3, .col 1 0, .col 1 1, .col 1 2, .col 1 3, .col 2 0, .col 2 1, .col 2 2, .col 2 3, .col 3 0, .col 3 1, .col 3 2, .col 3 3, .cw 0 0 0, .cw 0 0 1, .cw 0 1 0, .cw 0 1 1, .cw 0 2 0, .cw 0 2 1, .cw 1 0 0, .cw 1 0 1, .cw 1 1 0, .cw 1 1 1, .cw 1 2 0, .cw 1 2 1, .cw 2 0 0, .cw 2 0 1, .cw 2 1 0, .cw 2 1 1, .cw 2 2 0, .cw 2 2 1, .cw 3 0 0, .cw 3 0 1, .cw 3 1 0, .cw 3 1 1, .cw 3 2 0, .cw 3 2 1, .ccw 0 0 0, .ccw 0 0 1, .ccw 0 1 0, .ccw 0 1 1, .ccw 0 2 0, .ccw 0 2 1, .ccw 1 0 0, .ccw 1 0 1, .ccw 1 1 0, .ccw 1 1 1, .ccw 1 2 0, .ccw 1 2 1, .ccw 2 0 0, .ccw 2 0 1, .ccw 2 1 0, .ccw 2 1 1, .ccw 2 2 0, .ccw 2 2 1, .ccw 3 0 0, .ccw 3 0 1, .ccw 3 1 0, .ccw 3 1 1, .ccw 3 2 0, .ccw 3 2 1, .agg 0 0, .agg 0 1, .agg 1 0, .agg 1 1, .agg 2 0, .agg 2 1, .agg 3 0, .agg 3 1, .aggr 0, .aggr 1, .aggr 2, .am 0, .am 1, .am 2, .am 3, .am 4, .am 5, .am 6, .am 7, .am 8, .am 9, .am 10, .am 11, .am 12, .am 13, .am 14, .am 15]

theorem Pc.all_nodup : Pc.all.Nodup := by decide +kernel
theorem Pc.mem_all (p : Pc) : p ∈ Pc.all := by
  cases p with
  | col s q => revert s q; decide +kernel
  | cw i d j => revert i d j; decide +kernel
  | ccw i d j => revert i d j; decide +kernel
  | agg s f => revert s f; decide +kernel
  | aggr s => revert s; decide +kernel
  | am s => revert s; decide +kernel

instance : Fintype Pc := ⟨⟨(Pc.all : Multiset Pc), Pc.all_nodup⟩, Pc.mem_all⟩

/-! ## The memrefs the copies run between -/

abbrev colM : Memref sig .tc .vmem S4x192x4096 .bf16 := Memref.whole cc0_scratch0
abbrev cwM : Memref sig .tc .vmem S4x3x2x48x4096 .bf16 := Memref.whole cc0_scratch1
abbrev ccwM : Memref sig .tc .vmem S4x3x2x48x4096 .bf16 := Memref.whole cc0_scratch2
abbrev aggM : Memref sig .tc .vmem S4x64x4096 .bf16 := Memref.whole cc0_scratch3
abbrev aggrM : Memref sig .tc .vmem S3x4x64x4096 .bf16 := Memref.whole cc0_scratch4
abbrev wbM : Memref sig .tc .vmem S4096x128 .bf16 := Memref.whole cc0_scratch5
abbrev amM : Memref sig .tc .vmem S16x8x128 .f32 := Memref.whole cc0_scratch6

theorem inb3 {a b c : ℕ} (d : Fin 3 → ℕ) (z : Fin 3 → ℕ) (h0 : a + z 0 ≤ d 0) (h1 : b + z 1 ≤ d 1) (h2 : c + z 2 ≤ d 2) :
    ∀ x, (![a, b, c] : Fin 3 → ℕ) x + z x ≤ (⟨3, d⟩ : Shape).size x := by
  intro x; fin_cases x
  · exact h0
  · exact h1
  · exact h2

theorem inb4 {a b c e : ℕ} (d : Fin 4 → ℕ) (z : Fin 4 → ℕ) (h0 : a + z 0 ≤ d 0) (h1 : b + z 1 ≤ d 1) (h2 : c + z 2 ≤ d 2)
    (h3 : e + z 3 ≤ d 3) : ∀ x, (![a, b, c, e] : Fin 4 → ℕ) x + z x ≤ (⟨4, d⟩ : Shape).size x := by
  intro x; fin_cases x
  · exact h0
  · exact h1
  · exact h2
  · exact h3

theorem inb5 {a b c e f : ℕ} (d : Fin 5 → ℕ) (z : Fin 5 → ℕ) (h0 : a + z 0 ≤ d 0) (h1 : b + z 1 ≤ d 1) (h2 : c + z 2 ≤ d 2)
    (h3 : e + z 3 ≤ d 3) (h4 : f + z 4 ≤ d 4) : ∀ x, (![a, b, c, e, f] : Fin 5 → ℕ) x + z x ≤ (⟨5, d⟩ : Shape).size x := by
  intro x; fin_cases x
  · exact h0
  · exact h1
  · exact h2
  · exact h3
  · exact h4

theorem inb1 {a : ℕ} (d : Fin 1 → ℕ) (z : Fin 1 → ℕ) (h0 : a + z 0 ≤ d 0) :
    ∀ x, (![a] : Fin 1 → ℕ) x + z x ≤ (⟨1, d⟩ : Shape).size x := by
  intro x; fin_cases x; exact h0

/-- A slot of the column ring's buffer. -/
abbrev colSl (s : Fin 4) : Memref sig .tc .vmem S192x4096 .bf16 :=
  (colM.slice (Rect.unit (s := S4x192x4096) ![s.val, 0, 0] S1x192x4096.size (inb3 _ _ (by have := s.isLt; simp; omega) (by decide) (by decide)))
    (fun _ => rfl)).squeeze S192x4096 squeezes_S1x192x4096_S192x4096
/-- A 48-row quarter of a slot of the column ring's buffer. -/
abbrev colQ (s q : Fin 4) : Memref sig .tc .vmem S48x4096 .bf16 :=
  (colM.slice (Rect.unit (s := S4x192x4096) ![s.val, 48 * q.val, 0] S1x48x4096.size (inb3 _ _ (by have := s.isLt; simp; omega) (by have := q.isLt; simp; omega) (by decide)))
    (fun _ => rfl)).squeeze S48x4096 squeezes_S1x48x4096_S48x4096
/-- A slot of the clockwise row ring's buffer. -/
abbrev cwSl (i : Fin 4) (d : Fin 3) (j : Fin 2) : Memref sig .tc .vmem S48x4096 .bf16 :=
  (cwM.slice (Rect.unit (s := S4x3x2x48x4096) ![i.val, d.val, j.val, 0, 0] S1x1x1x48x4096.size
    (inb5 _ _ (by have := i.isLt; simp; omega) (by have := d.isLt; simp; omega) (by have := j.isLt; simp; omega) (by decide) (by decide)))
    (fun _ => rfl)).squeeze S48x4096 squeezes_S1x1x1x48x4096_S48x4096
/-- A slot of the counter-clockwise row ring's buffer. -/
abbrev ccwSl (i : Fin 4) (d : Fin 3) (j : Fin 2) : Memref sig .tc .vmem S48x4096 .bf16 :=
  (ccwM.slice (Rect.unit (s := S4x3x2x48x4096) ![i.val, d.val, j.val, 0, 0] S1x1x1x48x4096.size
    (inb5 _ _ (by have := i.isLt; simp; omega) (by have := d.isLt; simp; omega) (by have := j.isLt; simp; omega) (by decide) (by decide)))
    (fun _ => rfl)).squeeze S48x4096 squeezes_S1x1x1x48x4096_S48x4096
/-- A 32-row half of a slot of the aggregate. -/
abbrev aggSl (s : Fin 4) (f : Fin 2) : Memref sig .tc .vmem S32x4096 .bf16 :=
  (aggM.slice (Rect.unit (s := S4x64x4096) ![s.val, 32 * f.val, 0] S1x32x4096.size (inb3 _ _ (by have := s.isLt; simp; omega) (by have := f.isLt; simp; omega) (by decide)))
    (fun _ => rfl)).squeeze S32x4096 squeezes_S1x32x4096_S32x4096
/-- A slot of the received aggregates. -/
abbrev aggrSl (s : Fin 3) : Memref sig .tc .vmem S4x64x4096 .bf16 :=
  (aggrM.slice (Rect.unit (s := S3x4x64x4096) ![s.val, 0, 0, 0] S1x4x64x4096.size (inb4 _ _ (by have := s.isLt; simp; omega) (by decide) (by decide) (by decide)))
    (fun _ => rfl)).squeeze S4x64x4096 squeezes_S1x4x64x4096_S4x64x4096
/-- A slot of the maxima. -/
abbrev amSl (s : Fin 16) : Memref sig .tc .vmem S8x128 .f32 :=
  (amM.slice (Rect.unit (s := S16x8x128) ![s.val, 0, 0] S1x8x128.size (inb3 _ _ (by have := s.isLt; simp; omega) (by decide) (by decide)))
    (fun _ => rfl)).squeeze S8x128 squeezes_S1x8x128_S8x128

/-- One semaphore of an array of three. -/
abbrev sem3 (a : DmaSems sig S3) (k : Fin 3) : DmaSem sig :=
  ((a.slice (Rect.unit (s := S3) ![k.val] S1.size (inb1 _ _ (by have := k.isLt; simp; omega)))).squeeze S_ squeezes_S1_S_).sem
/-- One semaphore of an array of fifteen. -/
abbrev sem15 (a : DmaSems sig S15) (k : Fin 15) : DmaSem sig :=
  ((a.slice (Rect.unit (s := S15) ![k.val] S1.size (inb1 _ _ (by have := k.isLt; simp; omega)))).squeeze S_ squeezes_S1_S_).sem
/-- One semaphore of a row ring's array. -/
abbrev semR (a : DmaSems sig S4x3x2) (i : Fin 4) (h : Fin 3) (j : Fin 2) : DmaSem sig :=
  ((a.slice (Rect.unit (s := S4x3x2) ![i.val, h.val, j.val] S1x1x1.size
    (inb3 _ _ (by have := i.isLt; simp; omega) (by have := h.isLt; simp; omega) (by have := j.isLt; simp; omega)))).squeeze S_ squeezes_S1x1x1_S_).sem

/-- The slot of the column ring's buffer whose rows go round the row ring as item `i`. -/
abbrev slI : Fin 4 → Fin 4 := ![3, 0, 2, 1]
/-- The source and destination slots of the later row-ring hops. -/
abbrev hS : Fin 2 → Fin 3 := ![1, 0]
abbrev hD : Fin 2 → Fin 3 := ![0, 2]
/-- The quarter the first hop sends: clockwise the first two quarters of the slot, counter-clockwise the last two. -/
abbrev qCw (j : Fin 2) : Fin 4 := ![0, 1] j
abbrev qCcw (j : Fin 2) : Fin 4 := ![2, 3] j
abbrev a1S : Fin 3 → Fin 4 := ![3, 0, 3]
abbrev a1D : Fin 3 → Fin 4 := ![0, 1, 2]
abbrev bcS : Fin 3 → Fin 4 := ![0, 3, 2]
abbrev bcD : Fin 3 → Fin 4 := ![3, 2, 1]
abbrev bccS : Fin 3 → Fin 4 := ![0, 1, 2]
abbrev bccD : Fin 3 → Fin 4 := ![1, 2, 3]
abbrev b2D : Fin 2 → Fin 3 := ![0, 2]
abbrev axD (d : Fin 15) : Fin 16 := d.castSucc

abbrev shp : Cp → Shape
  | .a1 _ => S192x4096
  | .cwA _ _ | .ccwA _ _ | .cwB _ _ _ | .ccwB _ _ _ => S48x4096
  | .bcw _ | .bccw _ => S32x4096
  | .b2A _ | .b2B => S4x64x4096
  | .ax _ => S8x128
abbrev ety : Cp → EltTy
  | .ax _ => .f32
  | .a1 _ | .cwA _ _ | .ccwA _ _ | .cwB _ _ _ | .ccwB _ _ _ | .bcw _ | .bccw _ | .b2A _ | .b2B => .bf16

/-- What a copy reads, on the device that issues it. -/
abbrev src : (κ : Cp) → Memref sig .tc .vmem (shp κ) (ety κ)
  | .a1 k => colSl (a1S k)
  | .cwA i j => colQ (slI i) (qCw j)
  | .ccwA i j => colQ (slI i) (qCcw j)
  | .cwB i h j => cwSl i (hS h) j
  | .ccwB i h j => ccwSl i (hS h) j
  | .bcw h => aggSl (bcS h) 0
  | .bccw h => aggSl (bccS h) 1
  | .b2A _ => aggM
  | .b2B => aggrSl 0
  | .ax _ => amSl 15

/-- What a copy writes, on the device it is addressed to. -/
abbrev dst : (κ : Cp) → Memref sig .tc .vmem (shp κ) (ety κ)
  | .a1 k => colSl (a1D k)
  | .cwA i j => cwSl i 1 j
  | .ccwA i j => ccwSl i 1 j
  | .cwB i h j => cwSl i (hD h) j
  | .ccwB i h j => ccwSl i (hD h) j
  | .bcw h => aggSl (bcD h) 0
  | .bccw h => aggSl (bccD h) 1
  | .b2A k => aggrSl (b2D k)
  | .b2B => aggrSl 1
  | .ax d => amSl (axD d)

abbrev a2 : Fin 2 → Fin 3 := ![0, 2]

/-- The semaphore a copy raises at its issuer when it has read its source. -/
abbrev sndS : Cp → DmaSem sig
  | .a1 k => sem3 cc0_scratch7 k
  | .cwA i j => semR cc0_scratch9 i 0 j
  | .ccwA i j => semR cc0_scratch11 i 0 j
  | .cwB i h j => semR cc0_scratch9 i h.succ j
  | .ccwB i h j => semR cc0_scratch11 i h.succ j
  | .bcw h => sem3 cc0_scratch13 h
  | .bccw h => sem3 cc0_scratch15 h
  | .b2A k => sem3 cc0_scratch17 (a2 k)
  | .b2B => sem3 cc0_scratch17 1
  | .ax d => sem15 cc0_scratch19 d

/-- The semaphore a copy raises at the device it is addressed to when it has landed. -/
abbrev rcvS : Cp → DmaSem sig
  | .a1 k => sem3 cc0_scratch8 k
  | .cwA i j => semR cc0_scratch10 i 0 j
  | .ccwA i j => semR cc0_scratch12 i 0 j
  | .cwB i h j => semR cc0_scratch10 i h.succ j
  | .ccwB i h j => semR cc0_scratch12 i h.succ j
  | .bcw h => sem3 cc0_scratch14 h
  | .bccw h => sem3 cc0_scratch16 h
  | .b2A k => sem3 cc0_scratch18 (a2 k)
  | .b2B => sem3 cc0_scratch18 1
  | .ax d => sem15 cc0_scratch20 d

/-- The send and receive semaphores' places in the pool, as numbers. -/
def sndV : Cp → ℕ
  | .a1 k => 3 + k.val
  | .cwA i j => 9 + (i.val * 6 + j.val)
  | .cwB i h j => 9 + (i.val * 6 + (h.val + 1) * 2 + j.val)
  | .ccwA i j => 57 + (i.val * 6 + j.val)
  | .ccwB i h j => 57 + (i.val * 6 + (h.val + 1) * 2 + j.val)
  | .bcw h => 105 + h.val
  | .bccw h => 111 + h.val
  | .b2A k => 117 + 2 * k.val
  | .b2B => 118
  | .ax d => 123 + d.val
def rcvV : Cp → ℕ
  | .a1 k => 6 + k.val
  | .cwA i j => 33 + (i.val * 6 + j.val)
  | .cwB i h j => 33 + (i.val * 6 + (h.val + 1) * 2 + j.val)
  | .ccwA i j => 81 + (i.val * 6 + j.val)
  | .ccwB i h j => 81 + (i.val * 6 + (h.val + 1) * 2 + j.val)
  | .bcw h => 108 + h.val
  | .bccw h => 114 + h.val
  | .b2A k => 120 + 2 * k.val
  | .b2B => 121
  | .ax d => 138 + d.val

theorem sndS_val : ∀ κ, (sndS κ).val = sndV κ := by decide +kernel
theorem rcvS_val : ∀ κ, (rcvS κ).val = rcvV κ := by decide +kernel
theorem sndV_inj : ∀ κ κ', sndV κ = sndV κ' → κ = κ' := by decide +kernel
theorem rcvV_inj : ∀ κ κ', rcvV κ = rcvV κ' → κ = κ' := by decide +kernel
theorem sndV_ne_rcvV : ∀ κ κ', sndV κ ≠ rcvV κ' := by decide +kernel
theorem sndS_inj {κ κ' : Cp} (h : sndS κ = sndS κ') : κ = κ' := sndV_inj _ _ (by rw [← sndS_val, ← sndS_val, h])
theorem rcvS_inj {κ κ' : Cp} (h : rcvS κ = rcvS κ') : κ = κ' := rcvV_inj _ _ (by rw [← rcvS_val, ← rcvS_val, h])
theorem sndS_ne_rcvS (κ κ' : Cp) : sndS κ ≠ rcvS κ' := fun h => sndV_ne_rcvV κ κ' (by rw [← sndS_val, ← rcvS_val, h])

/-! ## The devices -/

/-- The device `n` places further, the devices numbered round. -/
def shift (n : ℕ) (c : Dev nD) : Dev nD := ⟨(c.val + n) % 16, Nat.mod_lt _ (by decide)⟩
/-- The device `n` places to the right in the same row. -/
def right (n : ℕ) (c : Dev nD) : Dev nD := ⟨c.val / 4 * 4 + (c.val % 4 + n) % 4, by have := c.isLt; have := Nat.mod_lt (c.val % 4 + n) (show 0 < 4 by decide); show _ < 16; have : c.val < 16 := c.isLt; omega⟩

/-- The device a copy is addressed to. -/
abbrev tgt : Cp → Dev nD → Dev nD
  | .a1 k => shift (![4, 4, 12] k)
  | .cwA _ _ | .cwB _ _ _ | .bcw _ => right 1
  | .ccwA _ _ | .ccwB _ _ _ | .bccw _ => right 3
  | .b2A k => shift (![4, 12] k)
  | .b2B => shift 4
  | .ax d => shift (d.val + 1)
/-- The device a copy comes from. -/
abbrev org : Cp → Dev nD → Dev nD
  | .a1 k => shift (![12, 12, 4] k)
  | .cwA _ _ | .cwB _ _ _ | .bcw _ => right 3
  | .ccwA _ _ | .ccwB _ _ _ | .bccw _ => right 1
  | .b2A k => shift (![12, 4] k)
  | .b2B => shift 12
  | .ax d => shift (15 - d.val)

theorem org_tgt : ∀ κ c, org κ (tgt κ c) = c := by decide +kernel
theorem tgt_org : ∀ κ c, tgt κ (org κ c) = c := by decide +kernel

/-! ## The pieces each copy reads and writes -/

abbrev sp : Cp → Finset Pc
  | .a1 k => {.col (a1S k) 0, .col (a1S k) 1, .col (a1S k) 2, .col (a1S k) 3}
  | .cwA i j => {.col (slI i) (qCw j)}
  | .ccwA i j => {.col (slI i) (qCcw j)}
  | .cwB i h j => {.cw i (hS h) j}
  | .ccwB i h j => {.ccw i (hS h) j}
  | .bcw h => {.agg (bcS h) 0}
  | .bccw h => {.agg (bccS h) 1}
  | .b2A _ => {.agg 0 0, .agg 0 1, .agg 1 0, .agg 1 1, .agg 2 0, .agg 2 1, .agg 3 0, .agg 3 1}
  | .b2B => {.aggr 0}
  | .ax _ => {.am 15}
abbrev dp : Cp → Finset Pc
  | .a1 k => {.col (a1D k) 0, .col (a1D k) 1, .col (a1D k) 2, .col (a1D k) 3}
  | .cwA i j => {.cw i 1 j}
  | .ccwA i j => {.ccw i 1 j}
  | .cwB i h j => {.cw i (hD h) j}
  | .ccwB i h j => {.ccw i (hD h) j}
  | .bcw h => {.agg (bcD h) 0}
  | .bccw h => {.agg (bccD h) 1}
  | .b2A k => {.aggr (b2D k)}
  | .b2B => {.aggr 1}
  | .ax d => {.am (axD d)}

/-- Which of a piece's read shares a copy takes with it. -/
def tki : Cp → Fin 15
  | .a1 k => ![0, 0, 1] k
  | .cwA _ _ | .ccwA _ _ => 2
  | .cwB _ _ _ | .ccwB _ _ _ | .bcw _ | .bccw _ | .b2B => 0
  | .b2A k => ![1, 2] k
  | .ax d => d

/-- No two copies take the same share of the same piece. -/
theorem sp_unique : ∀ κ κ', tki κ = tki κ' → (∃ p ∈ sp κ, p ∈ sp κ') → κ = κ' := by decide +kernel
/-- Every piece is written by one copy at most. -/
theorem dp_unique : ∀ κ κ', (∃ p ∈ dp κ, p ∈ dp κ') → κ = κ' := by decide +kernel

/-! ## The order of a device's steps -/

/-- When a device issues each copy. -/
def tS : Cp → ℕ
  | .a1 k => ![2, 36, 3] k
  | .cwA i j => ![![5, 7], ![37, 39], ![66, 68], ![91, 93]] i j
  | .ccwA i j => ![![6, 8], ![38, 40], ![67, 69], ![92, 94]] i j
  | .cwB i h j => ![![![13, 17], ![25, 29]], ![![51, 55], ![59, 63]], ![![76, 80], ![84, 88]], ![![103, 107], ![112, 116]]] i h j
  | .ccwB i h j => ![![![14, 18], ![26, 30]], ![![52, 56], ![60, 64]], ![![77, 81], ![85, 89]], ![![104, 108], ![113, 117]]] i h j
  | .bcw h => ![9, 21, 33] h
  | .bccw h => ![10, 22, 34] h
  | .b2A k => ![47, 48] k
  | .b2B => 96
  | .ax d => ![184, 185, 186, 187, 188, 189, 190, 191, 192, 193, 194, 195, 196, 197, 198] d

/-- When a device waits for the arrival of each copy sent to it. -/
def tR : Cp → ℕ
  | .a1 k => ![35, 90, 65] k
  | .cwA i j => ![![11, 15], ![49, 53], ![74, 78], ![101, 105]] i j
  | .ccwA i j => ![![12, 16], ![50, 54], ![75, 79], ![102, 106]] i j
  | .cwB i h j => ![![![23, 27], ![41, 43]], ![![57, 61], ![70, 72]], ![![82, 86], ![97, 99]], ![![110, 114], ![118, 120]]] i h j
  | .ccwB i h j => ![![![24, 28], ![42, 44]], ![![58, 62], ![71, 73]], ![![83, 87], ![98, 100]], ![![111, 115], ![119, 121]]] i h j
  | .bcw h => ![19, 31, 45] h
  | .bccw h => ![20, 32, 46] h
  | .b2A k => ![95, 109] k
  | .b2B => 122
  | .ax d => ![200, 202, 204, 206, 208, 210, 212, 214, 216, 218, 220, 222, 224, 226, 228] d

/-- When a device waits until each copy it issued has left. -/
def tW : Cp → ℕ
  | .a1 k => ![177, 178, 179] k
  | .cwA i j => ![![123, 125], ![135, 137], ![147, 149], ![159, 161]] i j
  | .ccwA i j => ![![124, 126], ![136, 138], ![148, 150], ![160, 162]] i j
  | .cwB i h j => ![![![127, 129], ![131, 133]], ![![139, 141], ![143, 145]], ![![151, 153], ![155, 157]], ![![163, 165], ![167, 169]]] i h j
  | .ccwB i h j => ![![![128, 130], ![132, 134]], ![![140, 142], ![144, 146]], ![![152, 154], ![156, 158]], ![![164, 166], ![168, 170]]] i h j
  | .bcw h => ![171, 173, 175] h
  | .bccw h => ![172, 174, 176] h
  | .b2A k => ![180, 182] k
  | .b2B => 181
  | .ax d => ![199, 201, 203, 205, 207, 209, 211, 213, 215, 217, 219, 221, 223, 225, 227] d

/-- When the three stagings are stored: the forwarded rows, the aggregated rows, the device's maximum. -/
def tG : Fin 3 → ℕ := ![1, 4, 183]
def stg : Fin 3 → Finset Pc
  | 0 => {.col 3 0, .col 3 1, .col 3 2, .col 3 3}
  | 1 => {.agg 0 0, .agg 0 1}
  | 2 => {.am 15}

/-- When a piece first holds its contents: when the copy into it is awaited, or when it is staged. -/
def tB (p : Pc) : ℕ := (∑ κ ∈ Finset.univ.filter (fun κ => p ∈ dp κ), tR κ) + ∑ g ∈ Finset.univ.filter (fun g => p ∈ stg g), tG g

theorem tB_dp : ∀ κ, ∀ p ∈ dp κ, tB p = tR κ := by decide +kernel
theorem tB_stg : ∀ g, ∀ p ∈ stg g, tB p = tG g := by decide +kernel
/-- Every piece is written by a copy or staged. -/
theorem piece_from : ∀ p, (∃ κ, p ∈ dp κ) ∨ ∃ g, p ∈ stg g := by decide +kernel
/-- A copy's source holds its contents when the copy is issued. -/
theorem sp_ready : ∀ κ, ∀ p ∈ sp κ, tB p < tS κ := by decide +kernel
theorem tS_lt_tW : ∀ κ, tS κ < tW κ := by decide +kernel
theorem tS_lt_tR : ∀ κ, tS κ < tR κ := by decide +kernel

theorem tS_inj : ∀ κ κ', tS κ = tS κ' → κ = κ' := by decide +kernel
theorem tR_inj : ∀ κ κ', tR κ = tR κ' → κ = κ' := by decide +kernel
theorem tW_inj : ∀ κ κ', tW κ = tW κ' → κ = κ' := by decide +kernel
theorem tG_inj : ∀ κ κ', tG κ = tG κ' → κ = κ' := by decide +kernel
theorem tS_ne_tR : ∀ κ κ', tS κ ≠ tR κ' := by decide +kernel
theorem tS_ne_tW : ∀ κ κ', tS κ ≠ tW κ' := by decide +kernel
theorem tR_ne_tW : ∀ κ κ', tR κ ≠ tW κ' := by decide +kernel
theorem tG_ne_tS : ∀ g κ, tG g ≠ tS κ := by decide +kernel
theorem tG_ne_tR : ∀ g κ, tG g ≠ tR κ := by decide +kernel
theorem tG_ne_tW : ∀ g κ, tG g ≠ tW κ := by decide +kernel

/-- After the last step. -/
abbrev tEnd : ℕ := 229
theorem tS_end : ∀ κ, 0 < tS κ ∧ tS κ < tEnd := by decide +kernel
theorem tR_end : ∀ κ, 0 < tR κ ∧ tR κ < tEnd := by decide +kernel
theorem tW_end : ∀ κ, 0 < tW κ ∧ tW κ < tEnd := by decide +kernel
theorem tG_end : ∀ g, 0 < tG g ∧ tG g < tEnd := by decide +kernel

/-! ## The credit of a copy -/

theorem credit_eq : ∀ κ, (src κ).view.dmaCredit = (dst κ).view.dmaCredit := by
  intro κ; cases κ <;> rfl

abbrev cr (κ : Cp) : ℕ := (dst κ).view.dmaCredit

theorem cr_pos (κ : Cp) : 0 < cr κ := by
  cases κ with
  | a1 _ => exact View.dmaCredit_pos _ (show 0 < S192x4096.numel by decide)
  | cwA _ _ | ccwA _ _ | cwB _ _ _ | ccwB _ _ _ => exact View.dmaCredit_pos _ (show 0 < S48x4096.numel by decide)
  | bcw _ | bccw _ => exact View.dmaCredit_pos _ (show 0 < S32x4096.numel by decide)
  | b2A _ | b2B => exact View.dmaCredit_pos _ (show 0 < S4x64x4096.numel by decide)
  | ax _ => exact View.dmaCredit_pos _ (show 0 < S8x128.numel by decide)

end Cert.KernelIdealProof
-- ==== Proof.Contents.lean ====
/-
# What the buffers hold, and that every copy carries the source's contents to its destination's
-/
module

public import proofs.«01_k».proof.Proof.Copies
public import Idealize.ShloMosaic.Lib.ValueIdxCore

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The contents -/

/-- What every device contributes: the rows it forwards, the rows it aggregates, its maximum. -/
structure Src (F : FTy → Type) where
  cv : Dev nD → Vec F S1x192x4096 .bf16
  av : Dev nD → Vec F S1x64x4096 .bf16
  ma : Dev nD → Vec F S1x8x128 .f32

variable (X : Src F)

/-- How far from the device whose rows a slot of the column ring's buffer holds a device is. -/
abbrev colO : Fin 4 → ℕ := ![12, 8, 4, 0]
/-- How many row-ring hops what a slot holds has made. -/
abbrev hop : Fin 3 → ℕ := ![2, 1, 3]

def colF (cv : Dev nD → Vec F S1x192x4096 .bf16) (c : Dev nD) : (cc0_scratch0 : Ref sig .tc).ty.Contents (Elt F) :=
  fun i => cv (shift (colO (i 0)) c) (ix3 (0 : Fin 1) (i 1) (i 2))

def cwF (cv : Dev nD → Vec F S1x192x4096 .bf16) (c : Dev nD) : (cc0_scratch1 : Ref sig .tc).ty.Contents (Elt F) :=
  fun i => colF cv (right (4 - hop (i 1)) c)
    (ix3 (slI (i 0)) (⟨48 * (i 2).val + (i 3).val, by have : (i 2).val < 2 := (i 2).isLt; have : (i 3).val < 48 := (i 3).isLt; show _ < 192; omega⟩ : Fin 192) (i 4))

def ccwF (cv : Dev nD → Vec F S1x192x4096 .bf16) (c : Dev nD) : (cc0_scratch2 : Ref sig .tc).ty.Contents (Elt F) :=
  fun i => colF cv (right (hop (i 1)) c)
    (ix3 (slI (i 0)) (⟨96 + 48 * (i 2).val + (i 3).val, by have : (i 2).val < 2 := (i 2).isLt; have : (i 3).val < 48 := (i 3).isLt; show _ < 192; omega⟩ : Fin 192) (i 4))

def aggF (av : Dev nD → Vec F S1x64x4096 .bf16) (c : Dev nD) : (cc0_scratch3 : Ref sig .tc).ty.Contents (Elt F) :=
  fun i => av (right (i 0).val c) (ix3 (0 : Fin 1) (i 1) (i 2))

def aggrF (av : Dev nD → Vec F S1x64x4096 .bf16) (c : Dev nD) : (cc0_scratch4 : Ref sig .tc).ty.Contents (Elt F) :=
  fun i => aggF av (shift ((![12, 8, 4] : Fin 3 → ℕ) (i 0)) c) (ix3 (i 1) (i 2) (i 3))

def amF (ma : Dev nD → Vec F S1x8x128 .f32) (c : Dev nD) : (cc0_scratch6 : Ref sig .tc).ty.Contents (Elt F) :=
  fun i => ma (shift (15 - (i 0).val) c) (ix3 (0 : Fin 1) (i 1) (i 2))

/-- A piece on device `c` at share `q`, holding its contents. -/
def Pt (q : PosShare TreeShare) (c : Dev nD) : Pc → sProp 𝕄
  | .col s k => (colQ s k).view.loc (c : Thread nD τ) ↦[(colQ s k).view.set]{q} colF X.cv c
  | .cw i d j => (cwSl i d j).view.loc (c : Thread nD τ) ↦[(cwSl i d j).view.set]{q} cwF X.cv c
  | .ccw i d j => (ccwSl i d j).view.loc (c : Thread nD τ) ↦[(ccwSl i d j).view.set]{q} ccwF X.cv c
  | .agg s f => (aggSl s f).view.loc (c : Thread nD τ) ↦[(aggSl s f).view.set]{q} aggF X.av c
  | .aggr s => (aggrSl s).view.loc (c : Thread nD τ) ↦[(aggrSl s).view.set]{q} aggrF X.av c
  | .am s => (amSl s).view.loc (c : Thread nD τ) ↦[(amSl s).view.set]{q} amF X.ma c

/-- A piece on device `c` holding anything. -/
def Rw (c : Dev nD) : Pc → sProp 𝕄
  | .col s k => iprop(∃ f, (colQ s k).view.loc (c : Thread nD τ) ↦[(colQ s k).view.set]{fullShare} f)
  | .cw i d j => iprop(∃ f, (cwSl i d j).view.loc (c : Thread nD τ) ↦[(cwSl i d j).view.set]{fullShare} f)
  | .ccw i d j => iprop(∃ f, (ccwSl i d j).view.loc (c : Thread nD τ) ↦[(ccwSl i d j).view.set]{fullShare} f)
  | .agg s f => iprop(∃ f', (aggSl s f).view.loc (c : Thread nD τ) ↦[(aggSl s f).view.set]{fullShare} f')
  | .aggr s => iprop(∃ f, (aggrSl s).view.loc (c : Thread nD τ) ↦[(aggrSl s).view.set]{fullShare} f)
  | .am s => iprop(∃ f, (amSl s).view.loc (c : Thread nD τ) ↦[(amSl s).view.set]{fullShare} f)

instance Pt_storable (q) (c : Dev nD) (p : Pc) : BI.Storable (upEmb : UEmb _ 𝕄) (Pt X q c p) := by
  cases p <;> (unfold Pt; infer_instance)
instance Rw_storable (c : Dev nD) (p : Pc) : BI.Storable (upEmb : UEmb _ 𝕄) (Rw (F := F) c p) := by
  cases p <;> (unfold Rw; infer_instance)

theorem Pt_Rw (c : Dev nD) (p : Pc) : Pt X fullShare c p ⊢ Rw c p := by
  cases p <;> (unfold Pt Rw; iintro H; iexists _; iexact H)

/-! ## The sets of elements -/

theorem mem_colQ (s q : Fin 4) (i : (cc0_scratch0 : Ref sig .tc).ty.Idx) :
    i ∈ (colQ s q).view.set ↔ (i 0).val = s.val ∧ (i 1).val / 48 = q.val := by
  refine (Iff.of_eq (congrArg (i ∈ ·) ((View.set_reshape _ _).trans (View.set_slice_whole _ _)))).trans (Rect.mem_set_unit.trans ?_)
  have h1 : (i 1).val < 192 := (i 1).isLt
  have h2 : (i 2).val < 4096 := (i 2).isLt
  constructor
  · intro h
    have e0 := h 0; have e1 := h 1
    change s.val ≤ (i 0).val ∧ (i 0).val < s.val + 1 at e0
    change 48 * q.val ≤ (i 1).val ∧ (i 1).val < 48 * q.val + 48 at e1
    omega
  · rintro ⟨e0, e1⟩ a
    match a with
    | 0 => show s.val ≤ (i 0).val ∧ (i 0).val < s.val + 1; omega
    | 1 => show 48 * q.val ≤ (i 1).val ∧ (i 1).val < 48 * q.val + 48; omega
    | 2 => show 0 ≤ (i 2).val ∧ (i 2).val < 0 + 4096; omega

theorem mem_colSl (s : Fin 4) (i : (cc0_scratch0 : Ref sig .tc).ty.Idx) :
    i ∈ (colSl s).view.set ↔ (i 0).val = s.val := by
  refine (Iff.of_eq (congrArg (i ∈ ·) ((View.set_reshape _ _).trans (View.set_slice_whole _ _)))).trans (Rect.mem_set_unit.trans ?_)
  have h1 : (i 1).val < 192 := (i 1).isLt
  have h2 : (i 2).val < 4096 := (i 2).isLt
  constructor
  · intro h
    have e0 := h 0
    change s.val ≤ (i 0).val ∧ (i 0).val < s.val + 1 at e0
    omega
  · rintro e0 a
    match a with
    | 0 => show s.val ≤ (i 0).val ∧ (i 0).val < s.val + 1; omega
    | 1 => show 0 ≤ (i 1).val ∧ (i 1).val < 0 + 192; omega
    | 2 => show 0 ≤ (i 2).val ∧ (i 2).val < 0 + 4096; omega

theorem mem_cwSl (s : Fin 4) (d : Fin 3) (j : Fin 2) (i : (cc0_scratch1 : Ref sig .tc).ty.Idx) :
    i ∈ (cwSl s d j).view.set ↔ (i 0).val = s.val ∧ (i 1).val = d.val ∧ (i 2).val = j.val := by
  refine (Iff.of_eq (congrArg (i ∈ ·) ((View.set_reshape _ _).trans (View.set_slice_whole _ _)))).trans (Rect.mem_set_unit.trans ?_)
  have h3 : (i 3).val < 48 := (i 3).isLt
  have h4 : (i 4).val < 4096 := (i 4).isLt
  constructor
  · intro h
    have e0 := h 0; have e1 := h 1; have e2 := h 2
    change s.val ≤ (i 0).val ∧ (i 0).val < s.val + 1 at e0
    change d.val ≤ (i 1).val ∧ (i 1).val < d.val + 1 at e1
    change j.val ≤ (i 2).val ∧ (i 2).val < j.val + 1 at e2
    omega
  · rintro ⟨e0, e1, e2⟩ a
    match a with
    | 0 => show s.val ≤ (i 0).val ∧ (i 0).val < s.val + 1; omega
    | 1 => show d.val ≤ (i 1).val ∧ (i 1).val < d.val + 1; omega
    | 2 => show j.val ≤ (i 2).val ∧ (i 2).val < j.val + 1; omega
    | 3 => show 0 ≤ (i 3).val ∧ (i 3).val < 0 + 48; omega
    | 4 => show 0 ≤ (i 4).val ∧ (i 4).val < 0 + 4096; omega

theorem mem_ccwSl (s : Fin 4) (d : Fin 3) (j : Fin 2) (i : (cc0_scratch2 : Ref sig .tc).ty.Idx) :
    i ∈ (ccwSl s d j).view.set ↔ (i 0).val = s.val ∧ (i 1).val = d.val ∧ (i 2).val = j.val := by
  refine (Iff.of_eq (congrArg (i ∈ ·) ((View.set_reshape _ _).trans (View.set_slice_whole _ _)))).trans (Rect.mem_set_unit.trans ?_)
  have h3 : (i 3).val < 48 := (i 3).isLt
  have h4 : (i 4).val < 4096 := (i 4).isLt
  constructor
  · intro h
    have e0 := h 0; have e1 := h 1; have e2 := h 2
    change s.val ≤ (i 0).val ∧ (i 0).val < s.val + 1 at e0
    change d.val ≤ (i 1).val ∧ (i 1).val < d.val + 1 at e1
    change j.val ≤ (i 2).val ∧ (i 2).val < j.val + 1 at e2
    omega
  · rintro ⟨e0, e1, e2⟩ a
    match a with
    | 0 => show s.val ≤ (i 0).val ∧ (i 0).val < s.val + 1; omega
    | 1 => show d.val ≤ (i 1).val ∧ (i 1).val < d.val + 1; omega
    | 2 => show j.val ≤ (i 2).val ∧ (i 2).val < j.val + 1; omega
    | 3 => show 0 ≤ (i 3).val ∧ (i 3).val < 0 + 48; omega
    | 4 => show 0 ≤ (i 4).val ∧ (i 4).val < 0 + 4096; omega

theorem mem_aggSl (s : Fin 4) (f : Fin 2) (i : (cc0_scratch3 : Ref sig .tc).ty.Idx) :
    i ∈ (aggSl s f).view.set ↔ (i 0).val = s.val ∧ (i 1).val / 32 = f.val := by
  refine (Iff.of_eq (congrArg (i ∈ ·) ((View.set_reshape _ _).trans (View.set_slice_whole _ _)))).trans (Rect.mem_set_unit.trans ?_)
  have h1 : (i 1).val < 64 := (i 1).isLt
  have h2 : (i 2).val < 4096 := (i 2).isLt
  constructor
  · intro h
    have e0 := h 0; have e1 := h 1
    change s.val ≤ (i 0).val ∧ (i 0).val < s.val + 1 at e0
    change 32 * f.val ≤ (i 1).val ∧ (i 1).val < 32 * f.val + 32 at e1
    omega
  · rintro ⟨e0, e1⟩ a
    match a with
    | 0 => show s.val ≤ (i 0).val ∧ (i 0).val < s.val + 1; omega
    | 1 => show 32 * f.val ≤ (i 1).val ∧ (i 1).val < 32 * f.val + 32; omega
    | 2 => show 0 ≤ (i 2).val ∧ (i 2).val < 0 + 4096; omega

theorem mem_aggrSl (s : Fin 3) (i : (cc0_scratch4 : Ref sig .tc).ty.Idx) :
    i ∈ (aggrSl s).view.set ↔ (i 0).val = s.val := by
  refine (Iff.of_eq (congrArg (i ∈ ·) ((View.set_reshape _ _).trans (View.set_slice_whole _ _)))).trans (Rect.mem_set_unit.trans ?_)
  have h1 : (i 1).val < 4 := (i 1).isLt
  have h2 : (i 2).val < 64 := (i 2).isLt
  have h3 : (i 3).val < 4096 := (i 3).isLt
  constructor
  · intro h
    have e0 := h 0
    change s.val ≤ (i 0).val ∧ (i 0).val < s.val + 1 at e0
    omega
  · rintro e0 a
    match a with
    | 0 => show s.val ≤ (i 0).val ∧ (i 0).val < s.val + 1; omega
    | 1 => show 0 ≤ (i 1).val ∧ (i 1).val < 0 + 4; omega
    | 2 => show 0 ≤ (i 2).val ∧ (i 2).val < 0 + 64; omega
    | 3 => show 0 ≤ (i 3).val ∧ (i 3).val < 0 + 4096; omega

theorem mem_amSl (s : Fin 16) (i : (cc0_scratch6 : Ref sig .tc).ty.Idx) :
    i ∈ (amSl s).view.set ↔ (i 0).val = s.val := by
  refine (Iff.of_eq (congrArg (i ∈ ·) ((View.set_reshape _ _).trans (View.set_slice_whole _ _)))).trans (Rect.mem_set_unit.trans ?_)
  have h1 : (i 1).val < 8 := (i 1).isLt
  have h2 : (i 2).val < 128 := (i 2).isLt
  constructor
  · intro h
    have e0 := h 0
    change s.val ≤ (i 0).val ∧ (i 0).val < s.val + 1 at e0
    omega
  · rintro e0 a
    match a with
    | 0 => show s.val ≤ (i 0).val ∧ (i 0).val < s.val + 1; omega
    | 1 => show 0 ≤ (i 1).val ∧ (i 1).val < 0 + 8; omega
    | 2 => show 0 ≤ (i 2).val ∧ (i 2).val < 0 + 128; omega

/-! ## Buffers and slots as their pieces -/

/-- Elements sorted by a key into the parts of a set: the set's points-to is the parts'. -/
theorem pts_parts {J : Type} [Fintype J] [DecidableEq J] {ℓ : Loc nD τ sig} (S : Finset (Idx ℓ)) (K : J → Finset (Idx ℓ)) (key : Idx ℓ → J)
    (hk : ∀ i j, i ∈ K j → key i = j) (hS : ∀ i, i ∈ S ↔ i ∈ K (key i)) (q : PosShare TreeShare) (f : Buf (Elt F) ℓ) :
    (ℓ ↦[S]{q} f : sProp 𝕄) = bigSep Finset.univ (fun j => (ℓ ↦[K j]{q} f : sProp 𝕄)) := by
  have e : S = Finset.univ.biUnion K := by
    ext i
    rw [Finset.mem_biUnion, hS i]
    exact ⟨fun h => ⟨_, Finset.mem_univ _, h⟩, fun ⟨j, _, hj⟩ => (hk i j hj) ▸ hj⟩
  rw [e, pointsTo_biUnion]
  intro t _ t' _ h
  exact Finset.disjoint_left.mpr fun i hi hi' => h ((hk i t hi).symm.trans (hk i t' hi'))

/-- The same for parts holding anything. -/
theorem pts_join {J : Type} [Fintype J] [DecidableEq J] [Nonempty J] {ℓ : Loc nD τ sig} (S : Finset (Idx ℓ)) (K : J → Finset (Idx ℓ)) (key : Idx ℓ → J)
    (hk : ∀ i j, i ∈ K j → key i = j) (hS : ∀ i, i ∈ S ↔ i ∈ K (key i)) :
    bigSep Finset.univ (fun j => iprop(∃ f : Buf (Elt F) ℓ, (ℓ ↦[K j]{fullShare} f : sProp 𝕄))) ⊢ iprop(∃ f : Buf (Elt F) ℓ, (ℓ ↦[S]{fullShare} f : sProp 𝕄)) := by
  have e : S = Finset.univ.biUnion K := by
    ext i
    rw [Finset.mem_biUnion, hS i]
    exact ⟨fun h => ⟨_, Finset.mem_univ _, h⟩, fun ⟨j, _, hj⟩ => (hk i j hj) ▸ hj⟩
  rcases isEmpty_or_nonempty (Buf (Elt F) ℓ) with hE | hE
  · have h : (iprop(∃ f : Buf (Elt F) ℓ, (ℓ ↦[K (Classical.arbitrary J)]{fullShare} f : sProp 𝕄)) : sProp 𝕄) ⊢ iprop(∃ f : Buf (Elt F) ℓ, (ℓ ↦[S]{fullShare} f : sProp 𝕄)) := by
      iintro ⟨%f, -⟩
      exact isEmptyElim f
    exact (bigSep_elim (Finset.mem_univ (Classical.arbitrary J))).trans h
  refine (bigSep_exists_pi Finset.univ (fun j (f : Buf (Elt F) ℓ) => (ℓ ↦[K j]{fullShare} f : sProp 𝕄))).trans ?_
  iintro ⟨%fs, H⟩
  ihave H := (pointsTo_biUnion_join (Finset.univ : Finset J) K fs (fs (Classical.arbitrary J))
    (fun t _ t' _ h => Finset.disjoint_left.mpr fun i hi hi' => h ((hk i t hi).symm.trans (hk i t' hi')))) $$ H
  icases H with ⟨%g, -, H⟩
  iexists g
  rw [e]
  iexact H

theorem lt_192 (i : (cc0_scratch0 : Ref sig .tc).ty.Idx) : (i 1).val < 192 := (i 1).isLt
theorem lt_64 (i : (cc0_scratch3 : Ref sig .tc).ty.Idx) : (i 1).val < 64 := (i 1).isLt

abbrev keyQ (i : (cc0_scratch0 : Ref sig .tc).ty.Idx) : Fin 4 := ⟨(i 1).val / 48, by have := lt_192 i; omega⟩
abbrev keyCol (i : (cc0_scratch0 : Ref sig .tc).ty.Idx) : Fin 4 × Fin 4 := (i 0, keyQ i)
abbrev keyCw (i : (cc0_scratch1 : Ref sig .tc).ty.Idx) : Fin 4 × Fin 3 × Fin 2 := (i 0, i 1, i 2)
abbrev keyCcw (i : (cc0_scratch2 : Ref sig .tc).ty.Idx) : Fin 4 × Fin 3 × Fin 2 := (i 0, i 1, i 2)
abbrev keyAgg (i : (cc0_scratch3 : Ref sig .tc).ty.Idx) : Fin 4 × Fin 2 := (i 0, ⟨(i 1).val / 32, by have := lt_64 i; omega⟩)
abbrev keyAggr (i : (cc0_scratch4 : Ref sig .tc).ty.Idx) : Fin 3 := i 0
abbrev keyAm (i : (cc0_scratch6 : Ref sig .tc).ty.Idx) : Fin 16 := i 0

theorem keyQ_mem (s : Fin 4) (i : (cc0_scratch0 : Ref sig .tc).ty.Idx) (j : Fin 4) (h : i ∈ (colQ s j).view.set) : keyQ i = j := Fin.ext ((mem_colQ s j i).mp h).2
theorem keyQ_set (s : Fin 4) (i : (cc0_scratch0 : Ref sig .tc).ty.Idx) : i ∈ (colSl s).view.set ↔ i ∈ (colQ s (keyQ i)).view.set :=
  (mem_colSl s i).trans (Iff.trans ⟨fun h => ⟨h, rfl⟩, fun h => h.1⟩ (mem_colQ s (keyQ i) i).symm)
theorem keyCol_mem (i : (cc0_scratch0 : Ref sig .tc).ty.Idx) (j : Fin 4 × Fin 4) (h : i ∈ (colQ j.1 j.2).view.set) : keyCol i = j :=
  Prod.ext (Fin.ext ((mem_colQ _ _ i).mp h).1) (Fin.ext ((mem_colQ _ _ i).mp h).2)
theorem keyCol_set (i : (cc0_scratch0 : Ref sig .tc).ty.Idx) : i ∈ (Finset.univ : Finset (cc0_scratch0 : Ref sig .tc).ty.Idx) ↔ i ∈ (colQ (keyCol i).1 (keyCol i).2).view.set :=
  ⟨fun _ => (mem_colQ _ _ i).mpr ⟨rfl, rfl⟩, fun _ => Finset.mem_univ _⟩
theorem keyCw_mem (i : (cc0_scratch1 : Ref sig .tc).ty.Idx) (j : Fin 4 × Fin 3 × Fin 2) (h : i ∈ (cwSl j.1 j.2.1 j.2.2).view.set) : keyCw i = j :=
  Prod.ext (Fin.ext ((mem_cwSl _ _ _ i).mp h).1) (Prod.ext (Fin.ext ((mem_cwSl _ _ _ i).mp h).2.1) (Fin.ext ((mem_cwSl _ _ _ i).mp h).2.2))
theorem keyCw_set (i : (cc0_scratch1 : Ref sig .tc).ty.Idx) : i ∈ (Finset.univ : Finset (cc0_scratch1 : Ref sig .tc).ty.Idx) ↔ i ∈ (cwSl (keyCw i).1 (keyCw i).2.1 (keyCw i).2.2).view.set :=
  ⟨fun _ => (mem_cwSl _ _ _ i).mpr ⟨rfl, rfl, rfl⟩, fun _ => Finset.mem_univ _⟩
theorem keyCcw_mem (i : (cc0_scratch2 : Ref sig .tc).ty.Idx) (j : Fin 4 × Fin 3 × Fin 2) (h : i ∈ (ccwSl j.1 j.2.1 j.2.2).view.set) : keyCcw i = j :=
  Prod.ext (Fin.ext ((mem_ccwSl _ _ _ i).mp h).1) (Prod.ext (Fin.ext ((mem_ccwSl _ _ _ i).mp h).2.1) (Fin.ext ((mem_ccwSl _ _ _ i).mp h).2.2))
theorem keyCcw_set (i : (cc0_scratch2 : Ref sig .tc).ty.Idx) : i ∈ (Finset.univ : Finset (cc0_scratch2 : Ref sig .tc).ty.Idx) ↔ i ∈ (ccwSl (keyCcw i).1 (keyCcw i).2.1 (keyCcw i).2.2).view.set :=
  ⟨fun _ => (mem_ccwSl _ _ _ i).mpr ⟨rfl, rfl, rfl⟩, fun _ => Finset.mem_univ _⟩
theorem keyAgg_mem (i : (cc0_scratch3 : Ref sig .tc).ty.Idx) (j : Fin 4 × Fin 2) (h : i ∈ (aggSl j.1 j.2).view.set) : keyAgg i = j :=
  Prod.ext (Fin.ext ((mem_aggSl _ _ i).mp h).1) (Fin.ext ((mem_aggSl _ _ i).mp h).2)
theorem keyAgg_set (i : (cc0_scratch3 : Ref sig .tc).ty.Idx) : i ∈ (Finset.univ : Finset (cc0_scratch3 : Ref sig .tc).ty.Idx) ↔ i ∈ (aggSl (keyAgg i).1 (keyAgg i).2).view.set :=
  ⟨fun _ => (mem_aggSl _ _ i).mpr ⟨rfl, rfl⟩, fun _ => Finset.mem_univ _⟩
theorem keyAggr_mem (i : (cc0_scratch4 : Ref sig .tc).ty.Idx) (j : Fin 3) (h : i ∈ (aggrSl j).view.set) : keyAggr i = j := Fin.ext ((mem_aggrSl _ i).mp h)
theorem keyAggr_set (i : (cc0_scratch4 : Ref sig .tc).ty.Idx) : i ∈ (Finset.univ : Finset (cc0_scratch4 : Ref sig .tc).ty.Idx) ↔ i ∈ (aggrSl (keyAggr i)).view.set :=
  ⟨fun _ => (mem_aggrSl _ i).mpr rfl, fun _ => Finset.mem_univ _⟩
theorem keyAm_mem (i : (cc0_scratch6 : Ref sig .tc).ty.Idx) (j : Fin 16) (h : i ∈ (amSl j).view.set) : keyAm i = j := Fin.ext ((mem_amSl _ i).mp h)
theorem keyAm_set (i : (cc0_scratch6 : Ref sig .tc).ty.Idx) : i ∈ (Finset.univ : Finset (cc0_scratch6 : Ref sig .tc).ty.Idx) ↔ i ∈ (amSl (keyAm i)).view.set :=
  ⟨fun _ => (mem_amSl _ i).mpr rfl, fun _ => Finset.mem_univ _⟩

theorem colSl_pieces (s : Fin 4) (c : Dev nD) (q : PosShare TreeShare) (f : Buf (Elt F) ((colSl s).view.loc (c : Thread nD τ))) :
    ((colSl s).view.loc (c : Thread nD τ) ↦[(colSl s).view.set]{q} f : sProp 𝕄)
      = bigSep Finset.univ (fun k : Fin 4 => ((colQ s k).view.loc (c : Thread nD τ) ↦[(colQ s k).view.set]{q} f : sProp 𝕄)) :=
  pts_parts (ℓ := (c : Thread nD τ).loc cc0_scratch0) (colSl s).view.set (fun k => (colQ s k).view.set) keyQ (keyQ_mem s) (keyQ_set s) q f

theorem agg_pieces (c : Dev nD) (q : PosShare TreeShare) (f : Buf (Elt F) ((c : Thread nD τ).loc cc0_scratch3)) :
    (((c : Thread nD τ).loc cc0_scratch3) ↦{q} f : sProp 𝕄)
      = bigSep Finset.univ (fun p : Fin 4 × Fin 2 => ((aggSl p.1 p.2).view.loc (c : Thread nD τ) ↦[(aggSl p.1 p.2).view.set]{q} f : sProp 𝕄)) :=
  pts_parts (ℓ := (c : Thread nD τ).loc cc0_scratch3) Finset.univ (fun p : Fin 4 × Fin 2 => (aggSl p.1 p.2).view.set) keyAgg keyAgg_mem keyAgg_set q f

/-! ## A copy's source and destination as their pieces -/

/-- The contents of what a copy reads. -/
def srcF (c : Dev nD) : (κ : Cp) → Buf (Elt F) ((src κ).view.loc (c : Thread nD τ))
  | .a1 _ | .cwA _ _ | .ccwA _ _ => colF X.cv c
  | .cwB _ _ _ => cwF X.cv c
  | .ccwB _ _ _ => ccwF X.cv c
  | .bcw _ | .bccw _ | .b2A _ => aggF X.av c
  | .b2B => aggrF X.av c
  | .ax _ => amF X.ma c
/-- The contents of what a copy has written. -/
def dstF (c : Dev nD) : (κ : Cp) → Buf (Elt F) ((dst κ).view.loc (c : Thread nD τ))
  | .a1 _ => colF X.cv c
  | .cwA _ _ | .cwB _ _ _ => cwF X.cv c
  | .ccwA _ _ | .ccwB _ _ _ => ccwF X.cv c
  | .bcw _ | .bccw _ => aggF X.av c
  | .b2A _ | .b2B => aggrF X.av c
  | .ax _ => amF X.ma c

theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

theorem bigSep_cols (s : Fin 4) (Φ : Pc → sProp 𝕄) :
    bigSep ({.col s 0, .col s 1, .col s 2, .col s 3} : Finset Pc) Φ = bigSep Finset.univ (fun k : Fin 4 => Φ (.col s k)) := by
  rw [show ({.col s 0, .col s 1, .col s 2, .col s 3} : Finset Pc)
      = (Finset.univ : Finset (Fin 4)).map ⟨fun k => Pc.col s k, fun a b h => by cases h; rfl⟩ from by revert s; decide +kernel, bigSep_map]
  rfl

theorem bigSep_aggs (Φ : Pc → sProp 𝕄) :
    bigSep ({.agg 0 0, .agg 0 1, .agg 1 0, .agg 1 1, .agg 2 0, .agg 2 1, .agg 3 0, .agg 3 1} : Finset Pc) Φ
      = bigSep Finset.univ (fun p : Fin 4 × Fin 2 => Φ (.agg p.1 p.2)) := by
  rw [show ({.agg 0 0, .agg 0 1, .agg 1 0, .agg 1 1, .agg 2 0, .agg 2 1, .agg 3 0, .agg 3 1} : Finset Pc)
      = (Finset.univ : Finset (Fin 4 × Fin 2)).map ⟨fun p => Pc.agg p.1 p.2, fun a b h => by cases a; cases b; cases h; rfl⟩ from by decide +kernel, bigSep_map]
  rfl

/-- A copy's source pieces are its source. -/
theorem src_pieces (κ : Cp) (c : Dev nD) (q : PosShare TreeShare) :
    bigSep (sp κ) (Pt X q c) = ((src κ).view.loc (c : Thread nD τ) ↦[(src κ).view.set]{q} srcF X c κ : sProp 𝕄) := by
  cases κ with
  | a1 k => exact (bigSep_cols _ _).trans (colSl_pieces (a1S k) c q (colF X.cv c)).symm
  | b2A k =>
    refine (bigSep_aggs _).trans ((agg_pieces c q (aggF X.av c)).symm.trans ?_)
    show _ = ((aggM.view.loc (c : Thread nD τ)) ↦[(View.whole cc0_scratch3).set]{q} aggF X.av c : sProp 𝕄)
    rw [View.set_whole]
  | cwA i j => exact bigSep_singleton
  | ccwA i j => exact bigSep_singleton
  | cwB i h j => exact bigSep_singleton
  | ccwB i h j => exact bigSep_singleton
  | bcw h => exact bigSep_singleton
  | bccw h => exact bigSep_singleton
  | b2B => exact bigSep_singleton
  | ax d => exact bigSep_singleton

/-- A copy's destination pieces are its destination. -/
theorem dst_pieces (κ : Cp) (c : Dev nD) :
    bigSep (dp κ) (Pt X fullShare c) = ((dst κ).view.loc (c : Thread nD τ) ↦[(dst κ).view.set]{fullShare} dstF X c κ : sProp 𝕄) := by
  cases κ with
  | a1 k => exact (bigSep_cols _ _).trans (colSl_pieces (a1D k) c fullShare (colF X.cv c)).symm
  | b2A k => exact bigSep_singleton
  | cwA i j => exact bigSep_singleton
  | ccwA i j => exact bigSep_singleton
  | cwB i h j => exact bigSep_singleton
  | ccwB i h j => exact bigSep_singleton
  | bcw h => exact bigSep_singleton
  | bccw h => exact bigSep_singleton
  | b2B => exact bigSep_singleton
  | ax d => exact bigSep_singleton

/-- Four quarters holding anything are the slot holding something. -/
theorem colSl_join (s : Fin 4) (c : Dev nD) :
    bigSep Finset.univ (fun k : Fin 4 => Rw (F := F) c (.col s k))
      ⊢ (iprop(∃ f, (colSl s).view.loc (c : Thread nD τ) ↦[(colSl s).view.set]{fullShare} f) : sProp 𝕄) :=
  pts_join (ℓ := (c : Thread nD τ).loc cc0_scratch0) (colSl s).view.set (fun k => (colQ s k).view.set) keyQ (keyQ_mem s) (keyQ_set s)

/-- A copy's destination pieces holding anything are its destination holding something. -/
theorem dst_join (κ : Cp) (c : Dev nD) :
    bigSep (dp κ) (Rw (F := F) c) ⊢ (iprop(∃ f, (dst κ).view.loc (c : Thread nD τ) ↦[(dst κ).view.set]{fullShare} f) : sProp 𝕄) := by
  cases κ with
  | a1 k => exact (Entails.of_eq (bigSep_cols _ _)).trans (colSl_join (a1D k) c)
  | b2A k => exact Entails.of_eq bigSep_singleton
  | cwA i j => exact Entails.of_eq bigSep_singleton
  | ccwA i j => exact Entails.of_eq bigSep_singleton
  | cwB i h j => exact Entails.of_eq bigSep_singleton
  | ccwB i h j => exact Entails.of_eq bigSep_singleton
  | bcw h => exact Entails.of_eq bigSep_singleton
  | bccw h => exact Entails.of_eq bigSep_singleton
  | b2B => exact Entails.of_eq bigSep_singleton
  | ax d => exact Entails.of_eq bigSep_singleton

/-! ## What a copy carries -/

theorem sq3 {a b : ℕ} (h : (⟨2, ![a, b]⟩ : Shape).numel = (⟨3, ![1, a, b]⟩ : Shape).numel) (x : (⟨2, ![a, b]⟩ : Shape).Idx) :
    Shape.reshapeEquiv h x = ix3 (0 : Fin 1) (x 0) (x 1) :=
  Shape.reshapeEquiv_eq_of_rowMajor h (by
    refine (Shape.rowMajor_val_three _).trans (Eq.trans ?_ (Shape.rowMajor_val_two _).symm)
    show ((0 * a + (x 0).val) * b + (x 1).val) = (x 0).val * b + (x 1).val
    simp only [Nat.zero_mul, Nat.zero_add])

theorem sq4 {a b e : ℕ} (h : (⟨3, ![a, b, e]⟩ : Shape).numel = (⟨4, ![1, a, b, e]⟩ : Shape).numel) (x : (⟨3, ![a, b, e]⟩ : Shape).Idx) :
    Shape.reshapeEquiv h x = ix4 (0 : Fin 1) (x 0) (x 1) (x 2) :=
  Shape.reshapeEquiv_eq_of_rowMajor h (by
    refine (Shape.rowMajor_val_four _).trans (Eq.trans ?_ (Shape.rowMajor_val_three _).symm)
    show (((0 * a + (x 0).val) * b + (x 1).val) * e + (x 2).val) = ((x 0).val * b + (x 1).val) * e + (x 2).val
    simp only [Nat.zero_mul, Nat.zero_add])

theorem sq5 {a b : ℕ} (h : (⟨2, ![a, b]⟩ : Shape).numel = (⟨5, ![1, 1, 1, a, b]⟩ : Shape).numel) (x : (⟨2, ![a, b]⟩ : Shape).Idx) :
    Shape.reshapeEquiv h x = ix5 (0 : Fin 1) (0 : Fin 1) (0 : Fin 1) (x 0) (x 1) :=
  Shape.reshapeEquiv_eq_of_rowMajor h (by
    refine (Shape.rowMajor_val_five _).trans (Eq.trans ?_ (Shape.rowMajor_val_two _).symm)
    show ((((0 * 1 + 0) * 1 + 0) * a + (x 0).val) * b + (x 1).val) = (x 0).val * b + (x 1).val
    simp only [Nat.zero_mul, Nat.zero_add])

theorem colSl_emb (s : Fin 4) (x : S192x4096.Idx) : (colSl s).view.emb x = ix3 s (x 0) (x 1) := by
  show (Rect.unit (s := S4x192x4096) _ _ _).emb (Shape.reshapeEquiv _ x) = _
  rw [sq3]; funext a; apply Fin.ext
  match a with
  | 0 => show s.val + 1 * 0 = s.val; omega
  | 1 => show 0 + 1 * (x 0).val = (x 0).val; omega
  | 2 => show 0 + 1 * (x 1).val = (x 1).val; omega

theorem colQ_emb (s q : Fin 4) (x : S48x4096.Idx) :
    (colQ s q).view.emb x = ix3 s (⟨48 * q.val + (x 0).val, by have : (x 0).val < 48 := (x 0).isLt; show _ < 192; omega⟩ : Fin 192) (x 1) := by
  show (Rect.unit (s := S4x192x4096) _ _ _).emb (Shape.reshapeEquiv _ x) = _
  rw [sq3]; funext a; apply Fin.ext
  match a with
  | 0 => show s.val + 1 * 0 = s.val; omega
  | 1 => show 48 * q.val + 1 * (x 0).val = 48 * q.val + (x 0).val; omega
  | 2 => show 0 + 1 * (x 1).val = (x 1).val; omega

theorem cwSl_emb (i : Fin 4) (d : Fin 3) (j : Fin 2) (x : S48x4096.Idx) : (cwSl i d j).view.emb x = ix5 i d j (x 0) (x 1) := by
  show (Rect.unit (s := S4x3x2x48x4096) _ _ _).emb (Shape.reshapeEquiv _ x) = _
  rw [sq5]; funext a; apply Fin.ext
  match a with
  | 0 => show i.val + 1 * 0 = i.val; omega
  | 1 => show d.val + 1 * 0 = d.val; omega
  | 2 => show j.val + 1 * 0 = j.val; omega
  | 3 => show 0 + 1 * (x 0).val = (x 0).val; omega
  | 4 => show 0 + 1 * (x 1).val = (x 1).val; omega

theorem ccwSl_emb (i : Fin 4) (d : Fin 3) (j : Fin 2) (x : S48x4096.Idx) : (ccwSl i d j).view.emb x = ix5 i d j (x 0) (x 1) := by
  show (Rect.unit (s := S4x3x2x48x4096) _ _ _).emb (Shape.reshapeEquiv _ x) = _
  rw [sq5]; funext a; apply Fin.ext
  match a with
  | 0 => show i.val + 1 * 0 = i.val; omega
  | 1 => show d.val + 1 * 0 = d.val; omega
  | 2 => show j.val + 1 * 0 = j.val; omega
  | 3 => show 0 + 1 * (x 0).val = (x 0).val; omega
  | 4 => show 0 + 1 * (x 1).val = (x 1).val; omega

theorem aggSl_emb (s : Fin 4) (f : Fin 2) (x : S32x4096.Idx) :
    (aggSl s f).view.emb x = ix3 s (⟨32 * f.val + (x 0).val, by have : (x 0).val < 32 := (x 0).isLt; show _ < 64; omega⟩ : Fin 64) (x 1) := by
  show (Rect.unit (s := S4x64x4096) _ _ _).emb (Shape.reshapeEquiv _ x) = _
  rw [sq3]; funext a; apply Fin.ext
  match a with
  | 0 => show s.val + 1 * 0 = s.val; omega
  | 1 => show 32 * f.val + 1 * (x 0).val = 32 * f.val + (x 0).val; omega
  | 2 => show 0 + 1 * (x 1).val = (x 1).val; omega

theorem aggrSl_emb (s : Fin 3) (x : S4x64x4096.Idx) : (aggrSl s).view.emb x = ix4 s (x 0) (x 1) (x 2) := by
  show (Rect.unit (s := S3x4x64x4096) _ _ _).emb (Shape.reshapeEquiv _ x) = _
  rw [sq4]; funext a; apply Fin.ext
  match a with
  | 0 => show s.val + 1 * 0 = s.val; omega
  | 1 => show 0 + 1 * (x 0).val = (x 0).val; omega
  | 2 => show 0 + 1 * (x 1).val = (x 1).val; omega
  | 3 => show 0 + 1 * (x 2).val = (x 2).val; omega

theorem amSl_emb (s : Fin 16) (x : S8x128.Idx) : (amSl s).view.emb x = ix3 s (x 0) (x 1) := by
  show (Rect.unit (s := S16x8x128) _ _ _).emb (Shape.reshapeEquiv _ x) = _
  rw [sq3]; funext a; apply Fin.ext
  match a with
  | 0 => show s.val + 1 * 0 = s.val; omega
  | 1 => show 0 + 1 * (x 0).val = (x 0).val; omega
  | 2 => show 0 + 1 * (x 1).val = (x 1).val; omega

/-- The devices a slot's contents come from, seen from the next device round. -/
theorem a1_from : ∀ (k : Fin 3) (c : Dev nD), shift (colO (a1D k)) (tgt (.a1 k) c) = shift (colO (a1S k)) c := by decide +kernel
theorem cwA_from : ∀ c : Dev nD, right (4 - hop 1) (right 1 c) = c := by decide +kernel
theorem ccwA_from : ∀ c : Dev nD, right (hop 1) (right 3 c) = c := by decide +kernel
theorem cwB_from : ∀ (h : Fin 2) (c : Dev nD), right (4 - hop (hD h)) (right 1 c) = right (4 - hop (hS h)) c := by decide +kernel
theorem ccwB_from : ∀ (h : Fin 2) (c : Dev nD), right (hop (hD h)) (right 3 c) = right (hop (hS h)) c := by decide +kernel
theorem bcw_from : ∀ (h : Fin 3) (c : Dev nD), right (bcD h).val (right 1 c) = right (bcS h).val c := by decide +kernel
theorem bccw_from : ∀ (h : Fin 3) (c : Dev nD), right (bccD h).val (right 3 c) = right (bccS h).val c := by decide +kernel
theorem b2A_from : ∀ (k : Fin 2) (c : Dev nD), shift ((![12, 8, 4] : Fin 3 → ℕ) (b2D k)) (tgt (.b2A k) c) = c := by decide +kernel
theorem b2B_from : ∀ c : Dev nD, shift 8 (shift 4 c) = shift 12 c := by decide +kernel
theorem ax_from : ∀ (d : Fin 15) (c : Dev nD), shift (15 - (axD d).val) (tgt (.ax d) c) = shift (15 - (15 : Fin 16).val) c := by decide +kernel

theorem q_cw : ∀ j : Fin 2, (qCw j).val = j.val := by decide
theorem q_ccw : ∀ j : Fin 2, 48 * (qCcw j).val = 96 + 48 * j.val := by decide

set_option maxHeartbeats 1000000 in
/-- What a copy read, written at its destination, is what the destination is to hold. -/
theorem carries (κ : Cp) (c : Dev nD) (fd : Buf (Elt F) ((dst κ).view.loc (tgt κ c : Thread nD τ))) :
    ((dst κ).view.loc (tgt κ c : Thread nD τ) ↦[(dst κ).view.set]{fullShare}
        ((dst κ).view.write (Elt F) fd ((src κ).view.read (Elt F) (srcF X c κ)) Finset.univ) : sProp 𝕄)
      = ((dst κ).view.loc (tgt κ c : Thread nD τ) ↦[(dst κ).view.set]{fullShare} dstF X (tgt κ c) κ) := by
  refine pointsTo_congr fun i hi => ?_
  obtain ⟨x, -, rfl⟩ := Finset.mem_map.mp hi
  rw [View.write_emb_of_mem _ _ (Finset.mem_univ x)]
  cases κ with
  | a1 k =>
    show colF X.cv c ((colSl (a1S k)).view.emb x) = colF X.cv _ ((colSl (a1D k)).view.emb x)
    rw [colSl_emb, colSl_emb]
    show X.cv (shift (colO (a1S k)) c) _ = X.cv (shift (colO (a1D k)) (tgt (.a1 k) c)) _
    rw [a1_from]; rfl
  | cwA i j =>
    show colF X.cv c ((colQ (slI i) (qCw j)).view.emb x) = cwF X.cv _ ((cwSl i 1 j).view.emb x)
    rw [colQ_emb, cwSl_emb]
    show _ = colF X.cv (right (4 - hop 1) (right 1 c)) _
    rw [cwA_from]
    refine congrArg (colF X.cv c) ?_
    funext a; apply Fin.ext
    match a with
    | 0 => rfl
    | 1 => show 48 * (qCw j).val + (x 0).val = 48 * j.val + (x 0).val; rw [q_cw]
    | 2 => rfl
  | ccwA i j =>
    show colF X.cv c ((colQ (slI i) (qCcw j)).view.emb x) = ccwF X.cv _ ((ccwSl i 1 j).view.emb x)
    rw [colQ_emb, ccwSl_emb]
    show _ = colF X.cv (right (hop 1) (right 3 c)) _
    rw [ccwA_from]
    refine congrArg (colF X.cv c) ?_
    funext a; apply Fin.ext
    match a with
    | 0 => rfl
    | 1 => show 48 * (qCcw j).val + (x 0).val = 96 + 48 * j.val + (x 0).val; rw [q_ccw]
    | 2 => rfl
  | cwB i h j =>
    show cwF X.cv c ((cwSl i (hS h) j).view.emb x) = cwF X.cv _ ((cwSl i (hD h) j).view.emb x)
    rw [cwSl_emb, cwSl_emb]
    show colF X.cv (right (4 - hop (hS h)) c) _ = colF X.cv (right (4 - hop (hD h)) (right 1 c)) _
    rw [cwB_from]; rfl
  | ccwB i h j =>
    show ccwF X.cv c ((ccwSl i (hS h) j).view.emb x) = ccwF X.cv _ ((ccwSl i (hD h) j).view.emb x)
    rw [ccwSl_emb, ccwSl_emb]
    show colF X.cv (right (hop (hS h)) c) _ = colF X.cv (right (hop (hD h)) (right 3 c)) _
    rw [ccwB_from]; rfl
  | bcw h =>
    show aggF X.av c ((aggSl (bcS h) 0).view.emb x) = aggF X.av _ ((aggSl (bcD h) 0).view.emb x)
    rw [aggSl_emb, aggSl_emb]
    show X.av (right (bcS h).val c) _ = X.av (right (bcD h).val (right 1 c)) _
    rw [bcw_from]; rfl
  | bccw h =>
    show aggF X.av c ((aggSl (bccS h) 1).view.emb x) = aggF X.av _ ((aggSl (bccD h) 1).view.emb x)
    rw [aggSl_emb, aggSl_emb]
    show X.av (right (bccS h).val c) _ = X.av (right (bccD h).val (right 3 c)) _
    rw [bccw_from]; rfl
  | b2A k =>
    show aggF X.av c x = aggrF X.av _ ((aggrSl (b2D k)).view.emb x)
    rw [aggrSl_emb]
    show _ = aggF X.av (shift ((![12, 8, 4] : Fin 3 → ℕ) (b2D k)) (tgt (.b2A k) c)) _
    rw [b2A_from]
    refine congrArg (aggF X.av c) ?_
    funext a
    match a with
    | 0 => rfl
    | 1 => rfl
    | 2 => rfl
  | b2B =>
    show aggrF X.av c ((aggrSl 0).view.emb x) = aggrF X.av _ ((aggrSl 1).view.emb x)
    rw [aggrSl_emb, aggrSl_emb]
    show aggF X.av (shift 12 c) _ = aggF X.av (shift 8 (shift 4 c)) _
    rw [b2B_from]; rfl
  | ax d =>
    show amF X.ma c ((amSl 15).view.emb x) = amF X.ma _ ((amSl (axD d)).view.emb x)
    rw [amSl_emb, amSl_emb]
    show X.ma (shift (15 - (15 : Fin 16).val) c) _ = X.ma (shift (15 - (axD d).val) (tgt (.ax d) c)) _
    rw [ax_from]; rfl

end Cert.KernelIdealProof
-- ==== Proof.Sched.lean ====
/-
# The protocol: which semaphore hands over what, the permits the maxima travel under, what a device owes
-/
module

public import proofs.«01_k».proof.Proof.Contents
public import Idealize.ShloMosaic.Lib.Transfers

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type}

local notation "𝕄" => MT nD τ sig Unit (Elt F) ℕ UU ℕ

variable (X : Src F)

/-! ## The shares -/

/-- The share of a piece a device keeps to read it, or one of the fifteen it lends to copies. -/
def Sh : Option (Fin 15) → PosShare TreeShare
  | none => shareDrop fullShare 15
  | some i => shareTok fullShare 15 i

theorem bigSep_option {M : Type} [URA M] {I : Type} [Fintype I] [DecidableEq I] (Φ : Option I → sProp M) :
    bigSep Finset.univ Φ = iprop(Φ none ∗ bigSep Finset.univ (fun i => Φ (some i))) := by
  rw [bigSep_univ_at Φ none]
  congr 1
  rw [show (Finset.univ.erase none : Finset (Option I)) = Finset.univ.map Function.Embedding.some from ?_, bigSep_map]
  · rfl
  · ext x; cases x <;> simp

/-- A piece held whole is its shares. -/
theorem Pt_shares (c : Dev nD) (p : Pc) :
    Pt X fullShare c p = bigSep Finset.univ (fun o => Pt X (Sh o) c p) := by
  rw [bigSep_option]
  cases p <;> exact BI.Entails.antisymm (pointsTo_toks fullShare 15).1 (pointsTo_toks fullShare 15).2

/-! ## The permits

The maxima go straight to every other device, also to devices that are no ring neighbours: the owner of a slot of the
maxima's buffer sends the permission to write it along with the copies of the rings. A permit is named by how far (rows,
columns) its user is from its owner. -/

abbrev Dl : Type := Fin 4 × Fin 4

/-- The device so many rows and columns further, both numbered round. -/
def addD (e : Dl) (c : Dev nD) : Dev nD :=
  ⟨4 * ((c.val / 4 + e.1.val) % 4) + (c.val % 4 + e.2.val) % 4, by
    have := Nat.mod_lt (c.val / 4 + e.1.val) (show 0 < 4 by decide); have := Nat.mod_lt (c.val % 4 + e.2.val) (show 0 < 4 by decide); show _ < 16; omega⟩
/-- The device so many rows and columns before. -/
def subD (e : Dl) (c : Dev nD) : Dev nD :=
  ⟨4 * ((c.val / 4 + 4 - e.1.val) % 4) + (c.val % 4 + 4 - e.2.val) % 4, by
    have := Nat.mod_lt (c.val / 4 + 4 - e.1.val) (show 0 < 4 by decide); have := Nat.mod_lt (c.val % 4 + 4 - e.2.val) (show 0 < 4 by decide); show _ < 16; omega⟩

/-- The slot at owner `o` that the device `e` further writes. -/
def slot (e : Dl) (o : Dev nD) : Fin 16 := ⟨(o.val + 15 - (addD e o).val) % 16, Nat.mod_lt _ (by decide)⟩

/-- A permit of owner `o`. -/
def Pm (o : Dev nD) (e : Dl) : sProp 𝕄 := Rw o (.am (slot e o))

instance Pm_storable (o : Dev nD) (e : Dl) : BI.Storable (upEmb : UEmb _ 𝕄) (Pm (F := F) o e) := by unfold Pm; infer_instance

abbrev rD : Fin 4 → Fin 4 := ![0, 1, 3, 2]

/-- The permits a copy carries. -/
def dn : Cp → Finset Dl
  | .a1 k => Finset.univ.filter fun e => e.1 ∈ (![{1, 2}, {2}, {3}] : Fin 3 → Finset (Fin 4)) k
  | .cwA i j => if j = 0 then Finset.univ.filter fun e => e.1 = rD i ∧ 1 ≤ e.2.val else ∅
  | .cwB i h j => if j = 0 then Finset.univ.filter fun e => e.1 = rD i ∧ h.val + 2 ≤ e.2.val else ∅
  | .ccwA _ _ | .ccwB _ _ _ | .bcw _ | .bccw _ | .b2A _ | .b2B | .ax _ => ∅
/-- Where a copy finds the permits, seen from their owner; -/
def eS : Cp → Dl
  | .a1 k => (![0, 1, 0] k, 0)
  | .cwA i _ => (rD i, 0)
  | .cwB i h _ => (rD i, ![1, 2] h)
  | .ccwA _ _ | .ccwB _ _ _ | .bcw _ | .bccw _ | .b2A _ | .b2B | .ax _ => (0, 0)
/-- where it takes them. -/
def eR : Cp → Dl
  | .a1 k => (![1, 2, 3] k, 0)
  | .cwA i _ => (rD i, 1)
  | .cwB i h _ => (rD i, ![2, 3] h)
  | .ccwA _ _ | .ccwB _ _ _ | .bcw _ | .bccw _ | .b2A _ | .b2B | .ax _ => (0, 0)

/-- The copy of its maximum a device makes under a permit of the device `e` before it. -/
def axOf (c : Dev nD) (e : Dl) : Fin 15 := ⟨((subD e c).val + 15 - c.val) % 16 % 15, Nat.mod_lt _ (by decide)⟩

theorem subD_zero : ∀ c, subD (0, 0) c = c := by decide +kernel
theorem subD_eq : ∀ κ, ∀ e ∈ dn κ, ∀ c, subD (eR κ) (tgt κ c) = subD (eS κ) c := by decide +kernel
theorem dn_some : ∀ κ, ∀ e ∈ dn κ, (eS κ = (0, 0) ∧ e ≠ (0, 0)) ∨ ∃ κ', e ∈ dn κ' ∧ eR κ' = eS κ ∧ tR κ' < tS κ := by decide +kernel
theorem dn_eS : ∀ κ, ∀ e ∈ dn κ, eS κ ≠ e := by decide +kernel
theorem dn_eR : ∀ κ, ∀ e ∈ dn κ, eR κ ≠ (0, 0) := by decide +kernel
theorem dn_outU : ∀ κ κ', (∃ e ∈ dn κ, e ∈ dn κ') → eS κ = eS κ' → κ = κ' := by decide +kernel
theorem dn_inU : ∀ κ κ', (∃ e ∈ dn κ, e ∈ dn κ') → eR κ = eR κ' → κ = κ' := by decide +kernel
theorem dn_next : ∀ κ κ', (∃ e ∈ dn κ, e ∈ dn κ') → eR κ = eS κ' → tR κ < tS κ' := by decide +kernel
theorem dn_early : ∀ κ, dn κ ≠ ∅ → tR κ < 184 := by decide +kernel
theorem ax_late : ∀ d, 184 ≤ tS (.ax d) := by decide +kernel
theorem dn_last : ∀ e : Dl, e ≠ (0, 0) → ∃ κ, e ∈ dn κ ∧ eR κ = e := by decide +kernel
theorem dn_ne : ∀ κ, (0, 0) ∉ dn κ := by decide +kernel

theorem axOf_tgt : ∀ (e : Dl) (c : Dev nD), e ≠ (0, 0) → tgt (.ax (axOf c e)) c = subD e c ∧ slot e (subD e c) = axD (axOf c e) := by decide +kernel
theorem axOf_inj : ∀ (c : Dev nD) (e e' : Dl), e ≠ (0, 0) → e' ≠ (0, 0) → axOf c e = axOf c e' → e = e' := by decide +kernel
theorem axOf_surj : ∀ (c : Dev nD) (d : Fin 15), ∃ e : Dl, e ≠ (0, 0) ∧ axOf c e = d := by decide +kernel
theorem slot_inj : ∀ (c : Dev nD) (e e' : Dl), slot e c = slot e' c → e = e' := by decide +kernel
theorem slot_surj : ∀ (c : Dev nD) (s : Fin 16), ∃ e : Dl, slot e c = s := by decide +kernel
theorem slot_zero : ∀ (c : Dev nD), slot (0, 0) c = 15 := by decide +kernel

/-! ## The cells -/

/-- The runtime's barrier semaphore. -/
abbrev barS : Sem sig := (SemArray.scalar (sig.barrier 0 rfl) : Sems sig S_).sem
abbrev barCell (c : Dev nD) : GSem nD τ sig := ((c : Thread nD τ), .reg barS)
abbrev sndCell (κ : Cp) (c : Dev nD) : GSem nD τ sig := ((c : Thread nD τ), .dma (sndS κ))
abbrev rcvCell (κ : Cp) (c : Dev nD) : GSem nD τ sig := ((c : Thread nD τ), .dma (rcvS κ))

abbrev CI : Type := Unit ⊕ (Cp ⊕ Cp)
abbrev csem : CI → SemLoc sig
  | .inl _ => .reg barS
  | .inr (.inl κ) => .dma (sndS κ)
  | .inr (.inr κ) => .dma (rcvS κ)
abbrev osem : Cp ⊕ Cp → SemLoc sig
  | .inl κ => .dma (sndS κ)
  | .inr κ => .dma (rcvS κ)
abbrev kcell (ck : Dev nD × CI) : GSem nD τ sig := ((ck.1 : Thread nD τ), csem ck.2)

theorem osem_inj : Function.Injective osem := by
  rintro (κ | κ) (κ' | κ') h
  · rw [sndS_inj (SemLoc.dma.inj h)]
  · exact absurd (SemLoc.dma.inj h) (sndS_ne_rcvS κ κ')
  · exact absurd (SemLoc.dma.inj h).symm (sndS_ne_rcvS κ' κ)
  · rw [rcvS_inj (SemLoc.dma.inj h)]

theorem csem_inj : Function.Injective csem := by
  rintro (_ | κ) (_ | κ') h
  · rfl
  · rcases κ' with κ' | κ' <;> exact absurd h (fun h => by cases h)
  · rcases κ with κ | κ <;> exact absurd h (fun h => by cases h)
  · exact congrArg Sum.inr (osem_inj (by rcases κ with κ | κ <;> rcases κ' with κ' | κ' <;> exact h))

theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-! ## What the semaphores hand over -/

/-- The neighbours whose signals a device's barrier counts: below, above, right, left. -/
abbrev nb : Fin 4 → Dev nD → Dev nD := ![shift 4, shift 12, right 1, right 3]
/-- The neighbour a copy goes to; the maxima go to no neighbour in particular. -/
def cls : Cp → Option (Fin 4)
  | .a1 k => some (![0, 0, 1] k)
  | .cwA _ _ | .cwB _ _ _ | .bcw _ => some 2
  | .ccwA _ _ | .ccwB _ _ _ | .bccw _ => some 3
  | .b2A k => some (![0, 1] k)
  | .b2B => some 0
  | .ax _ => none
theorem cls_tgt : ∀ κ b c, cls κ = some b → tgt κ c = nb b c := by decide +kernel

/-- The permission to write a copy's destination. -/
def Lp (κ : Cp) (c : Dev nD) : sProp 𝕄 := bigSep (dp κ) (Rw (tgt κ c))
def barPay (c : Dev nD) (b : Fin 4) : sProp 𝕄 := bigSep (Finset.univ.filter fun κ => cls κ = some b) fun κ => Lp κ c
def sndPay (c : Dev nD) (κ : Cp) : sProp 𝕄 := bigSep (sp κ) (Pt X (Sh (some (tki κ))) c)
def rcvPay (c : Dev nD) (κ : Cp) : sProp 𝕄 :=
  iprop(bigSep (dp κ) (Pt X fullShare c) ∗ bigSep (dn κ) (Pm (subD (eR κ) c)))

instance bigSep_storable {I : Type} [DecidableEq I] (s : Finset I) (Φ : I → sProp 𝕄) [∀ i, BI.Storable (upEmb : UEmb _ 𝕄) (Φ i)] :
    BI.Storable (upEmb : UEmb _ 𝕄) (bigSep s Φ) := by infer_instance

open Classical in
/-- One round. A barrier cell has four duties of one unit, a send or receive cell one, of the copy's credit. -/
def Rd : Rounds.Schedule (GSem nD τ sig) (Fin 4) 𝕄 where
  duties g r := if r = 0 ∧ g.1.2 = .tc then (if g.2 = .reg barS then Finset.univ else if ∃ k, g.2 = osem k then {0} else ∅) else ∅
  unitless _ := False
  amount g _ _ := if h : ∃ k, g.2 = osem k then cr ((Classical.choose h).elim id id) else 1
  payload g _ d :=
    if h : ∃ k, g.2 = osem k then (match Classical.choose h with | .inl κ => sndPay X g.1.1 κ | .inr κ => rcvPay X g.1.1 κ)
    else barPay g.1.1 d
  amount_pos g _ _ _ := by
    by_cases h : ∃ k, g.2 = osem k
    · rw [dif_pos h]; exact cr_pos _
    · rw [dif_neg h]; exact Nat.one_pos

instance Rd_storable (g : GSem nD τ sig) (r : ℕ) (d : Fin 4) : BI.Storable (upEmb : UEmb _ 𝕄) ((Rd X).payload g r d) := by
  dsimp only [Rd]
  unfold barPay sndPay rcvPay Lp
  split
  · split <;> infer_instance
  · infer_instance

theorem bar_no (c : Dev nD) : ¬ ∃ k, (barCell c).2 = osem k := by rintro ⟨_ | _, h⟩ <;> exact absurd h (fun h => by cases h)
theorem snd_yes (κ : Cp) (c : Dev nD) : ∃ k, (sndCell κ c).2 = osem k := ⟨.inl κ, rfl⟩
theorem rcv_yes (κ : Cp) (c : Dev nD) : ∃ k, (rcvCell κ c).2 = osem k := ⟨.inr κ, rfl⟩
theorem snd_choose (κ : Cp) (c : Dev nD) : Classical.choose (snd_yes κ c) = .inl κ := osem_inj (Classical.choose_spec (snd_yes κ c)).symm
theorem rcv_choose (κ : Cp) (c : Dev nD) : Classical.choose (rcv_yes κ c) = .inr κ := osem_inj (Classical.choose_spec (rcv_yes κ c)).symm
theorem dma_ne_bar (s : DmaSem sig) : (SemLoc.dma s : SemLoc sig) ≠ .reg barS := fun h => by cases h

theorem duties_bar (c : Dev nD) : (Rd X).duties (barCell c) 0 = Finset.univ := by
  dsimp only [Rd]; rw [if_pos ⟨rfl, rfl⟩, if_pos rfl]
theorem duties_snd (κ : Cp) (c : Dev nD) : (Rd X).duties (sndCell κ c) 0 = {0} := by
  dsimp only [Rd]; rw [if_pos ⟨rfl, rfl⟩, if_neg (dma_ne_bar _), if_pos (snd_yes κ c)]
theorem duties_rcv (κ : Cp) (c : Dev nD) : (Rd X).duties (rcvCell κ c) 0 = {0} := by
  dsimp only [Rd]; rw [if_pos ⟨rfl, rfl⟩, if_neg (dma_ne_bar _), if_pos (rcv_yes κ c)]
theorem duties_later (g : GSem nD τ sig) : ∀ r, 1 ≤ r → (Rd X).duties g r = ∅ :=
  fun r hr => by dsimp only [Rd]; rw [if_neg fun h => by omega]

theorem amount_bar (c : Dev nD) (d : Fin 4) : (Rd X).amount (barCell c) 0 d = 1 := by dsimp only [Rd]; exact dif_neg (bar_no c)
theorem amount_snd (κ : Cp) (c : Dev nD) (d : Fin 4) : (Rd X).amount (sndCell κ c) 0 d = cr κ := by
  dsimp only [Rd]; rw [dif_pos (snd_yes κ c), snd_choose κ c]; rfl
theorem amount_rcv (κ : Cp) (c : Dev nD) (d : Fin 4) : (Rd X).amount (rcvCell κ c) 0 d = cr κ := by
  dsimp only [Rd]; rw [dif_pos (rcv_yes κ c), rcv_choose κ c]; rfl

theorem expect_bar (c : Dev nD) : (Rd X).expect (barCell c) 0 = 4 := by
  unfold Schedule.expect Schedule.amountOf
  rw [duties_bar, Finset.sum_congr rfl fun d _ => amount_bar X c d, Finset.sum_const, Finset.card_univ, Fintype.card_fin, smul_eq_mul]
theorem expect_snd (κ : Cp) (c : Dev nD) : (Rd X).expect (sndCell κ c) 0 = cr κ := by
  unfold Schedule.expect Schedule.amountOf; rw [duties_snd, Finset.sum_singleton, amount_snd]
theorem expect_rcv (κ : Cp) (c : Dev nD) : (Rd X).expect (rcvCell κ c) 0 = cr κ := by
  unfold Schedule.expect Schedule.amountOf; rw [duties_rcv, Finset.sum_singleton, amount_rcv]

theorem payload_bar (c : Dev nD) (b : Fin 4) : (Rd X).payload (barCell c) 0 b = barPay c b := by dsimp only [Rd]; rw [dif_neg (bar_no c)]
theorem payload_snd (κ : Cp) (c : Dev nD) (d : Fin 4) : (Rd X).payload (sndCell κ c) 0 d = sndPay X c κ := by
  dsimp only [Rd]; rw [dif_pos (snd_yes κ c), snd_choose κ c]
theorem payload_rcv (κ : Cp) (c : Dev nD) (d : Fin 4) : (Rd X).payload (rcvCell κ c) 0 d = rcvPay X c κ := by
  dsimp only [Rd]; rw [dif_pos (rcv_yes κ c), rcv_choose κ c]

theorem rest_bar (c : Dev nD) : bigSep ((Rd X).duties (barCell c) 0 \ ∅) (fun d => (Rd X).payload (barCell c) 0 d) = bigSep Finset.univ (barPay c) := by
  rw [Finset.sdiff_empty, duties_bar]; exact bigSep_congr fun b _ => payload_bar X c b
theorem rest_snd (κ : Cp) (c : Dev nD) : bigSep ((Rd X).duties (sndCell κ c) 0 \ ∅) (fun d => (Rd X).payload (sndCell κ c) 0 d) = sndPay X c κ := by
  rw [Finset.sdiff_empty, duties_snd, bigSep_singleton, payload_snd]
theorem rest_rcv (κ : Cp) (c : Dev nD) : bigSep ((Rd X).duties (rcvCell κ c) 0 \ ∅) (fun d => (Rd X).payload (rcvCell κ c) 0 d) = rcvPay X c κ := by
  rw [Finset.sdiff_empty, duties_rcv, bigSep_singleton, payload_rcv]

/-! ## What a device owes; the levels -/

/-- What device `c` owes from step `t` on: the arrivals of the copies it is still to issue. -/
def Ow (c : Dev nD) (t : ℕ) : CellTallies nD τ sig Unit :=
  ∑ κ ∈ Finset.univ.filter (fun κ => t ≤ tS κ), tallyAt (rcvCell κ (tgt κ c)) () (cr κ)
/-- What it owes its neighbours' barriers. -/
def Ob (c : Dev nD) : ℕ → CellTallies nD τ sig Unit
  | 0 => Ow c 1
  | 1 => Ow c 1 + tallyAt (barCell (nb 3 c)) () 1
  | 2 => Ow c 1 + tallyAt (barCell (nb 3 c)) () 1 + tallyAt (barCell (nb 2 c)) () 1
  | 3 => Ow c 1 + tallyAt (barCell (nb 3 c)) () 1 + tallyAt (barCell (nb 2 c)) () 1 + tallyAt (barCell (nb 1 c)) () 1
  | _ => Ow c 1 + tallyAt (barCell (nb 3 c)) () 1 + tallyAt (barCell (nb 2 c)) () 1 + tallyAt (barCell (nb 1 c)) () 1 + tallyAt (barCell (nb 0 c)) () 1
abbrev O₀ (c : Dev nD) : CellTallies nD τ sig Unit := Ob c 4

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

open Classical in
/-- Barrier cells at 1, a receive cell two above its copy's step, the others at 0. -/
def lv (g : GSem nD τ sig) (_ : Unit) : ℕ :=
  if g.2 = .reg barS then 1 else if h : ∃ κ, g.2 = .dma (rcvS κ) then tS (Classical.choose h) + 2 else 0

theorem lv_bar (c : Dev nD) : lv (barCell c) () = 1 := if_pos rfl
theorem lv_rcv (κ : Cp) (c : Dev nD) : lv (rcvCell κ c) () = tS κ + 2 := by
  have h : ∃ κ', (rcvCell κ c).2 = .dma (rcvS κ') := ⟨κ, rfl⟩
  unfold lv; rw [if_neg (dma_ne_bar _), dif_pos h, ← rcvS_inj (SemLoc.dma.inj (Classical.choose_spec h))]
theorem lv_other (c : Dev nD) (s : DmaSem sig) (h : ∀ κ, s ≠ rcvS κ) : lv ((c : Thread nD τ), .dma s) () = 0 := by
  unfold lv; rw [if_neg (dma_ne_bar _), dif_neg]; rintro ⟨κ, hk⟩; exact h κ (SemLoc.dma.inj hk)

theorem Ow_pos {c : Dev nD} {t : ℕ} {g : GSem nD τ sig} {u : Unit} (h : 0 < Ow c t g u) : ∃ κ, t ≤ tS κ ∧ g = rcvCell κ (tgt κ c) := by
  unfold Ow at h
  rw [Finset.sum_apply, Finsupp.finset_sum_apply] at h
  obtain ⟨κ, hκ, hp⟩ := Finset.exists_ne_zero_of_sum_ne_zero (Nat.pos_iff_ne_zero.mp h)
  refine ⟨κ, (Finset.mem_filter.mp hκ).2, ?_⟩
  rw [tallyAt_apply] at hp
  by_contra hn
  exact hp (if_neg fun h' => hn h'.1)

theorem Ob_pos {c : Dev nD} {n : ℕ} {g : GSem nD τ sig} {u : Unit} (h : 0 < Ob c n g u) :
    (∃ κ, g = rcvCell κ (tgt κ c)) ∨ ∃ b, g = barCell (nb b c) := by
  by_contra hn
  rw [not_or, not_exists, not_exists] at hn
  have h0 : Ow c 1 g u = 0 := by
    by_contra h'
    obtain ⟨κ, -, hk⟩ := Ow_pos (Nat.pos_iff_ne_zero.mpr h')
    exact hn.1 κ hk
  have hb (b : Fin 4) : (tallyAt (barCell (nb b c)) () 1 : CellTallies nD τ sig Unit) g u = 0 := by
    rw [tallyAt_apply]; exact if_neg fun h' => hn.2 b h'.1
  rcases n with _ | _ | _ | _ | n <;> simp only [Ob, Pi.add_apply, Finsupp.add_apply, h0, hb] at h <;> exact absurd h (by decide)

theorem Ow_end (c : Dev nD) : Ow c tEnd = 0 := by
  unfold Ow
  rw [Finset.filter_false_of_mem fun κ _ h => by have := (tS_end κ).2; omega, Finset.sum_empty]

theorem Ow_step (κ : Cp) (c : Dev nD) : Ow c (tS κ) = Ow c (tS κ + 1) + tallyAt (rcvCell κ (tgt κ c)) () (cr κ) := by
  unfold Ow
  rw [show Finset.univ.filter (fun κ' => tS κ ≤ tS κ') = insert κ (Finset.univ.filter fun κ' => tS κ + 1 ≤ tS κ') from ?_,
    Finset.sum_insert (by rw [Finset.mem_filter]; intro h; have := h.2; omega), add_comm]
  ext κ'
  rw [Finset.mem_insert, Finset.mem_filter, Finset.mem_filter]
  constructor
  · rintro ⟨-, h⟩
    by_cases e : tS κ = tS κ'
    · exact Or.inl (tS_inj _ _ e).symm
    · exact Or.inr ⟨Finset.mem_univ _, by omega⟩
  · rintro (rfl | ⟨-, h⟩)
    · exact ⟨Finset.mem_univ _, le_refl _⟩
    · exact ⟨Finset.mem_univ _, by omega⟩

theorem Ow_same (c : Dev nD) (t : ℕ) (h : ∀ κ, tS κ ≠ t) : Ow c (t + 1) = Ow c t := by
  unfold Ow
  rw [show Finset.univ.filter (fun κ' => t + 1 ≤ tS κ') = Finset.univ.filter fun κ' => t ≤ tS κ' from
    Finset.filter_congr fun κ _ => by have := h κ; omega]

theorem mayWait_zero_lv (c : Dev nD) (s : DmaSem sig) (hs : ∀ κ, s ≠ rcvS κ) (O : CellTallies nD τ sig Unit)
    (hO : ∀ g u, 0 < O g u → (∃ κ, g = rcvCell κ (tgt κ c)) ∨ ∃ b, g = barCell (nb b c)) :
    (levAts L lv : sProp 𝕄) ⊢ MayWait (c : Thread nD τ) (.dma s) () O :=
  MayOwe.of_cut (L := L) (lev := lv) 0 (fun p hp => by rw [Finset.mem_singleton.mp hp, L_tc]; exact Finset.mem_singleton_self _)
    (fun g u hg => by rcases hO g u hg with ⟨κ, rfl⟩ | ⟨b, rfl⟩ <;> rw [L_tc] <;> exact Finset.mem_singleton_self _)
    (fun p hp => by rw [Finset.mem_singleton.mp hp]; exact (lv_other c s hs).le)
    (fun g u hg => by
      rcases hO g u hg with ⟨κ, rfl⟩ | ⟨b, rfl⟩
      · exact (lv_rcv κ _).symm ▸ Nat.succ_pos _
      · exact (lv_bar _).symm ▸ Nat.one_pos)

theorem mayWait_snd (c : Dev nD) (κ : Cp) (t : ℕ) : (levAts L lv : sProp 𝕄) ⊢ MayWait (c : Thread nD τ) (.dma (sndS κ)) () (Ow c t) :=
  mayWait_zero_lv c _ (fun κ' => sndS_ne_rcvS κ κ') _ fun g u h => by obtain ⟨κ', -, hk⟩ := Ow_pos h; exact Or.inl ⟨κ', hk⟩

theorem mayWait_bar (c : Dev nD) : (levAts L lv : sProp 𝕄) ⊢ MayWait (c : Thread nD τ) (.reg barS) () (Ow c 1) :=
  MayOwe.of_cut (L := L) (lev := lv) 1 (fun p hp => by rw [Finset.mem_singleton.mp hp, L_tc]; exact Finset.mem_singleton_self _)
    (fun g u hg => by obtain ⟨κ, -, rfl⟩ := Ow_pos hg; rw [L_tc]; exact Finset.mem_singleton_self _)
    (fun p hp => by rw [Finset.mem_singleton.mp hp]; exact (lv_bar c).le)
    (fun g u hg => by obtain ⟨κ, -, rfl⟩ := Ow_pos hg; exact (lv_rcv κ _).symm ▸ (by omega))

theorem mayWait_rcv (c : Dev nD) (κ : Cp) : (levAts L lv : sProp 𝕄) ⊢ MayWait (c : Thread nD τ) (.dma (rcvS κ)) () (Ow c (tR κ)) :=
  MayOwe.of_cut (L := L) (lev := lv) (tS κ + 2) (fun p hp => by rw [Finset.mem_singleton.mp hp, L_tc]; exact Finset.mem_singleton_self _)
    (fun g u hg => by obtain ⟨κ', -, rfl⟩ := Ow_pos hg; rw [L_tc]; exact Finset.mem_singleton_self _)
    (fun p hp => by rw [Finset.mem_singleton.mp hp]; exact (lv_rcv κ c).le)
    (fun g u hg => by
      obtain ⟨κ', h', rfl⟩ := Ow_pos hg
      have := tS_lt_tR κ
      exact (lv_rcv κ' _).symm ▸ (by omega))

/-! ## The cells' invariants -/

/-- Every cell's invariant, and that every cell has reached its round. -/
def records (K : Dev nD × CI → ℕ) : sProp 𝕄 :=
  iprop((bigSep Finset.univ fun ck : Dev nD × CI => cellInv ER (Rd X) (K ck) (kcell ck))
    ∗ (bigSep Finset.univ fun ck : Dev nD × CI => reached ER (kcell ck) 0) ∗ levAts L lv)

instance records_persistent (K : Dev nD × CI → ℕ) : BI.Persistent (records X K) := by unfold records; infer_instance

theorem inv_at (K : Dev nD × CI → ℕ) (ck : Dev nD × CI) : records X K ⊢ cellInv ER (Rd X) (K ck) (kcell ck) := by
  unfold records; iintro ⟨H, -, -⟩
  iapply (show (bigSep Finset.univ fun ck : Dev nD × CI => (cellInv ER (Rd X) (K ck) (kcell ck) : sProp 𝕄)) ⊢ cellInv ER (Rd X) (K ck) (kcell ck) from bigSep_elim (Finset.mem_univ ck)); iexact H
theorem reached_at (K : Dev nD × CI → ℕ) (ck : Dev nD × CI) : records X K ⊢ reached ER (kcell ck) 0 := by
  unfold records; iintro ⟨-, H, -⟩
  iapply (show (bigSep Finset.univ fun ck : Dev nD × CI => (reached ER (kcell ck) 0 : sProp 𝕄)) ⊢ reached ER (kcell ck) 0 from bigSep_elim (Finset.mem_univ ck)); iexact H
theorem lev_at (K : Dev nD × CI → ℕ) : records X K ⊢ levAts L lv := by
  unfold records; iintro ⟨-, -, H⟩; iexact H

end Cert.KernelIdealProof
-- ==== Proof.State.lean ====
/-
# What a device holds between two steps, and how each step changes it
-/
module

public import proofs.«01_k».proof.Proof.Sched

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type}

local notation "𝕄" => MT nD τ sig Unit (Elt F) ℕ UU ℕ

variable (X : Src F)

/-! ## What a device holds before step `t` -/

/-- For a copy it issues: the right to issue it; then, until its wait, the credit of its send semaphore; then the semaphore. -/
def sndAt (c : Dev nD) (t : ℕ) (κ : Cp) : sProp 𝕄 :=
  if t ≤ tS κ then iprop(atPos ER (sndCell κ c) 0 ∅ 0 ∗ dutyTok ER (sndCell κ c) 0 0 ∗ dutyTok ER (rcvCell κ (tgt κ c)) 0 0
    ∗ (if cls κ = none then iprop(emp) else Lp κ c))
  else if t ≤ tW κ then iprop(atPos ER (sndCell κ c) 0 ∅ 0 ∗ cred (tallyAt (sndCell κ c) () (cr κ)))
  else semVal (sndCell κ c) 0

/-- For a copy sent to it: the credit of its receive semaphore until its wait; then the semaphore. -/
def rcvAt (c : Dev nD) (t : ℕ) (κ : Cp) : sProp 𝕄 :=
  if t ≤ tR κ then iprop(atPos ER (rcvCell κ c) 0 ∅ 0 ∗ cred (tallyAt (rcvCell κ c) () (cr κ))) else semVal (rcvCell κ c) 0

/-- The pieces that hold their contents, share by share, without the shares copies have with them. -/
def held (t : ℕ) (x : Pc × Option (Fin 15)) : Prop :=
  tB x.1 < t ∧ ∀ κ, x.1 ∈ sp κ → x.2 = some (tki κ) → tS κ < t → tW κ < t
open Classical in
def itemAt (c : Dev nD) (t : ℕ) (x : Pc × Option (Fin 15)) : sProp 𝕄 := if held t x then Pt X (Sh x.2) c x.1 else iprop(emp)

/-- The pieces to be staged. -/
def rawAt (c : Dev nD) (t : ℕ) (g : Fin 3) : sProp 𝕄 := if t ≤ tG g then bigSep (stg g) (Rw c) else iprop(emp)

/-- The permits: where they are, seen from their owner, and whose they are. -/
def pmHeld (c : Dev nD) (t : ℕ) (x : Dl × Dl) : Prop :=
  ((x.2 = (0, 0) ∧ x.1 ≠ (0, 0)) ∨ ∃ κ, x.1 ∈ dn κ ∧ eR κ = x.2 ∧ tR κ < t)
    ∧ (∀ κ, x.1 ∈ dn κ → eS κ = x.2 → t ≤ tS κ) ∧ (x.2 = x.1 → x.1 ≠ (0, 0) → t ≤ tS (.ax (axOf c x.1)))
open Classical in
def pmAt (c : Dev nD) (t : ℕ) (x : Dl × Dl) : sProp 𝕄 := if pmHeld c t x then Pm (subD x.2 c) x.1 else iprop(emp)

/-- What device `c` holds before step `t`. -/
def St (K : Dev nD × CI → ℕ) (c : Dev nD) (t : ℕ) : sProp 𝕄 :=
  iprop(records X K ∗ bigSep Finset.univ (sndAt c t) ∗ bigSep Finset.univ (rcvAt c t) ∗ bigSep Finset.univ (itemAt X c t)
    ∗ bigSep Finset.univ (rawAt c t) ∗ bigSep Finset.univ (pmAt c t) ∗ ∃ W, owes (c : Thread nD τ) (Ow c t) W)

/-! ## One component at a step -/

/-- A step that changes only the members of `Δ`. -/
theorem change {I : Type} [Fintype I] [DecidableEq I] (Δ : Finset I) {f g : I → sProp 𝕄} (h : ∀ i, i ∉ Δ → g i = f i) :
    bigSep Finset.univ f ⊢ iprop(bigSep Δ f ∗ (bigSep Δ g -∗ bigSep Finset.univ g)) := by
  rw [show bigSep Finset.univ f = iprop(bigSep Δ f ∗ bigSep (Finset.univ \ Δ) f) from bigSep_sdiff_split (Finset.subset_univ Δ),
    show bigSep Finset.univ g = iprop(bigSep Δ g ∗ bigSep (Finset.univ \ Δ) g) from bigSep_sdiff_split (Finset.subset_univ Δ),
    bigSep_congr (s := Finset.univ \ Δ) (Φ := g) (Ψ := f) fun i hi => h i (Finset.mem_sdiff.mp hi).2]
  iintro ⟨H1, H2⟩
  isplitl [H1]; · iexact H1
  iintro H
  isplitl [H] <;> iassumption

theorem change_to {I : Type} [Fintype I] [DecidableEq I] (Δ : Finset I) {f g : I → sProp 𝕄} {A B : sProp 𝕄} (h : ∀ i, i ∉ Δ → g i = f i)
    (hA : bigSep Δ f = A) (hB : bigSep Δ g = B) : bigSep Finset.univ f ⊢ iprop(A ∗ (B -∗ bigSep Finset.univ g)) := by
  subst hA hB; exact change Δ h
theorem change_in {I : Type} [Fintype I] [DecidableEq I] (Δ : Finset I) {f g : I → sProp 𝕄} {B : sProp 𝕄} (h : ∀ i, i ∉ Δ → g i = f i)
    (hB : bigSep Δ g = B) : bigSep Finset.univ f ⊢ iprop(B -∗ bigSep Finset.univ g) := by
  subst hB
  refine (change Δ h).trans ?_
  iintro ⟨-, H⟩; iexact H

/-- Members all paired with one thing. -/
def tag {A B : Type} (b : B) : A ↪ A × B := ⟨fun a => (a, b), fun a a' h => congrArg Prod.fst h⟩
theorem mem_tag {A B : Type} {S : Finset A} {b : B} {x : A × B} : x ∈ S.map (tag b) ↔ x.1 ∈ S ∧ x.2 = b := by
  rw [Finset.mem_map]
  constructor
  · rintro ⟨a, ha, rfl⟩; exact ⟨ha, rfl⟩
  · rintro ⟨h1, h2⟩; exact ⟨x.1, h1, Prod.ext rfl h2.symm⟩
theorem bigSep_tag {A B : Type} [DecidableEq A] [DecidableEq B] (S : Finset A) (b : B) (Φ : A × B → sProp 𝕄) :
    bigSep (S.map (tag b)) Φ = bigSep S fun a => Φ (a, b) := by
  rw [bigSep_map]; rfl

theorem emps {I : Type} [DecidableEq I] (Δ : Finset I) {g : I → sProp 𝕄} (h : ∀ i ∈ Δ, g i = iprop(emp)) : bigSep Δ g = iprop(emp) :=
  (bigSep_congr h).trans (bigSep_emp_const Δ)

theorem bigSep_all {A B : Type} [DecidableEq A] [DecidableEq B] [Fintype A] [Fintype B] (S : Finset A) (Φ : A × B → sProp 𝕄) :
    bigSep (S ×ˢ Finset.univ) Φ = bigSep S fun a => bigSep Finset.univ fun b => Φ (a, b) := by
  rw [show S ×ˢ (Finset.univ : Finset B) = Finset.univ.filter fun x : A × B => x.1 ∈ S from by ext x; simp, bigSep_filter, bigSep_univ_prod,
    show S = Finset.univ.filter fun a => a ∈ S from by ext x; simp, bigSep_filter]
  refine bigSep_congr fun a _ => ?_
  by_cases h : a ∈ S
  · rw [if_pos (by simpa using h)]; exact bigSep_congr fun b _ => if_pos (by simpa using h)
  · rw [if_neg (by simpa using h)]; exact emps (I := B) _ fun b _ => if_neg (by simpa using h)

theorem sndAt_same (c : Dev nD) {t : ℕ} {κ : Cp} (h1 : tS κ ≠ t) (h2 : tW κ ≠ t) : sndAt (F := F) c (t + 1) κ = sndAt c t κ := by
  unfold sndAt
  exact if_congr (by omega) rfl (if_congr (by omega) rfl rfl)
theorem rcvAt_same (c : Dev nD) {t : ℕ} {κ : Cp} (h1 : tR κ ≠ t) : rcvAt (F := F) c (t + 1) κ = rcvAt c t κ := by
  unfold rcvAt
  exact if_congr (by omega) rfl rfl
theorem rawAt_same (c : Dev nD) {t : ℕ} {g : Fin 3} (h1 : tG g ≠ t) : rawAt (F := F) c (t + 1) g = rawAt c t g := by
  unfold rawAt
  exact if_congr (by omega) rfl rfl
theorem itemAt_same (c : Dev nD) {t : ℕ} {x : Pc × Option (Fin 15)} (h0 : tB x.1 ≠ t)
    (h1 : ∀ κ, x.1 ∈ sp κ → x.2 = some (tki κ) → tS κ ≠ t ∧ tW κ ≠ t) : itemAt X c (t + 1) x = itemAt X c t x := by
  unfold itemAt
  classical
  refine if_congr ?_ rfl rfl
  unfold held
  refine and_congr (by omega) ⟨fun h κ a b l => ?_, fun h κ a b l => ?_⟩
  · have := h κ a b (by omega); have := h1 κ a b; omega
  · have := h1 κ a b; have := h κ a b (by omega); omega
theorem pmAt_same (c : Dev nD) {t : ℕ} {x : Dl × Dl} (h1 : ∀ κ, x.1 ∈ dn κ → eR κ = x.2 → tR κ ≠ t)
    (h2 : ∀ κ, x.1 ∈ dn κ → eS κ = x.2 → tS κ ≠ t) (h3 : x.2 = x.1 → x.1 ≠ (0, 0) → tS (.ax (axOf c x.1)) ≠ t) : pmAt (F := F) c (t + 1) x = pmAt c t x := by
  unfold pmAt
  classical
  refine if_congr ?_ rfl rfl
  unfold pmHeld
  refine and_congr (or_congr Iff.rfl ⟨?_, ?_⟩) (and_congr ⟨fun h κ a b => ?_, fun h κ a b => ?_⟩ ⟨fun h a a' => ?_, fun h a a' => ?_⟩)
  · rintro ⟨κ, a, b, l⟩; exact ⟨κ, a, b, by have := h1 κ a b; omega⟩
  · rintro ⟨κ, a, b, l⟩; exact ⟨κ, a, b, by omega⟩
  · have := h κ a b; omega
  · have := h κ a b; have := h2 κ a b; omega
  · have := h a a'; omega
  · have := h a a'; have := h3 a a'; omega

/-! ## Issuing a copy -/

theorem snd_issue (κ : Cp) (c : Dev nD) :
    bigSep Finset.univ (sndAt (F := F) c (tS κ)) ⊢ iprop((atPos ER (sndCell κ c) 0 ∅ 0 ∗ dutyTok ER (sndCell κ c) 0 0
      ∗ dutyTok ER (rcvCell κ (tgt κ c)) 0 0 ∗ (if cls κ = none then iprop(emp) else Lp κ c))
      ∗ ((atPos ER (sndCell κ c) 0 ∅ 0 ∗ cred (tallyAt (sndCell κ c) () (cr κ))) -∗ bigSep Finset.univ (sndAt c (tS κ + 1)))) := by
  refine change_to {κ} (fun κ' h => sndAt_same c (fun e => h (Finset.mem_singleton.mpr (tS_inj _ _ e))) (fun e => tS_ne_tW κ κ' e.symm)) ?_ ?_
  · rw [bigSep_singleton]; unfold sndAt; rw [if_pos le_rfl]
  · have := tS_lt_tW κ; rw [bigSep_singleton]; unfold sndAt; rw [if_neg (by omega), if_pos (by omega)]

theorem rcv_issue (κ : Cp) (c : Dev nD) : bigSep Finset.univ (rcvAt (F := F) c (tS κ)) = bigSep Finset.univ (rcvAt c (tS κ + 1)) :=
  bigSep_congr fun κ' _ => (rcvAt_same c fun e => tS_ne_tR κ κ' e.symm).symm
theorem raw_issue (κ : Cp) (c : Dev nD) : bigSep Finset.univ (rawAt (F := F) c (tS κ)) = bigSep Finset.univ (rawAt c (tS κ + 1)) :=
  bigSep_congr fun g _ => (rawAt_same c (tG_ne_tS g κ)).symm

theorem tB_cases (p : Pc) : (∃ κ, p ∈ dp κ ∧ tB p = tR κ) ∨ ∃ g, p ∈ stg g ∧ tB p = tG g := by
  rcases piece_from p with ⟨κ, h⟩ | ⟨g, h⟩
  · exact Or.inl ⟨κ, h, tB_dp κ p h⟩
  · exact Or.inr ⟨g, h, tB_stg g p h⟩
theorem tB_ne_tS (p : Pc) (κ : Cp) : tB p ≠ tS κ := by
  rcases tB_cases p with ⟨κ', -, e⟩ | ⟨g, -, e⟩ <;> rw [e]
  · exact (tS_ne_tR κ κ').symm
  · exact tG_ne_tS g κ
theorem tB_ne_tW (p : Pc) (κ : Cp) : tB p ≠ tW κ := by
  rcases tB_cases p with ⟨κ', -, e⟩ | ⟨g, -, e⟩ <;> rw [e]
  · exact tR_ne_tW κ' κ
  · exact tG_ne_tW g κ

theorem taken_other {κ κ' : Cp} {x : Pc × Option (Fin 15)} (h : x ∉ (sp κ).map (tag (some (tki κ)))) (a : x.1 ∈ sp κ') (b : x.2 = some (tki κ')) :
    κ' ≠ κ := by
  rintro rfl; exact h (mem_tag.mpr ⟨a, b⟩)

theorem item_issue (κ : Cp) (c : Dev nD) :
    bigSep Finset.univ (itemAt X c (tS κ)) ⊢ iprop(bigSep (sp κ) (Pt X (Sh (some (tki κ))) c) ∗ (emp -∗ bigSep Finset.univ (itemAt X c (tS κ + 1)))) := by
  refine change_to ((sp κ).map (tag (some (tki κ)))) (fun x h => itemAt_same X c (tB_ne_tS _ κ) fun κ' a b =>
    ⟨fun e => taken_other h a b (tS_inj _ _ e), fun e => tS_ne_tW κ κ' e.symm⟩) ?_ ?_
  · rw [bigSep_tag]
    refine bigSep_congr fun p hp => if_pos ⟨sp_ready κ p hp, fun κ' a b l => ?_⟩
    have := sp_unique κ κ' (Option.some.inj b) ⟨p, hp, a⟩
    subst this; omega
  · rw [bigSep_tag]
    refine emps (I := Pc) _ fun p hp => if_neg fun h => ?_
    have := h.2 κ hp rfl (by omega); have := tS_lt_tW κ; omega

theorem pm_issue (κ : Cp) (hκ : cls κ ≠ none) (c : Dev nD) :
    bigSep Finset.univ (pmAt (F := F) c (tS κ)) ⊢ iprop(bigSep (dn κ) (Pm (subD (eS κ) c)) ∗ (emp -∗ bigSep Finset.univ (pmAt c (tS κ + 1)))) := by
  have hax : ∀ d, κ ≠ .ax d := by rintro d rfl; exact hκ rfl
  refine change_to ((dn κ).map (tag (eS κ))) (fun x h => pmAt_same c
    (fun κ' _ _ e => tS_ne_tR κ κ' e.symm) (fun κ' a b e => ?_) (fun _ _ e => hax _ (tS_inj _ _ e).symm)) ?_ ?_
  · have := tS_inj _ _ e; subst this
    exact h (mem_tag.mpr ⟨a, b.symm⟩)
  · rw [bigSep_tag]
    refine bigSep_congr fun e he => if_pos ⟨?_, fun κ' a b => ?_, fun h => absurd h (dn_eS κ e he)⟩
    · rcases dn_some κ e he with h | ⟨κ', h1, h2, h3⟩
      · exact Or.inl h
      · exact Or.inr ⟨κ', h1, h2, h3⟩
    · exact (congrArg tS (dn_outU κ κ' ⟨e, he, a⟩ b.symm)).le
  · rw [bigSep_tag]
    refine emps (I := Dl) _ fun e he => if_neg fun h => ?_
    have := h.2.1 κ he rfl; omega

/-- The device's own use of the permit for its maximum `d`. -/
theorem pm_issue_ax (d : Fin 15) (c : Dev nD) :
    bigSep Finset.univ (pmAt (F := F) c (tS (.ax d))) ⊢ iprop(Lp (.ax d) c ∗ (emp -∗ bigSep Finset.univ (pmAt c (tS (.ax d) + 1)))) := by
  obtain ⟨e, he, hd⟩ := axOf_surj c d
  have hl := ax_late d
  refine change_to {(e, e)} (fun x h => pmAt_same c
    (fun κ' _ _ e' => tS_ne_tR _ κ' e'.symm) (fun κ' a b e' => ?_) (fun h1 h0 h2 => ?_)) ?_ ?_
  · have := tS_inj _ _ e'; subst this; exact absurd a (Finset.notMem_empty _)
  · have h3 : axOf c x.1 = d := Cp.ax.inj (tS_inj _ _ h2)
    have := axOf_inj c x.1 e h0 he (h3.trans hd.symm)
    exact h (Finset.mem_singleton.mpr (Prod.ext this (h1.trans this)))
  · rw [bigSep_singleton]; unfold pmAt
    obtain ⟨κ, hκ, hr⟩ := dn_last e he
    have := dn_early κ (Finset.ne_empty_of_mem hκ)
    rw [if_pos ⟨Or.inr ⟨κ, hκ, hr, by omega⟩, fun κ' a b => absurd b (dn_eS κ' e a), fun _ _ => by rw [hd]⟩]
    obtain ⟨h1, h2⟩ := axOf_tgt e c he
    unfold Lp Pm
    rw [show dp (.ax d) = {.am (axD d)} from rfl, bigSep_singleton, ← hd, h1, h2]
  · rw [bigSep_singleton]; unfold pmAt; rw [if_neg]
    intro h; have := h.2.2 rfl he; rw [hd] at this; omega

/-! ## A copy arrives -/

theorem snd_other (c : Dev nD) {t : ℕ} (h1 : ∀ κ, tS κ ≠ t) (h2 : ∀ κ, tW κ ≠ t) :
    bigSep Finset.univ (sndAt (F := F) c t) = bigSep Finset.univ (sndAt c (t + 1)) := bigSep_congr fun κ _ => (sndAt_same c (h1 κ) (h2 κ)).symm
theorem rcv_other (c : Dev nD) {t : ℕ} (h1 : ∀ κ, tR κ ≠ t) :
    bigSep Finset.univ (rcvAt (F := F) c t) = bigSep Finset.univ (rcvAt c (t + 1)) := bigSep_congr fun κ _ => (rcvAt_same c (h1 κ)).symm
theorem raw_other (c : Dev nD) {t : ℕ} (h1 : ∀ g, tG g ≠ t) :
    bigSep Finset.univ (rawAt (F := F) c t) = bigSep Finset.univ (rawAt c (t + 1)) := bigSep_congr fun g _ => (rawAt_same c (h1 g)).symm
theorem pm_other (c : Dev nD) {t : ℕ} (h1 : ∀ κ, tR κ ≠ t) (h2 : ∀ κ, tS κ ≠ t) :
    bigSep Finset.univ (pmAt (F := F) c t) = bigSep Finset.univ (pmAt c (t + 1)) :=
  bigSep_congr fun x _ => (pmAt_same c (fun κ _ _ => h1 κ) (fun κ _ _ => h2 κ) (fun _ _ => h2 _)).symm

theorem rcv_arrive (κ : Cp) (c : Dev nD) :
    bigSep Finset.univ (rcvAt (F := F) c (tR κ)) ⊢ iprop((atPos ER (rcvCell κ c) 0 ∅ 0 ∗ cred (tallyAt (rcvCell κ c) () (cr κ)))
      ∗ (semVal (rcvCell κ c) 0 -∗ bigSep Finset.univ (rcvAt c (tR κ + 1)))) := by
  refine change_to {κ} (fun κ' h => rcvAt_same c fun e => h (Finset.mem_singleton.mpr (tR_inj _ _ e))) ?_ ?_
  · rw [bigSep_singleton]; unfold rcvAt; rw [if_pos le_rfl]
  · rw [bigSep_singleton]; unfold rcvAt; rw [if_neg (by omega)]

/-- The pieces that come to hold their contents at a step. -/
theorem item_fill (S : Finset Pc) (c : Dev nD) {t : ℕ} (h1 : ∀ p ∈ S, tB p = t) (h2 : ∀ p, tB p = t → p ∈ S) (h3 : ∀ κ, tS κ ≠ t) (h4 : ∀ κ, tW κ ≠ t) :
    bigSep Finset.univ (itemAt X c t) ⊢ (bigSep S (Pt X fullShare c) -∗ bigSep Finset.univ (itemAt X c (t + 1))) := by
  refine change_in (S ×ˢ Finset.univ) (fun x h => itemAt_same X c
    (fun e => h (Finset.mem_product.mpr ⟨h2 _ e, Finset.mem_univ _⟩)) fun κ _ _ => ⟨h3 κ, h4 κ⟩) ?_
  rw [bigSep_all]
  refine bigSep_congr fun p hp => (bigSep_congr fun o _ => if_pos ⟨?_, ?_⟩).trans (Pt_shares X c p).symm
  · show tB p < t + 1; rw [h1 p hp]; omega
  · intro κ a b l
    have := sp_ready κ p a; have := h1 p hp; omega

theorem item_arrive (κ : Cp) (c : Dev nD) :
    bigSep Finset.univ (itemAt X c (tR κ)) ⊢ (bigSep (dp κ) (Pt X fullShare c) -∗ bigSep Finset.univ (itemAt X c (tR κ + 1))) := by
  refine item_fill X (dp κ) c (tB_dp κ) (fun p e => ?_) (fun κ' => tS_ne_tR κ' κ) (fun κ' e => tR_ne_tW κ κ' e.symm)
  rcases tB_cases p with ⟨κ', h, e'⟩ | ⟨g, -, e'⟩
  · have := tR_inj _ _ (e'.symm.trans e); subst this; exact h
  · exact absurd (e'.symm.trans e) (tG_ne_tR g κ)

theorem item_stage (g : Fin 3) (c : Dev nD) :
    bigSep Finset.univ (itemAt X c (tG g)) ⊢ (bigSep (stg g) (Pt X fullShare c) -∗ bigSep Finset.univ (itemAt X c (tG g + 1))) := by
  refine item_fill X (stg g) c (tB_stg g) (fun p e => ?_) (fun κ' e => tG_ne_tS g κ' e.symm) (fun κ' e => tG_ne_tW g κ' e.symm)
  rcases tB_cases p with ⟨κ', h, e'⟩ | ⟨g', h, e'⟩
  · exact absurd (e.symm.trans e') (tG_ne_tR g κ')
  · have := tG_inj _ _ (e'.symm.trans e); subst this; exact h

theorem raw_stage (g : Fin 3) (c : Dev nD) :
    bigSep Finset.univ (rawAt (F := F) c (tG g)) ⊢ iprop(bigSep (stg g) (Rw c) ∗ (emp -∗ bigSep Finset.univ (rawAt c (tG g + 1)))) := by
  refine change_to {g} (fun g' h => rawAt_same c fun e => h (Finset.mem_singleton.mpr (tG_inj _ _ e))) ?_ ?_
  · rw [bigSep_singleton]; unfold rawAt; rw [if_pos le_rfl]
  · rw [bigSep_singleton]; unfold rawAt; rw [if_neg (by omega)]

theorem pm_arrive (κ : Cp) (c : Dev nD) :
    bigSep Finset.univ (pmAt (F := F) c (tR κ)) ⊢ (bigSep (dn κ) (Pm (subD (eR κ) c)) -∗ bigSep Finset.univ (pmAt c (tR κ + 1))) := by
  refine change_in ((dn κ).map (tag (eR κ))) (fun x h => pmAt_same c
    (fun κ' a b e => ?_) (fun κ' _ _ e => tS_ne_tR κ' κ e) (fun _ _ e => tS_ne_tR _ κ e)) ?_
  · have := tR_inj _ _ e; subst this
    exact h (mem_tag.mpr ⟨a, b.symm⟩)
  rw [bigSep_tag]
  refine bigSep_congr fun e he => if_pos ⟨Or.inr ⟨κ, he, rfl, by omega⟩, fun κ' a b => ?_, fun h h0 => ?_⟩
  · have := dn_next κ κ' ⟨e, he, a⟩ b.symm; omega
  · have := dn_early κ (Finset.ne_empty_of_mem he); have := ax_late (axOf c e); show tR κ + 1 ≤ tS (.ax (axOf c e)); omega

/-! ## A copy has left -/

theorem snd_left (κ : Cp) (c : Dev nD) :
    bigSep Finset.univ (sndAt (F := F) c (tW κ)) ⊢ iprop((atPos ER (sndCell κ c) 0 ∅ 0 ∗ cred (tallyAt (sndCell κ c) () (cr κ)))
      ∗ (semVal (sndCell κ c) 0 -∗ bigSep Finset.univ (sndAt c (tW κ + 1)))) := by
  have := tS_lt_tW κ
  refine change_to {κ} (fun κ' h => sndAt_same c (fun e => tS_ne_tW κ' κ e) (fun e => h (Finset.mem_singleton.mpr (tW_inj _ _ e)))) ?_ ?_
  · rw [bigSep_singleton]; unfold sndAt; rw [if_neg (by omega), if_pos le_rfl]
  · rw [bigSep_singleton]; unfold sndAt; rw [if_neg (by omega), if_neg (by omega)]

theorem item_left (κ : Cp) (c : Dev nD) :
    bigSep Finset.univ (itemAt X c (tW κ)) ⊢ (bigSep (sp κ) (Pt X (Sh (some (tki κ))) c) -∗ bigSep Finset.univ (itemAt X c (tW κ + 1))) := by
  refine change_in ((sp κ).map (tag (some (tki κ)))) (fun x h => itemAt_same X c (tB_ne_tW _ κ) fun κ' a b =>
    ⟨fun e => tS_ne_tW κ' κ e, fun e => taken_other h a b (tW_inj _ _ e)⟩) ?_
  rw [bigSep_tag]
  refine bigSep_congr fun p hp => if_pos ⟨?_, fun κ' a b l => ?_⟩
  · have := sp_ready κ p hp; have := tS_lt_tW κ; show tB p < tW κ + 1; omega
  · have := sp_unique κ κ' (Option.some.inj b) ⟨p, hp, a⟩
    subst this; omega

/-! ## Reading a piece -/

theorem item_peek (P : Finset Pc) (c : Dev nD) {t : ℕ} (h : ∀ p ∈ P, tB p < t) :
    bigSep Finset.univ (itemAt X c t) ⊢ iprop(bigSep P (Pt X (Sh none) c) ∗ (bigSep P (Pt X (Sh none) c) -∗ bigSep Finset.univ (itemAt X c t))) := by
  have e : bigSep (P.map (tag none)) (itemAt X c t) = bigSep P (Pt X (Sh none) c) := by
    rw [bigSep_tag]
    exact bigSep_congr fun p hp => if_pos ⟨h p hp, fun κ _ b => by cases b⟩
  exact change_to _ (fun _ _ => rfl) e e

end Cert.KernelIdealProof
-- ==== Proof.Steps.lean ====
/-
# The rules of the body's operations, from what the device holds before a step to what it holds after
-/
module

public import proofs.«01_k».proof.Proof.State

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (X : Src F) (K : Dev nD × CI → ℕ) (c : Dev nD)

abbrev 𝒱₀ : Variants := Variants.none

/-- The body's programs, on device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

theorem with_rest {A B P G : sProp 𝕄} (h : A ⊢ B) (h' : iprop((A -∗ B) ∗ P) ⊢ G) : P ⊢ G := by
  have h1 : P ⊢ (iprop((A -∗ B) ∗ P) : sProp 𝕄) := by
    iintro H
    isplitr
    · iintro HA; iapply h; iexact HA
    iexact H
  exact h1.trans h'

theorem cls_lt (κ : Cp) (h : cls κ ≠ none) : (if cls κ = none then iprop(emp) else Lp κ c : sProp 𝕄) = Lp κ c := if_neg h

/-- The copy's destination, with the permits it carries, as the receive semaphore hands it over. -/
theorem pay_rcv (κ : Cp) (fd : Buf (Elt F) ((dst κ).view.loc (tgt κ c : Thread nD τ))) :
    iprop(((dst κ).view.loc (tgt κ c : Thread nD τ) ↦[(dst κ).view.set]{fullShare}
        ((dst κ).view.write (Elt F) fd ((src κ).view.read (Elt F) (srcF X c κ)) Finset.univ)) ∗ bigSep (dn κ) (Pm (subD (eS κ) c)))
      ⊢ (Rd X).payload (rcvCell κ (tgt κ c)) 0 0 := by
  rw [payload_rcv, carries]
  unfold rcvPay
  rw [dst_pieces]
  exact sep_mono_right (bigSep_mono fun e he => Entails.of_eq (congrArg (fun o => Pm o e) (subD_eq κ e he c).symm))

theorem pay_snd (κ : Cp) :
    ((src κ).view.loc (c : Thread nD τ) ↦[(src κ).view.set]{Sh (some (tki κ))} srcF X c κ : sProp 𝕄) ⊢ (Rd X).payload (sndCell κ c) 0 0 := by
  rw [payload_snd]; unfold sndPay; rw [src_pieces]

theorem amount_dst (κ : Cp) : (dst κ).view.amount (.dma (rcvS κ)) = cr κ := rfl

theorem send (κ : Cp) {hsc : (dst κ).view.ref.isScScratch = false} {hsrc : (src κ).view.WordExact} {hdst : (dst κ).view.WordExact}
    {hsem : DmaTarget.Typed .vmem (.dma (rcvS κ)) (.remote (tgt κ c : Thread nD τ) (dst κ) (.dma (sndS κ)) hsc)} {α : Type} {k : PUnit.{1} → Prog (TpuEff nD τ sig (Elt F) Λ₀ .tc) α} {Q : α → sProp 𝕄} {W : Waits sig Unit} :
    iprop(records X K ∗ bigSep (sp κ) (Pt X (Sh (some (tki κ))) c) ∗ Lp κ c ∗ bigSep (dn κ) (Pm (subD (eS κ) c)) ∗ owes (c : Thread nD τ) (Ow c (tS κ)) W
        ∗ dutyTok ER (sndCell κ c) 0 0 ∗ dutyTok ER (rcvCell κ (tgt κ c)) 0 0)
      ⊢ iprop(((cred (tallyAt (sndCell κ c) () (cr κ)) ∗ owes (c : Thread nD τ) (Ow c (tS κ + 1)) W) -∗ WP c (k ⟨⟩) Q)
        -∗ WP c (.op (.enqueueDma (src κ) (.remote (tgt κ c : Thread nD τ) (dst κ) (.dma (sndS κ)) hsc) (.dma (rcvS κ)) hsrc hdst hsem) k) Q) := by
  iintro ⟨#Hrec, Hs, Hl, Hp, HO, Ht1, Ht2⟩
  ihave Hs' := (Entails.of_eq (src_pieces X κ c (Sh (some (tki κ))))) $$ Hs
  unfold Lp
  ihave Hd := (dst_join κ (tgt κ c)) $$ Hl
  icases Hd with ⟨%fd, Hd⟩
  iapply (Rounds.wp_send_pointsTo_with 𝒱₀ ER (Rd X) (c : Thread nD τ) none (c' := (tgt κ c : Thread nD τ)) (src := src κ) (dst := dst κ) (hsc := hsc) (hsrc := hsrc) (hdst := hdst) (hsem := hsem) (sS := .dma (sndS κ)) (sem := .dma (rcvS κ)) (κ₁ := K (c, .inr (.inl κ))) (κ₂ := K (tgt κ c, .inr (.inr κ)))
      (r₁ := 0) (r₂ := 0) (d₁ := 0) (d₂ := 0) (fs := srcF X c κ) (fd := fd) (F := bigSep (dn κ) (Pm (subD (eS κ) c)))
      (by rw [duties_snd]; exact Finset.mem_singleton_self _) (by rw [duties_rcv]; exact Finset.mem_singleton_self _)
      () () (cr κ) (amount_dst κ) (amount_snd X κ c 0) (amount_rcv X κ (tgt κ c) 0) (Ow c (tS κ + 1)) (Ow_step κ c) (W := W)
      (pay_snd X c κ) (pay_rcv X c κ fd)) $$ [Hs' Hd Hp HO Ht1 Ht2]
  isplitr; · iapply (inv_at X K (c, .inr (.inl κ))); iexact Hrec
  isplitr; · iapply (inv_at X K (tgt κ c, .inr (.inr κ))); iexact Hrec
  isplitl [Hs']; · iexact Hs'
  isplitl [Hd Hp]
  · isplitl [Hd] <;> iassumption
  isplitl [HO]; · iexact HO
  isplitl [Ht1]; · iexact Ht1
  isplitr; · iapply (reached_at X K (c, .inr (.inl κ))); iexact Hrec
  isplitl [Ht2]; · iexact Ht2
  iapply (reached_at X K (tgt κ c, .inr (.inr κ))); iexact Hrec

/-- Issuing a copy to a neighbour. -/
theorem step_enq {α : Type} {Q : α → sProp 𝕄} {R : sProp 𝕄} {t : ℕ} (κ : Cp) (hκ : cls κ ≠ none) (ht : t = tS κ) {n : Dev nD} (hn : n = tgt κ c) {hsc : (dst κ).view.ref.isScScratch = false} {hsrc : (src κ).view.WordExact} {hdst : (dst κ).view.WordExact}
    {hsem : DmaTarget.Typed .vmem (.dma (rcvS κ)) (.remote (n : Thread nD τ) (dst κ) (.dma (sndS κ)) hsc)} {k : PUnit.{1} → Prog (TpuEff nD τ sig (Elt F) Λ₀ .tc) α}
    (h : iprop(R ∗ St X K c (t + 1)) ⊢ WP c (k ⟨⟩) Q) :
    iprop(R ∗ St X K c t) ⊢ WP c (.op (.enqueueDma (src κ) (.remote (n : Thread nD τ) (dst κ) (.dma (sndS κ)) hsc) (.dma (rcvS κ)) hsrc hdst hsem) k) Q := by
  subst hn ht
  refine with_rest h ?_
  unfold St
  iintro ⟨Hk, HR, #Hrec, HS, HV, HI, HW, HP, ⟨%W, HO⟩⟩
  ihave HS := (snd_issue κ c) $$ HS
  icases HS with ⟨⟨Hat, Ht1, Ht2, Hl⟩, HS⟩
  ihave Hl := (Entails.of_eq (cls_lt c κ hκ)) $$ Hl
  ihave HI := (item_issue X κ c) $$ HI
  icases HI with ⟨Hi, HI⟩
  ihave HP := (pm_issue κ hκ c) $$ HP
  icases HP with ⟨Hp, HP⟩
  iapply (send X K c κ (W := W)) $$ [Hi Hl Hp HO Ht1 Ht2]
  · isplitr; · iexact Hrec
    isplitl [Hi]; · iexact Hi
    isplitl [Hl]; · iexact Hl
    isplitl [Hp]; · iexact Hp
    isplitl [HO]; · iexact HO
    isplitl [Ht1] <;> iassumption
  iintro ⟨Hc, HO⟩
  iapply Hk
  isplitl [HR]; · iexact HR
  isplitr; · iexact Hrec
  isplitl [HS Hat Hc]
  · iapply HS; isplitl [Hat] <;> iassumption
  isplitl [HV]; · iapply (Entails.of_eq (rcv_issue κ c)); iexact HV
  isplitl [HI]; · iapply HI; iempintro
  isplitl [HW]; · iapply (Entails.of_eq (raw_issue κ c)); iexact HW
  isplitl [HP]; · iapply HP; iempintro
  iexists W; iexact HO

/-- Issuing the copy of the maximum to the device `d + 1` further. -/
theorem step_ax {α : Type} {Q : α → sProp 𝕄} {R : sProp 𝕄} {t : ℕ} (d : Fin 15) (ht : t = tS (.ax d)) {n : Dev nD} (hn : n = tgt (.ax d) c) {hsc : (dst (.ax d)).view.ref.isScScratch = false} {hsrc : (src (.ax d)).view.WordExact} {hdst : (dst (.ax d)).view.WordExact}
    {hsem : DmaTarget.Typed .vmem (.dma (rcvS (.ax d))) (.remote (n : Thread nD τ) (dst (.ax d)) (.dma (sndS (.ax d))) hsc)} {k : PUnit.{1} → Prog (TpuEff nD τ sig (Elt F) Λ₀ .tc) α}
    (h : iprop(R ∗ St X K c (t + 1)) ⊢ WP c (k ⟨⟩) Q) :
    iprop(R ∗ St X K c t) ⊢ WP c (.op (.enqueueDma (src (.ax d)) (.remote (n : Thread nD τ) (dst (.ax d)) (.dma (sndS (.ax d))) hsc) (.dma (rcvS (.ax d))) hsrc hdst hsem) k) Q := by
  subst hn ht
  refine with_rest h ?_
  unfold St
  iintro ⟨Hk, HR, #Hrec, HS, HV, HI, HW, HP, ⟨%W, HO⟩⟩
  ihave HS := (snd_issue (.ax d) c) $$ HS
  icases HS with ⟨⟨Hat, Ht1, Ht2, -⟩, HS⟩
  ihave HI := (item_issue X (.ax d) c) $$ HI
  icases HI with ⟨Hi, HI⟩
  ihave HP := (pm_issue_ax d c) $$ HP
  icases HP with ⟨Hl, HP⟩
  iapply (send X K c (.ax d) (W := W)) $$ [Hi Hl HO Ht1 Ht2]
  · isplitr; · iexact Hrec
    isplitl [Hi]; · iexact Hi
    isplitl [Hl]; · iexact Hl
    isplitr; · rw [show dn (.ax d) = ∅ from rfl, bigSep_empty]; iempintro
    isplitl [HO]; · iexact HO
    isplitl [Ht1] <;> iassumption
  iintro ⟨Hc, HO⟩
  iapply Hk
  isplitl [HR]; · iexact HR
  isplitr; · iexact Hrec
  isplitl [HS Hat Hc]
  · iapply HS; isplitl [Hat] <;> iassumption
  isplitl [HV]; · iapply (Entails.of_eq (rcv_issue (.ax d) c)); iexact HV
  isplitl [HI]; · iapply HI; iempintro
  isplitl [HW]; · iapply (Entails.of_eq (raw_issue (.ax d) c)); iexact HW
  isplitl [HP]; · iapply HP; iempintro
  iexists W; iexact HO

set_option maxRecDepth 100000 in
theorem may_rcv (κ : Cp) : records X K ⊢ MayWait (c : Thread nD τ) (.dma (rcvS κ)) () (Ow c (tR κ)) := (lev_at X K).trans (mayWait_rcv c κ)
set_option maxRecDepth 100000 in
theorem may_snd (κ : Cp) : records X K ⊢ MayWait (c : Thread nD τ) (.dma (sndS κ)) () (Ow c (tW κ)) := (lev_at X K).trans (mayWait_snd c κ (tW κ))

/-- Waiting for the arrival of a copy. -/
theorem step_rcv {α : Type} {Q : α → sProp 𝕄} {R : sProp 𝕄} {t : ℕ} (κ : Cp) (ht : t = tR κ) {sp sp' : Space} {s s' : Shape} {e e' : EltTy} {m : Memref sig .tc sp' s' e'} {m' : Memref sig .tc sp s e}
    {h1 : m.view.WordExact} {h2 : m'.view.WordExact} (hc : m'.view.dmaCredit = cr κ) {k : PUnit.{1} → Prog (TpuEff nD τ sig (Elt F) Λ₀ .tc) α}
    (h : iprop(R ∗ St X K c (t + 1)) ⊢ WP c (k ⟨⟩) Q) :
    iprop(R ∗ St X K c t) ⊢ WP c (.op (.waitDma2 (rcvS κ) m m' h1 h2) k) Q := by
  subst ht
  refine with_rest h ?_
  unfold St
  iintro ⟨Hk, HR, #Hrec, HS, HV, HI, HW, HP, ⟨%W, HO⟩⟩
  ihave HV := (rcv_arrive κ c) $$ HV
  icases HV with ⟨⟨Hat, Hcr⟩, HV⟩
  ihave HI := (item_arrive X κ c) $$ HI
  ihave HP := (pm_arrive κ c) $$ HP
  iapply (Rounds.wp_wait_rest_token 𝒱₀ ER (Rd X) (c : Thread nD τ) none (κ := K (c, .inr (.inr κ))) (sm := .dma (rcvS κ)) (k' := cr κ)
      (fun Kt => (wpE_waitDma2_eq 𝒱₀ (c : Thread nD τ) none Set.univ Kt).trans (by rw [hc])) (Set.mem_univ _) () (O := Ow c (tR κ)) (W := W) (R := 0) (m := 0) (T := ∅)
      (by rw [Nat.zero_add]; exact (expect_rcv X κ c).symm)) $$ [Hcr HO Hat]
  · isplitr; · iapply (inv_at X K (c, .inr (.inr κ))); iexact Hrec
    isplitl [Hcr]; · iexact Hcr
    isplitl [HO]; · iexact HO
    isplitr; · iapply (may_rcv X K c κ); iexact Hrec
    iexact Hat
  iintro ⟨HO, Hat, -, Hpay⟩
  ihave Hp := (Entails.of_eq (rest_rcv X κ c)) $$ Hpay
  unfold rcvPay
  icases Hp with ⟨Hp, Hpm⟩
  imod (Rounds.cell_close ER (Rd X) (Set.mem_univ (K (c, .inr (.inr κ)))) (fun h => h) (R := 0 + 1) (duties_later X (rcvCell κ c))) $$ [Hat] with Hz
  · isplitr; · iapply (inv_at X K (c, .inr (.inr κ))); iexact Hrec
    iexact Hat
  iapply Hk
  isplitl [HR]; · iexact HR
  isplitr; · iexact Hrec
  isplitl [HS]; · iapply (Entails.of_eq (snd_other c (fun κ' => tS_ne_tR κ' κ) (fun κ' e => tR_ne_tW κ κ' e.symm))); iexact HS
  isplitl [HV Hz]; · iapply HV; iexact Hz
  isplitl [HI Hp]; · iapply HI; iexact Hp
  isplitl [HW]; · iapply (Entails.of_eq (raw_other c (fun g => tG_ne_tR g κ))); iexact HW
  isplitl [HP Hpm]; · iapply HP; iexact Hpm
  iexists _; rw [Ow_same c (tR κ) fun κ' => tS_ne_tR κ' κ]; iexact HO

/-- Waiting until a copy has left. -/
theorem step_wsd {α : Type} {Q : α → sProp 𝕄} {R : sProp 𝕄} {t : ℕ} (κ : Cp) (ht : t = tW κ) {sp sp' : Space} {s s' : Shape} {e e' : EltTy} {m : Memref sig .tc sp' s' e'} {m' : Memref sig .tc sp s e}
    {h1 : m.view.WordExact} {h2 : m'.view.WordExact} (hc : m'.view.dmaCredit = cr κ) {k : PUnit.{1} → Prog (TpuEff nD τ sig (Elt F) Λ₀ .tc) α}
    (h : iprop(R ∗ St X K c (t + 1)) ⊢ WP c (k ⟨⟩) Q) :
    iprop(R ∗ St X K c t) ⊢ WP c (.op (.waitDma2 (sndS κ) m m' h1 h2) k) Q := by
  subst ht
  refine with_rest h ?_
  unfold St
  iintro ⟨Hk, HR, #Hrec, HS, HV, HI, HW, HP, ⟨%W, HO⟩⟩
  ihave HS := (snd_left κ c) $$ HS
  icases HS with ⟨⟨Hat, Hcr⟩, HS⟩
  ihave HI := (item_left X κ c) $$ HI
  iapply (Rounds.wp_wait_rest_token 𝒱₀ ER (Rd X) (c : Thread nD τ) none (κ := K (c, .inr (.inl κ))) (sm := .dma (sndS κ)) (k' := cr κ)
      (fun Kt => (wpE_waitDma2_eq 𝒱₀ (c : Thread nD τ) none Set.univ Kt).trans (by rw [hc])) (Set.mem_univ _) () (O := Ow c (tW κ)) (W := W) (R := 0) (m := 0) (T := ∅)
      (by rw [Nat.zero_add]; exact (expect_snd X κ c).symm)) $$ [Hcr HO Hat]
  · isplitr; · iapply (inv_at X K (c, .inr (.inl κ))); iexact Hrec
    isplitl [Hcr]; · iexact Hcr
    isplitl [HO]; · iexact HO
    isplitr; · iapply (may_snd X K c κ); iexact Hrec
    iexact Hat
  iintro ⟨HO, Hat, -, Hpay⟩
  ihave Hp := (Entails.of_eq (rest_snd X κ c)) $$ Hpay
  unfold sndPay
  imod (Rounds.cell_close ER (Rd X) (Set.mem_univ (K (c, .inr (.inl κ)))) (fun h => h) (R := 0 + 1) (duties_later X (sndCell κ c))) $$ [Hat] with Hz
  · isplitr; · iapply (inv_at X K (c, .inr (.inl κ))); iexact Hrec
    iexact Hat
  iapply Hk
  isplitl [HR]; · iexact HR
  isplitr; · iexact Hrec
  isplitl [HS Hz]; · iapply HS; iexact Hz
  isplitl [HV]; · iapply (Entails.of_eq (rcv_other c (fun κ' => tR_ne_tW κ' κ))); iexact HV
  isplitl [HI Hp]; · iapply HI; iexact Hp
  isplitl [HW]; · iapply (Entails.of_eq (raw_other c (fun g => tG_ne_tW g κ))); iexact HW
  isplitl [HP]; · iapply (Entails.of_eq (pm_other c (fun κ' => tR_ne_tW κ' κ) (fun κ' => tS_ne_tW κ' κ))); iexact HP
  iexists _; rw [Ow_same c (tW κ) fun κ' => tS_ne_tW κ' κ]; iexact HO

end Cert.KernelIdealProof
-- ==== Proof.Reads.lean ====
/-
# The rules of the body's operations, from what the device holds before a step to what it holds after
-/
module

public import proofs.«01_k».proof.Proof.Steps

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]
local notation "𝕄" => MT nD τ sig Unit (Elt F) ℕ UU ℕ

/-! ## Reading pieces -/

variable (X : Src F) (K : Dev nD × CI → ℕ) (c : Dev nD)

/-- A load that stays inside pieces holding their contents. -/
theorem step_read {α : Type} {Q : α → sProp 𝕄} {R : sProp 𝕄} {t : ℕ} {s : Shape} {e : EltTy} (P : Finset Pc) (hP : ∀ p ∈ P, tB p < t) (m : Memref sig .tc .vmem s e) (r : Rect s)
    {hl : m.view.LoadsAt r.toLoadRect} {S : Finset (Idx (m.view.loc (c : Thread nD τ)))} (f : Buf (Elt F) (m.view.loc (c : Thread nD τ)))
    (hf : bigSep P (Pt X (Sh none) c) = (m.view.loc (c : Thread nD τ) ↦[S]{Sh none} f : sProp 𝕄)) (hS : (m.access r).set ⊆ S)
    {k : (r.shape.Idx → Elt F e) → Prog (TpuEff nD τ sig (Elt F) Λ₀ .tc) α}
    (h : iprop(R ∗ St X K c t) ⊢ WP c (k (m.view.readAt (Elt F) r.toLoadRect f)) Q) :
    iprop(R ∗ St X K c t) ⊢ WP c (.op (.load m r.toLoadRect hl) k) Q := by
  refine with_rest h ?_
  unfold St
  iintro ⟨Hk, HR, #Hrec, HS, HV, HI, HW, HP, HO⟩
  ihave HI := (item_peek X P c hP) $$ HI
  icases HI with ⟨Hi, HI⟩
  ihave Hi := (Entails.of_eq hf) $$ Hi
  iapply (wp_load_rect 𝒱₀ (c : Thread nD τ) none Set.univ (m := m) (r := r) hS) $$ Hi
  iintro Hi
  iapply Hk
  isplitl [HR]; · iexact HR
  isplitr; · iexact Hrec
  isplitl [HS]; · iexact HS
  isplitl [HV]; · iexact HV
  isplitl [HI Hi]
  · iapply HI; iapply (Entails.of_eq hf.symm); iexact Hi
  isplitl [HW]; · iexact HW
  isplitl [HP]; · iexact HP
  iexact HO

/-- Staging: the pieces, whatever they hold, are read and then written whole. -/
theorem step_stage {α : Type} {Q : α → sProp 𝕄} {R : sProp 𝕄} {t : ℕ} {s : Shape} {e : EltTy} (g : Fin 3) (ht : t = tG g) (m : Memref sig .tc .vmem s e) (r : Rect s)
    {hl : m.view.LoadsAt r.toLoadRect} {w : r.shape.Idx → Elt F e} {hx : (m.access r).Stores Finset.univ} {hm} {S : Finset (Idx (m.view.loc (c : Thread nD τ)))}
    (hj : bigSep (stg g) (Rw (F := F) c) ⊢ (iprop(∃ f, m.view.loc (c : Thread nD τ) ↦[S]{fullShare} f) : sProp 𝕄)) (hS : (m.access r).set ⊆ S)
    (hw : ∀ f, (m.view.loc (c : Thread nD τ) ↦[S]{fullShare} ((m.access r).write (Elt F) f w Finset.univ) : sProp 𝕄) ⊢ bigSep (stg g) (Pt X fullShare c))
    {k : PUnit.{1} → Prog (TpuEff nD τ sig (Elt F) Λ₀ .tc) α}
    (h : iprop(R ∗ St X K c (t + 1)) ⊢ WP c (k ⟨⟩) Q) :
    iprop(R ∗ St X K c t) ⊢ WP c (.op (.load m r.toLoadRect hl) fun _ => .op (.store m r w Finset.univ hx hm) k) Q := by
  subst ht
  refine with_rest h ?_
  unfold St
  iintro ⟨Hk, HR, #Hrec, HS, HV, HI, HW, HP, ⟨%W, HO⟩⟩
  ihave HW := (raw_stage g c) $$ HW
  icases HW with ⟨Hi, HW⟩
  ihave HI := (item_stage X g c) $$ HI
  ihave Hi := hj $$ Hi
  icases Hi with ⟨%f, Hi⟩
  iapply (wp_load_rect 𝒱₀ (c : Thread nD τ) none Set.univ (m := m) (r := r) hS) $$ Hi
  iintro Hi
  iapply (wp_store 𝒱₀ (c : Thread nD τ) none Set.univ (m := m) (r := r) (Mk := Finset.univ) hS) $$ Hi
  iintro Hi
  ihave Hi := (hw f) $$ Hi
  iapply Hk
  isplitl [HR]; · iexact HR
  isplitr; · iexact Hrec
  isplitl [HS]; · iapply (Entails.of_eq (snd_other c (fun κ e => tG_ne_tS g κ e.symm) (fun κ e => tG_ne_tW g κ e.symm))); iexact HS
  isplitl [HV]; · iapply (Entails.of_eq (rcv_other c (fun κ e => tG_ne_tR g κ e.symm))); iexact HV
  isplitl [HI Hi]; · iapply HI; iexact Hi
  isplitl [HW]; · iapply HW; iempintro
  isplitl [HP]; · iapply (Entails.of_eq (pm_other c (fun κ e => tG_ne_tR g κ e.symm) (fun κ e => tG_ne_tS g κ e.symm))); iexact HP
  iexists _; rw [Ow_same c (tG g) fun κ e => tG_ne_tS g κ e.symm]; iexact HO

theorem slot_sub {s s' : Shape} {e : EltTy} (m : Memref sig .tc .vmem s e) (r : Rect s) (h1 : ∀ a, r.stride a = 1) (h2 : r.shape.Squeezes s') :
    (m.access r).set ⊆ ((m.slice r h1).squeeze s' h2).view.set :=
  Eq.subset (View.set_reshape _ _).symm

theorem slot_mem {s s' : Shape} {e : EltTy} (m : Memref sig .tc .vmem s e) (r : Rect s) (h1 : ∀ a, r.stride a = 1) (h2 : r.shape.Squeezes s') {i : m.view.ty.Idx}
    (hi : i ∈ ((m.slice r h1).squeeze s' h2).view.set) : ∃ x, (m.access r).emb x = i := by
  obtain ⟨x, -, h⟩ := Finset.mem_map.mp ((Iff.of_eq (congrArg (i ∈ ·) (View.set_reshape (m.access r) _))).mp hi)
  exact ⟨x, h⟩

/-! ## The six buffers' reads -/

abbrev rCol (s : Fin 4) : Rect S4x192x4096 :=
  Rect.unit (s := S4x192x4096) ![s.val, 0, 0] S1x192x4096.size (inb3 _ _ (by have := s.isLt; simp; omega) (by decide) (by decide))
abbrev rRow (i : Fin 4) (d : Fin 3) (j : Fin 2) : Rect S4x3x2x48x4096 :=
  Rect.unit (s := S4x3x2x48x4096) ![i.val, d.val, j.val, 0, 0] S1x1x1x48x4096.size
    (inb5 _ _ (by have := i.isLt; simp; omega) (by have := d.isLt; simp; omega) (by have := j.isLt; simp; omega) (by decide) (by decide))
abbrev rAgg (s : Fin 4) (f : Fin 2) : Rect S4x64x4096 :=
  Rect.unit (s := S4x64x4096) ![s.val, 32 * f.val, 0] S1x32x4096.size (inb3 _ _ (by have := s.isLt; simp; omega) (by have := f.isLt; simp; omega) (by decide))
abbrev rAggr (s : Fin 3) (k : Fin 4) : Rect S3x4x64x4096 :=
  Rect.unit (s := S3x4x64x4096) ![s.val, k.val, 0, 0] S1x1x64x4096.size (inb4 _ _ (by have := s.isLt; simp; omega) (by have := k.isLt; simp; omega) (by decide) (by decide))
abbrev rAm (s : Fin 16) : Rect S16x8x128 :=
  Rect.unit (s := S16x8x128) ![s.val, 0, 0] S1x1x1.size (inb3 _ _ (by have := s.isLt; simp; omega) (by decide) (by decide))

abbrev colR (cv : Dev nD → Vec F S1x192x4096 .bf16) (c : Dev nD) (s : Fin 4) : Vec F S1x192x4096 .bf16 := colM.view.readAt (Elt F) (rCol s).toLoadRect (colF cv c)
abbrev cwR (cv : Dev nD → Vec F S1x192x4096 .bf16) (c : Dev nD) (i : Fin 4) (d : Fin 3) (j : Fin 2) : Vec F S1x1x1x48x4096 .bf16 := cwM.view.readAt (Elt F) (rRow i d j).toLoadRect (cwF cv c)
abbrev ccwR (cv : Dev nD → Vec F S1x192x4096 .bf16) (c : Dev nD) (i : Fin 4) (d : Fin 3) (j : Fin 2) : Vec F S1x1x1x48x4096 .bf16 := ccwM.view.readAt (Elt F) (rRow i d j).toLoadRect (ccwF cv c)
abbrev aggR (av : Dev nD → Vec F S1x64x4096 .bf16) (c : Dev nD) (s : Fin 4) (f : Fin 2) : Vec F S1x32x4096 .bf16 := aggM.view.readAt (Elt F) (rAgg s f).toLoadRect (aggF av c)
abbrev aggrR (av : Dev nD → Vec F S1x64x4096 .bf16) (c : Dev nD) (s : Fin 3) (k : Fin 4) : Vec F S1x1x64x4096 .bf16 := aggrM.view.readAt (Elt F) (rAggr s k).toLoadRect (aggrF av c)
abbrev amR (ma : Dev nD → Vec F S1x8x128 .f32) (c : Dev nD) (s : Fin 16) : Vec F S1x1x1 .f32 := amM.view.readAt (Elt F) (rAm s).toLoadRect (amF ma c)

theorem rd_col {α : Type} {Q : α → sProp 𝕄} {R : sProp 𝕄} {t : ℕ} (s : Fin 4) (hP : ∀ p ∈ ({.col s 0, .col s 1, .col s 2, .col s 3} : Finset Pc), tB p < t)
    {hl : colM.view.LoadsAt (rCol s).toLoadRect} {k : Vec F S1x192x4096 .bf16 → Prog (TpuEff nD τ sig (Elt F) Λ₀ .tc) α}
    (h : iprop(R ∗ St X K c t) ⊢ WP c (k (colR X.cv c s)) Q) :
    iprop(R ∗ St X K c t) ⊢ WP c (.op (.load colM (rCol s).toLoadRect hl) k) Q :=
  step_read X K c _ hP colM (rCol s) (S := (colSl s).view.set) (colF X.cv c) ((bigSep_cols s _).trans (colSl_pieces s c (Sh none) (colF X.cv c)).symm) (slot_sub colM (rCol s) _ _) h

theorem rd_cw {α : Type} {Q : α → sProp 𝕄} {R : sProp 𝕄} {t : ℕ} (i : Fin 4) (d : Fin 3) (j : Fin 2) (hP : tB (.cw i d j) < t)
    {hl : cwM.view.LoadsAt (rRow i d j).toLoadRect} {k : Vec F S1x1x1x48x4096 .bf16 → Prog (TpuEff nD τ sig (Elt F) Λ₀ .tc) α}
    (h : iprop(R ∗ St X K c t) ⊢ WP c (k (cwR X.cv c i d j)) Q) :
    iprop(R ∗ St X K c t) ⊢ WP c (.op (.load cwM (rRow i d j).toLoadRect hl) k) Q :=
  step_read X K c {.cw i d j} (fun p hp => by rw [Finset.mem_singleton.mp hp]; exact hP) cwM (rRow i d j) (S := (cwSl i d j).view.set) (cwF X.cv c) bigSep_singleton (slot_sub cwM (rRow i d j) _ _) h

theorem rd_ccw {α : Type} {Q : α → sProp 𝕄} {R : sProp 𝕄} {t : ℕ} (i : Fin 4) (d : Fin 3) (j : Fin 2) (hP : tB (.ccw i d j) < t)
    {hl : ccwM.view.LoadsAt (rRow i d j).toLoadRect} {k : Vec F S1x1x1x48x4096 .bf16 → Prog (TpuEff nD τ sig (Elt F) Λ₀ .tc) α}
    (h : iprop(R ∗ St X K c t) ⊢ WP c (k (ccwR X.cv c i d j)) Q) :
    iprop(R ∗ St X K c t) ⊢ WP c (.op (.load ccwM (rRow i d j).toLoadRect hl) k) Q :=
  step_read X K c {.ccw i d j} (fun p hp => by rw [Finset.mem_singleton.mp hp]; exact hP) ccwM (rRow i d j) (S := (ccwSl i d j).view.set) (ccwF X.cv c) bigSep_singleton (slot_sub ccwM (rRow i d j) _ _) h

theorem rd_agg {α : Type} {Q : α → sProp 𝕄} {R : sProp 𝕄} {t : ℕ} (s : Fin 4) (f : Fin 2) (hP : tB (.agg s f) < t)
    {hl : aggM.view.LoadsAt (rAgg s f).toLoadRect} {k : Vec F S1x32x4096 .bf16 → Prog (TpuEff nD τ sig (Elt F) Λ₀ .tc) α}
    (h : iprop(R ∗ St X K c t) ⊢ WP c (k (aggR X.av c s f)) Q) :
    iprop(R ∗ St X K c t) ⊢ WP c (.op (.load aggM (rAgg s f).toLoadRect hl) k) Q :=
  step_read X K c {.agg s f} (fun p hp => by rw [Finset.mem_singleton.mp hp]; exact hP) aggM (rAgg s f) (S := (aggSl s f).view.set) (aggF X.av c) bigSep_singleton (slot_sub aggM (rAgg s f) _ _) h

theorem aggr_sub (s : Fin 3) (k : Fin 4) : (aggrM.access (rAggr s k)).set ⊆ (aggrSl s).view.set := by
  intro i hi
  have hi' := Rect.mem_set_unit.mp ((Iff.of_eq (congrArg (i ∈ ·) (View.set_slice_whole _ _))).mp hi)
  have e := hi' 0
  change s.val ≤ (i 0).val ∧ (i 0).val < s.val + 1 at e
  exact (mem_aggrSl s i).mpr (by omega)

theorem rd_aggr {α : Type} {Q : α → sProp 𝕄} {R : sProp 𝕄} {t : ℕ} (s : Fin 3) (kk : Fin 4) (hP : tB (.aggr s) < t)
    {hl : aggrM.view.LoadsAt (rAggr s kk).toLoadRect} {k : Vec F S1x1x64x4096 .bf16 → Prog (TpuEff nD τ sig (Elt F) Λ₀ .tc) α}
    (h : iprop(R ∗ St X K c t) ⊢ WP c (k (aggrR X.av c s kk)) Q) :
    iprop(R ∗ St X K c t) ⊢ WP c (.op (.load aggrM (rAggr s kk).toLoadRect hl) k) Q :=
  step_read X K c {.aggr s} (fun p hp => by rw [Finset.mem_singleton.mp hp]; exact hP) aggrM (rAggr s kk) (S := (aggrSl s).view.set) (aggrF X.av c) bigSep_singleton (aggr_sub s kk) h

theorem am_sub (s : Fin 16) : (amM.access (rAm s)).set ⊆ (amSl s).view.set := by
  intro i hi
  have hi' := Rect.mem_set_unit.mp ((Iff.of_eq (congrArg (i ∈ ·) (View.set_slice_whole _ _))).mp hi)
  have e := hi' 0
  change s.val ≤ (i 0).val ∧ (i 0).val < s.val + 1 at e
  exact (mem_amSl s i).mpr (by omega)

theorem rd_am {α : Type} {Q : α → sProp 𝕄} {R : sProp 𝕄} {t : ℕ} (s : Fin 16) (hP : tB (.am s) < t)
    {hl : amM.view.LoadsAt (rAm s).toLoadRect} {k : Vec F S1x1x1 .f32 → Prog (TpuEff nD τ sig (Elt F) Λ₀ .tc) α}
    (h : iprop(R ∗ St X K c t) ⊢ WP c (k (amR X.ma c s)) Q) :
    iprop(R ∗ St X K c t) ⊢ WP c (.op (.load amM (rAm s).toLoadRect hl) k) Q :=
  step_read X K c {.am s} (fun p hp => by rw [Finset.mem_singleton.mp hp]; exact hP) amM (rAm s) (S := (amSl s).view.set) (amF X.ma c) bigSep_singleton (am_sub s) h

/-! ## The three stagings -/

abbrev rAgg0 : Rect S4x64x4096 := Rect.unit (s := S4x64x4096) ![0, 0, 0] S1x64x4096.size inb_S4x64x4096_S1x64x4096_0_0_0
abbrev rAmW (s : Fin 16) : Rect S16x8x128 :=
  Rect.unit (s := S16x8x128) ![s.val, 0, 0] S1x8x128.size (inb3 _ _ (by have := s.isLt; simp; omega) (by decide) (by decide))

theorem shift_zero : ∀ c : Dev nD, shift 0 c = c := by decide +kernel
theorem right_zero : ∀ c : Dev nD, right 0 c = c := by decide +kernel

theorem rCol_emb (s : Fin 4) (x : S1x192x4096.Idx) : (colM.access (rCol s)).emb x = ix3 s (x 1) (x 2) := by
  funext a
  match a with
  | 0 => exact Fin.ext (by have : (x 0).val < 1 := (x 0).isLt; show s.val + 1 * (x 0).val = s.val; omega)
  | 1 => exact Fin.ext (by show 0 + 1 * (x 1).val = (x 1).val; omega)
  | 2 => exact Fin.ext (by show 0 + 1 * (x 2).val = (x 2).val; omega)
theorem rAgg0_emb (x : S1x64x4096.Idx) : (aggM.access rAgg0).emb x = ix3 0 (x 1) (x 2) := by
  funext a
  match a with
  | 0 => exact Fin.ext (by have : (x 0).val < 1 := (x 0).isLt; show 0 + 1 * (x 0).val = 0; omega)
  | 1 => exact Fin.ext (by show 0 + 1 * (x 1).val = (x 1).val; omega)
  | 2 => exact Fin.ext (by show 0 + 1 * (x 2).val = (x 2).val; omega)
theorem rAmW_emb (s : Fin 16) (x : S1x8x128.Idx) : (amM.access (rAmW s)).emb x = ix3 s (x 1) (x 2) := by
  funext a
  match a with
  | 0 => exact Fin.ext (by have : (x 0).val < 1 := (x 0).isLt; show s.val + 1 * (x 0).val = s.val; omega)
  | 1 => exact Fin.ext (by show 0 + 1 * (x 1).val = (x 1).val; omega)
  | 2 => exact Fin.ext (by show 0 + 1 * (x 2).val = (x 2).val; omega)

theorem idx1 {a b : ℕ} (x : (⟨3, ![1, a, b]⟩ : Shape).Idx) : x = ix3 0 (x 1) (x 2) := by
  funext i
  match i with
  | 0 => exact Fin.ext (by have : (x 0).val < 1 := (x 0).isLt; show (x 0).val = 0; omega)
  | 1 => rfl
  | 2 => rfl

theorem col_written (f : (cc0_scratch0 : Ref sig .tc).ty.Contents (Elt F)) :
    (colM.view.loc (c : Thread nD τ) ↦[(colSl 3).view.set]{fullShare} ((colM.access (rCol 3)).write (Elt F) f (X.cv c) Finset.univ) : sProp 𝕄)
      ⊢ bigSep (stg 0) (Pt X fullShare c) := by
  refine (Entails.of_eq (pointsTo_congr (g := colF X.cv c) fun i hi => ?_)).trans (Entails.of_eq ((bigSep_cols 3 _).trans (colSl_pieces 3 c fullShare (colF X.cv c)).symm).symm)
  obtain ⟨x, -, rfl⟩ := Finset.mem_map.mp ((Iff.of_eq (congrArg (i ∈ ·) (View.set_reshape (colM.access (rCol 3)) _))).mp hi)
  rw [View.write_emb_of_mem _ _ (Finset.mem_univ x)]
  show X.cv c x = colF X.cv c ((colM.access (rCol 3)).emb x)
  rw [rCol_emb]
  show X.cv c x = X.cv (shift 0 c) (ix3 0 (x 1) (x 2))
  rw [shift_zero]
  exact congrArg (X.cv c) (idx1 x)

theorem agg0_mem (i : (cc0_scratch3 : Ref sig .tc).ty.Idx) : i ∈ (aggM.access rAgg0).set ↔ (i 0).val = 0 := by
  refine (Iff.of_eq (congrArg (i ∈ ·) (View.set_slice_whole _ _))).trans (Rect.mem_set_unit.trans ?_)
  have h1 : (i 1).val < 64 := (i 1).isLt
  have h2 : (i 2).val < 4096 := (i 2).isLt
  constructor
  · intro h
    have e0 := h 0
    change 0 ≤ (i 0).val ∧ (i 0).val < 0 + 1 at e0
    omega
  · rintro e0 a
    match a with
    | 0 => show 0 ≤ (i 0).val ∧ (i 0).val < 0 + 1; omega
    | 1 => show 0 ≤ (i 1).val ∧ (i 1).val < 0 + 64; omega
    | 2 => show 0 ≤ (i 2).val ∧ (i 2).val < 0 + 4096; omega

abbrev keyH (i : (cc0_scratch3 : Ref sig .tc).ty.Idx) : Fin 2 := (keyAgg i).2
theorem keyH_mem (i : (cc0_scratch3 : Ref sig .tc).ty.Idx) (j : Fin 2) (h : i ∈ (aggSl 0 j).view.set) : keyH i = j :=
  congrArg Prod.snd (keyAgg_mem i (0, j) h)
theorem keyH_set (i : (cc0_scratch3 : Ref sig .tc).ty.Idx) : i ∈ (aggM.access rAgg0).set ↔ i ∈ (aggSl 0 (keyH i)).view.set := by
  rw [agg0_mem]
  constructor
  · intro h
    have := (keyAgg_set i).mp (Finset.mem_univ i)
    rwa [show (keyAgg i).1 = 0 from Fin.ext h] at this
  · intro h; exact congrArg Fin.val (congrArg Prod.fst (keyAgg_mem i (0, keyH i) h))

theorem bigSep_two (Φ : Pc → sProp 𝕄) : bigSep (stg 1) Φ = bigSep Finset.univ (fun f : Fin 2 => Φ (.agg 0 f)) := by
  rw [show stg 1 = (Finset.univ : Finset (Fin 2)).map ⟨fun f => Pc.agg 0 f, fun a b h => by cases h; rfl⟩ from by decide +kernel, bigSep_map]
  rfl

theorem agg0_pieces (q : PosShare TreeShare) (f : Buf (Elt F) ((c : Thread nD τ).loc cc0_scratch3)) :
    (((c : Thread nD τ).loc cc0_scratch3) ↦[(aggM.access rAgg0).set]{q} f : sProp 𝕄)
      = bigSep Finset.univ (fun j : Fin 2 => ((aggSl 0 j).view.loc (c : Thread nD τ) ↦[(aggSl 0 j).view.set]{q} f : sProp 𝕄)) :=
  pts_parts (ℓ := (c : Thread nD τ).loc cc0_scratch3) (aggM.access rAgg0).set (fun j : Fin 2 => (aggSl 0 j).view.set) keyH keyH_mem keyH_set q f

theorem agg0_join :
    bigSep (stg 1) (Rw (F := F) c) ⊢ (iprop(∃ f, aggM.view.loc (c : Thread nD τ) ↦[(aggM.access rAgg0).set]{fullShare} f) : sProp 𝕄) :=
  (Entails.of_eq (bigSep_two _)).trans
    (pts_join (ℓ := (c : Thread nD τ).loc cc0_scratch3) (aggM.access rAgg0).set (fun j : Fin 2 => (aggSl 0 j).view.set) keyH keyH_mem keyH_set)

theorem agg_written (f : (cc0_scratch3 : Ref sig .tc).ty.Contents (Elt F)) :
    (aggM.view.loc (c : Thread nD τ) ↦[(aggM.access rAgg0).set]{fullShare} ((aggM.access rAgg0).write (Elt F) f (X.av c) Finset.univ) : sProp 𝕄)
      ⊢ bigSep (stg 1) (Pt X fullShare c) := by
  refine (Entails.of_eq (pointsTo_congr (g := aggF X.av c) fun i hi => ?_)).trans (Entails.of_eq ((bigSep_two _).trans (agg0_pieces c fullShare (aggF X.av c)).symm).symm)
  obtain ⟨x, -, rfl⟩ := Finset.mem_map.mp hi
  rw [View.write_emb_of_mem _ _ (Finset.mem_univ x)]
  show X.av c x = aggF X.av c ((aggM.access rAgg0).emb x)
  rw [rAgg0_emb]
  show X.av c x = X.av (right 0 c) (ix3 0 (x 1) (x 2))
  rw [right_zero]
  exact congrArg (X.av c) (idx1 x)

theorem bigSep_last (Φ : Pc → sProp 𝕄) : bigSep (stg 2) Φ = Φ (.am 15) := by
  rw [show stg 2 = {Pc.am 15} from rfl, bigSep_singleton]

theorem am_join : bigSep (stg 2) (Rw (F := F) c) ⊢ (iprop(∃ f, amM.view.loc (c : Thread nD τ) ↦[(amSl 15).view.set]{fullShare} f) : sProp 𝕄) := by
  rw [bigSep_last]; unfold Rw; iintro H; iexact H

theorem Pt_am (q : PosShare TreeShare) (s : Fin 16) : Pt X q c (.am s) = ((amSl s).view.loc (c : Thread nD τ) ↦[(amSl s).view.set]{q} amF X.ma c) := rfl

theorem am_wr_at (s : Fin 16) (f : (cc0_scratch6 : Ref sig .tc).ty.Contents (Elt F)) (w : Vec F S1x8x128 .f32) (g : (cc0_scratch6 : Ref sig .tc).ty.Contents (Elt F))
    (h : ∀ x, w x = g ((amM.access (rAmW s)).emb x)) (i : (cc0_scratch6 : Ref sig .tc).ty.Idx) (hi : i ∈ (amSl s).view.set) :
    (amM.access (rAmW s)).write (Elt F) f w Finset.univ i = g i := by
  obtain ⟨x, rfl⟩ := slot_mem amM (rAmW s) (fun _ => rfl) squeezes_S1x8x128_S8x128 hi
  rw [View.write_emb_of_mem _ _ (Finset.mem_univ x)]
  exact h x

theorem am_wr (s : Fin 16) (f : (cc0_scratch6 : Ref sig .tc).ty.Contents (Elt F)) (w : Vec F S1x8x128 .f32) (g : (cc0_scratch6 : Ref sig .tc).ty.Contents (Elt F))
    (h : ∀ x, w x = g ((amM.access (rAmW s)).emb x)) :
    (amM.view.loc (c : Thread nD τ) ↦[(amSl s).view.set]{fullShare} ((amM.access (rAmW s)).write (Elt F) f w Finset.univ) : sProp 𝕄)
      = (amM.view.loc (c : Thread nD τ) ↦[(amSl s).view.set]{fullShare} g) :=
  pointsTo_congr (ℓ := (c : Thread nD τ).loc cc0_scratch6) (am_wr_at s f w g h)

theorem am_written (f : (cc0_scratch6 : Ref sig .tc).ty.Contents (Elt F)) :
    (amM.view.loc (c : Thread nD τ) ↦[(amSl 15).view.set]{fullShare} ((amM.access (rAmW 15)).write (Elt F) f (X.ma c) Finset.univ) : sProp 𝕄)
      ⊢ bigSep (stg 2) (Pt X fullShare c) := by
  rw [bigSep_last, Pt_am, am_wr c 15 f (X.ma c) (amF X.ma c)]
  intro x
  rw [rAmW_emb]
  show X.ma c x = X.ma (shift 0 c) (ix3 0 (x 1) (x 2))
  rw [shift_zero]
  exact congrArg (X.ma c) (idx1 x)

theorem stage_col {α : Type} {Q : α → sProp 𝕄} {R : sProp 𝕄} {t : ℕ} (ht : t = tG 0)
    {hl : colM.view.LoadsAt (rCol 3).toLoadRect} {w : Vec F S1x192x4096 .bf16} (hw : w = X.cv c) {hx : (colM.access (rCol 3)).Stores Finset.univ} {hm}
    {k : PUnit.{1} → Prog (TpuEff nD τ sig (Elt F) Λ₀ .tc) α}
    (h : iprop(R ∗ St X K c (t + 1)) ⊢ WP c (k ⟨⟩) Q) :
    iprop(R ∗ St X K c t) ⊢ WP c (.op (.load colM (rCol 3).toLoadRect hl) fun _ => .op (.store colM (rCol 3) w Finset.univ hx hm) k) Q := by
  subst hw
  exact step_stage X K c 0 ht colM (rCol 3) (S := (colSl 3).view.set) ((Entails.of_eq (bigSep_cols 3 _)).trans (colSl_join 3 c)) (slot_sub colM (rCol 3) _ _) (col_written X c) h

theorem stage_agg {α : Type} {Q : α → sProp 𝕄} {R : sProp 𝕄} {t : ℕ} (ht : t = tG 1)
    {hl : aggM.view.LoadsAt rAgg0.toLoadRect} {w : Vec F S1x64x4096 .bf16} (hw : w = X.av c) {hx : (aggM.access rAgg0).Stores Finset.univ} {hm}
    {k : PUnit.{1} → Prog (TpuEff nD τ sig (Elt F) Λ₀ .tc) α}
    (h : iprop(R ∗ St X K c (t + 1)) ⊢ WP c (k ⟨⟩) Q) :
    iprop(R ∗ St X K c t) ⊢ WP c (.op (.load aggM rAgg0.toLoadRect hl) fun _ => .op (.store aggM rAgg0 w Finset.univ hx hm) k) Q := by
  subst hw
  exact step_stage X K c 1 ht aggM rAgg0 (S := (aggM.access rAgg0).set) (agg0_join c) (Finset.Subset.refl _) (agg_written X c) h

theorem stage_am {α : Type} {Q : α → sProp 𝕄} {R : sProp 𝕄} {t : ℕ} (ht : t = tG 2)
    {hl : amM.view.LoadsAt (rAmW 15).toLoadRect} {w : Vec F S1x8x128 .f32} (hw : w = X.ma c) {hx : (amM.access (rAmW 15)).Stores Finset.univ} {hm}
    {k : PUnit.{1} → Prog (TpuEff nD τ sig (Elt F) Λ₀ .tc) α}
    (h : iprop(R ∗ St X K c (t + 1)) ⊢ WP c (k ⟨⟩) Q) :
    iprop(R ∗ St X K c t) ⊢ WP c (.op (.load amM (rAmW 15).toLoadRect hl) fun _ => .op (.store amM (rAmW 15) w Finset.univ hx hm) k) Q := by
  subst hw
  exact step_stage X K c 2 ht amM (rAmW 15) (S := (amSl 15).view.set) (am_join c) (slot_sub amM (rAmW 15) (fun _ => rfl) squeezes_S1x8x128_S8x128) (am_written X c) h

/-! ## The buffers only the body itself touches -/

abbrev outM : Memref sig .tc .vmem S4096x128 .f32 := Memref.whole cc0_stg2_0
abbrev wM : Memref sig .tc .vmem S4096x128 .bf16 := Memref.whole cc0_stg1_0
abbrev rAll : Rect S4096x128 := Rect.unit (s := S4096x128) ![0, 0] S4096x128.size inb_S4096x128_S4096x128_0_0

/-- The copied weights, the result's buffer and the rest. -/
abbrev WO (R : sProp 𝕄) (c : Dev nD) (g : (cc0_scratch5 : Ref sig .tc).ty.Contents (Elt F)) (f : (cc0_stg2_0 : Ref sig .tc).ty.Contents (Elt F)) : sProp 𝕄 :=
  iprop((((c : Thread nD τ).loc cc0_scratch5) ↦{fullShare} g) ∗ (((c : Thread nD τ).loc cc0_stg2_0) ↦{fullShare} f) ∗ R)

theorem wb_all (g : (cc0_scratch5 : Ref sig .tc).ty.Contents (Elt F)) : wbM.view.readAt (Elt F) rAll.toLoadRect g = g :=
  Memref.readAt_unit_zero (Elt F) cc0_scratch5 (funext fun a => by fin_cases a <;> rfl) _ g

theorem ld_wb {α : Type} {Q : α → sProp 𝕄} {R T : sProp 𝕄} {g f} {hl : wbM.view.LoadsAt rAll.toLoadRect} {k : Vec F S4096x128 .bf16 → Prog (TpuEff nD τ sig (Elt F) Λ₀ .tc) α}
    (h : iprop(WO R c g f ∗ T) ⊢ WP c (k g) Q) :
    iprop(WO R c g f ∗ T) ⊢ WP c (.op (.load wbM rAll.toLoadRect hl) k) Q := by
  refine with_rest h ?_
  iintro ⟨Hk, ⟨Hw, Ho, HR⟩, HT⟩
  iapply (wp_load 𝒱₀ (c : Thread nD τ) none Set.univ (m := wbM) (r := rAll.toLoadRect) (S := Finset.univ) (Finset.subset_univ _)) $$ Hw
  iintro Hw
  rw [wb_all]
  iapply Hk
  isplitr [HT]
  · isplitl [Hw]; · iexact Hw
    isplitl [Ho] <;> iassumption
  iexact HT

theorem st_wb {α : Type} {Q : α → sProp 𝕄} {R T : sProp 𝕄} {g f} {w : Vec F S4096x128 .bf16} {hx : (wbM.access rAll).Stores Finset.univ} {hm} {k : PUnit.{1} → Prog (TpuEff nD τ sig (Elt F) Λ₀ .tc) α}
    (h : iprop(WO R c w f ∗ T) ⊢ WP c (k ⟨⟩) Q) :
    iprop(WO R c g f ∗ T) ⊢ WP c (.op (.store wbM rAll w Finset.univ hx hm) k) Q := by
  refine with_rest h ?_
  iintro ⟨Hk, ⟨Hw, Ho, HR⟩, HT⟩
  iapply (wp_store 𝒱₀ (c : Thread nD τ) none Set.univ (m := wbM) (r := rAll) (Mk := Finset.univ) (S := Finset.univ) (Finset.subset_univ _)) $$ Hw
  iintro Hw
  rw [show (wbM.access rAll).write (Elt F) g w Finset.univ = w from
    Memref.write_access_unit_zero_univ (Elt F) cc0_scratch5 (funext fun a => by fin_cases a <;> rfl) _ g w]
  iapply Hk
  isplitr [HT]
  · isplitl [Hw]; · iexact Hw
    isplitl [Ho] <;> iassumption
  iexact HT

/-- A load of the result's buffer. -/
theorem ld_out {α : Type} {Q : α → sProp 𝕄} {R T : sProp 𝕄} {g f} (r : Rect S4096x128) {hl : outM.view.LoadsAt r.toLoadRect} {k : Vec F r.shape .f32 → Prog (TpuEff nD τ sig (Elt F) Λ₀ .tc) α}
    (h : iprop(WO R c g f ∗ T) ⊢ WP c (k (outM.view.readAt (Elt F) r.toLoadRect f)) Q) :
    iprop(WO R c g f ∗ T) ⊢ WP c (.op (.load outM r.toLoadRect hl) k) Q := by
  refine with_rest h ?_
  iintro ⟨Hk, ⟨Hw, Ho, HR⟩, HT⟩
  iapply (wp_load 𝒱₀ (c : Thread nD τ) none Set.univ (m := outM) (r := r.toLoadRect) (S := Finset.univ) (Finset.subset_univ _)) $$ Ho
  iintro Ho
  iapply Hk
  isplitr [HT]
  · isplitl [Hw]; · iexact Hw
    isplitl [Ho] <;> iassumption
  iexact HT

/-- The result's buffer with rows written. -/
abbrev put (r : Rect S4096x128) (v : Vec F r.shape .f32) (f : (cc0_stg2_0 : Ref sig .tc).ty.Contents (Elt F)) : (cc0_stg2_0 : Ref sig .tc).ty.Contents (Elt F) :=
  (outM.access r).write (Elt F) f v Finset.univ

/-- A store into the result's buffer. -/
theorem st_out {α : Type} {Q : α → sProp 𝕄} {R T : sProp 𝕄} {g f f'} (r : Rect S4096x128) {v : Vec F r.shape .f32} {hx : (outM.access r).Stores Finset.univ} {hm} {k : PUnit.{1} → Prog (TpuEff nD τ sig (Elt F) Λ₀ .tc) α}
    (hf : f' = put r v f) (h : iprop(WO R c g f' ∗ T) ⊢ WP c (k ⟨⟩) Q) :
    iprop(WO R c g f ∗ T) ⊢ WP c (.op (.store outM r v Finset.univ hx hm) k) Q := by
  subst hf
  refine with_rest h ?_
  iintro ⟨Hk, ⟨Hw, Ho, HR⟩, HT⟩
  iapply (wp_store 𝒱₀ (c : Thread nD τ) none Set.univ (m := outM) (r := r) (Mk := Finset.univ) (S := Finset.univ) (Finset.subset_univ _)) $$ Ho
  iintro Ho
  iapply Hk
  isplitr [HT]
  · isplitl [Hw]; · iexact Hw
    isplitl [Ho] <;> iassumption
  iexact HT

end Cert.KernelIdealProof
-- ==== Proof.Vals.lean ====
/-
# What the body computes on the way, from the arrays every device was given
-/
module

public import proofs.«01_k».proof.Proof.Reads

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

/-! `xs` and `ws` are the devices' blocks of the two arrays. -/

def V25 (xs : Dev nD → Vec F S256x4096 .bf16) (c : Dev nD) : FVec F S256x4096 .bf16 := k0_pay1 (xs c)
def V26 (xs : Dev nD → Vec F S256x4096 .bf16) (c : Dev nD) : FVec F S192x4096 .bf16 := k0_pay2 (xs c)
/-- The rows a device forwards. -/
def cvOf (xs : Dev nD → Vec F S256x4096 .bf16) (c : Dev nD) : Vec F S1x192x4096 .bf16 := k0_pay3 (V26 xs c)
/-- The rows a device aggregates. -/
def avOf (xs : Dev nD → Vec F S256x4096 .bf16) (c : Dev nD) : Vec F S1x64x4096 .bf16 := k0_pay4 (V25 xs c)
/-- The weights as the body keeps them. -/
def wbF (ws : Dev nD → Vec F S4096x128 .bf16) (c : Dev nD) : Vec F S4096x128 .bf16 := k0_pay5 (ws c)

abbrev rO1 (c : Dev nD) : Rect S4096x128 := (Rect.unit (s := S4096x128) (k0_off1 c) S256x128.size (k0_off1_inb c))
def P1 (xs : Dev nD → Vec F S256x4096 .bf16) (ws : Dev nD → Vec F S4096x128 .bf16) (c : Dev nD) : Vec F S256x128 .f32 := (k0_pay6 (V25 xs c) (wbF ws c))
def O1 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO1 c) (P1 xs ws c) f0
def V129 (xs : Dev nD → Vec F S256x4096 .bf16) (ws : Dev nD → Vec F S4096x128 .bf16) (c : Dev nD) : F .f32 := k0_pay7 (V25 xs c) (wbF ws c)
abbrev rO2 (c : Dev nD) : Rect S4096x128 := (Rect.unit (s := S4096x128) (k0_off2 c 0#32) S32x128.size (k0_off2_inb c 0))
def P2 (xs : Dev nD → Vec F S256x4096 .bf16) (ws : Dev nD → Vec F S4096x128 .bf16) (c : Dev nD) : Vec F S32x128 .f32 := (k0_pay8 (aggR (avOf xs) c 3 0) (wbF ws c))
def O2 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO2 c) (P2 xs ws c) (O1 xs ws c f0)
def V262 (xs : Dev nD → Vec F S256x4096 .bf16) (ws : Dev nD → Vec F S4096x128 .bf16) (c : Dev nD) : F .f32 := k0_pay9 (aggR (avOf xs) c 3 0) (wbF ws c)
def V271 (xs : Dev nD → Vec F S256x4096 .bf16) (ws : Dev nD → Vec F S4096x128 .bf16) (c : Dev nD) : FVec F S32x128 .f32 := k0_pay10 (aggR (avOf xs) c 1 1) (wbF ws c)
abbrev rO3 (c : Dev nD) : Rect S4096x128 := (Rect.unit (s := S4096x128) (k0_off3 c 0#32) S32x128.size (k0_off3_inb c 0))
def P3 (xs : Dev nD → Vec F S256x4096 .bf16) (ws : Dev nD → Vec F S4096x128 .bf16) (c : Dev nD) : Vec F S32x128 .f32 := (V271 xs ws c)
def O3 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO3 c) (P3 xs ws c) (O2 xs ws c f0)
abbrev rO4 (c : Dev nD) : Rect S4096x128 := (Rect.unit (s := S4096x128) (k0_off4 c 0#32 0#32 0#32) S48x128.size (k0_off4_inb c 0))
def P4 (xs : Dev nD → Vec F S256x4096 .bf16) (ws : Dev nD → Vec F S4096x128 .bf16) (c : Dev nD) : Vec F S48x128 .f32 := (k0_pay12 (cwR (cvOf xs) c 0 1 0) (wbF ws c))
def O4 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO4 c) (P4 xs ws c) (O3 xs ws c f0)
def V279 (xs : Dev nD → Vec F S256x4096 .bf16) (ws : Dev nD → Vec F S4096x128 .bf16) (c : Dev nD) : F .f32 := k0_pay11 (V129 xs ws c) (V262 xs ws c) (V271 xs ws c)
def V305 (xs : Dev nD → Vec F S256x4096 .bf16) (ws : Dev nD → Vec F S4096x128 .bf16) (c : Dev nD) : FVec F S1x48x128 .f32 := k0_pay13 (cwR (cvOf xs) c 0 1 0) (wbF ws c)
abbrev rO5 (c : Dev nD) : Rect S4096x128 := (Rect.unit (s := S4096x128) (k0_off5 c 0#32 0#32 0#32) S48x128.size (k0_off5_inb c 0))
def P5 (xs : Dev nD → Vec F S256x4096 .bf16) (ws : Dev nD → Vec F S4096x128 .bf16) (c : Dev nD) : Vec F S48x128 .f32 := (k0_pay14 (ccwR (cvOf xs) c 0 1 0) (wbF ws c))
def O5 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO5 c) (P5 xs ws c) (O4 xs ws c f0)
abbrev rO6 (c : Dev nD) : Rect S4096x128 := (Rect.unit (s := S4096x128) (k0_off4 c 0#32 0#32 48#32) S48x128.size (k0_off4_inb c 1))
def P6 (xs : Dev nD → Vec F S256x4096 .bf16) (ws : Dev nD → Vec F S4096x128 .bf16) (c : Dev nD) : Vec F S48x128 .f32 := (k0_pay16 (cwR (cvOf xs) c 0 1 1) (wbF ws c))
def O6 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO6 c) (P6 xs ws c) (O5 xs ws c f0)
def V325 (xs : Dev nD → Vec F S256x4096 .bf16) (ws : Dev nD → Vec F S4096x128 .bf16) (c : Dev nD) : F .f32 := k0_pay15 (V279 xs ws c) (V305 xs ws c) (ccwR (cvOf xs) c 0 1 0) (wbF ws c)
def V336 (xs : Dev nD → Vec F S256x4096 .bf16) (ws : Dev nD → Vec F S4096x128 .bf16) (c : Dev nD) : FVec F S1x48x128 .f32 := k0_pay17 (cwR (cvOf xs) c 0 1 1) (wbF ws c)
abbrev rO7 (c : Dev nD) : Rect S4096x128 := (Rect.unit (s := S4096x128) (k0_off5 c 0#32 0#32 48#32) S48x128.size (k0_off5_inb c 1))
def P7 (xs : Dev nD → Vec F S256x4096 .bf16) (ws : Dev nD → Vec F S4096x128 .bf16) (c : Dev nD) : Vec F S48x128 .f32 := (k0_pay18 (ccwR (cvOf xs) c 0 1 1) (wbF ws c))
def O7 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO7 c) (P7 xs ws c) (O6 xs ws c f0)
def V356 (xs : Dev nD → Vec F S256x4096 .bf16) (ws : Dev nD → Vec F S4096x128 .bf16) (c : Dev nD) : F .f32 := k0_pay19 (V325 xs ws c) (V336 xs ws c) (ccwR (cvOf xs) c 0 1 1) (wbF ws c)
abbrev rO8 (c : Dev nD) : Rect S4096x128 := (Rect.unit (s := S4096x128) (k0_off2 c 1#32) S32x128.size (k0_off2_inb c 1))
def P8 (xs : Dev nD → Vec F S256x4096 .bf16) (ws : Dev nD → Vec F S4096x128 .bf16) (c : Dev nD) : Vec F S32x128 .f32 := (k0_pay20 (aggR (avOf xs) c 2 0) (wbF ws c))
def O8 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO8 c) (P8 xs ws c) (O7 xs ws c f0)
abbrev rO9 (c : Dev nD) : Rect S4096x128 := (Rect.unit (s := S4096x128) (k0_off3 c 1#32) S32x128.size (k0_off3_inb c 1))
def P9 (xs : Dev nD → Vec F S256x4096 .bf16) (ws : Dev nD → Vec F S4096x128 .bf16) (c : Dev nD) : Vec F S32x128 .f32 := (k0_pay21 (aggR (avOf xs) c 2 1) (wbF ws c))
def O9 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO9 c) (P9 xs ws c) (O8 xs ws c f0)
def V506 (xs : Dev nD → Vec F S256x4096 .bf16) (ws : Dev nD → Vec F S4096x128 .bf16) (c : Dev nD) : F .f32 := k0_pay22 (V356 xs ws c) (aggR (avOf xs) c 2 0) (wbF ws c) (aggR (avOf xs) c 2 1) (wbF ws c)
def V534 (xs : Dev nD → Vec F S256x4096 .bf16) (ws : Dev nD → Vec F S4096x128 .bf16) (c : Dev nD) : FVec F S192x128 .f32 := k0_pay23 (colR (cvOf xs) c 0) (wbF ws c)
abbrev rO10 (c : Dev nD) : Rect S4096x128 := (Rect.unit (s := S4096x128) (k0_off6 c 4294967292#32) S192x128.size (k0_off6_inb c 0))
def P10 (xs : Dev nD → Vec F S256x4096 .bf16) (ws : Dev nD → Vec F S4096x128 .bf16) (c : Dev nD) : Vec F S192x128 .f32 := (V534 xs ws c)
def O10 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO10 c) (P10 xs ws c) (O9 xs ws c f0)
def V541 (xs : Dev nD → Vec F S256x4096 .bf16) (ws : Dev nD → Vec F S4096x128 .bf16) (c : Dev nD) : F .f32 := k0_pay24 (V506 xs ws c) (V534 xs ws c)
abbrev rO11 (c : Dev nD) : Rect S4096x128 := (Rect.unit (s := S4096x128) (k0_off4 c 1#32 0#32 0#32) S48x128.size (k0_off4_inb c 2))
def P11 (xs : Dev nD → Vec F S256x4096 .bf16) (ws : Dev nD → Vec F S4096x128 .bf16) (c : Dev nD) : Vec F S48x128 .f32 := (k0_pay25 (cwR (cvOf xs) c 0 0 0) (wbF ws c))
def O11 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO11 c) (P11 xs ws c) (O10 xs ws c f0)
def V610 (xs : Dev nD → Vec F S256x4096 .bf16) (ws : Dev nD → Vec F S4096x128 .bf16) (c : Dev nD) : F .f32 := k0_pay26 (cwR (cvOf xs) c 0 0 0) (wbF ws c)
def V612 (xs : Dev nD → Vec F S256x4096 .bf16) (ws : Dev nD → Vec F S4096x128 .bf16) (c : Dev nD) : FVec F S48x4096 .bf16 := k0_pay27 (ccwR (cvOf xs) c 0 0 0)
abbrev rO12 (c : Dev nD) : Rect S4096x128 := (Rect.unit (s := S4096x128) (k0_off5 c 1#32 0#32 0#32) S48x128.size (k0_off5_inb c 2))
def P12 (xs : Dev nD → Vec F S256x4096 .bf16) (ws : Dev nD → Vec F S4096x128 .bf16) (c : Dev nD) : Vec F S48x128 .f32 := (k0_pay28 (V612 xs ws c) (wbF ws c))
def O12 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO12 c) (P12 xs ws c) (O11 xs ws c f0)
abbrev rO13 (c : Dev nD) : Rect S4096x128 := (Rect.unit (s := S4096x128) (k0_off4 c 1#32 0#32 48#32) S48x128.size (k0_off4_inb c 3))
def P13 (xs : Dev nD → Vec F S256x4096 .bf16) (ws : Dev nD → Vec F S4096x128 .bf16) (c : Dev nD) : Vec F S48x128 .f32 := (k0_pay30 (cwR (cvOf xs) c 0 0 1) (wbF ws c))
def O13 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO13 c) (P13 xs ws c) (O12 xs ws c f0)
def V627 (xs : Dev nD → Vec F S256x4096 .bf16) (ws : Dev nD → Vec F S4096x128 .bf16) (c : Dev nD) : F .f32 := k0_pay29 (V541 xs ws c) (V610 xs ws c) (V612 xs ws c) (wbF ws c)
def V641 (xs : Dev nD → Vec F S256x4096 .bf16) (ws : Dev nD → Vec F S4096x128 .bf16) (c : Dev nD) : F .f32 := k0_pay31 (cwR (cvOf xs) c 0 0 1) (wbF ws c)
def V643 (xs : Dev nD → Vec F S256x4096 .bf16) (ws : Dev nD → Vec F S4096x128 .bf16) (c : Dev nD) : FVec F S48x4096 .bf16 := k0_pay32 (ccwR (cvOf xs) c 0 0 1)
abbrev rO14 (c : Dev nD) : Rect S4096x128 := (Rect.unit (s := S4096x128) (k0_off5 c 1#32 0#32 48#32) S48x128.size (k0_off5_inb c 3))
def P14 (xs : Dev nD → Vec F S256x4096 .bf16) (ws : Dev nD → Vec F S4096x128 .bf16) (c : Dev nD) : Vec F S48x128 .f32 := (k0_pay33 (V643 xs ws c) (wbF ws c))
def O14 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO14 c) (P14 xs ws c) (O13 xs ws c f0)
def V658 (xs : Dev nD → Vec F S256x4096 .bf16) (ws : Dev nD → Vec F S4096x128 .bf16) (c : Dev nD) : F .f32 := k0_pay34 (V627 xs ws c) (V641 xs ws c) (V643 xs ws c) (wbF ws c)
def V741 (xs : Dev nD → Vec F S256x4096 .bf16) (ws : Dev nD → Vec F S4096x128 .bf16) (c : Dev nD) : FVec F S32x128 .f32 := k0_pay35 (aggR (avOf xs) c 1 0) (wbF ws c)
abbrev rO15 (c : Dev nD) : Rect S4096x128 := (Rect.unit (s := S4096x128) (k0_off2 c 2#32) S32x128.size (k0_off2_inb c 2))
def P15 (xs : Dev nD → Vec F S256x4096 .bf16) (ws : Dev nD → Vec F S4096x128 .bf16) (c : Dev nD) : Vec F S32x128 .f32 := (V741 xs ws c)
def O15 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO15 c) (P15 xs ws c) (O14 xs ws c f0)
abbrev rO16 (c : Dev nD) : Rect S4096x128 := (Rect.unit (s := S4096x128) (k0_off3 c 2#32) S32x128.size (k0_off3_inb c 2))
def P16 (xs : Dev nD → Vec F S256x4096 .bf16) (ws : Dev nD → Vec F S4096x128 .bf16) (c : Dev nD) : Vec F S32x128 .f32 := (k0_pay36 (aggR (avOf xs) c 3 1) (wbF ws c))
def O16 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO16 c) (P16 xs ws c) (O15 xs ws c f0)
def V764 (xs : Dev nD → Vec F S256x4096 .bf16) (ws : Dev nD → Vec F S4096x128 .bf16) (c : Dev nD) : F .f32 := k0_pay37 (V658 xs ws c) (V741 xs ws c) (aggR (avOf xs) c 3 1) (wbF ws c)
abbrev rO17 (c : Dev nD) : Rect S4096x128 := (Rect.unit (s := S4096x128) (k0_off4 c 2#32 0#32 0#32) S48x128.size (k0_off4_inb c 4))
def P17 (xs : Dev nD → Vec F S256x4096 .bf16) (ws : Dev nD → Vec F S4096x128 .bf16) (c : Dev nD) : Vec F S48x128 .f32 := (k0_pay38 (cwR (cvOf xs) c 0 2 0) (wbF ws c))
def O17 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO17 c) (P17 xs ws c) (O16 xs ws c f0)
abbrev rO18 (c : Dev nD) : Rect S4096x128 := (Rect.unit (s := S4096x128) (k0_off5 c 2#32 0#32 0#32) S48x128.size (k0_off5_inb c 4))
def P18 (xs : Dev nD → Vec F S256x4096 .bf16) (ws : Dev nD → Vec F S4096x128 .bf16) (c : Dev nD) : Vec F S48x128 .f32 := (k0_pay40 (ccwR (cvOf xs) c 0 2 0) (wbF ws c))
def O18 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO18 c) (P18 xs ws c) (O17 xs ws c f0)
def V793 (xs : Dev nD → Vec F S256x4096 .bf16) (ws : Dev nD → Vec F S4096x128 .bf16) (c : Dev nD) : F .f32 := k0_pay39 (cwR (cvOf xs) c 0 2 0) (wbF ws c)
def V802 (xs : Dev nD → Vec F S256x4096 .bf16) (ws : Dev nD → Vec F S4096x128 .bf16) (c : Dev nD) : FVec F S48x128 .f32 := k0_pay40 (ccwR (cvOf xs) c 0 2 0) (wbF ws c)
abbrev rO19 (c : Dev nD) : Rect S4096x128 := (Rect.unit (s := S4096x128) (k0_off4 c 2#32 0#32 48#32) S48x128.size (k0_off4_inb c 5))
def P19 (xs : Dev nD → Vec F S256x4096 .bf16) (ws : Dev nD → Vec F S4096x128 .bf16) (c : Dev nD) : Vec F S48x128 .f32 := (k0_pay42 (cwR (cvOf xs) c 0 2 1) (wbF ws c))
def O19 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO19 c) (P19 xs ws c) (O18 xs ws c f0)
abbrev rO20 (c : Dev nD) : Rect S4096x128 := (Rect.unit (s := S4096x128) (k0_off5 c 2#32 0#32 48#32) S48x128.size (k0_off5_inb c 5))
def P20 (xs : Dev nD → Vec F S256x4096 .bf16) (ws : Dev nD → Vec F S4096x128 .bf16) (c : Dev nD) : Vec F S48x128 .f32 := (k0_pay44 (ccwR (cvOf xs) c 0 2 1) (wbF ws c))
def O20 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO20 c) (P20 xs ws c) (O19 xs ws c f0)
def V810 (xs : Dev nD → Vec F S256x4096 .bf16) (ws : Dev nD → Vec F S4096x128 .bf16) (c : Dev nD) : F .f32 := k0_pay41 (V764 xs ws c) (V793 xs ws c) (V802 xs ws c)
def V824 (xs : Dev nD → Vec F S256x4096 .bf16) (ws : Dev nD → Vec F S4096x128 .bf16) (c : Dev nD) : F .f32 := k0_pay43 (cwR (cvOf xs) c 0 2 1) (wbF ws c)
def V833 (xs : Dev nD → Vec F S256x4096 .bf16) (ws : Dev nD → Vec F S4096x128 .bf16) (c : Dev nD) : FVec F S48x128 .f32 := k0_pay44 (ccwR (cvOf xs) c 0 2 1) (wbF ws c)
def V841 (xs : Dev nD → Vec F S256x4096 .bf16) (ws : Dev nD → Vec F S4096x128 .bf16) (c : Dev nD) : F .f32 := k0_pay45 (V810 xs ws c) (V824 xs ws c) (V833 xs ws c)
abbrev rO21 (c : Dev nD) : Rect S4096x128 := (Rect.unit (s := S4096x128) (k0_off4 c 0#32 4294967292#32 0#32) S48x128.size (k0_off4_inb c 6))
def P21 (xs : Dev nD → Vec F S256x4096 .bf16) (ws : Dev nD → Vec F S4096x128 .bf16) (c : Dev nD) : Vec F S48x128 .f32 := (k0_pay46 (cwR (cvOf xs) c 1 1 0) (wbF ws c))
def O21 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO21 c) (P21 xs ws c) (O20 xs ws c f0)
def V942 (xs : Dev nD → Vec F S256x4096 .bf16) (ws : Dev nD → Vec F S4096x128 .bf16) (c : Dev nD) : F .f32 := k0_pay47 (cwR (cvOf xs) c 1 1 0) (wbF ws c)
def V951 (xs : Dev nD → Vec F S256x4096 .bf16) (ws : Dev nD → Vec F S4096x128 .bf16) (c : Dev nD) : FVec F S48x128 .f32 := k0_pay48 (ccwR (cvOf xs) c 1 1 0) (wbF ws c)
abbrev rO22 (c : Dev nD) : Rect S4096x128 := (Rect.unit (s := S4096x128) (k0_off5 c 0#32 4294967292#32 0#32) S48x128.size (k0_off5_inb c 6))
def P22 (xs : Dev nD → Vec F S256x4096 .bf16) (ws : Dev nD → Vec F S4096x128 .bf16) (c : Dev nD) : Vec F S48x128 .f32 := (V951 xs ws c)
def O22 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO22 c) (P22 xs ws c) (O21 xs ws c f0)
abbrev rO23 (c : Dev nD) : Rect S4096x128 := (Rect.unit (s := S4096x128) (k0_off4 c 0#32 4294967292#32 48#32) S48x128.size (k0_off4_inb c 7))
def P23 (xs : Dev nD → Vec F S256x4096 .bf16) (ws : Dev nD → Vec F S4096x128 .bf16) (c : Dev nD) : Vec F S48x128 .f32 := (k0_pay50 (cwR (cvOf xs) c 1 1 1) (wbF ws c))
def O23 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO23 c) (P23 xs ws c) (O22 xs ws c f0)
def V959 (xs : Dev nD → Vec F S256x4096 .bf16) (ws : Dev nD → Vec F S4096x128 .bf16) (c : Dev nD) : F .f32 := k0_pay49 (V841 xs ws c) (V942 xs ws c) (V951 xs ws c)
def V973 (xs : Dev nD → Vec F S256x4096 .bf16) (ws : Dev nD → Vec F S4096x128 .bf16) (c : Dev nD) : F .f32 := k0_pay51 (cwR (cvOf xs) c 1 1 1) (wbF ws c)
def V982 (xs : Dev nD → Vec F S256x4096 .bf16) (ws : Dev nD → Vec F S4096x128 .bf16) (c : Dev nD) : FVec F S48x128 .f32 := k0_pay52 (ccwR (cvOf xs) c 1 1 1) (wbF ws c)
abbrev rO24 (c : Dev nD) : Rect S4096x128 := (Rect.unit (s := S4096x128) (k0_off5 c 0#32 4294967292#32 48#32) S48x128.size (k0_off5_inb c 7))
def P24 (xs : Dev nD → Vec F S256x4096 .bf16) (ws : Dev nD → Vec F S4096x128 .bf16) (c : Dev nD) : Vec F S48x128 .f32 := (V982 xs ws c)
def O24 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO24 c) (P24 xs ws c) (O23 xs ws c f0)
def V990 (xs : Dev nD → Vec F S256x4096 .bf16) (ws : Dev nD → Vec F S4096x128 .bf16) (c : Dev nD) : F .f32 := k0_pay53 (V959 xs ws c) (V973 xs ws c) (V982 xs ws c)
abbrev rO25 (c : Dev nD) : Rect S4096x128 := (Rect.unit (s := S4096x128) (k0_off6 c 4#32) S192x128.size (k0_off6_inb c 1))
def P25 (xs : Dev nD → Vec F S256x4096 .bf16) (ws : Dev nD → Vec F S4096x128 .bf16) (c : Dev nD) : Vec F S192x128 .f32 := (k0_pay54 (colR (cvOf xs) c 2) (wbF ws c))
def O25 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO25 c) (P25 xs ws c) (O24 xs ws c f0)
def V1087 (xs : Dev nD → Vec F S256x4096 .bf16) (ws : Dev nD → Vec F S4096x128 .bf16) (c : Dev nD) : F .f32 := k0_pay55 (V990 xs ws c) (colR (cvOf xs) c 2) (wbF ws c)
abbrev rO26 (c : Dev nD) : Rect S4096x128 := (Rect.unit (s := S4096x128) (k0_off4 c 1#32 4294967292#32 0#32) S48x128.size (k0_off4_inb c 8))
def P26 (xs : Dev nD → Vec F S256x4096 .bf16) (ws : Dev nD → Vec F S4096x128 .bf16) (c : Dev nD) : Vec F S48x128 .f32 := (k0_pay56 (cwR (cvOf xs) c 1 0 0) (wbF ws c))
def O26 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO26 c) (P26 xs ws c) (O25 xs ws c f0)
abbrev rO27 (c : Dev nD) : Rect S4096x128 := (Rect.unit (s := S4096x128) (k0_off5 c 1#32 4294967292#32 0#32) S48x128.size (k0_off5_inb c 8))
def P27 (xs : Dev nD → Vec F S256x4096 .bf16) (ws : Dev nD → Vec F S4096x128 .bf16) (c : Dev nD) : Vec F S48x128 .f32 := (k0_pay57 (ccwR (cvOf xs) c 1 0 0) (wbF ws c))
def O27 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO27 c) (P27 xs ws c) (O26 xs ws c f0)
def V1172 (xs : Dev nD → Vec F S256x4096 .bf16) (ws : Dev nD → Vec F S4096x128 .bf16) (c : Dev nD) : F .f32 := k0_pay58 (cwR (cvOf xs) c 1 0 0) (wbF ws c) (ccwR (cvOf xs) c 1 0 0) (wbF ws c)
abbrev rO28 (c : Dev nD) : Rect S4096x128 := (Rect.unit (s := S4096x128) (k0_off4 c 1#32 4294967292#32 48#32) S48x128.size (k0_off4_inb c 9))
def P28 (xs : Dev nD → Vec F S256x4096 .bf16) (ws : Dev nD → Vec F S4096x128 .bf16) (c : Dev nD) : Vec F S48x128 .f32 := (k0_pay60 (cwR (cvOf xs) c 1 0 1) (wbF ws c))
def O28 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO28 c) (P28 xs ws c) (O27 xs ws c f0)
abbrev rO29 (c : Dev nD) : Rect S4096x128 := (Rect.unit (s := S4096x128) (k0_off5 c 1#32 4294967292#32 48#32) S48x128.size (k0_off5_inb c 9))
def P29 (xs : Dev nD → Vec F S256x4096 .bf16) (ws : Dev nD → Vec F S4096x128 .bf16) (c : Dev nD) : Vec F S48x128 .f32 := (k0_pay61 (ccwR (cvOf xs) c 1 0 1) (wbF ws c))
def O29 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO29 c) (P29 xs ws c) (O28 xs ws c f0)
def V1173 (xs : Dev nD → Vec F S256x4096 .bf16) (ws : Dev nD → Vec F S4096x128 .bf16) (c : Dev nD) : F .f32 := k0_pay59 (V1087 xs ws c) (V1172 xs ws c)
def V1203 (xs : Dev nD → Vec F S256x4096 .bf16) (ws : Dev nD → Vec F S4096x128 .bf16) (c : Dev nD) : F .f32 := k0_pay62 (cwR (cvOf xs) c 1 0 1) (wbF ws c) (ccwR (cvOf xs) c 1 0 1) (wbF ws c)
def V1204 (xs : Dev nD → Vec F S256x4096 .bf16) (ws : Dev nD → Vec F S4096x128 .bf16) (c : Dev nD) : F .f32 := k0_pay63 (V1173 xs ws c) (V1203 xs ws c)
abbrev rO30 (c : Dev nD) : Rect S4096x128 := (Rect.unit (s := S4096x128) (k0_off4 c 2#32 4294967292#32 0#32) S48x128.size (k0_off4_inb c 10))
def P30 (xs : Dev nD → Vec F S256x4096 .bf16) (ws : Dev nD → Vec F S4096x128 .bf16) (c : Dev nD) : Vec F S48x128 .f32 := (k0_pay64 (cwR (cvOf xs) c 1 2 0) (wbF ws c))
def O30 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO30 c) (P30 xs ws c) (O29 xs ws c f0)
def V1265 (xs : Dev nD → Vec F S256x4096 .bf16) (ws : Dev nD → Vec F S4096x128 .bf16) (c : Dev nD) : F .f32 := k0_pay65 (cwR (cvOf xs) c 1 2 0) (wbF ws c)
def V1267 (xs : Dev nD → Vec F S256x4096 .bf16) (ws : Dev nD → Vec F S4096x128 .bf16) (c : Dev nD) : FVec F S48x4096 .bf16 := k0_pay66 (ccwR (cvOf xs) c 1 2 0)
abbrev rO31 (c : Dev nD) : Rect S4096x128 := (Rect.unit (s := S4096x128) (k0_off5 c 2#32 4294967292#32 0#32) S48x128.size (k0_off5_inb c 10))
def P31 (xs : Dev nD → Vec F S256x4096 .bf16) (ws : Dev nD → Vec F S4096x128 .bf16) (c : Dev nD) : Vec F S48x128 .f32 := (k0_pay67 (V1267 xs ws c) (wbF ws c))
def O31 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO31 c) (P31 xs ws c) (O30 xs ws c f0)
abbrev rO32 (c : Dev nD) : Rect S4096x128 := (Rect.unit (s := S4096x128) (k0_off4 c 2#32 4294967292#32 48#32) S48x128.size (k0_off4_inb c 11))
def P32 (xs : Dev nD → Vec F S256x4096 .bf16) (ws : Dev nD → Vec F S4096x128 .bf16) (c : Dev nD) : Vec F S48x128 .f32 := (k0_pay69 (cwR (cvOf xs) c 1 2 1) (wbF ws c))
def O32 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO32 c) (P32 xs ws c) (O31 xs ws c f0)
def V1282 (xs : Dev nD → Vec F S256x4096 .bf16) (ws : Dev nD → Vec F S4096x128 .bf16) (c : Dev nD) : F .f32 := k0_pay68 (V1204 xs ws c) (V1265 xs ws c) (V1267 xs ws c) (wbF ws c)
def V1296 (xs : Dev nD → Vec F S256x4096 .bf16) (ws : Dev nD → Vec F S4096x128 .bf16) (c : Dev nD) : F .f32 := k0_pay70 (cwR (cvOf xs) c 1 2 1) (wbF ws c)
def V1298 (xs : Dev nD → Vec F S256x4096 .bf16) (ws : Dev nD → Vec F S4096x128 .bf16) (c : Dev nD) : FVec F S48x4096 .bf16 := k0_pay71 (ccwR (cvOf xs) c 1 2 1)
abbrev rO33 (c : Dev nD) : Rect S4096x128 := (Rect.unit (s := S4096x128) (k0_off5 c 2#32 4294967292#32 48#32) S48x128.size (k0_off5_inb c 11))
def P33 (xs : Dev nD → Vec F S256x4096 .bf16) (ws : Dev nD → Vec F S4096x128 .bf16) (c : Dev nD) : Vec F S48x128 .f32 := (k0_pay72 (V1298 xs ws c) (wbF ws c))
def O33 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO33 c) (P33 xs ws c) (O32 xs ws c f0)
def V1313 (xs : Dev nD → Vec F S256x4096 .bf16) (ws : Dev nD → Vec F S4096x128 .bf16) (c : Dev nD) : F .f32 := k0_pay73 (V1282 xs ws c) (V1296 xs ws c) (V1298 xs ws c) (wbF ws c)
abbrev rO34 (c : Dev nD) : Rect S4096x128 := (Rect.unit (s := S4096x128) (k0_off4 c 0#32 4#32 0#32) S48x128.size (k0_off4_inb c 12))
def P34 (xs : Dev nD → Vec F S256x4096 .bf16) (ws : Dev nD → Vec F S4096x128 .bf16) (c : Dev nD) : Vec F S48x128 .f32 := (k0_pay74 (cwR (cvOf xs) c 2 1 0) (wbF ws c))
def O34 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO34 c) (P34 xs ws c) (O33 xs ws c f0)
def V1414 (xs : Dev nD → Vec F S256x4096 .bf16) (ws : Dev nD → Vec F S4096x128 .bf16) (c : Dev nD) : F .f32 := k0_pay75 (cwR (cvOf xs) c 2 1 0) (wbF ws c)
def V1416 (xs : Dev nD → Vec F S256x4096 .bf16) (ws : Dev nD → Vec F S4096x128 .bf16) (c : Dev nD) : FVec F S48x4096 .bf16 := k0_pay76 (ccwR (cvOf xs) c 2 1 0)
abbrev rO35 (c : Dev nD) : Rect S4096x128 := (Rect.unit (s := S4096x128) (k0_off5 c 0#32 4#32 0#32) S48x128.size (k0_off5_inb c 12))
def P35 (xs : Dev nD → Vec F S256x4096 .bf16) (ws : Dev nD → Vec F S4096x128 .bf16) (c : Dev nD) : Vec F S48x128 .f32 := (k0_pay77 (V1416 xs ws c) (wbF ws c))
def O35 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO35 c) (P35 xs ws c) (O34 xs ws c f0)
abbrev rO36 (c : Dev nD) : Rect S4096x128 := (Rect.unit (s := S4096x128) (k0_off4 c 0#32 4#32 48#32) S48x128.size (k0_off4_inb c 13))
def P36 (xs : Dev nD → Vec F S256x4096 .bf16) (ws : Dev nD → Vec F S4096x128 .bf16) (c : Dev nD) : Vec F S48x128 .f32 := (k0_pay79 (cwR (cvOf xs) c 2 1 1) (wbF ws c))
def O36 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO36 c) (P36 xs ws c) (O35 xs ws c f0)
def V1431 (xs : Dev nD → Vec F S256x4096 .bf16) (ws : Dev nD → Vec F S4096x128 .bf16) (c : Dev nD) : F .f32 := k0_pay78 (V1313 xs ws c) (V1414 xs ws c) (V1416 xs ws c) (wbF ws c)
def V1445 (xs : Dev nD → Vec F S256x4096 .bf16) (ws : Dev nD → Vec F S4096x128 .bf16) (c : Dev nD) : F .f32 := k0_pay80 (cwR (cvOf xs) c 2 1 1) (wbF ws c)
def V1447 (xs : Dev nD → Vec F S256x4096 .bf16) (ws : Dev nD → Vec F S4096x128 .bf16) (c : Dev nD) : FVec F S48x4096 .bf16 := k0_pay81 (ccwR (cvOf xs) c 2 1 1)
abbrev rO37 (c : Dev nD) : Rect S4096x128 := (Rect.unit (s := S4096x128) (k0_off5 c 0#32 4#32 48#32) S48x128.size (k0_off5_inb c 13))
def P37 (xs : Dev nD → Vec F S256x4096 .bf16) (ws : Dev nD → Vec F S4096x128 .bf16) (c : Dev nD) : Vec F S48x128 .f32 := (k0_pay82 (V1447 xs ws c) (wbF ws c))
def O37 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO37 c) (P37 xs ws c) (O36 xs ws c f0)
def V1462 (xs : Dev nD → Vec F S256x4096 .bf16) (ws : Dev nD → Vec F S4096x128 .bf16) (c : Dev nD) : F .f32 := k0_pay83 (V1431 xs ws c) (V1445 xs ws c) (V1447 xs ws c) (wbF ws c)
abbrev rO38 (c : Dev nD) : Rect S4096x128 := (Rect.unit (s := S4096x128) (k0_off6 c 4294967288#32) S192x128.size (k0_off6_inb c 2))
def P38 (xs : Dev nD → Vec F S256x4096 .bf16) (ws : Dev nD → Vec F S4096x128 .bf16) (c : Dev nD) : Vec F S192x128 .f32 := (k0_pay84 (colR (cvOf xs) c 1) (wbF ws c))
def O38 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO38 c) (P38 xs ws c) (O37 xs ws c f0)
def V1559 (xs : Dev nD → Vec F S256x4096 .bf16) (ws : Dev nD → Vec F S4096x128 .bf16) (c : Dev nD) : F .f32 := k0_pay85 (V1462 xs ws c) (colR (cvOf xs) c 1) (wbF ws c)
abbrev rO39 (c : Dev nD) : Rect S4096x128 := (Rect.unit (s := S4096x128) (k0_off7 c 12#32 0#32) S64x128.size (k0_off7_inb c 2 0))
def P39 (xs : Dev nD → Vec F S256x4096 .bf16) (ws : Dev nD → Vec F S4096x128 .bf16) (c : Dev nD) : Vec F S64x128 .f32 := (k0_pay86 (aggrR (avOf xs) c 0 0) (wbF ws c))
def O39 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO39 c) (P39 xs ws c) (O38 xs ws c f0)
def V1635 (xs : Dev nD → Vec F S256x4096 .bf16) (ws : Dev nD → Vec F S4096x128 .bf16) (c : Dev nD) : F .f32 := k0_pay87 (V1559 xs ws c) (aggrR (avOf xs) c 0 0) (wbF ws c)
abbrev rO40 (c : Dev nD) : Rect S4096x128 := (Rect.unit (s := S4096x128) (k0_off7 c 12#32 1#32) S64x128.size (k0_off7_inb c 2 1))
def P40 (xs : Dev nD → Vec F S256x4096 .bf16) (ws : Dev nD → Vec F S4096x128 .bf16) (c : Dev nD) : Vec F S64x128 .f32 := (k0_pay88 (aggrR (avOf xs) c 0 1) (wbF ws c))
def O40 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO40 c) (P40 xs ws c) (O39 xs ws c f0)
def V1654 (xs : Dev nD → Vec F S256x4096 .bf16) (ws : Dev nD → Vec F S4096x128 .bf16) (c : Dev nD) : F .f32 := k0_pay89 (V1635 xs ws c) (aggrR (avOf xs) c 0 1) (wbF ws c)
def V1666 (xs : Dev nD → Vec F S256x4096 .bf16) (ws : Dev nD → Vec F S4096x128 .bf16) (c : Dev nD) : FVec F S64x128 .f32 := k0_pay90 (aggrR (avOf xs) c 0 2) (wbF ws c)
abbrev rO41 (c : Dev nD) : Rect S4096x128 := (Rect.unit (s := S4096x128) (k0_off7 c 12#32 2#32) S64x128.size (k0_off7_inb c 2 2))
def P41 (xs : Dev nD → Vec F S256x4096 .bf16) (ws : Dev nD → Vec F S4096x128 .bf16) (c : Dev nD) : Vec F S64x128 .f32 := (V1666 xs ws c)
def O41 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO41 c) (P41 xs ws c) (O40 xs ws c f0)
abbrev rO42 (c : Dev nD) : Rect S4096x128 := (Rect.unit (s := S4096x128) (k0_off7 c 12#32 3#32) S64x128.size (k0_off7_inb c 2 3))
def P42 (xs : Dev nD → Vec F S256x4096 .bf16) (ws : Dev nD → Vec F S4096x128 .bf16) (c : Dev nD) : Vec F S64x128 .f32 := (k0_pay91 (aggrR (avOf xs) c 0 3) (wbF ws c))
def O42 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO42 c) (P42 xs ws c) (O41 xs ws c f0)
def V1692 (xs : Dev nD → Vec F S256x4096 .bf16) (ws : Dev nD → Vec F S4096x128 .bf16) (c : Dev nD) : F .f32 := k0_pay92 (V1654 xs ws c) (V1666 xs ws c) (aggrR (avOf xs) c 0 3) (wbF ws c)
abbrev rO43 (c : Dev nD) : Rect S4096x128 := (Rect.unit (s := S4096x128) (k0_off4 c 1#32 4#32 0#32) S48x128.size (k0_off4_inb c 14))
def P43 (xs : Dev nD → Vec F S256x4096 .bf16) (ws : Dev nD → Vec F S4096x128 .bf16) (c : Dev nD) : Vec F S48x128 .f32 := (k0_pay93 (cwR (cvOf xs) c 2 0 0) (wbF ws c))
def O43 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO43 c) (P43 xs ws c) (O42 xs ws c f0)
def V1721 (xs : Dev nD → Vec F S256x4096 .bf16) (ws : Dev nD → Vec F S4096x128 .bf16) (c : Dev nD) : F .f32 := k0_pay94 (cwR (cvOf xs) c 2 0 0) (wbF ws c)
def V1730 (xs : Dev nD → Vec F S256x4096 .bf16) (ws : Dev nD → Vec F S4096x128 .bf16) (c : Dev nD) : FVec F S48x128 .f32 := k0_pay95 (ccwR (cvOf xs) c 2 0 0) (wbF ws c)
abbrev rO44 (c : Dev nD) : Rect S4096x128 := (Rect.unit (s := S4096x128) (k0_off5 c 1#32 4#32 0#32) S48x128.size (k0_off5_inb c 14))
def P44 (xs : Dev nD → Vec F S256x4096 .bf16) (ws : Dev nD → Vec F S4096x128 .bf16) (c : Dev nD) : Vec F S48x128 .f32 := (V1730 xs ws c)
def O44 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO44 c) (P44 xs ws c) (O43 xs ws c f0)
abbrev rO45 (c : Dev nD) : Rect S4096x128 := (Rect.unit (s := S4096x128) (k0_off4 c 1#32 4#32 48#32) S48x128.size (k0_off4_inb c 15))
def P45 (xs : Dev nD → Vec F S256x4096 .bf16) (ws : Dev nD → Vec F S4096x128 .bf16) (c : Dev nD) : Vec F S48x128 .f32 := (k0_pay97 (cwR (cvOf xs) c 2 0 1) (wbF ws c))
def O45 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO45 c) (P45 xs ws c) (O44 xs ws c f0)
def V1738 (xs : Dev nD → Vec F S256x4096 .bf16) (ws : Dev nD → Vec F S4096x128 .bf16) (c : Dev nD) : F .f32 := k0_pay96 (V1692 xs ws c) (V1721 xs ws c) (V1730 xs ws c)
def V1752 (xs : Dev nD → Vec F S256x4096 .bf16) (ws : Dev nD → Vec F S4096x128 .bf16) (c : Dev nD) : F .f32 := k0_pay98 (cwR (cvOf xs) c 2 0 1) (wbF ws c)
def V1761 (xs : Dev nD → Vec F S256x4096 .bf16) (ws : Dev nD → Vec F S4096x128 .bf16) (c : Dev nD) : FVec F S48x128 .f32 := k0_pay99 (ccwR (cvOf xs) c 2 0 1) (wbF ws c)
abbrev rO46 (c : Dev nD) : Rect S4096x128 := (Rect.unit (s := S4096x128) (k0_off5 c 1#32 4#32 48#32) S48x128.size (k0_off5_inb c 15))
def P46 (xs : Dev nD → Vec F S256x4096 .bf16) (ws : Dev nD → Vec F S4096x128 .bf16) (c : Dev nD) : Vec F S48x128 .f32 := (V1761 xs ws c)
def O46 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO46 c) (P46 xs ws c) (O45 xs ws c f0)
def V1769 (xs : Dev nD → Vec F S256x4096 .bf16) (ws : Dev nD → Vec F S4096x128 .bf16) (c : Dev nD) : F .f32 := k0_pay100 (V1738 xs ws c) (V1752 xs ws c) (V1761 xs ws c)
abbrev rO47 (c : Dev nD) : Rect S4096x128 := (Rect.unit (s := S4096x128) (k0_off4 c 2#32 4#32 0#32) S48x128.size (k0_off4_inb c 16))
def P47 (xs : Dev nD → Vec F S256x4096 .bf16) (ws : Dev nD → Vec F S4096x128 .bf16) (c : Dev nD) : Vec F S48x128 .f32 := (k0_pay101 (cwR (cvOf xs) c 2 2 0) (wbF ws c))
def O47 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO47 c) (P47 xs ws c) (O46 xs ws c f0)
def V1830 (xs : Dev nD → Vec F S256x4096 .bf16) (ws : Dev nD → Vec F S4096x128 .bf16) (c : Dev nD) : F .f32 := k0_pay102 (cwR (cvOf xs) c 2 2 0) (wbF ws c)
abbrev rO48 (c : Dev nD) : Rect S4096x128 := (Rect.unit (s := S4096x128) (k0_off5 c 2#32 4#32 0#32) S48x128.size (k0_off5_inb c 16))
def P48 (xs : Dev nD → Vec F S256x4096 .bf16) (ws : Dev nD → Vec F S4096x128 .bf16) (c : Dev nD) : Vec F S48x128 .f32 := (k0_pay103 (ccwR (cvOf xs) c 2 2 0) (wbF ws c))
def O48 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO48 c) (P48 xs ws c) (O47 xs ws c f0)
abbrev rO49 (c : Dev nD) : Rect S4096x128 := (Rect.unit (s := S4096x128) (k0_off4 c 2#32 4#32 48#32) S48x128.size (k0_off4_inb c 17))
def P49 (xs : Dev nD → Vec F S256x4096 .bf16) (ws : Dev nD → Vec F S4096x128 .bf16) (c : Dev nD) : Vec F S48x128 .f32 := (k0_pay105 (cwR (cvOf xs) c 2 2 1) (wbF ws c))
def O49 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO49 c) (P49 xs ws c) (O48 xs ws c f0)
def V1847 (xs : Dev nD → Vec F S256x4096 .bf16) (ws : Dev nD → Vec F S4096x128 .bf16) (c : Dev nD) : F .f32 := k0_pay104 (V1769 xs ws c) (V1830 xs ws c) (ccwR (cvOf xs) c 2 2 0) (wbF ws c)
def V1861 (xs : Dev nD → Vec F S256x4096 .bf16) (ws : Dev nD → Vec F S4096x128 .bf16) (c : Dev nD) : F .f32 := k0_pay106 (cwR (cvOf xs) c 2 2 1) (wbF ws c)
abbrev rO50 (c : Dev nD) : Rect S4096x128 := (Rect.unit (s := S4096x128) (k0_off5 c 2#32 4#32 48#32) S48x128.size (k0_off5_inb c 17))
def P50 (xs : Dev nD → Vec F S256x4096 .bf16) (ws : Dev nD → Vec F S4096x128 .bf16) (c : Dev nD) : Vec F S48x128 .f32 := (k0_pay107 (ccwR (cvOf xs) c 2 2 1) (wbF ws c))
def O50 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO50 c) (P50 xs ws c) (O49 xs ws c f0)
def V1878 (xs : Dev nD → Vec F S256x4096 .bf16) (ws : Dev nD → Vec F S4096x128 .bf16) (c : Dev nD) : F .f32 := k0_pay108 (V1847 xs ws c) (V1861 xs ws c) (ccwR (cvOf xs) c 2 2 1) (wbF ws c)
abbrev rO51 (c : Dev nD) : Rect S4096x128 := (Rect.unit (s := S4096x128) (k0_off7 c 4#32 0#32) S64x128.size (k0_off7_inb c 0 0))
def P51 (xs : Dev nD → Vec F S256x4096 .bf16) (ws : Dev nD → Vec F S4096x128 .bf16) (c : Dev nD) : Vec F S64x128 .f32 := (k0_pay109 (aggrR (avOf xs) c 2 0) (wbF ws c))
def O51 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO51 c) (P51 xs ws c) (O50 xs ws c f0)
def V1976 (xs : Dev nD → Vec F S256x4096 .bf16) (ws : Dev nD → Vec F S4096x128 .bf16) (c : Dev nD) : F .f32 := k0_pay110 (V1878 xs ws c) (aggrR (avOf xs) c 2 0) (wbF ws c)
abbrev rO52 (c : Dev nD) : Rect S4096x128 := (Rect.unit (s := S4096x128) (k0_off7 c 4#32 1#32) S64x128.size (k0_off7_inb c 0 1))
def P52 (xs : Dev nD → Vec F S256x4096 .bf16) (ws : Dev nD → Vec F S4096x128 .bf16) (c : Dev nD) : Vec F S64x128 .f32 := (k0_pay111 (aggrR (avOf xs) c 2 1) (wbF ws c))
def O52 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO52 c) (P52 xs ws c) (O51 xs ws c f0)
abbrev rO53 (c : Dev nD) : Rect S4096x128 := (Rect.unit (s := S4096x128) (k0_off7 c 4#32 2#32) S64x128.size (k0_off7_inb c 0 2))
def P53 (xs : Dev nD → Vec F S256x4096 .bf16) (ws : Dev nD → Vec F S4096x128 .bf16) (c : Dev nD) : Vec F S64x128 .f32 := (k0_pay113 (aggrR (avOf xs) c 2 2) (wbF ws c))
def O53 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO53 c) (P53 xs ws c) (O52 xs ws c f0)
def V1995 (xs : Dev nD → Vec F S256x4096 .bf16) (ws : Dev nD → Vec F S4096x128 .bf16) (c : Dev nD) : F .f32 := k0_pay112 (V1976 xs ws c) (aggrR (avOf xs) c 2 1) (wbF ws c)
def V2010 (xs : Dev nD → Vec F S256x4096 .bf16) (ws : Dev nD → Vec F S4096x128 .bf16) (c : Dev nD) : FVec F S1x64x128 .f32 := k0_pay114 (aggrR (avOf xs) c 2 2) (wbF ws c)
abbrev rO54 (c : Dev nD) : Rect S4096x128 := (Rect.unit (s := S4096x128) (k0_off7 c 4#32 3#32) S64x128.size (k0_off7_inb c 0 3))
def P54 (xs : Dev nD → Vec F S256x4096 .bf16) (ws : Dev nD → Vec F S4096x128 .bf16) (c : Dev nD) : Vec F S64x128 .f32 := (k0_pay115 (aggrR (avOf xs) c 2 3) (wbF ws c))
def O54 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO54 c) (P54 xs ws c) (O53 xs ws c f0)
def V2033 (xs : Dev nD → Vec F S256x4096 .bf16) (ws : Dev nD → Vec F S4096x128 .bf16) (c : Dev nD) : F .f32 := k0_pay116 (V1995 xs ws c) (V2010 xs ws c) (aggrR (avOf xs) c 2 3) (wbF ws c)
abbrev rO55 (c : Dev nD) : Rect S4096x128 := (Rect.unit (s := S4096x128) (k0_off4 c 0#32 4294967288#32 0#32) S48x128.size (k0_off4_inb c 18))
def P55 (xs : Dev nD → Vec F S256x4096 .bf16) (ws : Dev nD → Vec F S4096x128 .bf16) (c : Dev nD) : Vec F S48x128 .f32 := (k0_pay117 (cwR (cvOf xs) c 3 1 0) (wbF ws c))
def O55 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO55 c) (P55 xs ws c) (O54 xs ws c f0)
def V2062 (xs : Dev nD → Vec F S256x4096 .bf16) (ws : Dev nD → Vec F S4096x128 .bf16) (c : Dev nD) : F .f32 := k0_pay118 (cwR (cvOf xs) c 3 1 0) (wbF ws c)
def V2071 (xs : Dev nD → Vec F S256x4096 .bf16) (ws : Dev nD → Vec F S4096x128 .bf16) (c : Dev nD) : FVec F S48x128 .f32 := k0_pay119 (ccwR (cvOf xs) c 3 1 0) (wbF ws c)
abbrev rO56 (c : Dev nD) : Rect S4096x128 := (Rect.unit (s := S4096x128) (k0_off5 c 0#32 4294967288#32 0#32) S48x128.size (k0_off5_inb c 18))
def P56 (xs : Dev nD → Vec F S256x4096 .bf16) (ws : Dev nD → Vec F S4096x128 .bf16) (c : Dev nD) : Vec F S48x128 .f32 := (V2071 xs ws c)
def O56 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO56 c) (P56 xs ws c) (O55 xs ws c f0)
abbrev rO57 (c : Dev nD) : Rect S4096x128 := (Rect.unit (s := S4096x128) (k0_off4 c 0#32 4294967288#32 48#32) S48x128.size (k0_off4_inb c 19))
def P57 (xs : Dev nD → Vec F S256x4096 .bf16) (ws : Dev nD → Vec F S4096x128 .bf16) (c : Dev nD) : Vec F S48x128 .f32 := (k0_pay121 (cwR (cvOf xs) c 3 1 1) (wbF ws c))
def O57 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO57 c) (P57 xs ws c) (O56 xs ws c f0)
def V2079 (xs : Dev nD → Vec F S256x4096 .bf16) (ws : Dev nD → Vec F S4096x128 .bf16) (c : Dev nD) : F .f32 := k0_pay120 (V2033 xs ws c) (V2062 xs ws c) (V2071 xs ws c)
def V2093 (xs : Dev nD → Vec F S256x4096 .bf16) (ws : Dev nD → Vec F S4096x128 .bf16) (c : Dev nD) : F .f32 := k0_pay122 (cwR (cvOf xs) c 3 1 1) (wbF ws c)
def V2102 (xs : Dev nD → Vec F S256x4096 .bf16) (ws : Dev nD → Vec F S4096x128 .bf16) (c : Dev nD) : FVec F S48x128 .f32 := k0_pay123 (ccwR (cvOf xs) c 3 1 1) (wbF ws c)
abbrev rO58 (c : Dev nD) : Rect S4096x128 := (Rect.unit (s := S4096x128) (k0_off5 c 0#32 4294967288#32 48#32) S48x128.size (k0_off5_inb c 19))
def P58 (xs : Dev nD → Vec F S256x4096 .bf16) (ws : Dev nD → Vec F S4096x128 .bf16) (c : Dev nD) : Vec F S48x128 .f32 := (V2102 xs ws c)
def O58 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO58 c) (P58 xs ws c) (O57 xs ws c f0)
def V2110 (xs : Dev nD → Vec F S256x4096 .bf16) (ws : Dev nD → Vec F S4096x128 .bf16) (c : Dev nD) : F .f32 := k0_pay124 (V2079 xs ws c) (V2093 xs ws c) (V2102 xs ws c)
abbrev rO59 (c : Dev nD) : Rect S4096x128 := (Rect.unit (s := S4096x128) (k0_off4 c 1#32 4294967288#32 0#32) S48x128.size (k0_off4_inb c 20))
def P59 (xs : Dev nD → Vec F S256x4096 .bf16) (ws : Dev nD → Vec F S4096x128 .bf16) (c : Dev nD) : Vec F S48x128 .f32 := (k0_pay125 (cwR (cvOf xs) c 3 0 0) (wbF ws c))
def O59 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO59 c) (P59 xs ws c) (O58 xs ws c f0)
def V2211 (xs : Dev nD → Vec F S256x4096 .bf16) (ws : Dev nD → Vec F S4096x128 .bf16) (c : Dev nD) : F .f32 := k0_pay126 (cwR (cvOf xs) c 3 0 0) (wbF ws c)
def V2213 (xs : Dev nD → Vec F S256x4096 .bf16) (ws : Dev nD → Vec F S4096x128 .bf16) (c : Dev nD) : FVec F S48x4096 .bf16 := k0_pay127 (ccwR (cvOf xs) c 3 0 0)
abbrev rO60 (c : Dev nD) : Rect S4096x128 := (Rect.unit (s := S4096x128) (k0_off5 c 1#32 4294967288#32 0#32) S48x128.size (k0_off5_inb c 20))
def P60 (xs : Dev nD → Vec F S256x4096 .bf16) (ws : Dev nD → Vec F S4096x128 .bf16) (c : Dev nD) : Vec F S48x128 .f32 := (k0_pay128 (V2213 xs ws c) (wbF ws c))
def O60 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO60 c) (P60 xs ws c) (O59 xs ws c f0)
abbrev rO61 (c : Dev nD) : Rect S4096x128 := (Rect.unit (s := S4096x128) (k0_off4 c 1#32 4294967288#32 48#32) S48x128.size (k0_off4_inb c 21))
def P61 (xs : Dev nD → Vec F S256x4096 .bf16) (ws : Dev nD → Vec F S4096x128 .bf16) (c : Dev nD) : Vec F S48x128 .f32 := (k0_pay130 (cwR (cvOf xs) c 3 0 1) (wbF ws c))
def O61 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO61 c) (P61 xs ws c) (O60 xs ws c f0)
def V2228 (xs : Dev nD → Vec F S256x4096 .bf16) (ws : Dev nD → Vec F S4096x128 .bf16) (c : Dev nD) : F .f32 := k0_pay129 (V2110 xs ws c) (V2211 xs ws c) (V2213 xs ws c) (wbF ws c)
def V2242 (xs : Dev nD → Vec F S256x4096 .bf16) (ws : Dev nD → Vec F S4096x128 .bf16) (c : Dev nD) : F .f32 := k0_pay131 (cwR (cvOf xs) c 3 0 1) (wbF ws c)
def V2244 (xs : Dev nD → Vec F S256x4096 .bf16) (ws : Dev nD → Vec F S4096x128 .bf16) (c : Dev nD) : FVec F S48x4096 .bf16 := k0_pay132 (ccwR (cvOf xs) c 3 0 1)
abbrev rO62 (c : Dev nD) : Rect S4096x128 := (Rect.unit (s := S4096x128) (k0_off5 c 1#32 4294967288#32 48#32) S48x128.size (k0_off5_inb c 21))
def P62 (xs : Dev nD → Vec F S256x4096 .bf16) (ws : Dev nD → Vec F S4096x128 .bf16) (c : Dev nD) : Vec F S48x128 .f32 := (k0_pay133 (V2244 xs ws c) (wbF ws c))
def O62 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO62 c) (P62 xs ws c) (O61 xs ws c f0)
def V2259 (xs : Dev nD → Vec F S256x4096 .bf16) (ws : Dev nD → Vec F S4096x128 .bf16) (c : Dev nD) : F .f32 := k0_pay134 (V2228 xs ws c) (V2242 xs ws c) (V2244 xs ws c) (wbF ws c)
abbrev rO63 (c : Dev nD) : Rect S4096x128 := (Rect.unit (s := S4096x128) (k0_off4 c 2#32 4294967288#32 0#32) S48x128.size (k0_off4_inb c 22))
def P63 (xs : Dev nD → Vec F S256x4096 .bf16) (ws : Dev nD → Vec F S4096x128 .bf16) (c : Dev nD) : Vec F S48x128 .f32 := (k0_pay135 (cwR (cvOf xs) c 3 2 0) (wbF ws c))
def O63 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO63 c) (P63 xs ws c) (O62 xs ws c f0)
def V2317 (xs : Dev nD → Vec F S256x4096 .bf16) (ws : Dev nD → Vec F S4096x128 .bf16) (c : Dev nD) : FVec F S1x48x128 .f32 := k0_pay136 (cwR (cvOf xs) c 3 2 0) (wbF ws c)
abbrev rO64 (c : Dev nD) : Rect S4096x128 := (Rect.unit (s := S4096x128) (k0_off5 c 2#32 4294967288#32 0#32) S48x128.size (k0_off5_inb c 22))
def P64 (xs : Dev nD → Vec F S256x4096 .bf16) (ws : Dev nD → Vec F S4096x128 .bf16) (c : Dev nD) : Vec F S48x128 .f32 := (k0_pay137 (ccwR (cvOf xs) c 3 2 0) (wbF ws c))
def O64 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO64 c) (P64 xs ws c) (O63 xs ws c f0)
abbrev rO65 (c : Dev nD) : Rect S4096x128 := (Rect.unit (s := S4096x128) (k0_off4 c 2#32 4294967288#32 48#32) S48x128.size (k0_off4_inb c 23))
def P65 (xs : Dev nD → Vec F S256x4096 .bf16) (ws : Dev nD → Vec F S4096x128 .bf16) (c : Dev nD) : Vec F S48x128 .f32 := (k0_pay139 (cwR (cvOf xs) c 3 2 1) (wbF ws c))
def O65 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO65 c) (P65 xs ws c) (O64 xs ws c f0)
def V2337 (xs : Dev nD → Vec F S256x4096 .bf16) (ws : Dev nD → Vec F S4096x128 .bf16) (c : Dev nD) : F .f32 := k0_pay138 (V2259 xs ws c) (V2317 xs ws c) (ccwR (cvOf xs) c 3 2 0) (wbF ws c)
def V2348 (xs : Dev nD → Vec F S256x4096 .bf16) (ws : Dev nD → Vec F S4096x128 .bf16) (c : Dev nD) : FVec F S1x48x128 .f32 := k0_pay140 (cwR (cvOf xs) c 3 2 1) (wbF ws c)
abbrev rO66 (c : Dev nD) : Rect S4096x128 := (Rect.unit (s := S4096x128) (k0_off5 c 2#32 4294967288#32 48#32) S48x128.size (k0_off5_inb c 23))
def P66 (xs : Dev nD → Vec F S256x4096 .bf16) (ws : Dev nD → Vec F S4096x128 .bf16) (c : Dev nD) : Vec F S48x128 .f32 := (k0_pay141 (ccwR (cvOf xs) c 3 2 1) (wbF ws c))
def O66 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO66 c) (P66 xs ws c) (O65 xs ws c f0)
def V2368 (xs : Dev nD → Vec F S256x4096 .bf16) (ws : Dev nD → Vec F S4096x128 .bf16) (c : Dev nD) : F .f32 := k0_pay142 (V2337 xs ws c) (V2348 xs ws c) (ccwR (cvOf xs) c 3 2 1) (wbF ws c)
abbrev rO67 (c : Dev nD) : Rect S4096x128 := (Rect.unit (s := S4096x128) (k0_off7 c 8#32 0#32) S64x128.size (k0_off7_inb c 1 0))
def P67 (xs : Dev nD → Vec F S256x4096 .bf16) (ws : Dev nD → Vec F S4096x128 .bf16) (c : Dev nD) : Vec F S64x128 .f32 := (k0_pay143 (aggrR (avOf xs) c 1 0) (wbF ws c))
def O67 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO67 c) (P67 xs ws c) (O66 xs ws c f0)
def V2396 (xs : Dev nD → Vec F S256x4096 .bf16) (ws : Dev nD → Vec F S4096x128 .bf16) (c : Dev nD) : F .f32 := k0_pay144 (V2368 xs ws c) (aggrR (avOf xs) c 1 0) (wbF ws c)
def V2408 (xs : Dev nD → Vec F S256x4096 .bf16) (ws : Dev nD → Vec F S4096x128 .bf16) (c : Dev nD) : FVec F S64x128 .f32 := k0_pay145 (aggrR (avOf xs) c 1 1) (wbF ws c)
abbrev rO68 (c : Dev nD) : Rect S4096x128 := (Rect.unit (s := S4096x128) (k0_off7 c 8#32 1#32) S64x128.size (k0_off7_inb c 1 1))
def P68 (xs : Dev nD → Vec F S256x4096 .bf16) (ws : Dev nD → Vec F S4096x128 .bf16) (c : Dev nD) : Vec F S64x128 .f32 := (V2408 xs ws c)
def O68 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO68 c) (P68 xs ws c) (O67 xs ws c f0)
abbrev rO69 (c : Dev nD) : Rect S4096x128 := (Rect.unit (s := S4096x128) (k0_off7 c 8#32 2#32) S64x128.size (k0_off7_inb c 1 2))
def P69 (xs : Dev nD → Vec F S256x4096 .bf16) (ws : Dev nD → Vec F S4096x128 .bf16) (c : Dev nD) : Vec F S64x128 .f32 := (k0_pay146 (aggrR (avOf xs) c 1 2) (wbF ws c))
def O69 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO69 c) (P69 xs ws c) (O68 xs ws c f0)
def V2434 (xs : Dev nD → Vec F S256x4096 .bf16) (ws : Dev nD → Vec F S4096x128 .bf16) (c : Dev nD) : F .f32 := k0_pay147 (V2396 xs ws c) (V2408 xs ws c) (aggrR (avOf xs) c 1 2) (wbF ws c)
def V2440 (xs : Dev nD → Vec F S256x4096 .bf16) (ws : Dev nD → Vec F S4096x128 .bf16) (c : Dev nD) : FVec F S64x4096 .bf16 := k0_pay148 (aggrR (avOf xs) c 1 3)
abbrev rO70 (c : Dev nD) : Rect S4096x128 := (Rect.unit (s := S4096x128) (k0_off7 c 8#32 3#32) S64x128.size (k0_off7_inb c 1 3))
def P70 (xs : Dev nD → Vec F S256x4096 .bf16) (ws : Dev nD → Vec F S4096x128 .bf16) (c : Dev nD) : Vec F S64x128 .f32 := (k0_pay149 (V2440 xs ws c) (wbF ws c))
def O70 (xs : Dev nD → Vec F S256x4096 .bf16) (ws : Dev nD → Vec F S4096x128 .bf16) (c : Dev nD) (f0 : (cc0_stg2_0 : Ref sig .tc).ty.Contents (Elt F)) : (cc0_stg2_0 : Ref sig .tc).ty.Contents (Elt F) := put (rO70 c) (P70 xs ws c) (O69 xs ws c f0)
def V2453 (xs : Dev nD → Vec F S256x4096 .bf16) (ws : Dev nD → Vec F S4096x128 .bf16) (c : Dev nD) : F .f32 := k0_pay150 (V2434 xs ws c) (V2440 xs ws c) (wbF ws c)
/-- The tile that carries a device's own maximum. -/
def maOf (xs : Dev nD → Vec F S256x4096 .bf16) (ws : Dev nD → Vec F S4096x128 .bf16) (c : Dev nD) : Vec F S1x8x128 .f32 := k0_pay151 (V2453 xs ws c)
def V3027 (xs : Dev nD → Vec F S256x4096 .bf16) (ws : Dev nD → Vec F S4096x128 .bf16) (c : Dev nD) : F .f32 := k0_pay152 (V2453 xs ws c) (amR (maOf xs ws) c 0) (amR (maOf xs ws) c 1)
def V3044 (xs : Dev nD → Vec F S256x4096 .bf16) (ws : Dev nD → Vec F S4096x128 .bf16) (c : Dev nD) : F .f32 := k0_pay153 (V3027 xs ws c) (amR (maOf xs ws) c 2)
def V3078 (xs : Dev nD → Vec F S256x4096 .bf16) (ws : Dev nD → Vec F S4096x128 .bf16) (c : Dev nD) : F .f32 := k0_pay154 (V3044 xs ws c) (amR (maOf xs ws) c 3) (amR (maOf xs ws) c 4)
def V3095 (xs : Dev nD → Vec F S256x4096 .bf16) (ws : Dev nD → Vec F S4096x128 .bf16) (c : Dev nD) : F .f32 := k0_pay155 (V3078 xs ws c) (amR (maOf xs ws) c 5)
def V3129 (xs : Dev nD → Vec F S256x4096 .bf16) (ws : Dev nD → Vec F S4096x128 .bf16) (c : Dev nD) : F .f32 := k0_pay156 (V3095 xs ws c) (amR (maOf xs ws) c 6) (amR (maOf xs ws) c 7)
def V3146 (xs : Dev nD → Vec F S256x4096 .bf16) (ws : Dev nD → Vec F S4096x128 .bf16) (c : Dev nD) : F .f32 := k0_pay157 (V3129 xs ws c) (amR (maOf xs ws) c 8)
def V3180 (xs : Dev nD → Vec F S256x4096 .bf16) (ws : Dev nD → Vec F S4096x128 .bf16) (c : Dev nD) : F .f32 := k0_pay158 (V3146 xs ws c) (amR (maOf xs ws) c 9) (amR (maOf xs ws) c 10)
def V3197 (xs : Dev nD → Vec F S256x4096 .bf16) (ws : Dev nD → Vec F S4096x128 .bf16) (c : Dev nD) : F .f32 := k0_pay159 (V3180 xs ws c) (amR (maOf xs ws) c 11)
def V3214 (xs : Dev nD → Vec F S256x4096 .bf16) (ws : Dev nD → Vec F S4096x128 .bf16) (c : Dev nD) : F .f32 := k0_pay160 (V3197 xs ws c) (amR (maOf xs ws) c 12)
def V3229 (xs : Dev nD → Vec F S256x4096 .bf16) (ws : Dev nD → Vec F S4096x128 .bf16) (c : Dev nD) : Vec F S1x1x1 .f32 := (amR (maOf xs ws) c 13)
def V3260 (xs : Dev nD → Vec F S256x4096 .bf16) (ws : Dev nD → Vec F S4096x128 .bf16) (c : Dev nD) (f0 : (cc0_stg2_0 : Ref sig .tc).ty.Contents (Elt F)) : FVec F S4096x128 .f32 := k0_pay161 (V3214 xs ws c) (V3229 xs ws c) (amR (maOf xs ws) c 14) (outM.view.readAt (Elt F) rAll.toLoadRect (O70 xs ws c f0))

/-- What every device contributes. -/
abbrev XS (xs : Dev nD → Vec F S256x4096 .bf16) (ws : Dev nD → Vec F S4096x128 .bf16) : Src F := ⟨cvOf xs, avOf xs, maOf xs ws⟩

end Cert.KernelIdealProof
-- ==== Proof.Pre.lean ====
/-
# The devices the copies name, and the end of a part
-/
module

public import proofs.«01_k».proof.Proof.Vals

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

theorem dev5 : ∀ c : Dev nD, (⟨k0_dev5 c, k0_dev5_lt c⟩ : Dev nD) = tgt (.a1 0) c := by decide +kernel
theorem dev6 : ∀ c : Dev nD, (⟨k0_dev6 c, k0_dev6_lt c⟩ : Dev nD) = tgt (.a1 2) c := by decide +kernel
theorem dev7 : ∀ c : Dev nD, (⟨k0_dev7 c, k0_dev7_lt c⟩ : Dev nD) = tgt (.cwA 0 0) c := by decide +kernel
theorem dev8 : ∀ c : Dev nD, (⟨k0_dev8 c, k0_dev8_lt c⟩ : Dev nD) = tgt (.ccwA 0 0) c := by decide +kernel
theorem dev9 : ∀ c : Dev nD, (⟨k0_dev9 c, k0_dev9_lt c⟩ : Dev nD) = tgt (.cwA 0 1) c := by decide +kernel
theorem dev10 : ∀ c : Dev nD, (⟨k0_dev10 c, k0_dev10_lt c⟩ : Dev nD) = tgt (.ccwA 0 1) c := by decide +kernel
theorem dev11 : ∀ c : Dev nD, (⟨k0_dev11 c, k0_dev11_lt c⟩ : Dev nD) = tgt (.bcw 0) c := by decide +kernel
theorem dev12 : ∀ c : Dev nD, (⟨k0_dev12 c, k0_dev12_lt c⟩ : Dev nD) = tgt (.bccw 0) c := by decide +kernel
theorem dev13 : ∀ c : Dev nD, (⟨k0_dev13 c, k0_dev13_lt c⟩ : Dev nD) = tgt (.cwB 0 0 0) c := by decide +kernel
theorem dev14 : ∀ c : Dev nD, (⟨k0_dev14 c, k0_dev14_lt c⟩ : Dev nD) = tgt (.ccwB 0 0 0) c := by decide +kernel
theorem dev15 : ∀ c : Dev nD, (⟨k0_dev15 c, k0_dev15_lt c⟩ : Dev nD) = tgt (.cwB 0 0 1) c := by decide +kernel
theorem dev16 : ∀ c : Dev nD, (⟨k0_dev16 c, k0_dev16_lt c⟩ : Dev nD) = tgt (.ccwB 0 0 1) c := by decide +kernel
theorem dev17 : ∀ c : Dev nD, (⟨k0_dev17 c, k0_dev17_lt c⟩ : Dev nD) = tgt (.bcw 1) c := by decide +kernel
theorem dev18 : ∀ c : Dev nD, (⟨k0_dev18 c, k0_dev18_lt c⟩ : Dev nD) = tgt (.bccw 1) c := by decide +kernel
theorem dev19 : ∀ c : Dev nD, (⟨k0_dev19 c, k0_dev19_lt c⟩ : Dev nD) = tgt (.cwB 0 1 0) c := by decide +kernel
theorem dev20 : ∀ c : Dev nD, (⟨k0_dev20 c, k0_dev20_lt c⟩ : Dev nD) = tgt (.ccwB 0 1 0) c := by decide +kernel
theorem dev21 : ∀ c : Dev nD, (⟨k0_dev21 c, k0_dev21_lt c⟩ : Dev nD) = tgt (.cwB 0 1 1) c := by decide +kernel
theorem dev22 : ∀ c : Dev nD, (⟨k0_dev22 c, k0_dev22_lt c⟩ : Dev nD) = tgt (.ccwB 0 1 1) c := by decide +kernel
theorem dev23 : ∀ c : Dev nD, (⟨k0_dev23 c, k0_dev23_lt c⟩ : Dev nD) = tgt (.bcw 2) c := by decide +kernel
theorem dev24 : ∀ c : Dev nD, (⟨k0_dev24 c, k0_dev24_lt c⟩ : Dev nD) = tgt (.bccw 2) c := by decide +kernel
theorem dev25 : ∀ c : Dev nD, (⟨k0_dev25 c, k0_dev25_lt c⟩ : Dev nD) = tgt (.a1 1) c := by decide +kernel
theorem dev26 : ∀ c : Dev nD, (⟨k0_dev26 c, k0_dev26_lt c⟩ : Dev nD) = tgt (.cwA 1 0) c := by decide +kernel
theorem dev27 : ∀ c : Dev nD, (⟨k0_dev27 c, k0_dev27_lt c⟩ : Dev nD) = tgt (.ccwA 1 0) c := by decide +kernel
theorem dev28 : ∀ c : Dev nD, (⟨k0_dev28 c, k0_dev28_lt c⟩ : Dev nD) = tgt (.cwA 1 1) c := by decide +kernel
theorem dev29 : ∀ c : Dev nD, (⟨k0_dev29 c, k0_dev29_lt c⟩ : Dev nD) = tgt (.ccwA 1 1) c := by decide +kernel
theorem dev30 : ∀ c : Dev nD, (⟨k0_dev30 c, k0_dev30_lt c⟩ : Dev nD) = tgt (.b2A 0) c := by decide +kernel
theorem dev31 : ∀ c : Dev nD, (⟨k0_dev31 c, k0_dev31_lt c⟩ : Dev nD) = tgt (.b2A 1) c := by decide +kernel
theorem dev32 : ∀ c : Dev nD, (⟨k0_dev32 c, k0_dev32_lt c⟩ : Dev nD) = tgt (.cwB 1 0 0) c := by decide +kernel
theorem dev33 : ∀ c : Dev nD, (⟨k0_dev33 c, k0_dev33_lt c⟩ : Dev nD) = tgt (.ccwB 1 0 0) c := by decide +kernel
theorem dev34 : ∀ c : Dev nD, (⟨k0_dev34 c, k0_dev34_lt c⟩ : Dev nD) = tgt (.cwB 1 0 1) c := by decide +kernel
theorem dev35 : ∀ c : Dev nD, (⟨k0_dev35 c, k0_dev35_lt c⟩ : Dev nD) = tgt (.ccwB 1 0 1) c := by decide +kernel
theorem dev36 : ∀ c : Dev nD, (⟨k0_dev36 c, k0_dev36_lt c⟩ : Dev nD) = tgt (.cwB 1 1 0) c := by decide +kernel
theorem dev37 : ∀ c : Dev nD, (⟨k0_dev37 c, k0_dev37_lt c⟩ : Dev nD) = tgt (.ccwB 1 1 0) c := by decide +kernel
theorem dev38 : ∀ c : Dev nD, (⟨k0_dev38 c, k0_dev38_lt c⟩ : Dev nD) = tgt (.cwB 1 1 1) c := by decide +kernel
theorem dev39 : ∀ c : Dev nD, (⟨k0_dev39 c, k0_dev39_lt c⟩ : Dev nD) = tgt (.ccwB 1 1 1) c := by decide +kernel
theorem dev40 : ∀ c : Dev nD, (⟨k0_dev40 c, k0_dev40_lt c⟩ : Dev nD) = tgt (.cwA 2 0) c := by decide +kernel
theorem dev41 : ∀ c : Dev nD, (⟨k0_dev41 c, k0_dev41_lt c⟩ : Dev nD) = tgt (.ccwA 2 0) c := by decide +kernel
theorem dev42 : ∀ c : Dev nD, (⟨k0_dev42 c, k0_dev42_lt c⟩ : Dev nD) = tgt (.cwA 2 1) c := by decide +kernel
theorem dev43 : ∀ c : Dev nD, (⟨k0_dev43 c, k0_dev43_lt c⟩ : Dev nD) = tgt (.ccwA 2 1) c := by decide +kernel
theorem dev44 : ∀ c : Dev nD, (⟨k0_dev44 c, k0_dev44_lt c⟩ : Dev nD) = tgt (.cwB 2 0 0) c := by decide +kernel
theorem dev45 : ∀ c : Dev nD, (⟨k0_dev45 c, k0_dev45_lt c⟩ : Dev nD) = tgt (.ccwB 2 0 0) c := by decide +kernel
theorem dev46 : ∀ c : Dev nD, (⟨k0_dev46 c, k0_dev46_lt c⟩ : Dev nD) = tgt (.cwB 2 0 1) c := by decide +kernel
theorem dev47 : ∀ c : Dev nD, (⟨k0_dev47 c, k0_dev47_lt c⟩ : Dev nD) = tgt (.ccwB 2 0 1) c := by decide +kernel
theorem dev48 : ∀ c : Dev nD, (⟨k0_dev48 c, k0_dev48_lt c⟩ : Dev nD) = tgt (.cwB 2 1 0) c := by decide +kernel
theorem dev49 : ∀ c : Dev nD, (⟨k0_dev49 c, k0_dev49_lt c⟩ : Dev nD) = tgt (.ccwB 2 1 0) c := by decide +kernel
theorem dev50 : ∀ c : Dev nD, (⟨k0_dev50 c, k0_dev50_lt c⟩ : Dev nD) = tgt (.cwB 2 1 1) c := by decide +kernel
theorem dev51 : ∀ c : Dev nD, (⟨k0_dev51 c, k0_dev51_lt c⟩ : Dev nD) = tgt (.ccwB 2 1 1) c := by decide +kernel
theorem dev52 : ∀ c : Dev nD, (⟨k0_dev52 c, k0_dev52_lt c⟩ : Dev nD) = tgt (.cwA 3 0) c := by decide +kernel
theorem dev53 : ∀ c : Dev nD, (⟨k0_dev53 c, k0_dev53_lt c⟩ : Dev nD) = tgt (.ccwA 3 0) c := by decide +kernel
theorem dev54 : ∀ c : Dev nD, (⟨k0_dev54 c, k0_dev54_lt c⟩ : Dev nD) = tgt (.cwA 3 1) c := by decide +kernel
theorem dev55 : ∀ c : Dev nD, (⟨k0_dev55 c, k0_dev55_lt c⟩ : Dev nD) = tgt (.ccwA 3 1) c := by decide +kernel
theorem dev56 : ∀ c : Dev nD, (⟨k0_dev56 c, k0_dev56_lt c⟩ : Dev nD) = tgt (.b2B) c := by decide +kernel
theorem dev57 : ∀ c : Dev nD, (⟨k0_dev57 c, k0_dev57_lt c⟩ : Dev nD) = tgt (.cwB 3 0 0) c := by decide +kernel
theorem dev58 : ∀ c : Dev nD, (⟨k0_dev58 c, k0_dev58_lt c⟩ : Dev nD) = tgt (.ccwB 3 0 0) c := by decide +kernel
theorem dev59 : ∀ c : Dev nD, (⟨k0_dev59 c, k0_dev59_lt c⟩ : Dev nD) = tgt (.cwB 3 0 1) c := by decide +kernel
theorem dev60 : ∀ c : Dev nD, (⟨k0_dev60 c, k0_dev60_lt c⟩ : Dev nD) = tgt (.ccwB 3 0 1) c := by decide +kernel
theorem dev61 : ∀ c : Dev nD, (⟨k0_dev61 c, k0_dev61_lt c⟩ : Dev nD) = tgt (.cwB 3 1 0) c := by decide +kernel
theorem dev62 : ∀ c : Dev nD, (⟨k0_dev62 c, k0_dev62_lt c⟩ : Dev nD) = tgt (.ccwB 3 1 0) c := by decide +kernel
theorem dev63 : ∀ c : Dev nD, (⟨k0_dev63 c, k0_dev63_lt c⟩ : Dev nD) = tgt (.cwB 3 1 1) c := by decide +kernel
theorem dev64 : ∀ c : Dev nD, (⟨k0_dev64 c, k0_dev64_lt c⟩ : Dev nD) = tgt (.ccwB 3 1 1) c := by decide +kernel
theorem dev65 : ∀ c : Dev nD, (⟨k0_dev65 c, k0_dev65_lt c⟩ : Dev nD) = tgt (.ax 0) c := by decide +kernel
theorem dev66 : ∀ c : Dev nD, (⟨k0_dev66 c, k0_dev66_lt c⟩ : Dev nD) = tgt (.ax 1) c := by decide +kernel
theorem dev67 : ∀ c : Dev nD, (⟨k0_dev67 c, k0_dev67_lt c⟩ : Dev nD) = tgt (.ax 2) c := by decide +kernel
theorem dev68 : ∀ c : Dev nD, (⟨k0_dev68 c, k0_dev68_lt c⟩ : Dev nD) = tgt (.ax 3) c := by decide +kernel
theorem dev69 : ∀ c : Dev nD, (⟨k0_dev69 c, k0_dev69_lt c⟩ : Dev nD) = tgt (.ax 4) c := by decide +kernel
theorem dev70 : ∀ c : Dev nD, (⟨k0_dev70 c, k0_dev70_lt c⟩ : Dev nD) = tgt (.ax 5) c := by decide +kernel
theorem dev71 : ∀ c : Dev nD, (⟨k0_dev71 c, k0_dev71_lt c⟩ : Dev nD) = tgt (.ax 6) c := by decide +kernel
theorem dev72 : ∀ c : Dev nD, (⟨k0_dev72 c, k0_dev72_lt c⟩ : Dev nD) = tgt (.ax 7) c := by decide +kernel
theorem dev73 : ∀ c : Dev nD, (⟨k0_dev73 c, k0_dev73_lt c⟩ : Dev nD) = tgt (.ax 8) c := by decide +kernel
theorem dev74 : ∀ c : Dev nD, (⟨k0_dev74 c, k0_dev74_lt c⟩ : Dev nD) = tgt (.ax 9) c := by decide +kernel
theorem dev75 : ∀ c : Dev nD, (⟨k0_dev75 c, k0_dev75_lt c⟩ : Dev nD) = tgt (.ax 10) c := by decide +kernel
theorem dev76 : ∀ c : Dev nD, (⟨k0_dev76 c, k0_dev76_lt c⟩ : Dev nD) = tgt (.ax 11) c := by decide +kernel
theorem dev77 : ∀ c : Dev nD, (⟨k0_dev77 c, k0_dev77_lt c⟩ : Dev nD) = tgt (.ax 12) c := by decide +kernel
theorem dev78 : ∀ c : Dev nD, (⟨k0_dev78 c, k0_dev78_lt c⟩ : Dev nD) = tgt (.ax 13) c := by decide +kernel
theorem dev79 : ∀ c : Dev nD, (⟨k0_dev79 c, k0_dev79_lt c⟩ : Dev nD) = tgt (.ax 14) c := by decide +kernel

abbrev xM : Memref sig .tc .vmem S256x4096 .bf16 := Memref.whole cc0_stg0_0

theorem done {α : Type} (c : Dev nD) {A : sProp 𝕄} {Q : α → sProp 𝕄} {v : α} (h : A ⊢ Q v) : A ⊢ WP c (.ret v) Q := by
  refine h.trans ?_
  unfold WP
  rw [wp_ret]
  iintro H
  imodintro
  iexact H

theorem w_all (g : (cc0_stg1_0 : Ref sig .tc).ty.Contents (Elt F)) : wM.view.readAt (Elt F) rAll.toLoadRect g = g :=
  Memref.readAt_unit_zero (Elt F) cc0_stg1_0 (funext fun a => by fin_cases a <;> rfl) _ g

/-- Reading a device's block of the weights. -/
theorem ld_w {α : Type} (c : Dev nD) {Q : α → sProp 𝕄} {R T : sProp 𝕄} {g f} (w : (cc0_stg1_0 : Ref sig .tc).ty.Contents (Elt F)) {hl : wM.view.LoadsAt rAll.toLoadRect} {k : Vec F S4096x128 .bf16 → Prog (TpuEff nD τ sig (Elt F) Λ₀ .tc) α}
    (h : iprop(WO (iprop((((c : Thread nD τ).loc cc0_stg1_0) ↦{fullShare} w) ∗ R)) c g f ∗ T) ⊢ WP c (k w) Q) :
    iprop(WO (iprop((((c : Thread nD τ).loc cc0_stg1_0) ↦{fullShare} w) ∗ R)) c g f ∗ T) ⊢ WP c (.op (.load wM rAll.toLoadRect hl) k) Q := by
  refine with_rest h ?_
  iintro ⟨Hk, ⟨Hg, Ho, Hw, HR⟩, HT⟩
  iapply (wp_load 𝒱₀ (c : Thread nD τ) none Set.univ (m := wM) (r := rAll.toLoadRect) (S := Finset.univ) (Finset.subset_univ _)) $$ Hw
  iintro Hw
  rw [w_all]
  iapply Hk
  isplitr [HT]
  · isplitl [Hg]; · iexact Hg
    isplitl [Ho]; · iexact Ho
    isplitl [Hw] <;> iassumption
  iexact HT

end Cert.KernelIdealProof
-- ==== Proof.Start.lean ====
/-
# From the launch to the first step, and after the last
-/
module

public import proofs.«01_k».proof.Proof.Pre

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

/-! ## The pieces dealt out -/

theorem to_emp {A : sProp 𝕄} : A ⊢ iprop(emp) := by iintro -; iempintro
theorem with_emp {A : sProp 𝕄} : A ⊢ iprop(A ∗ emp) := by
  iintro H
  isplitl [H]; · iexact H
  iempintro

/-- Disjoint sets of members: what all hold, the sets hold. -/
theorem deal {I J : Type} [Fintype I] [DecidableEq I] [Fintype J] [DecidableEq J] (f : J → Finset I) (hf : ∀ j j', (∃ i, i ∈ f j ∧ i ∈ f j') → j = j') (Φ : I → sProp 𝕄) :
    bigSep Finset.univ Φ ⊢ bigSep Finset.univ fun j => bigSep (f j) Φ := by
  rw [← bigSep_biUnion_eq Finset.univ f (Φ) fun j _ j' _ h => Finset.disjoint_left.mpr fun i hi hi' => h (hf j j' ⟨i, hi, hi'⟩)]
  rw [show bigSep Finset.univ Φ = iprop(bigSep (Finset.univ.biUnion f) Φ ∗ bigSep (Finset.univ \ Finset.univ.biUnion f) Φ) from bigSep_sdiff_split (Finset.subset_univ _)]
  iintro ⟨H, -⟩; iexact H

/-- The neighbour as seen from a neighbour. -/
abbrev opp : Fin 4 → Fin 4 := ![1, 0, 3, 2]
theorem opp_opp : ∀ b, opp (opp b) = b := by decide
theorem nb_opp : ∀ b c, nb (opp b) (nb b c) = c := by decide +kernel

abbrev placeF (c : Dev nD) : Cp ⊕ (Fin 3 ⊕ Dl) → Finset Pc
  | .inl κ => if cls κ = none then ∅ else dp κ
  | .inr (.inl g) => stg g
  | .inr (.inr e) => if e = (0, 0) then ∅ else {.am (slot e c)}

theorem dp_stg : ∀ κ g, ¬ ∃ p ∈ dp κ, p ∈ stg g := by decide +kernel
theorem dp_am : ∀ κ, cls κ ≠ none → ∀ s : Fin 16, Pc.am s ∉ dp κ := by decide +kernel
theorem stg_am : ∀ g, ∀ s : Fin 16, s ≠ 15 → Pc.am s ∉ stg g := by decide +kernel
theorem stg_unique : ∀ g g', (∃ p ∈ stg g, p ∈ stg g') → g = g' := by decide +kernel

theorem slot_ne (c : Dev nD) (e : Dl) (h : e ≠ (0, 0)) : slot e c ≠ 15 := fun h' => h (slot_inj c _ _ (h'.trans (slot_zero c).symm))

theorem placeF_inj (c : Dev nD) : ∀ j j', (∃ i, i ∈ placeF c j ∧ i ∈ placeF c j') → j = j' := by
  have hd {κ : Cp} {p : Pc} (h : p ∈ (if cls κ = none then ∅ else dp κ)) : cls κ ≠ none ∧ p ∈ dp κ := by
    split at h
    · exact absurd h (Finset.notMem_empty _)
    · exact ⟨by assumption, h⟩
  have he {e : Dl} {p : Pc} (h : p ∈ (if e = (0, 0) then ∅ else ({.am (slot e c)} : Finset Pc))) : e ≠ (0, 0) ∧ p = .am (slot e c) := by
    split at h
    · exact absurd h (Finset.notMem_empty _)
    · exact ⟨by assumption, Finset.mem_singleton.mp h⟩
  rintro (κ | g | e) (κ' | g' | e') ⟨p, h, h'⟩
  · exact congrArg _ (dp_unique κ κ' ⟨p, (hd h).2, (hd h').2⟩)
  · exact absurd ⟨p, (hd h).2, h'⟩ (dp_stg κ g')
  · obtain ⟨-, rfl⟩ := he h'
    exact absurd (hd h).2 (dp_am κ (hd h).1 _)
  · exact absurd ⟨p, (hd h').2, h⟩ (dp_stg κ' g)
  · exact congrArg (fun x => Sum.inr (Sum.inl x)) (stg_unique g g' ⟨p, h, h'⟩)
  · obtain ⟨hne, rfl⟩ := he h'
    exact absurd h (stg_am g _ (slot_ne c _ hne))
  · obtain ⟨-, rfl⟩ := he h
    exact absurd (hd h').2 (dp_am κ' (hd h').1 _)
  · obtain ⟨hne, rfl⟩ := he h
    exact absurd h' (stg_am g' _ (slot_ne c _ hne))
  · obtain ⟨hne, rfl⟩ := he h
    obtain ⟨hne', e'⟩ := he h'
    exact congrArg (fun x => Sum.inr (Sum.inr x)) (slot_inj c _ _ (Pc.am.inj e'))

theorem bar_out (c : Dev nD) :
    bigSep Finset.univ (fun κ => bigSep (if cls κ = none then ∅ else dp κ) (Rw (F := F) c))
      ⊢ bigSep Finset.univ fun b : Fin 4 => barPay (F := F) (nb b c) (opp b) := by
  have e : (fun b : Fin 4 => barPay (F := F) (nb b c) (opp b))
      = fun b => bigSep Finset.univ fun κ => if cls κ = some (opp b) then Lp κ (nb b c) else iprop(emp) := by
    funext b; unfold barPay; rw [bigSep_filter]; rfl
  rw [e, bigSep_univ_comm]
  refine bigSep_mono fun κ _ => ?_
  rcases h : cls κ with _ | b0
  · rw [if_pos rfl, bigSep_empty]; exact Entails.of_eq (emps (I := Fin 4) _ fun b _ => if_neg (fun h' => by cases h')).symm
  · rw [if_neg (fun h' => by cases h')]
    have key : bigSep (dp κ) (Rw (F := F) c) = (if some b0 = some (opp (opp b0)) then Lp κ (nb (opp b0) c) else iprop(emp)) := by
      rw [opp_opp, if_pos rfl]
      unfold Lp
      rw [cls_tgt κ b0 _ h, ← show nb (opp (opp b0)) (nb (opp b0) c) = nb b0 (nb (opp b0) c) from by rw [opp_opp], nb_opp]
    rw [key, bigSep_univ_at (fun b => if some b0 = some (opp b) then Lp (F := F) κ (nb b c) else iprop(emp)) (opp b0)]
    rw [emps (I := Fin 4) (Finset.univ.erase (opp b0)) fun b hb => if_neg fun h' => (Finset.mem_erase.mp hb).1 (by rw [Option.some.inj h', opp_opp])]
    exact with_emp

theorem bar_in (c : Dev nD) :
    bigSep Finset.univ (barPay (F := F) c) ⊢ bigSep Finset.univ fun κ => if cls κ = none then iprop(emp) else Lp (F := F) κ c := by
  have e : barPay (F := F) c = fun b => bigSep Finset.univ fun κ => if cls κ = some b then Lp κ c else iprop(emp) := by
    funext b; unfold barPay; rw [bigSep_filter]; rfl
  rw [e, bigSep_univ_comm]
  refine bigSep_mono fun κ _ => ?_
  rcases h : cls κ with _ | b0
  · rw [if_pos rfl]; exact to_emp
  · rw [if_neg (fun h' => by cases h')]
    refine (bigSep_elim (Finset.mem_univ b0)).trans ?_
    rw [if_pos rfl]
    exact BI.Entails.refl _

theorem pm_start (c : Dev nD) :
    bigSep Finset.univ (fun e : Dl => bigSep (if e = (0, 0) then ∅ else {.am (slot e c)}) (Rw (F := F) c)) ⊢ bigSep Finset.univ (pmAt (F := F) c 1) := by
  rw [bigSep_univ_prod (pmAt (F := F) c 1)]
  refine bigSep_mono fun e _ => ?_
  have hno (x2 : Dl) (h : e = (0, 0) ∨ x2 ≠ (0, 0)) : pmAt (F := F) c 1 (e, x2) = iprop(emp) := by
    unfold pmAt
    refine if_neg ?_
    rintro ⟨(⟨h1, h2⟩ | ⟨κ, h1, h2, h3⟩), -⟩
    · rcases h with h | h
      · exact h2 h
      · exact h h1
    · have := (tR_end κ).1; omega
  by_cases he : e = (0, 0)
  · rw [if_pos he, bigSep_empty]; exact Entails.of_eq (emps (I := Dl) _ fun x2 _ => hno x2 (Or.inl he)).symm
  · rw [if_neg he, bigSep_singleton, bigSep_univ_at (fun x2 => pmAt (F := F) c 1 (e, x2)) (0, 0),
      emps (I := Dl) (Finset.univ.erase (0, 0)) fun x2 h2 => hno x2 (Or.inr (Finset.mem_erase.mp h2).1)]
    have h1 : Rw (F := F) c (.am (slot e c)) ⊢ pmAt (F := F) c 1 (e, (0, 0)) := by
      unfold pmAt
      split
      · rw [subD_zero]; unfold Pm; exact BI.Entails.refl _
      · exact to_emp
    exact h1.trans with_emp

theorem raw_start (c : Dev nD) : bigSep Finset.univ (fun g => bigSep (stg g) (Rw (F := F) c)) = bigSep Finset.univ (rawAt (F := F) c 1) :=
  bigSep_congr fun g _ => by unfold rawAt; exact (if_pos (tG_end g).1).symm

/-- A device's buffers dealt out: what its neighbours' copies land in, what it stages, its permits. -/
theorem pieces_start (c : Dev nD) :
    bigSep Finset.univ (Rw (F := F) c)
      ⊢ iprop((bigSep Finset.univ fun b : Fin 4 => barPay (F := F) (nb b c) (opp b)) ∗ bigSep Finset.univ (rawAt (F := F) c 1) ∗ bigSep Finset.univ (pmAt (F := F) c 1)) := by
  refine (deal (placeF c) (placeF_inj c) (Rw c)).trans ?_
  rw [bigSep_univ_sum, bigSep_univ_sum]
  refine BI.sep_mono (bar_out c) (BI.sep_mono (Entails.of_eq (raw_start c)) (pm_start c))

theorem item_start (X : Src F) (c : Dev nD) : bigSep Finset.univ (itemAt X c 1) = iprop(emp) := by
  refine emps (I := Pc × Option (Fin 15)) _ fun x _ => ?_
  unfold itemAt
  refine if_neg fun h => ?_
  have h1 := h.1
  rcases piece_from x.1 with ⟨κ, hκ⟩ | ⟨g, hg⟩
  · rw [tB_dp κ _ hκ] at h1; have := (tR_end κ).1; omega
  · rw [tB_stg g _ hg] at h1; have := (tG_end g).1; omega

theorem assoc4 {A B C D : sProp 𝕄} : iprop((A ∗ B ∗ C) ∗ D) ⊢ iprop(A ∗ B ∗ C ∗ D) := by
  iintro ⟨⟨H1, H2, H3⟩, H4⟩
  isplitl [H1]; · iexact H1
  isplitl [H2]; · iexact H2
  isplitl [H3] <;> iassumption

/-- What a device has of the semaphores at its launch, and what it owes. -/
def tokens (c : Dev nD) : sProp 𝕄 :=
  iprop((bigSep Finset.univ fun κ => iprop(atPos ER (sndCell κ c) 0 ∅ 0 ∗ dutyTok ER (sndCell κ c) 0 0 ∗ dutyTok ER (rcvCell κ (tgt κ c)) 0 0))
    ∗ bigSep Finset.univ fun κ => iprop(atPos ER (rcvCell κ c) 0 ∅ 0 ∗ cred (tallyAt (rcvCell κ c) () (cr κ))))

theorem st_start (X : Src F) (K : Dev nD × CI → ℕ) (c : Dev nD) (W : Waits sig Unit) :
    iprop(records X K ∗ tokens c ∗ bigSep Finset.univ (barPay (F := F) c) ∗ bigSep Finset.univ (rawAt (F := F) c 1) ∗ bigSep Finset.univ (pmAt (F := F) c 1)
        ∗ owes (c : Thread nD τ) (Ow c 1) W) ⊢ St X K c 1 := by
  have hs : iprop((bigSep Finset.univ fun κ => iprop(atPos ER (sndCell κ c) 0 ∅ 0 ∗ dutyTok ER (sndCell κ c) 0 0 ∗ dutyTok ER (rcvCell κ (tgt κ c)) 0 0))
      ∗ bigSep Finset.univ fun κ => if cls κ = none then iprop(emp) else Lp (F := F) κ c) ⊢ bigSep Finset.univ (sndAt (F := F) c 1) := by
    rw [← bigSep_sep']
    refine bigSep_mono fun κ _ => ?_
    unfold sndAt
    rw [if_pos (show 1 ≤ tS κ from (tS_end κ).1)]
    exact assoc4
  have hr : (bigSep Finset.univ fun κ => iprop(atPos ER (rcvCell κ c) 0 ∅ 0 ∗ cred (tallyAt (rcvCell κ c) () (cr κ)))) = bigSep Finset.univ (rcvAt (F := F) c 1) :=
    bigSep_congr fun κ _ => by unfold rcvAt; rw [if_pos (show 1 ≤ tR κ from (tR_end κ).1)]
  unfold St tokens
  rw [item_start, hr]
  iintro ⟨#Hrec, ⟨HS, HV⟩, HB, HW, HP, HO⟩
  isplitr; · iexact Hrec
  isplitl [HS HB]
  · iapply hs
    isplitl [HS]; · iexact HS
    iapply (bar_in c); iexact HB
  isplitl [HV]; · iexact HV
  isplitr; · iempintro
  isplitl [HW]; · iexact HW
  isplitl [HP]; · iexact HP
  iexists W; iexact HO

/-- After the last step: every semaphore at zero, every buffer back. -/
theorem st_end (X : Src F) (K : Dev nD × CI → ℕ) (c : Dev nD) :
    St X K c tEnd ⊢ iprop((bigSep Finset.univ fun κ => semVal (sndCell κ c) 0) ∗ (bigSep Finset.univ fun κ => semVal (rcvCell κ c) 0)
      ∗ bigSep Finset.univ (Rw (F := F) c) ∗ ∃ W, owes (c : Thread nD τ) 0 W) := by
  have hs : bigSep Finset.univ (sndAt (F := F) c tEnd) = bigSep Finset.univ fun κ => semVal (sndCell κ c) 0 :=
    bigSep_congr fun κ _ => by
      unfold sndAt
      rw [if_neg (by have := (tS_end κ).2; omega), if_neg (by have := (tW_end κ).2; omega)]
  have hr : bigSep Finset.univ (rcvAt (F := F) c tEnd) = bigSep Finset.univ fun κ => semVal (rcvCell κ c) 0 :=
    bigSep_congr fun κ _ => by
      unfold rcvAt
      rw [if_neg (by have := (tR_end κ).2; omega)]
  have hi : bigSep Finset.univ (itemAt X c tEnd) ⊢ bigSep Finset.univ (Rw (F := F) c) := by
    rw [bigSep_univ_prod (itemAt X c tEnd)]
    refine bigSep_mono fun p _ => ?_
    rw [bigSep_congr (s := Finset.univ) (Ψ := fun o => Pt X (Sh o) c p) fun o _ => ?_, ← Pt_shares]
    · exact Pt_Rw X c p
    · unfold itemAt
      refine if_pos ⟨?_, fun κ _ _ _ => (tW_end κ).2⟩
      rcases piece_from p with ⟨κ, hκ⟩ | ⟨g, hg⟩
      · rw [tB_dp κ _ hκ]; exact (tR_end κ).2
      · rw [tB_stg g _ hg]; exact (tG_end g).2
  unfold St
  rw [hs, hr, Ow_end]
  iintro ⟨-, HS, HV, HI, -, -, HO⟩
  isplitl [HS]; · iexact HS
  isplitl [HV]; · iexact HV
  isplitl [HI]; · iapply hi; iexact HI
  iexact HO

end Cert.KernelIdealProof
-- ==== Proof.First.lean ====
/-
# The barrier
-/
module

public import proofs.«01_k».proof.Proof.Start

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (xs : Dev nD → Vec F S256x4096 .bf16) (ws : Dev nD → Vec F S4096x128 .bf16) (K : Dev nD × CI → ℕ) (c : Dev nD) (f0 : (cc0_stg2_0 : Ref sig .tc).ty.Contents (Elt F))

theorem dev1 : ∀ c : Dev nD, (⟨k0_dev1 c, k0_dev1_lt c⟩ : Dev nD) = nb 0 c := by decide +kernel
theorem dev2 : ∀ c : Dev nD, (⟨k0_dev2 c, k0_dev2_lt c⟩ : Dev nD) = nb 1 c := by decide +kernel
theorem dev3 : ∀ c : Dev nD, (⟨k0_dev3 c, k0_dev3_lt c⟩ : Dev nD) = nb 2 c := by decide +kernel
theorem dev4 : ∀ c : Dev nD, (⟨k0_dev4 c, k0_dev4_lt c⟩ : Dev nD) = nb 3 c := by decide +kernel

theorem x_all (g : (cc0_stg0_0 : Ref sig .tc).ty.Contents (Elt F)) :
    xM.view.readAt (Elt F) (Rect.unit (s := S256x4096) ![0, 0] S256x4096.size inb_S256x4096_S256x4096_0_0).toLoadRect g = g :=
  Memref.readAt_unit_zero (Elt F) cc0_stg0_0 (funext fun a => by fin_cases a <;> rfl) _ g

/-- A device's two inputs as staged. -/
abbrev wPt (c : Dev nD) (w : (cc0_stg1_0 : Ref sig .tc).ty.Contents (Elt F)) : sProp 𝕄 := (((c : Thread nD τ).loc cc0_stg1_0) ↦{fullShare} w)
abbrev xPt (c : Dev nD) (x : (cc0_stg0_0 : Ref sig .tc).ty.Contents (Elt F)) : sProp 𝕄 := (((c : Thread nD τ).loc cc0_stg0_0) ↦{fullShare} x)

/-- What a device has for the barrier. -/
def barToks (c : Dev nD) : sProp 𝕄 :=
  iprop(atPos ER (barCell c) 0 ∅ 0 ∗ cred (tallyAt (barCell c) () 4) ∗ bigSep Finset.univ fun b : Fin 4 => dutyTok ER (barCell (nb b c)) 0 (opp b))

/-- A device's start: nothing done yet. -/
def St0 (X : Src F) (K : Dev nD × CI → ℕ) (c : Dev nD) : sProp 𝕄 :=
  iprop(records X K ∗ tokens c ∗ barToks c ∗ bigSep Finset.univ (Rw (F := F) c) ∗ ∃ W, owes (c : Thread nD τ) (O₀ c) W)

theorem four {Φ : Fin 4 → sProp 𝕄} : bigSep Finset.univ Φ = iprop(Φ 0 ∗ Φ 1 ∗ Φ 2 ∗ Φ 3) :=
  bigSep_univ_eq_bigSepL [0, 1, 2, 3] (by decide) (by decide) Φ

/-- One signal of the barrier. -/
theorem signal {α : Type} {Q : α → sProp 𝕄} (X : Src F) (b : Fin 4) {n : Dev nD} (hn : n = nb b c) (O O' : CellTallies nD τ sig Unit) (hO : O' = O + tallyAt (barCell (nb b c)) () 1) (W : Waits sig Unit)
    {k : PUnit.{1} → Prog (TpuEff nD τ sig (Elt F) Λ₀ .tc) α} :
    iprop(records X K ∗ owes (c : Thread nD τ) O' W ∗ dutyTok ER (barCell (nb b c)) 0 (opp b) ∗ barPay (F := F) (nb b c) (opp b))
      ⊢ iprop((owes (c : Thread nD τ) O W -∗ WP c (k ⟨⟩) Q) -∗ WP c (.op (.semSignal (n : Thread nD τ) barS 1) k) Q) := by
  subst hn
  refine BIBase.Entails.trans ?_ (Rounds.wp_signal 𝒱₀ ER (Rd X) (c : Thread nD τ) none (dst := (nb b c : Thread nD τ)) (κ := K (nb b c, .inl ())) (sem := barS) (W := W)
      (r := 0) (d := opp b) (by rw [duties_bar]; exact Finset.mem_univ _) (amount_bar X (nb b c) (opp b)) () O hO)
  iintro ⟨#Hrec, HO, Ht, Hp⟩
  isplitr; · iapply (inv_at X K (nb b c, .inl ())); iexact Hrec
  isplitl [HO]; · iexact HO
  isplitl [Ht]; · iexact Ht
  isplitl [Hp]; · rw [payload_bar]; iexact Hp
  iapply (reached_at X K (nb b c, .inl ())); iexact Hrec

set_option maxRecDepth 65536 in
theorem part1 {R : sProp 𝕄} {gw : (cc0_scratch5 : Ref sig .tc).ty.Contents (Elt F)} {Q : _ → sProp 𝕄}
    (h : ∀ r, r.1 = c → r.2.2.2.2.2.2.2.2.1 = V25 xs c → r.2.2.2.2.2.2.2.2.2 = V26 xs c →
      iprop(WO iprop(wPt c (ws c) ∗ xPt c (xs c) ∗ semVal (barCell c) 0 ∗ R) c gw f0 ∗ St (XS xs ws) K c 1) ⊢ Q r) :
    iprop(WO iprop(wPt c (ws c) ∗ xPt c (xs c) ∗ R) c gw f0 ∗ St0 (XS xs ws) K c) ⊢ WP c (k0_part1 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part1_eq_skeleton]
  unfold k0_part1_skel
  simp only [semSignalWord, semWaitWord, Prog.lift, Prog.bind_op, Prog.bind_ret, Prog.pure_eq_ret, wp_deviceId]
  unfold St0 barToks
  rw [four]
  iintro ⟨⟨Hg, Hf, Hw, Hx, HR⟩, #Hrec, HT, ⟨Hat, Hcr, Ht0, Ht1, Ht2, Ht3⟩, Hp, ⟨%W, HO⟩⟩
  ihave Hp := (pieces_start (F := F) c) $$ Hp
  icases Hp with ⟨Hb, HW, HP⟩
  ihave Hb := (Entails.of_eq (four (F := F))) $$ Hb
  icases Hb with ⟨Hb0, Hb1, Hb2, Hb3⟩
  iapply (signal K c (XS xs ws) 0 (dev1 c) (Ob c 3) (O₀ c) rfl W) $$ [HO Ht0 Hb0]
  · isplitr; · iexact Hrec
    isplitl [HO]; · iexact HO
    isplitl [Ht0]; · iexact Ht0
    iexact Hb0
  iintro HO
  iapply (signal K c (XS xs ws) 1 (dev2 c) (Ob c 2) (Ob c 3) rfl W) $$ [HO Ht1 Hb1]
  · isplitr; · iexact Hrec
    isplitl [HO]; · iexact HO
    isplitl [Ht1]; · iexact Ht1
    iexact Hb1
  iintro HO
  iapply (signal K c (XS xs ws) 2 (dev3 c) (Ob c 1) (Ob c 2) rfl W) $$ [HO Ht2 Hb2]
  · isplitr; · iexact Hrec
    isplitl [HO]; · iexact HO
    isplitl [Ht2]; · iexact Ht2
    iexact Hb2
  iintro HO
  iapply (signal K c (XS xs ws) 3 (dev4 c) (Ow c 1) (Ob c 1) rfl W) $$ [HO Ht3 Hb3]
  · isplitr; · iexact Hrec
    isplitl [HO]; · iexact HO
    isplitl [Ht3]; · iexact Ht3
    iexact Hb3
  iintro HO
  iapply (Rounds.wp_wait_rest_token 𝒱₀ ER (Rd (XS xs ws)) (c : Thread nD τ) none (κ := K (c, .inl ()))
      (wpE_semWait_eq 𝒱₀ (c : Thread nD τ) none Set.univ) (Set.mem_univ _) () (O := Ow c 1) (W := W) (R := 0) (m := 0) (T := ∅)
      (by rw [expect_bar]; decide)) $$ [Hcr HO Hat]
  · isplitr; · iapply (inv_at (XS xs ws) K (c, .inl ())); iexact Hrec
    isplitl [Hcr]; · iexact Hcr
    isplitl [HO]; · iexact HO
    isplitr; · iapply (mayWait_bar c); iapply (lev_at (XS xs ws) K); iexact Hrec
    iexact Hat
  iintro ⟨HO, Hat, -, Hpay⟩
  ihave Hpay := (Entails.of_eq (rest_bar (XS xs ws) c)) $$ Hpay
  imod (Rounds.cell_close ER (Rd (XS xs ws)) (Set.mem_univ (K (c, .inl ()))) (fun h => h) (R := 0 + 1) (duties_later (XS xs ws) (barCell c))) $$ [Hat] with Hz
  · isplitr; · iapply (inv_at (XS xs ws) K (c, .inl ())); iexact Hrec
    iexact Hat
  iapply (wp_load 𝒱₀ (c : Thread nD τ) none Set.univ (m := xM) (S := Finset.univ) (Finset.subset_univ _)) $$ Hx
  iintro Hx
  rw [x_all, wp_ret]
  imodintro
  iapply (h _ rfl rfl rfl)
  isplitl [Hg Hf Hw Hx Hz HR]
  · isplitl [Hg]; · iexact Hg
    isplitl [Hf]; · iexact Hf
    isplitl [Hw]; · iexact Hw
    isplitl [Hx]; · iexact Hx
    isplitl [Hz] <;> iassumption
  iapply (st_start (XS xs ws) K c)
  isplitr; · iexact Hrec
  isplitl [HT]; · iexact HT
  isplitl [Hpay]; · iexact Hpay
  isplitl [HW]; · iexact HW
  isplitl [HP]; · iexact HP
  iexact HO

end Cert.KernelIdealProof
-- ==== Proof.Body1.lean ====
/-
# The body, part by part
-/
module

public import proofs.«01_k».proof.Proof.Pre

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (xs : Dev nD → Vec F S256x4096 .bf16) (ws : Dev nD → Vec F S4096x128 .bf16) (K : Dev nD × CI → ℕ) (c : Dev nD) (f0 : (cc0_stg2_0 : Ref sig .tc).ty.Contents (Elt F))

set_option maxRecDepth 65536 in
theorem part2 {R : sProp 𝕄} {gw : (cc0_scratch5 : Ref sig .tc).ty.Contents (Elt F)} (v6 : BitVec 32) (v8 : BitVec 32) {Q : _ → sProp 𝕄}
    (h : ∀ r,  iprop(WO R c gw f0 ∗ St (XS xs ws) K c 5) ⊢ Q r) :
    iprop(WO R c gw f0 ∗ St (XS xs ws) K c 1) ⊢ WP c (k0_part2 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v6 v8 (V25 xs c) (V26 xs c)) Q := by
  rw [k0_part2_eq_skeleton]
  unfold k0_part2_skel
  simp only [Prog.lift, Prog.bind_op, Prog.bind_ret, Prog.pure_eq_ret]
  refine stage_col (XS xs ws) K c (t := 1) (by decide +kernel) rfl ?_
  refine step_enq (XS xs ws) K c (t := 2) (.a1 0) (by decide +kernel) (by decide +kernel) (dev5 c) ?_
  refine step_enq (XS xs ws) K c (t := 3) (.a1 2) (by decide +kernel) (by decide +kernel) (dev6 c) ?_
  refine stage_agg (XS xs ws) K c (t := 4) (by decide +kernel) rfl ?_
  exact done c (h _)

set_option maxRecDepth 65536 in
theorem part3 {R : sProp 𝕄} {gw : (cc0_scratch5 : Ref sig .tc).ty.Contents (Elt F)} (v11 : BitVec 32) (v14 : BitVec 32) {Q : _ → sProp 𝕄}
    (h : ∀ r,  iprop(WO R c gw f0 ∗ St (XS xs ws) K c 7) ⊢ Q r) :
    iprop(WO R c gw f0 ∗ St (XS xs ws) K c 5) ⊢ WP c (k0_part3 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part3_eq_skeleton]
  unfold k0_part3_skel
  simp only [Prog.lift, Prog.bind_op, Prog.bind_ret, Prog.pure_eq_ret]
  refine step_enq (XS xs ws) K c (t := 5) (.cwA 0 0) (by decide +kernel) (by decide +kernel) (dev7 c) ?_
  refine step_enq (XS xs ws) K c (t := 6) (.ccwA 0 0) (by decide +kernel) (by decide +kernel) (dev8 c) ?_
  exact done c (h _)

set_option maxRecDepth 65536 in
theorem part4 {R : sProp 𝕄} {gw : (cc0_scratch5 : Ref sig .tc).ty.Contents (Elt F)} (v11 : BitVec 32) (v14 : BitVec 32) {Q : _ → sProp 𝕄}
    (h : ∀ r,  iprop(WO R c gw f0 ∗ St (XS xs ws) K c 9) ⊢ Q r) :
    iprop(WO R c gw f0 ∗ St (XS xs ws) K c 7) ⊢ WP c (k0_part4 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part4_eq_skeleton]
  unfold k0_part4_skel
  simp only [Prog.lift, Prog.bind_op, Prog.bind_ret, Prog.pure_eq_ret]
  refine step_enq (XS xs ws) K c (t := 7) (.cwA 0 1) (by decide +kernel) (by decide +kernel) (dev9 c) ?_
  refine step_enq (XS xs ws) K c (t := 8) (.ccwA 0 1) (by decide +kernel) (by decide +kernel) (dev10 c) ?_
  exact done c (h _)

set_option maxRecDepth 65536 in
theorem part5 {R : sProp 𝕄} {gw : (cc0_scratch5 : Ref sig .tc).ty.Contents (Elt F)} (v2 : BitVec 32) (v14 : BitVec 32) {Q : _ → sProp 𝕄}
    (h : ∀ r, r = (V129 xs ws c) → iprop(WO iprop((((c : Thread nD τ).loc cc0_stg1_0) ↦{fullShare} ws c) ∗ R) c (wbF ws c) (O1 xs ws c f0) ∗ St (XS xs ws) K c 11) ⊢ Q r) :
    iprop(WO iprop((((c : Thread nD τ).loc cc0_stg1_0) ↦{fullShare} ws c) ∗ R) c gw f0 ∗ St (XS xs ws) K c 9) ⊢ WP c (k0_part5 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v14 (V25 xs c)) Q := by
  rw [k0_part5_eq_skeleton]
  unfold k0_part5_skel
  simp only [Prog.lift, Prog.bind_op, Prog.bind_ret, Prog.pure_eq_ret]
  refine step_enq (XS xs ws) K c (t := 9) (.bcw 0) (by decide +kernel) (by decide +kernel) (dev11 c) ?_
  refine step_enq (XS xs ws) K c (t := 10) (.bccw 0) (by decide +kernel) (by decide +kernel) (dev12 c) ?_
  refine ld_w c (ws c) ?_
  refine ld_wb c ?_
  refine st_wb c ?_
  refine ld_wb c ?_
  refine ld_out c _ ?_
  refine st_out c _ (f' := O1 xs ws c f0) rfl ?_
  exact done c (h _ rfl)

set_option maxRecDepth 65536 in
theorem part6 {R : sProp 𝕄} (v11 : BitVec 32) (v14 : BitVec 32) {Q : _ → sProp 𝕄}
    (h : ∀ r,  iprop(WO R c (wbF ws c) (O1 xs ws c f0) ∗ St (XS xs ws) K c 13) ⊢ Q r) :
    iprop(WO R c (wbF ws c) (O1 xs ws c f0) ∗ St (XS xs ws) K c 11) ⊢ WP c (k0_part6 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14) Q := by
  rw [k0_part6_eq_skeleton]
  unfold k0_part6_skel
  simp only [Prog.lift, Prog.bind_op, Prog.bind_ret, Prog.pure_eq_ret]
  refine step_rcv (XS xs ws) K c (t := 11) (.cwA 0 0) (by decide +kernel) rfl ?_
  refine step_rcv (XS xs ws) K c (t := 12) (.ccwA 0 0) (by decide +kernel) rfl ?_
  exact done c (h _)

set_option maxRecDepth 65536 in
theorem part7 {R : sProp 𝕄} (v11 : BitVec 32) (v14 : BitVec 32) (v146 : BitVec 32) {Q : _ → sProp 𝕄}
    (h : ∀ r,  iprop(WO R c (wbF ws c) (O1 xs ws c f0) ∗ St (XS xs ws) K c 15) ⊢ Q r) :
    iprop(WO R c (wbF ws c) (O1 xs ws c f0) ∗ St (XS xs ws) K c 13) ⊢ WP c (k0_part7 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14 v146) Q := by
  rw [k0_part7_eq_skeleton]
  unfold k0_part7_skel
  simp only [Prog.lift, Prog.bind_op, Prog.bind_ret, Prog.pure_eq_ret]
  refine step_enq (XS xs ws) K c (t := 13) (.cwB 0 0 0) (by decide +kernel) (by decide +kernel) (dev13 c) ?_
  refine step_enq (XS xs ws) K c (t := 14) (.ccwB 0 0 0) (by decide +kernel) (by decide +kernel) (dev14 c) ?_
  exact done c (h _)

set_option maxRecDepth 65536 in
theorem part8 {R : sProp 𝕄} (v11 : BitVec 32) (v14 : BitVec 32) {Q : _ → sProp 𝕄}
    (h : ∀ r,  iprop(WO R c (wbF ws c) (O1 xs ws c f0) ∗ St (XS xs ws) K c 17) ⊢ Q r) :
    iprop(WO R c (wbF ws c) (O1 xs ws c f0) ∗ St (XS xs ws) K c 15) ⊢ WP c (k0_part8 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14) Q := by
  rw [k0_part8_eq_skeleton]
  unfold k0_part8_skel
  simp only [Prog.lift, Prog.bind_op, Prog.bind_ret, Prog.pure_eq_ret]
  refine step_rcv (XS xs ws) K c (t := 15) (.cwA 0 1) (by decide +kernel) rfl ?_
  refine step_rcv (XS xs ws) K c (t := 16) (.ccwA 0 1) (by decide +kernel) rfl ?_
  exact done c (h _)

set_option maxRecDepth 65536 in
theorem part9 {R : sProp 𝕄} (v11 : BitVec 32) (v14 : BitVec 32) {Q : _ → sProp 𝕄}
    (h : ∀ r,  iprop(WO R c (wbF ws c) (O1 xs ws c f0) ∗ St (XS xs ws) K c 20) ⊢ Q r) :
    iprop(WO R c (wbF ws c) (O1 xs ws c f0) ∗ St (XS xs ws) K c 17) ⊢ WP c (k0_part9 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part9_eq_skeleton]
  unfold k0_part9_skel
  simp only [Prog.lift, Prog.bind_op, Prog.bind_ret, Prog.pure_eq_ret]
  refine step_enq (XS xs ws) K c (t := 17) (.cwB 0 0 1) (by decide +kernel) (by decide +kernel) (dev15 c) ?_
  refine step_enq (XS xs ws) K c (t := 18) (.ccwB 0 0 1) (by decide +kernel) (by decide +kernel) (dev16 c) ?_
  refine step_rcv (XS xs ws) K c (t := 19) (.bcw 0) (by decide +kernel) rfl ?_
  exact done c (h _)

set_option maxRecDepth 65536 in
theorem part10 {R : sProp 𝕄} (v3 : BitVec 32) (v11 : BitVec 32) (v14 : BitVec 32) {Q : _ → sProp 𝕄}
    (h : ∀ r,  iprop(WO R c (wbF ws c) (O1 xs ws c f0) ∗ St (XS xs ws) K c 23) ⊢ Q r) :
    iprop(WO R c (wbF ws c) (O1 xs ws c f0) ∗ St (XS xs ws) K c 20) ⊢ WP c (k0_part10 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v11 v14) Q := by
  rw [k0_part10_eq_skeleton]
  unfold k0_part10_skel
  simp only [Prog.lift, Prog.bind_op, Prog.bind_ret, Prog.pure_eq_ret]
  refine step_rcv (XS xs ws) K c (t := 20) (.bccw 0) (by decide +kernel) rfl ?_
  refine step_enq (XS xs ws) K c (t := 21) (.bcw 1) (by decide +kernel) (by decide +kernel) (dev17 c) ?_
  refine step_enq (XS xs ws) K c (t := 22) (.bccw 1) (by decide +kernel) (by decide +kernel) (dev18 c) ?_
  exact done c (h _)

set_option maxRecDepth 65536 in
theorem part11 {R : sProp 𝕄} (v3 : BitVec 32) (v4 : BitVec 32) (v241 : BitVec 32) {Q : _ → sProp 𝕄}
    (h : ∀ r, r.1 = (V262 xs ws c) → r.2 = (V271 xs ws c) → iprop(WO R c (wbF ws c) (O2 xs ws c f0) ∗ St (XS xs ws) K c 23) ⊢ Q r) :
    iprop(WO R c (wbF ws c) (O1 xs ws c f0) ∗ St (XS xs ws) K c 23) ⊢ WP c (k0_part11 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v241) Q := by
  rw [k0_part11_eq_skeleton]
  unfold k0_part11_skel
  simp only [Prog.lift, Prog.bind_op, Prog.bind_ret, Prog.pure_eq_ret]
  refine rd_agg (XS xs ws) K c (t := 23) 3 0 (by decide +kernel) ?_
  refine ld_wb c ?_
  refine ld_out c _ ?_
  refine st_out c _ (f' := O2 xs ws c f0) rfl ?_
  refine rd_agg (XS xs ws) K c (t := 23) 1 1 (by decide +kernel) ?_
  refine ld_wb c ?_
  refine ld_out c _ ?_
  exact done c (h _ rfl rfl)

set_option maxRecDepth 65536 in
theorem part12 {R : sProp 𝕄} (v3 : BitVec 32) (v4 : BitVec 32) {Q : _ → sProp 𝕄}
    (h : ∀ r, r.1 = (V279 xs ws c) → r.2.2.2 = (V305 xs ws c) → iprop(WO R c (wbF ws c) (O4 xs ws c f0) ∗ St (XS xs ws) K c 23) ⊢ Q r) :
    iprop(WO R c (wbF ws c) (O2 xs ws c f0) ∗ St (XS xs ws) K c 23) ⊢ WP c (k0_part12 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 (V129 xs ws c) (V262 xs ws c) (V271 xs ws c)) Q := by
  rw [k0_part12_eq_skeleton]
  unfold k0_part12_skel
  simp only [Prog.lift, Prog.bind_op, Prog.bind_ret, Prog.pure_eq_ret]
  refine st_out c _ (f' := O3 xs ws c f0) rfl ?_
  refine rd_cw (XS xs ws) K c (t := 23) 0 1 0 (by decide +kernel) ?_
  refine ld_wb c ?_
  refine ld_out c _ ?_
  refine st_out c _ (f' := O4 xs ws c f0) rfl ?_
  exact done c (h _ rfl rfl)

set_option maxRecDepth 65536 in
theorem part13 {R : sProp 𝕄} (v291 : BitVec 32) (v294 : BitVec 32) {Q : _ → sProp 𝕄}
    (h : ∀ r, r.1 = (V325 xs ws c) → r.2 = (V336 xs ws c) → iprop(WO R c (wbF ws c) (O6 xs ws c f0) ∗ St (XS xs ws) K c 23) ⊢ Q r) :
    iprop(WO R c (wbF ws c) (O4 xs ws c f0) ∗ St (XS xs ws) K c 23) ⊢ WP c (k0_part13 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V279 xs ws c) v291 v294 (V305 xs ws c)) Q := by
  rw [k0_part13_eq_skeleton]
  unfold k0_part13_skel
  simp only [Prog.lift, Prog.bind_op, Prog.bind_ret, Prog.pure_eq_ret]
  refine rd_ccw (XS xs ws) K c (t := 23) 0 1 0 (by decide +kernel) ?_
  refine ld_wb c ?_
  refine ld_out c _ ?_
  refine st_out c _ (f' := O5 xs ws c f0) rfl ?_
  refine rd_cw (XS xs ws) K c (t := 23) 0 1 1 (by decide +kernel) ?_
  refine ld_wb c ?_
  refine ld_out c _ ?_
  refine st_out c _ (f' := O6 xs ws c f0) rfl ?_
  exact done c (h _ rfl rfl)

set_option maxRecDepth 65536 in
theorem part14 {R : sProp 𝕄} (v11 : BitVec 32) (v294 : BitVec 32) {Q : _ → sProp 𝕄}
    (h : ∀ r, r = (V356 xs ws c) → iprop(WO R c (wbF ws c) (O7 xs ws c f0) ∗ St (XS xs ws) K c 23) ⊢ Q r) :
    iprop(WO R c (wbF ws c) (O6 xs ws c f0) ∗ St (XS xs ws) K c 23) ⊢ WP c (k0_part14 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v294 (V325 xs ws c) (V336 xs ws c)) Q := by
  rw [k0_part14_eq_skeleton]
  unfold k0_part14_skel
  simp only [Prog.lift, Prog.bind_op, Prog.bind_ret, Prog.pure_eq_ret]
  refine rd_ccw (XS xs ws) K c (t := 23) 0 1 1 (by decide +kernel) ?_
  refine ld_wb c ?_
  refine ld_out c _ ?_
  refine st_out c _ (f' := O7 xs ws c f0) rfl ?_
  exact done c (h _ rfl)

set_option maxRecDepth 65536 in
theorem part15 {R : sProp 𝕄} (v11 : BitVec 32) (v14 : BitVec 32) {Q : _ → sProp 𝕄}
    (h : ∀ r,  iprop(WO R c (wbF ws c) (O7 xs ws c f0) ∗ St (XS xs ws) K c 26) ⊢ Q r) :
    iprop(WO R c (wbF ws c) (O7 xs ws c f0) ∗ St (XS xs ws) K c 23) ⊢ WP c (k0_part15 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part15_eq_skeleton]
  unfold k0_part15_skel
  simp only [Prog.lift, Prog.bind_op, Prog.bind_ret, Prog.pure_eq_ret]
  refine step_rcv (XS xs ws) K c (t := 23) (.cwB 0 0 0) (by decide +kernel) rfl ?_
  refine step_rcv (XS xs ws) K c (t := 24) (.ccwB 0 0 0) (by decide +kernel) rfl ?_
  refine step_enq (XS xs ws) K c (t := 25) (.cwB 0 1 0) (by decide +kernel) (by decide +kernel) (dev19 c) ?_
  exact done c (h _)

set_option maxRecDepth 65536 in
theorem part16 {R : sProp 𝕄} (v11 : BitVec 32) (v14 : BitVec 32) {Q : _ → sProp 𝕄}
    (h : ∀ r,  iprop(WO R c (wbF ws c) (O7 xs ws c f0) ∗ St (XS xs ws) K c 28) ⊢ Q r) :
    iprop(WO R c (wbF ws c) (O7 xs ws c f0) ∗ St (XS xs ws) K c 26) ⊢ WP c (k0_part16 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part16_eq_skeleton]
  unfold k0_part16_skel
  simp only [Prog.lift, Prog.bind_op, Prog.bind_ret, Prog.pure_eq_ret]
  refine step_enq (XS xs ws) K c (t := 26) (.ccwB 0 1 0) (by decide +kernel) (by decide +kernel) (dev20 c) ?_
  refine step_rcv (XS xs ws) K c (t := 27) (.cwB 0 0 1) (by decide +kernel) rfl ?_
  exact done c (h _)

set_option maxRecDepth 65536 in
theorem part17 {R : sProp 𝕄} (v11 : BitVec 32) (v14 : BitVec 32) {Q : _ → sProp 𝕄}
    (h : ∀ r,  iprop(WO R c (wbF ws c) (O7 xs ws c f0) ∗ St (XS xs ws) K c 30) ⊢ Q r) :
    iprop(WO R c (wbF ws c) (O7 xs ws c f0) ∗ St (XS xs ws) K c 28) ⊢ WP c (k0_part17 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part17_eq_skeleton]
  unfold k0_part17_skel
  simp only [Prog.lift, Prog.bind_op, Prog.bind_ret, Prog.pure_eq_ret]
  refine step_rcv (XS xs ws) K c (t := 28) (.ccwB 0 0 1) (by decide +kernel) rfl ?_
  refine step_enq (XS xs ws) K c (t := 29) (.cwB 0 1 1) (by decide +kernel) (by decide +kernel) (dev21 c) ?_
  exact done c (h _)

set_option maxRecDepth 65536 in
theorem part18 {R : sProp 𝕄} (v11 : BitVec 32) (v14 : BitVec 32) {Q : _ → sProp 𝕄}
    (h : ∀ r,  iprop(WO R c (wbF ws c) (O7 xs ws c f0) ∗ St (XS xs ws) K c 33) ⊢ Q r) :
    iprop(WO R c (wbF ws c) (O7 xs ws c f0) ∗ St (XS xs ws) K c 30) ⊢ WP c (k0_part18 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part18_eq_skeleton]
  unfold k0_part18_skel
  simp only [Prog.lift, Prog.bind_op, Prog.bind_ret, Prog.pure_eq_ret]
  refine step_enq (XS xs ws) K c (t := 30) (.ccwB 0 1 1) (by decide +kernel) (by decide +kernel) (dev22 c) ?_
  refine step_rcv (XS xs ws) K c (t := 31) (.bcw 1) (by decide +kernel) rfl ?_
  refine step_rcv (XS xs ws) K c (t := 32) (.bccw 1) (by decide +kernel) rfl ?_
  exact done c (h _)

set_option maxRecDepth 65536 in
theorem part19 {R : sProp 𝕄} (v3 : BitVec 32) (v4 : BitVec 32) (v11 : BitVec 32) (v14 : BitVec 32) {Q : _ → sProp 𝕄}
    (h : ∀ r,  iprop(WO R c (wbF ws c) (O7 xs ws c f0) ∗ St (XS xs ws) K c 35) ⊢ Q r) :
    iprop(WO R c (wbF ws c) (O7 xs ws c f0) ∗ St (XS xs ws) K c 33) ⊢ WP c (k0_part19 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v11 v14) Q := by
  rw [k0_part19_eq_skeleton]
  unfold k0_part19_skel
  simp only [Prog.lift, Prog.bind_op, Prog.bind_ret, Prog.pure_eq_ret]
  refine step_enq (XS xs ws) K c (t := 33) (.bcw 2) (by decide +kernel) (by decide +kernel) (dev23 c) ?_
  refine step_enq (XS xs ws) K c (t := 34) (.bccw 2) (by decide +kernel) (by decide +kernel) (dev24 c) ?_
  exact done c (h _)

set_option maxRecDepth 65536 in
theorem part20 {R : sProp 𝕄} (v470 : BitVec 32) (v475 : BitVec 32) {Q : _ → sProp 𝕄}
    (h : ∀ r, r = (V506 xs ws c) → iprop(WO R c (wbF ws c) (O9 xs ws c f0) ∗ St (XS xs ws) K c 35) ⊢ Q r) :
    iprop(WO R c (wbF ws c) (O7 xs ws c f0) ∗ St (XS xs ws) K c 35) ⊢ WP c (k0_part20 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V356 xs ws c) v470 v475) Q := by
  rw [k0_part20_eq_skeleton]
  unfold k0_part20_skel
  simp only [Prog.lift, Prog.bind_op, Prog.bind_ret, Prog.pure_eq_ret]
  refine rd_agg (XS xs ws) K c (t := 35) 2 0 (by decide +kernel) ?_
  refine ld_wb c ?_
  refine ld_out c _ ?_
  refine st_out c _ (f' := O8 xs ws c f0) rfl ?_
  refine rd_agg (XS xs ws) K c (t := 35) 2 1 (by decide +kernel) ?_
  refine ld_wb c ?_
  refine ld_out c _ ?_
  refine st_out c _ (f' := O9 xs ws c f0) rfl ?_
  exact done c (h _ rfl)

set_option maxRecDepth 65536 in
theorem part21 {R : sProp 𝕄} (v2 : BitVec 32) (v6 : BitVec 32) {Q : _ → sProp 𝕄}
    (h : ∀ r, r = (V534 xs ws c) → iprop(WO R c (wbF ws c) (O9 xs ws c f0) ∗ St (XS xs ws) K c 37) ⊢ Q r) :
    iprop(WO R c (wbF ws c) (O9 xs ws c f0) ∗ St (XS xs ws) K c 35) ⊢ WP c (k0_part21 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v6) Q := by
  rw [k0_part21_eq_skeleton]
  unfold k0_part21_skel
  simp only [Prog.lift, Prog.bind_op, Prog.bind_ret, Prog.pure_eq_ret]
  refine step_rcv (XS xs ws) K c (t := 35) (.a1 0) (by decide +kernel) rfl ?_
  refine step_enq (XS xs ws) K c (t := 36) (.a1 1) (by decide +kernel) (by decide +kernel) (dev25 c) ?_
  refine rd_col (XS xs ws) K c (t := 37) 0 (by decide +kernel) ?_
  refine ld_wb c ?_
  refine ld_out c _ ?_
  exact done c (h _ rfl)

set_option maxRecDepth 65536 in
theorem part22 {R : sProp 𝕄} (v11 : BitVec 32) (v14 : BitVec 32) {Q : _ → sProp 𝕄}
    (h : ∀ r, r = (V541 xs ws c) → iprop(WO R c (wbF ws c) (O10 xs ws c f0) ∗ St (XS xs ws) K c 38) ⊢ Q r) :
    iprop(WO R c (wbF ws c) (O9 xs ws c f0) ∗ St (XS xs ws) K c 37) ⊢ WP c (k0_part22 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14 (V506 xs ws c) (V534 xs ws c)) Q := by
  rw [k0_part22_eq_skeleton]
  unfold k0_part22_skel
  simp only [Prog.lift, Prog.bind_op, Prog.bind_ret, Prog.pure_eq_ret]
  refine st_out c _ (f' := O10 xs ws c f0) rfl ?_
  refine step_enq (XS xs ws) K c (t := 37) (.cwA 1 0) (by decide +kernel) (by decide +kernel) (dev26 c) ?_
  exact done c (h _ rfl)

set_option maxRecDepth 65536 in
theorem part23 {R : sProp 𝕄} (v3 : BitVec 32) (v11 : BitVec 32) (v14 : BitVec 32) {Q : _ → sProp 𝕄}
    (h : ∀ r,  iprop(WO R c (wbF ws c) (O10 xs ws c f0) ∗ St (XS xs ws) K c 41) ⊢ Q r) :
    iprop(WO R c (wbF ws c) (O10 xs ws c f0) ∗ St (XS xs ws) K c 38) ⊢ WP c (k0_part23 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v11 v14) Q := by
  rw [k0_part23_eq_skeleton]
  unfold k0_part23_skel
  simp only [Prog.lift, Prog.bind_op, Prog.bind_ret, Prog.pure_eq_ret]
  refine step_enq (XS xs ws) K c (t := 38) (.ccwA 1 0) (by decide +kernel) (by decide +kernel) (dev27 c) ?_
  refine step_enq (XS xs ws) K c (t := 39) (.cwA 1 1) (by decide +kernel) (by decide +kernel) (dev28 c) ?_
  refine step_enq (XS xs ws) K c (t := 40) (.ccwA 1 1) (by decide +kernel) (by decide +kernel) (dev29 c) ?_
  exact done c (h _)

set_option maxRecDepth 65536 in
theorem part24 {R : sProp 𝕄} (v3 : BitVec 32) (v4 : BitVec 32) (v583 : BitVec 32) (c8_i32_716 : BitVec 32) {Q : _ → sProp 𝕄}
    (h : ∀ r, r.2.2.1 = (V610 xs ws c) → r.2.2.2.1 = (V612 xs ws c) → iprop(WO R c (wbF ws c) (O11 xs ws c f0) ∗ St (XS xs ws) K c 41) ⊢ Q r) :
    iprop(WO R c (wbF ws c) (O10 xs ws c f0) ∗ St (XS xs ws) K c 41) ⊢ WP c (k0_part24 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v583 c8_i32_716) Q := by
  rw [k0_part24_eq_skeleton]
  unfold k0_part24_skel
  simp only [Prog.lift, Prog.bind_op, Prog.bind_ret, Prog.pure_eq_ret]
  refine rd_cw (XS xs ws) K c (t := 41) 0 0 0 (by decide +kernel) ?_
  refine ld_wb c ?_
  refine ld_out c _ ?_
  refine st_out c _ (f' := O11 xs ws c f0) rfl ?_
  refine rd_ccw (XS xs ws) K c (t := 41) 0 0 0 (by decide +kernel) ?_
  exact done c (h _ rfl rfl)

set_option maxRecDepth 65536 in
theorem part25 {R : sProp 𝕄} (v593 : BitVec 32) (v596 : BitVec 32) (v613 : BitVec 32) {Q : _ → sProp 𝕄}
    (h : ∀ r, r.1 = (V627 xs ws c) → r.2.1 = (V641 xs ws c) → r.2.2.1 = (V643 xs ws c) → iprop(WO R c (wbF ws c) (O13 xs ws c f0) ∗ St (XS xs ws) K c 41) ⊢ Q r) :
    iprop(WO R c (wbF ws c) (O11 xs ws c f0) ∗ St (XS xs ws) K c 41) ⊢ WP c (k0_part25 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V541 xs ws c) v593 v596 (V610 xs ws c) (V612 xs ws c) v613) Q := by
  rw [k0_part25_eq_skeleton]
  unfold k0_part25_skel
  simp only [Prog.lift, Prog.bind_op, Prog.bind_ret, Prog.pure_eq_ret]
  refine ld_wb c ?_
  refine ld_out c _ ?_
  refine st_out c _ (f' := O12 xs ws c f0) rfl ?_
  refine rd_cw (XS xs ws) K c (t := 41) 0 0 1 (by decide +kernel) ?_
  refine ld_wb c ?_
  refine ld_out c _ ?_
  refine st_out c _ (f' := O13 xs ws c f0) rfl ?_
  refine rd_ccw (XS xs ws) K c (t := 41) 0 0 1 (by decide +kernel) ?_
  exact done c (h _ rfl rfl rfl)

set_option maxRecDepth 65536 in
theorem part26 {R : sProp 𝕄} (v11 : BitVec 32) (v644 : BitVec 32) {Q : _ → sProp 𝕄}
    (h : ∀ r, r = (V658 xs ws c) → iprop(WO R c (wbF ws c) (O14 xs ws c f0) ∗ St (XS xs ws) K c 42) ⊢ Q r) :
    iprop(WO R c (wbF ws c) (O13 xs ws c f0) ∗ St (XS xs ws) K c 41) ⊢ WP c (k0_part26 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 (V627 xs ws c) (V641 xs ws c) (V643 xs ws c) v644) Q := by
  rw [k0_part26_eq_skeleton]
  unfold k0_part26_skel
  simp only [Prog.lift, Prog.bind_op, Prog.bind_ret, Prog.pure_eq_ret]
  refine ld_wb c ?_
  refine ld_out c _ ?_
  refine st_out c _ (f' := O14 xs ws c f0) rfl ?_
  refine step_rcv (XS xs ws) K c (t := 41) (.cwB 0 1 0) (by decide +kernel) rfl ?_
  exact done c (h _ rfl)

set_option maxRecDepth 65536 in
theorem part27 {R : sProp 𝕄} (v11 : BitVec 32) (v14 : BitVec 32) {Q : _ → sProp 𝕄}
    (h : ∀ r,  iprop(WO R c (wbF ws c) (O14 xs ws c f0) ∗ St (XS xs ws) K c 44) ⊢ Q r) :
    iprop(WO R c (wbF ws c) (O14 xs ws c f0) ∗ St (XS xs ws) K c 42) ⊢ WP c (k0_part27 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14) Q := by
  rw [k0_part27_eq_skeleton]
  unfold k0_part27_skel
  simp only [Prog.lift, Prog.bind_op, Prog.bind_ret, Prog.pure_eq_ret]
  refine step_rcv (XS xs ws) K c (t := 42) (.ccwB 0 1 0) (by decide +kernel) rfl ?_
  refine step_rcv (XS xs ws) K c (t := 43) (.cwB 0 1 1) (by decide +kernel) rfl ?_
  exact done c (h _)

set_option maxRecDepth 65536 in
theorem part28 {R : sProp 𝕄} (v6 : BitVec 32) (v11 : BitVec 32) (v14 : BitVec 32) {Q : _ → sProp 𝕄}
    (h : ∀ r,  iprop(WO R c (wbF ws c) (O14 xs ws c f0) ∗ St (XS xs ws) K c 47) ⊢ Q r) :
    iprop(WO R c (wbF ws c) (O14 xs ws c f0) ∗ St (XS xs ws) K c 44) ⊢ WP c (k0_part28 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v6 v11 v14) Q := by
  rw [k0_part28_eq_skeleton]
  unfold k0_part28_skel
  simp only [Prog.lift, Prog.bind_op, Prog.bind_ret, Prog.pure_eq_ret]
  refine step_rcv (XS xs ws) K c (t := 44) (.ccwB 0 1 1) (by decide +kernel) rfl ?_
  refine step_rcv (XS xs ws) K c (t := 45) (.bcw 2) (by decide +kernel) rfl ?_
  refine step_rcv (XS xs ws) K c (t := 46) (.bccw 2) (by decide +kernel) rfl ?_
  exact done c (h _)

set_option maxRecDepth 65536 in
theorem part29 {R : sProp 𝕄} (v3 : BitVec 32) (v4 : BitVec 32) (v8 : BitVec 32) {Q : _ → sProp 𝕄}
    (h : ∀ r, r.2.2 = (V741 xs ws c) → iprop(WO R c (wbF ws c) (O14 xs ws c f0) ∗ St (XS xs ws) K c 49) ⊢ Q r) :
    iprop(WO R c (wbF ws c) (O14 xs ws c f0) ∗ St (XS xs ws) K c 47) ⊢ WP c (k0_part29 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v8) Q := by
  rw [k0_part29_eq_skeleton]
  unfold k0_part29_skel
  simp only [Prog.lift, Prog.bind_op, Prog.bind_ret, Prog.pure_eq_ret]
  refine step_enq (XS xs ws) K c (t := 47) (.b2A 0) (by decide +kernel) (by decide +kernel) (dev30 c) ?_
  refine step_enq (XS xs ws) K c (t := 48) (.b2A 1) (by decide +kernel) (by decide +kernel) (dev31 c) ?_
  refine rd_agg (XS xs ws) K c (t := 49) 1 0 (by decide +kernel) ?_
  refine ld_wb c ?_
  exact done c (h _ rfl)

set_option maxRecDepth 65536 in
theorem part30 {R : sProp 𝕄} (v3 : BitVec 32) (v4 : BitVec 32) (v733 : BitVec 32) (v737 : BitVec 32) {Q : _ → sProp 𝕄}
    (h : ∀ r, r.1 = (V764 xs ws c) → iprop(WO R c (wbF ws c) (O16 xs ws c f0) ∗ St (XS xs ws) K c 49) ⊢ Q r) :
    iprop(WO R c (wbF ws c) (O14 xs ws c f0) ∗ St (XS xs ws) K c 49) ⊢ WP c (k0_part30 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 (V658 xs ws c) v733 v737 (V741 xs ws c)) Q := by
  rw [k0_part30_eq_skeleton]
  unfold k0_part30_skel
  simp only [Prog.lift, Prog.bind_op, Prog.bind_ret, Prog.pure_eq_ret]
  refine ld_out c _ ?_
  refine st_out c _ (f' := O15 xs ws c f0) rfl ?_
  refine rd_agg (XS xs ws) K c (t := 49) 3 1 (by decide +kernel) ?_
  refine ld_wb c ?_
  refine ld_out c _ ?_
  refine st_out c _ (f' := O16 xs ws c f0) rfl ?_
  exact done c (h _ rfl)

set_option maxRecDepth 65536 in
theorem part31 {R : sProp 𝕄} (v773 : BitVec 32) (v775 : BitVec 32) (c16_i32_930 : BitVec 32) {Q : _ → sProp 𝕄}
    (h : ∀ r, r.2.2.1 = (V793 xs ws c) → r.2.2.2 = (V802 xs ws c) → iprop(WO R c (wbF ws c) (O18 xs ws c f0) ∗ St (XS xs ws) K c 49) ⊢ Q r) :
    iprop(WO R c (wbF ws c) (O16 xs ws c f0) ∗ St (XS xs ws) K c 49) ⊢ WP c (k0_part31 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v773 v775 c16_i32_930) Q := by
  rw [k0_part31_eq_skeleton]
  unfold k0_part31_skel
  simp only [Prog.lift, Prog.bind_op, Prog.bind_ret, Prog.pure_eq_ret]
  refine rd_cw (XS xs ws) K c (t := 49) 0 2 0 (by decide +kernel) ?_
  refine ld_wb c ?_
  refine ld_out c _ ?_
  refine st_out c _ (f' := O17 xs ws c f0) rfl ?_
  refine rd_ccw (XS xs ws) K c (t := 49) 0 2 0 (by decide +kernel) ?_
  refine ld_wb c ?_
  refine ld_out c _ ?_
  refine st_out c _ (f' := O18 xs ws c f0) rfl ?_
  exact done c (h _ rfl rfl)

set_option maxRecDepth 65536 in
theorem part32 {R : sProp 𝕄} (v776 : BitVec 32) (v779 : BitVec 32) {Q : _ → sProp 𝕄}
    (h : ∀ r, r.1 = (V810 xs ws c) → r.2.1 = (V824 xs ws c) → r.2.2 = (V833 xs ws c) → iprop(WO R c (wbF ws c) (O20 xs ws c f0) ∗ St (XS xs ws) K c 49) ⊢ Q r) :
    iprop(WO R c (wbF ws c) (O18 xs ws c f0) ∗ St (XS xs ws) K c 49) ⊢ WP c (k0_part32 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V764 xs ws c) v776 v779 (V793 xs ws c) (V802 xs ws c)) Q := by
  rw [k0_part32_eq_skeleton]
  unfold k0_part32_skel
  simp only [Prog.lift, Prog.bind_op, Prog.bind_ret, Prog.pure_eq_ret]
  refine rd_cw (XS xs ws) K c (t := 49) 0 2 1 (by decide +kernel) ?_
  refine ld_wb c ?_
  refine ld_out c _ ?_
  refine st_out c _ (f' := O19 xs ws c f0) rfl ?_
  refine rd_ccw (XS xs ws) K c (t := 49) 0 2 1 (by decide +kernel) ?_
  refine ld_wb c ?_
  refine ld_out c _ ?_
  refine st_out c _ (f' := O20 xs ws c f0) rfl ?_
  exact done c (h _ rfl rfl rfl)

set_option maxRecDepth 65536 in
theorem part33 {R : sProp 𝕄} (v11 : BitVec 32) (v14 : BitVec 32) {Q : _ → sProp 𝕄}
    (h : ∀ r, r = (V841 xs ws c) → iprop(WO R c (wbF ws c) (O20 xs ws c f0) ∗ St (XS xs ws) K c 51) ⊢ Q r) :
    iprop(WO R c (wbF ws c) (O20 xs ws c f0) ∗ St (XS xs ws) K c 49) ⊢ WP c (k0_part33 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14 (V810 xs ws c) (V824 xs ws c) (V833 xs ws c)) Q := by
  rw [k0_part33_eq_skeleton]
  unfold k0_part33_skel
  simp only [Prog.lift, Prog.bind_op, Prog.bind_ret, Prog.pure_eq_ret]
  refine step_rcv (XS xs ws) K c (t := 49) (.cwA 1 0) (by decide +kernel) rfl ?_
  refine step_rcv (XS xs ws) K c (t := 50) (.ccwA 1 0) (by decide +kernel) rfl ?_
  exact done c (h _ rfl)

end Cert.KernelIdealProof
-- ==== Proof.Body2.lean ====
/-
# The body, part by part
-/
module

public import proofs.«01_k».proof.Proof.Pre

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (xs : Dev nD → Vec F S256x4096 .bf16) (ws : Dev nD → Vec F S4096x128 .bf16) (K : Dev nD × CI → ℕ) (c : Dev nD) (f0 : (cc0_stg2_0 : Ref sig .tc).ty.Contents (Elt F))

set_option maxRecDepth 65536 in
theorem part34 {R : sProp 𝕄} (v11 : BitVec 32) (v14 : BitVec 32) {Q : _ → sProp 𝕄}
    (h : ∀ r,  iprop(WO R c (wbF ws c) (O20 xs ws c f0) ∗ St (XS xs ws) K c 53) ⊢ Q r) :
    iprop(WO R c (wbF ws c) (O20 xs ws c f0) ∗ St (XS xs ws) K c 51) ⊢ WP c (k0_part34 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part34_eq_skeleton]
  unfold k0_part34_skel
  simp only [Prog.lift, Prog.bind_op, Prog.bind_ret, Prog.pure_eq_ret]
  refine step_enq (XS xs ws) K c (t := 51) (.cwB 1 0 0) (by decide +kernel) (by decide +kernel) (dev32 c) ?_
  refine step_enq (XS xs ws) K c (t := 52) (.ccwB 1 0 0) (by decide +kernel) (by decide +kernel) (dev33 c) ?_
  exact done c (h _)

set_option maxRecDepth 65536 in
theorem part35 {R : sProp 𝕄} (v11 : BitVec 32) (v14 : BitVec 32) {Q : _ → sProp 𝕄}
    (h : ∀ r,  iprop(WO R c (wbF ws c) (O20 xs ws c f0) ∗ St (XS xs ws) K c 55) ⊢ Q r) :
    iprop(WO R c (wbF ws c) (O20 xs ws c f0) ∗ St (XS xs ws) K c 53) ⊢ WP c (k0_part35 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14) Q := by
  rw [k0_part35_eq_skeleton]
  unfold k0_part35_skel
  simp only [Prog.lift, Prog.bind_op, Prog.bind_ret, Prog.pure_eq_ret]
  refine step_rcv (XS xs ws) K c (t := 53) (.cwA 1 1) (by decide +kernel) rfl ?_
  refine step_rcv (XS xs ws) K c (t := 54) (.ccwA 1 1) (by decide +kernel) rfl ?_
  exact done c (h _)

set_option maxRecDepth 65536 in
theorem part36 {R : sProp 𝕄} (v3 : BitVec 32) (v4 : BitVec 32) (v14 : BitVec 32) (v894 : BitVec 32) (c0_i32_1101 : BitVec 32) {Q : _ → sProp 𝕄}
    (h : ∀ r,  iprop(WO R c (wbF ws c) (O20 xs ws c f0) ∗ St (XS xs ws) K c 57) ⊢ Q r) :
    iprop(WO R c (wbF ws c) (O20 xs ws c f0) ∗ St (XS xs ws) K c 55) ⊢ WP c (k0_part36 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v14 v894 c0_i32_1101) Q := by
  rw [k0_part36_eq_skeleton]
  unfold k0_part36_skel
  simp only [Prog.lift, Prog.bind_op, Prog.bind_ret, Prog.pure_eq_ret]
  refine step_enq (XS xs ws) K c (t := 55) (.cwB 1 0 1) (by decide +kernel) (by decide +kernel) (dev34 c) ?_
  refine step_enq (XS xs ws) K c (t := 56) (.ccwB 1 0 1) (by decide +kernel) (by decide +kernel) (dev35 c) ?_
  exact done c (h _)

set_option maxRecDepth 65536 in
theorem part37 {R : sProp 𝕄} (v918 : BitVec 32) (v922 : BitVec 32) (c_m4_i32_1131 : BitVec 32) {Q : _ → sProp 𝕄}
    (h : ∀ r, r.2.2.1 = (V942 xs ws c) → r.2.2.2.2 = (V951 xs ws c) → iprop(WO R c (wbF ws c) (O21 xs ws c f0) ∗ St (XS xs ws) K c 57) ⊢ Q r) :
    iprop(WO R c (wbF ws c) (O20 xs ws c f0) ∗ St (XS xs ws) K c 57) ⊢ WP c (k0_part37 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v918 v922 c_m4_i32_1131) Q := by
  rw [k0_part37_eq_skeleton]
  unfold k0_part37_skel
  simp only [Prog.lift, Prog.bind_op, Prog.bind_ret, Prog.pure_eq_ret]
  refine rd_cw (XS xs ws) K c (t := 57) 1 1 0 (by decide +kernel) ?_
  refine ld_wb c ?_
  refine ld_out c _ ?_
  refine st_out c _ (f' := O21 xs ws c f0) rfl ?_
  refine rd_ccw (XS xs ws) K c (t := 57) 1 1 0 (by decide +kernel) ?_
  refine ld_wb c ?_
  exact done c (h _ rfl rfl)

set_option maxRecDepth 65536 in
theorem part38 {R : sProp 𝕄} (v925 : BitVec 32) (v928 : BitVec 32) (v947 : BitVec 32) {Q : _ → sProp 𝕄}
    (h : ∀ r, r.1 = (V959 xs ws c) → r.2.1 = (V973 xs ws c) → r.2.2.2 = (V982 xs ws c) → iprop(WO R c (wbF ws c) (O23 xs ws c f0) ∗ St (XS xs ws) K c 57) ⊢ Q r) :
    iprop(WO R c (wbF ws c) (O21 xs ws c f0) ∗ St (XS xs ws) K c 57) ⊢ WP c (k0_part38 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V841 xs ws c) v925 v928 (V942 xs ws c) v947 (V951 xs ws c)) Q := by
  rw [k0_part38_eq_skeleton]
  unfold k0_part38_skel
  simp only [Prog.lift, Prog.bind_op, Prog.bind_ret, Prog.pure_eq_ret]
  refine ld_out c _ ?_
  refine st_out c _ (f' := O22 xs ws c f0) rfl ?_
  refine rd_cw (XS xs ws) K c (t := 57) 1 1 1 (by decide +kernel) ?_
  refine ld_wb c ?_
  refine ld_out c _ ?_
  refine st_out c _ (f' := O23 xs ws c f0) rfl ?_
  refine rd_ccw (XS xs ws) K c (t := 57) 1 1 1 (by decide +kernel) ?_
  refine ld_wb c ?_
  exact done c (h _ rfl rfl rfl)

set_option maxRecDepth 65536 in
theorem part39 {R : sProp 𝕄} (v11 : BitVec 32) (v14 : BitVec 32) (v978 : BitVec 32) {Q : _ → sProp 𝕄}
    (h : ∀ r, r = (V990 xs ws c) → iprop(WO R c (wbF ws c) (O24 xs ws c f0) ∗ St (XS xs ws) K c 58) ⊢ Q r) :
    iprop(WO R c (wbF ws c) (O23 xs ws c f0) ∗ St (XS xs ws) K c 57) ⊢ WP c (k0_part39 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14 (V959 xs ws c) (V973 xs ws c) v978 (V982 xs ws c)) Q := by
  rw [k0_part39_eq_skeleton]
  unfold k0_part39_skel
  simp only [Prog.lift, Prog.bind_op, Prog.bind_ret, Prog.pure_eq_ret]
  refine ld_out c _ ?_
  refine st_out c _ (f' := O24 xs ws c f0) rfl ?_
  refine step_rcv (XS xs ws) K c (t := 57) (.cwB 1 0 0) (by decide +kernel) rfl ?_
  exact done c (h _ rfl)

set_option maxRecDepth 65536 in
theorem part40 {R : sProp 𝕄} (v11 : BitVec 32) (v14 : BitVec 32) {Q : _ → sProp 𝕄}
    (h : ∀ r,  iprop(WO R c (wbF ws c) (O24 xs ws c f0) ∗ St (XS xs ws) K c 60) ⊢ Q r) :
    iprop(WO R c (wbF ws c) (O24 xs ws c f0) ∗ St (XS xs ws) K c 58) ⊢ WP c (k0_part40 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part40_eq_skeleton]
  unfold k0_part40_skel
  simp only [Prog.lift, Prog.bind_op, Prog.bind_ret, Prog.pure_eq_ret]
  refine step_rcv (XS xs ws) K c (t := 58) (.ccwB 1 0 0) (by decide +kernel) rfl ?_
  refine step_enq (XS xs ws) K c (t := 59) (.cwB 1 1 0) (by decide +kernel) (by decide +kernel) (dev36 c) ?_
  exact done c (h _)

set_option maxRecDepth 65536 in
theorem part41 {R : sProp 𝕄} (v11 : BitVec 32) (v14 : BitVec 32) {Q : _ → sProp 𝕄}
    (h : ∀ r,  iprop(WO R c (wbF ws c) (O24 xs ws c f0) ∗ St (XS xs ws) K c 63) ⊢ Q r) :
    iprop(WO R c (wbF ws c) (O24 xs ws c f0) ∗ St (XS xs ws) K c 60) ⊢ WP c (k0_part41 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part41_eq_skeleton]
  unfold k0_part41_skel
  simp only [Prog.lift, Prog.bind_op, Prog.bind_ret, Prog.pure_eq_ret]
  refine step_enq (XS xs ws) K c (t := 60) (.ccwB 1 1 0) (by decide +kernel) (by decide +kernel) (dev37 c) ?_
  refine step_rcv (XS xs ws) K c (t := 61) (.cwB 1 0 1) (by decide +kernel) rfl ?_
  refine step_rcv (XS xs ws) K c (t := 62) (.ccwB 1 0 1) (by decide +kernel) rfl ?_
  exact done c (h _)

set_option maxRecDepth 65536 in
theorem part42 {R : sProp 𝕄} (v11 : BitVec 32) (v14 : BitVec 32) {Q : _ → sProp 𝕄}
    (h : ∀ r,  iprop(WO R c (wbF ws c) (O24 xs ws c f0) ∗ St (XS xs ws) K c 65) ⊢ Q r) :
    iprop(WO R c (wbF ws c) (O24 xs ws c f0) ∗ St (XS xs ws) K c 63) ⊢ WP c (k0_part42 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part42_eq_skeleton]
  unfold k0_part42_skel
  simp only [Prog.lift, Prog.bind_op, Prog.bind_ret, Prog.pure_eq_ret]
  refine step_enq (XS xs ws) K c (t := 63) (.cwB 1 1 1) (by decide +kernel) (by decide +kernel) (dev38 c) ?_
  refine step_enq (XS xs ws) K c (t := 64) (.ccwB 1 1 1) (by decide +kernel) (by decide +kernel) (dev39 c) ?_
  exact done c (h _)

set_option maxRecDepth 65536 in
theorem part43 {R : sProp 𝕄} (v2 : BitVec 32) (v8 : BitVec 32) (v11 : BitVec 32) (c1_i32_1339 : BitVec 32) {Q : _ → sProp 𝕄}
    (h : ∀ r, r = (V1087 xs ws c) → iprop(WO R c (wbF ws c) (O25 xs ws c f0) ∗ St (XS xs ws) K c 66) ⊢ Q r) :
    iprop(WO R c (wbF ws c) (O24 xs ws c f0) ∗ St (XS xs ws) K c 65) ⊢ WP c (k0_part43 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v8 v11 (V990 xs ws c) c1_i32_1339) Q := by
  rw [k0_part43_eq_skeleton]
  unfold k0_part43_skel
  simp only [Prog.lift, Prog.bind_op, Prog.bind_ret, Prog.pure_eq_ret]
  refine step_rcv (XS xs ws) K c (t := 65) (.a1 2) (by decide +kernel) rfl ?_
  refine rd_col (XS xs ws) K c (t := 66) 2 (by decide +kernel) ?_
  refine ld_wb c ?_
  refine ld_out c _ ?_
  refine st_out c _ (f' := O25 xs ws c f0) rfl ?_
  exact done c (h _ rfl)

set_option maxRecDepth 65536 in
theorem part44 {R : sProp 𝕄} (v11 : BitVec 32) (v14 : BitVec 32) {Q : _ → sProp 𝕄}
    (h : ∀ r,  iprop(WO R c (wbF ws c) (O25 xs ws c f0) ∗ St (XS xs ws) K c 68) ⊢ Q r) :
    iprop(WO R c (wbF ws c) (O25 xs ws c f0) ∗ St (XS xs ws) K c 66) ⊢ WP c (k0_part44 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part44_eq_skeleton]
  unfold k0_part44_skel
  simp only [Prog.lift, Prog.bind_op, Prog.bind_ret, Prog.pure_eq_ret]
  refine step_enq (XS xs ws) K c (t := 66) (.cwA 2 0) (by decide +kernel) (by decide +kernel) (dev40 c) ?_
  refine step_enq (XS xs ws) K c (t := 67) (.ccwA 2 0) (by decide +kernel) (by decide +kernel) (dev41 c) ?_
  exact done c (h _)

set_option maxRecDepth 65536 in
theorem part45 {R : sProp 𝕄} (v3 : BitVec 32) (v4 : BitVec 32) (v14 : BitVec 32) {Q : _ → sProp 𝕄}
    (h : ∀ r,  iprop(WO R c (wbF ws c) (O25 xs ws c f0) ∗ St (XS xs ws) K c 70) ⊢ Q r) :
    iprop(WO R c (wbF ws c) (O25 xs ws c f0) ∗ St (XS xs ws) K c 68) ⊢ WP c (k0_part45 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v14) Q := by
  rw [k0_part45_eq_skeleton]
  unfold k0_part45_skel
  simp only [Prog.lift, Prog.bind_op, Prog.bind_ret, Prog.pure_eq_ret]
  refine step_enq (XS xs ws) K c (t := 68) (.cwA 2 1) (by decide +kernel) (by decide +kernel) (dev42 c) ?_
  refine step_enq (XS xs ws) K c (t := 69) (.ccwA 2 1) (by decide +kernel) (by decide +kernel) (dev43 c) ?_
  exact done c (h _)

set_option maxRecDepth 65536 in
theorem part46 {R : sProp 𝕄} (v1139 : BitVec 32) (v1141 : BitVec 32) (c16_i32_1434 : BitVec 32) {Q : _ → sProp 𝕄}
    (h : ∀ r, r.2 = (V1172 xs ws c) → iprop(WO R c (wbF ws c) (O27 xs ws c f0) ∗ St (XS xs ws) K c 70) ⊢ Q r) :
    iprop(WO R c (wbF ws c) (O25 xs ws c f0) ∗ St (XS xs ws) K c 70) ⊢ WP c (k0_part46 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v1139 v1141 c16_i32_1434) Q := by
  rw [k0_part46_eq_skeleton]
  unfold k0_part46_skel
  simp only [Prog.lift, Prog.bind_op, Prog.bind_ret, Prog.pure_eq_ret]
  refine rd_cw (XS xs ws) K c (t := 70) 1 0 0 (by decide +kernel) ?_
  refine ld_wb c ?_
  refine ld_out c _ ?_
  refine st_out c _ (f' := O26 xs ws c f0) rfl ?_
  refine rd_ccw (XS xs ws) K c (t := 70) 1 0 0 (by decide +kernel) ?_
  refine ld_wb c ?_
  refine ld_out c _ ?_
  refine st_out c _ (f' := O27 xs ws c f0) rfl ?_
  exact done c (h _ rfl)

set_option maxRecDepth 65536 in
theorem part47 {R : sProp 𝕄} (v1139 : BitVec 32) (v1142 : BitVec 32) {Q : _ → sProp 𝕄}
    (h : ∀ r, r.1 = (V1173 xs ws c) → r.2 = (V1203 xs ws c) → iprop(WO R c (wbF ws c) (O29 xs ws c f0) ∗ St (XS xs ws) K c 70) ⊢ Q r) :
    iprop(WO R c (wbF ws c) (O27 xs ws c f0) ∗ St (XS xs ws) K c 70) ⊢ WP c (k0_part47 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V1087 xs ws c) v1139 v1142 (V1172 xs ws c)) Q := by
  rw [k0_part47_eq_skeleton]
  unfold k0_part47_skel
  simp only [Prog.lift, Prog.bind_op, Prog.bind_ret, Prog.pure_eq_ret]
  refine rd_cw (XS xs ws) K c (t := 70) 1 0 1 (by decide +kernel) ?_
  refine ld_wb c ?_
  refine ld_out c _ ?_
  refine st_out c _ (f' := O28 xs ws c f0) rfl ?_
  refine rd_ccw (XS xs ws) K c (t := 70) 1 0 1 (by decide +kernel) ?_
  refine ld_wb c ?_
  refine ld_out c _ ?_
  refine st_out c _ (f' := O29 xs ws c f0) rfl ?_
  exact done c (h _ rfl rfl)

set_option maxRecDepth 65536 in
theorem part48 {R : sProp 𝕄} (v11 : BitVec 32) (v14 : BitVec 32) {Q : _ → sProp 𝕄}
    (h : ∀ r, r = (V1204 xs ws c) → iprop(WO R c (wbF ws c) (O29 xs ws c f0) ∗ St (XS xs ws) K c 72) ⊢ Q r) :
    iprop(WO R c (wbF ws c) (O29 xs ws c f0) ∗ St (XS xs ws) K c 70) ⊢ WP c (k0_part48 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14 (V1173 xs ws c) (V1203 xs ws c)) Q := by
  rw [k0_part48_eq_skeleton]
  unfold k0_part48_skel
  simp only [Prog.lift, Prog.bind_op, Prog.bind_ret, Prog.pure_eq_ret]
  refine step_rcv (XS xs ws) K c (t := 70) (.cwB 1 1 0) (by decide +kernel) rfl ?_
  refine step_rcv (XS xs ws) K c (t := 71) (.ccwB 1 1 0) (by decide +kernel) rfl ?_
  exact done c (h _ rfl)

set_option maxRecDepth 65536 in
theorem part49 {R : sProp 𝕄} (v3 : BitVec 32) (v4 : BitVec 32) (v11 : BitVec 32) (v14 : BitVec 32) {Q : _ → sProp 𝕄}
    (h : ∀ r,  iprop(WO R c (wbF ws c) (O29 xs ws c f0) ∗ St (XS xs ws) K c 74) ⊢ Q r) :
    iprop(WO R c (wbF ws c) (O29 xs ws c f0) ∗ St (XS xs ws) K c 72) ⊢ WP c (k0_part49 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v3 v4 v11 v14) Q := by
  rw [k0_part49_eq_skeleton]
  unfold k0_part49_skel
  simp only [Prog.lift, Prog.bind_op, Prog.bind_ret, Prog.pure_eq_ret]
  refine step_rcv (XS xs ws) K c (t := 72) (.cwB 1 1 1) (by decide +kernel) rfl ?_
  refine step_rcv (XS xs ws) K c (t := 73) (.ccwB 1 1 1) (by decide +kernel) rfl ?_
  exact done c (h _)

set_option maxRecDepth 65536 in
theorem part50 {R : sProp 𝕄} (v4 : BitVec 32) (v1241 : BitVec 32) (v1242 : BitVec 32) {Q : _ → sProp 𝕄}
    (h : ∀ r, r.2.2.1 = (V1265 xs ws c) → r.2.2.2.1 = (V1267 xs ws c) → iprop(WO R c (wbF ws c) (O30 xs ws c f0) ∗ St (XS xs ws) K c 74) ⊢ Q r) :
    iprop(WO R c (wbF ws c) (O29 xs ws c f0) ∗ St (XS xs ws) K c 74) ⊢ WP c (k0_part50 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v4 v1241 v1242) Q := by
  rw [k0_part50_eq_skeleton]
  unfold k0_part50_skel
  simp only [Prog.lift, Prog.bind_op, Prog.bind_ret, Prog.pure_eq_ret]
  refine rd_cw (XS xs ws) K c (t := 74) 1 2 0 (by decide +kernel) ?_
  refine ld_wb c ?_
  refine ld_out c _ ?_
  refine st_out c _ (f' := O30 xs ws c f0) rfl ?_
  refine rd_ccw (XS xs ws) K c (t := 74) 1 2 0 (by decide +kernel) ?_
  exact done c (h _ rfl rfl)

set_option maxRecDepth 65536 in
theorem part51 {R : sProp 𝕄} (v1248 : BitVec 32) (v1251 : BitVec 32) (v1270 : BitVec 32) {Q : _ → sProp 𝕄}
    (h : ∀ r, r.1 = (V1282 xs ws c) → r.2.1 = (V1296 xs ws c) → r.2.2.1 = (V1298 xs ws c) → iprop(WO R c (wbF ws c) (O32 xs ws c f0) ∗ St (XS xs ws) K c 74) ⊢ Q r) :
    iprop(WO R c (wbF ws c) (O30 xs ws c f0) ∗ St (XS xs ws) K c 74) ⊢ WP c (k0_part51 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V1204 xs ws c) v1248 v1251 (V1265 xs ws c) (V1267 xs ws c) v1270) Q := by
  rw [k0_part51_eq_skeleton]
  unfold k0_part51_skel
  simp only [Prog.lift, Prog.bind_op, Prog.bind_ret, Prog.pure_eq_ret]
  refine ld_wb c ?_
  refine ld_out c _ ?_
  refine st_out c _ (f' := O31 xs ws c f0) rfl ?_
  refine rd_cw (XS xs ws) K c (t := 74) 1 2 1 (by decide +kernel) ?_
  refine ld_wb c ?_
  refine ld_out c _ ?_
  refine st_out c _ (f' := O32 xs ws c f0) rfl ?_
  refine rd_ccw (XS xs ws) K c (t := 74) 1 2 1 (by decide +kernel) ?_
  exact done c (h _ rfl rfl rfl)

set_option maxRecDepth 65536 in
theorem part52 {R : sProp 𝕄} (v11 : BitVec 32) (v14 : BitVec 32) (v1301 : BitVec 32) {Q : _ → sProp 𝕄}
    (h : ∀ r, r = (V1313 xs ws c) → iprop(WO R c (wbF ws c) (O33 xs ws c f0) ∗ St (XS xs ws) K c 75) ⊢ Q r) :
    iprop(WO R c (wbF ws c) (O32 xs ws c f0) ∗ St (XS xs ws) K c 74) ⊢ WP c (k0_part52 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14 (V1282 xs ws c) (V1296 xs ws c) (V1298 xs ws c) v1301) Q := by
  rw [k0_part52_eq_skeleton]
  unfold k0_part52_skel
  simp only [Prog.lift, Prog.bind_op, Prog.bind_ret, Prog.pure_eq_ret]
  refine ld_wb c ?_
  refine ld_out c _ ?_
  refine st_out c _ (f' := O33 xs ws c f0) rfl ?_
  refine step_rcv (XS xs ws) K c (t := 74) (.cwA 2 0) (by decide +kernel) rfl ?_
  exact done c (h _ rfl)

set_option maxRecDepth 65536 in
theorem part53 {R : sProp 𝕄} (v11 : BitVec 32) (v14 : BitVec 32) {Q : _ → sProp 𝕄}
    (h : ∀ r,  iprop(WO R c (wbF ws c) (O33 xs ws c f0) ∗ St (XS xs ws) K c 77) ⊢ Q r) :
    iprop(WO R c (wbF ws c) (O33 xs ws c f0) ∗ St (XS xs ws) K c 75) ⊢ WP c (k0_part53 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part53_eq_skeleton]
  unfold k0_part53_skel
  simp only [Prog.lift, Prog.bind_op, Prog.bind_ret, Prog.pure_eq_ret]
  refine step_rcv (XS xs ws) K c (t := 75) (.ccwA 2 0) (by decide +kernel) rfl ?_
  refine step_enq (XS xs ws) K c (t := 76) (.cwB 2 0 0) (by decide +kernel) (by decide +kernel) (dev44 c) ?_
  exact done c (h _)

set_option maxRecDepth 65536 in
theorem part54 {R : sProp 𝕄} (v11 : BitVec 32) (v14 : BitVec 32) {Q : _ → sProp 𝕄}
    (h : ∀ r,  iprop(WO R c (wbF ws c) (O33 xs ws c f0) ∗ St (XS xs ws) K c 80) ⊢ Q r) :
    iprop(WO R c (wbF ws c) (O33 xs ws c f0) ∗ St (XS xs ws) K c 77) ⊢ WP c (k0_part54 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part54_eq_skeleton]
  unfold k0_part54_skel
  simp only [Prog.lift, Prog.bind_op, Prog.bind_ret, Prog.pure_eq_ret]
  refine step_enq (XS xs ws) K c (t := 77) (.ccwB 2 0 0) (by decide +kernel) (by decide +kernel) (dev45 c) ?_
  refine step_rcv (XS xs ws) K c (t := 78) (.cwA 2 1) (by decide +kernel) rfl ?_
  refine step_rcv (XS xs ws) K c (t := 79) (.ccwA 2 1) (by decide +kernel) rfl ?_
  exact done c (h _)

set_option maxRecDepth 65536 in
theorem part55 {R : sProp 𝕄} (v3 : BitVec 32) (v11 : BitVec 32) (v14 : BitVec 32) {Q : _ → sProp 𝕄}
    (h : ∀ r,  iprop(WO R c (wbF ws c) (O33 xs ws c f0) ∗ St (XS xs ws) K c 82) ⊢ Q r) :
    iprop(WO R c (wbF ws c) (O33 xs ws c f0) ∗ St (XS xs ws) K c 80) ⊢ WP c (k0_part55 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v11 v14) Q := by
  rw [k0_part55_eq_skeleton]
  unfold k0_part55_skel
  simp only [Prog.lift, Prog.bind_op, Prog.bind_ret, Prog.pure_eq_ret]
  refine step_enq (XS xs ws) K c (t := 80) (.cwB 2 0 1) (by decide +kernel) (by decide +kernel) (dev46 c) ?_
  refine step_enq (XS xs ws) K c (t := 81) (.ccwB 2 0 1) (by decide +kernel) (by decide +kernel) (dev47 c) ?_
  exact done c (h _)

set_option maxRecDepth 65536 in
theorem part56 {R : sProp 𝕄} (v3 : BitVec 32) (v4 : BitVec 32) (v1388 : BitVec 32) (c4_i32_1767 : BitVec 32) {Q : _ → sProp 𝕄}
    (h : ∀ r, r.2.2.1 = (V1414 xs ws c) → r.2.2.2.1 = (V1416 xs ws c) → iprop(WO R c (wbF ws c) (O34 xs ws c f0) ∗ St (XS xs ws) K c 82) ⊢ Q r) :
    iprop(WO R c (wbF ws c) (O33 xs ws c f0) ∗ St (XS xs ws) K c 82) ⊢ WP c (k0_part56 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v1388 c4_i32_1767) Q := by
  rw [k0_part56_eq_skeleton]
  unfold k0_part56_skel
  simp only [Prog.lift, Prog.bind_op, Prog.bind_ret, Prog.pure_eq_ret]
  refine rd_cw (XS xs ws) K c (t := 82) 2 1 0 (by decide +kernel) ?_
  refine ld_wb c ?_
  refine ld_out c _ ?_
  refine st_out c _ (f' := O34 xs ws c f0) rfl ?_
  refine rd_ccw (XS xs ws) K c (t := 82) 2 1 0 (by decide +kernel) ?_
  exact done c (h _ rfl rfl)

set_option maxRecDepth 65536 in
theorem part57 {R : sProp 𝕄} (v1397 : BitVec 32) (v1400 : BitVec 32) (v1418 : BitVec 32) {Q : _ → sProp 𝕄}
    (h : ∀ r, r.1 = (V1431 xs ws c) → r.2.1 = (V1445 xs ws c) → r.2.2.1 = (V1447 xs ws c) → iprop(WO R c (wbF ws c) (O36 xs ws c f0) ∗ St (XS xs ws) K c 82) ⊢ Q r) :
    iprop(WO R c (wbF ws c) (O34 xs ws c f0) ∗ St (XS xs ws) K c 82) ⊢ WP c (k0_part57 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V1313 xs ws c) v1397 v1400 (V1414 xs ws c) (V1416 xs ws c) v1418) Q := by
  rw [k0_part57_eq_skeleton]
  unfold k0_part57_skel
  simp only [Prog.lift, Prog.bind_op, Prog.bind_ret, Prog.pure_eq_ret]
  refine ld_wb c ?_
  refine ld_out c _ ?_
  refine st_out c _ (f' := O35 xs ws c f0) rfl ?_
  refine rd_cw (XS xs ws) K c (t := 82) 2 1 1 (by decide +kernel) ?_
  refine ld_wb c ?_
  refine ld_out c _ ?_
  refine st_out c _ (f' := O36 xs ws c f0) rfl ?_
  refine rd_ccw (XS xs ws) K c (t := 82) 2 1 1 (by decide +kernel) ?_
  exact done c (h _ rfl rfl rfl)

set_option maxRecDepth 65536 in
theorem part58 {R : sProp 𝕄} (v11 : BitVec 32) (v1449 : BitVec 32) {Q : _ → sProp 𝕄}
    (h : ∀ r, r = (V1462 xs ws c) → iprop(WO R c (wbF ws c) (O37 xs ws c f0) ∗ St (XS xs ws) K c 83) ⊢ Q r) :
    iprop(WO R c (wbF ws c) (O36 xs ws c f0) ∗ St (XS xs ws) K c 82) ⊢ WP c (k0_part58 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 (V1431 xs ws c) (V1445 xs ws c) (V1447 xs ws c) v1449) Q := by
  rw [k0_part58_eq_skeleton]
  unfold k0_part58_skel
  simp only [Prog.lift, Prog.bind_op, Prog.bind_ret, Prog.pure_eq_ret]
  refine ld_wb c ?_
  refine ld_out c _ ?_
  refine st_out c _ (f' := O37 xs ws c f0) rfl ?_
  refine step_rcv (XS xs ws) K c (t := 82) (.cwB 2 0 0) (by decide +kernel) rfl ?_
  exact done c (h _ rfl)

set_option maxRecDepth 65536 in
theorem part59 {R : sProp 𝕄} (v11 : BitVec 32) (v14 : BitVec 32) {Q : _ → sProp 𝕄}
    (h : ∀ r,  iprop(WO R c (wbF ws c) (O37 xs ws c f0) ∗ St (XS xs ws) K c 85) ⊢ Q r) :
    iprop(WO R c (wbF ws c) (O37 xs ws c f0) ∗ St (XS xs ws) K c 83) ⊢ WP c (k0_part59 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part59_eq_skeleton]
  unfold k0_part59_skel
  simp only [Prog.lift, Prog.bind_op, Prog.bind_ret, Prog.pure_eq_ret]
  refine step_rcv (XS xs ws) K c (t := 83) (.ccwB 2 0 0) (by decide +kernel) rfl ?_
  refine step_enq (XS xs ws) K c (t := 84) (.cwB 2 1 0) (by decide +kernel) (by decide +kernel) (dev48 c) ?_
  exact done c (h _)

set_option maxRecDepth 65536 in
theorem part60 {R : sProp 𝕄} (v11 : BitVec 32) (v14 : BitVec 32) {Q : _ → sProp 𝕄}
    (h : ∀ r,  iprop(WO R c (wbF ws c) (O37 xs ws c f0) ∗ St (XS xs ws) K c 87) ⊢ Q r) :
    iprop(WO R c (wbF ws c) (O37 xs ws c f0) ∗ St (XS xs ws) K c 85) ⊢ WP c (k0_part60 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part60_eq_skeleton]
  unfold k0_part60_skel
  simp only [Prog.lift, Prog.bind_op, Prog.bind_ret, Prog.pure_eq_ret]
  refine step_enq (XS xs ws) K c (t := 85) (.ccwB 2 1 0) (by decide +kernel) (by decide +kernel) (dev49 c) ?_
  refine step_rcv (XS xs ws) K c (t := 86) (.cwB 2 0 1) (by decide +kernel) rfl ?_
  exact done c (h _)

set_option maxRecDepth 65536 in
theorem part61 {R : sProp 𝕄} (v11 : BitVec 32) (v14 : BitVec 32) {Q : _ → sProp 𝕄}
    (h : ∀ r,  iprop(WO R c (wbF ws c) (O37 xs ws c f0) ∗ St (XS xs ws) K c 89) ⊢ Q r) :
    iprop(WO R c (wbF ws c) (O37 xs ws c f0) ∗ St (XS xs ws) K c 87) ⊢ WP c (k0_part61 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part61_eq_skeleton]
  unfold k0_part61_skel
  simp only [Prog.lift, Prog.bind_op, Prog.bind_ret, Prog.pure_eq_ret]
  refine step_rcv (XS xs ws) K c (t := 87) (.ccwB 2 0 1) (by decide +kernel) rfl ?_
  refine step_enq (XS xs ws) K c (t := 88) (.cwB 2 1 1) (by decide +kernel) (by decide +kernel) (dev50 c) ?_
  exact done c (h _)

set_option maxRecDepth 65536 in
theorem part62 {R : sProp 𝕄} (v2 : BitVec 32) (v6 : BitVec 32) {Q : _ → sProp 𝕄}
    (h : ∀ r, r = (V1559 xs ws c) → iprop(WO R c (wbF ws c) (O38 xs ws c f0) ∗ St (XS xs ws) K c 91) ⊢ Q r) :
    iprop(WO R c (wbF ws c) (O37 xs ws c f0) ∗ St (XS xs ws) K c 89) ⊢ WP c (k0_part62 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v6 (V1462 xs ws c)) Q := by
  rw [k0_part62_eq_skeleton]
  unfold k0_part62_skel
  simp only [Prog.lift, Prog.bind_op, Prog.bind_ret, Prog.pure_eq_ret]
  refine step_enq (XS xs ws) K c (t := 89) (.ccwB 2 1 1) (by decide +kernel) (by decide +kernel) (dev51 c) ?_
  refine step_rcv (XS xs ws) K c (t := 90) (.a1 1) (by decide +kernel) rfl ?_
  refine rd_col (XS xs ws) K c (t := 91) 1 (by decide +kernel) ?_
  refine ld_wb c ?_
  refine ld_out c _ ?_
  refine st_out c _ (f' := O38 xs ws c f0) rfl ?_
  exact done c (h _ rfl)

set_option maxRecDepth 65536 in
theorem part63 {R : sProp 𝕄} (v11 : BitVec 32) (v14 : BitVec 32) {Q : _ → sProp 𝕄}
    (h : ∀ r,  iprop(WO R c (wbF ws c) (O38 xs ws c f0) ∗ St (XS xs ws) K c 93) ⊢ Q r) :
    iprop(WO R c (wbF ws c) (O38 xs ws c f0) ∗ St (XS xs ws) K c 91) ⊢ WP c (k0_part63 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part63_eq_skeleton]
  unfold k0_part63_skel
  simp only [Prog.lift, Prog.bind_op, Prog.bind_ret, Prog.pure_eq_ret]
  refine step_enq (XS xs ws) K c (t := 91) (.cwA 3 0) (by decide +kernel) (by decide +kernel) (dev52 c) ?_
  refine step_enq (XS xs ws) K c (t := 92) (.ccwA 3 0) (by decide +kernel) (by decide +kernel) (dev53 c) ?_
  exact done c (h _)

set_option maxRecDepth 65536 in
theorem part64 {R : sProp 𝕄} (v6 : BitVec 32) (v11 : BitVec 32) (v14 : BitVec 32) (c1_i32_2039 : BitVec 32) {Q : _ → sProp 𝕄}
    (h : ∀ r,  iprop(WO R c (wbF ws c) (O38 xs ws c f0) ∗ St (XS xs ws) K c 96) ⊢ Q r) :
    iprop(WO R c (wbF ws c) (O38 xs ws c f0) ∗ St (XS xs ws) K c 93) ⊢ WP c (k0_part64 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v6 v11 v14 c1_i32_2039) Q := by
  rw [k0_part64_eq_skeleton]
  unfold k0_part64_skel
  simp only [Prog.lift, Prog.bind_op, Prog.bind_ret, Prog.pure_eq_ret]
  refine step_enq (XS xs ws) K c (t := 93) (.cwA 3 1) (by decide +kernel) (by decide +kernel) (dev54 c) ?_
  refine step_enq (XS xs ws) K c (t := 94) (.ccwA 3 1) (by decide +kernel) (by decide +kernel) (dev55 c) ?_
  refine step_rcv (XS xs ws) K c (t := 95) (.b2A 0) (by decide +kernel) rfl ?_
  exact done c (h _)

set_option maxRecDepth 65536 in
theorem part65 {R : sProp 𝕄} (v3 : BitVec 32) (v4 : BitVec 32) (v6 : BitVec 32) {Q : _ → sProp 𝕄}
    (h : ∀ r, r.2.1 = (V1635 xs ws c) → iprop(WO R c (wbF ws c) (O39 xs ws c f0) ∗ St (XS xs ws) K c 97) ⊢ Q r) :
    iprop(WO R c (wbF ws c) (O38 xs ws c f0) ∗ St (XS xs ws) K c 96) ⊢ WP c (k0_part65 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v6 (V1559 xs ws c)) Q := by
  rw [k0_part65_eq_skeleton]
  unfold k0_part65_skel
  simp only [Prog.lift, Prog.bind_op, Prog.bind_ret, Prog.pure_eq_ret]
  refine step_enq (XS xs ws) K c (t := 96) (.b2B) (by decide +kernel) (by decide +kernel) (dev56 c) ?_
  refine rd_aggr (XS xs ws) K c (t := 97) 0 0 (by decide +kernel) ?_
  refine ld_wb c ?_
  refine ld_out c _ ?_
  refine st_out c _ (f' := O39 xs ws c f0) rfl ?_
  exact done c (h _ rfl)

set_option maxRecDepth 65536 in
theorem part66 {R : sProp 𝕄} (v3 : BitVec 32) (v1616 : BitVec 32) (v1636 : BitVec 32) {Q : _ → sProp 𝕄}
    (h : ∀ r, r.1 = (V1654 xs ws c) → r.2 = (V1666 xs ws c) → iprop(WO R c (wbF ws c) (O40 xs ws c f0) ∗ St (XS xs ws) K c 97) ⊢ Q r) :
    iprop(WO R c (wbF ws c) (O39 xs ws c f0) ∗ St (XS xs ws) K c 97) ⊢ WP c (k0_part66 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v1616 (V1635 xs ws c) v1636) Q := by
  rw [k0_part66_eq_skeleton]
  unfold k0_part66_skel
  simp only [Prog.lift, Prog.bind_op, Prog.bind_ret, Prog.pure_eq_ret]
  refine rd_aggr (XS xs ws) K c (t := 97) 0 1 (by decide +kernel) ?_
  refine ld_wb c ?_
  refine ld_out c _ ?_
  refine st_out c _ (f' := O40 xs ws c f0) rfl ?_
  refine rd_aggr (XS xs ws) K c (t := 97) 0 2 (by decide +kernel) ?_
  refine ld_wb c ?_
  exact done c (h _ rfl rfl)

set_option maxRecDepth 65536 in
theorem part67 {R : sProp 𝕄} (v3 : BitVec 32) (v4 : BitVec 32) (v1616 : BitVec 32) {Q : _ → sProp 𝕄}
    (h : ∀ r, r.1 = (V1692 xs ws c) → iprop(WO R c (wbF ws c) (O42 xs ws c f0) ∗ St (XS xs ws) K c 97) ⊢ Q r) :
    iprop(WO R c (wbF ws c) (O40 xs ws c f0) ∗ St (XS xs ws) K c 97) ⊢ WP c (k0_part67 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v1616 (V1654 xs ws c) (V1666 xs ws c)) Q := by
  rw [k0_part67_eq_skeleton]
  unfold k0_part67_skel
  simp only [Prog.lift, Prog.bind_op, Prog.bind_ret, Prog.pure_eq_ret]
  refine ld_out c _ ?_
  refine st_out c _ (f' := O41 xs ws c f0) rfl ?_
  refine rd_aggr (XS xs ws) K c (t := 97) 0 3 (by decide +kernel) ?_
  refine ld_wb c ?_
  refine ld_out c _ ?_
  refine st_out c _ (f' := O42 xs ws c f0) rfl ?_
  exact done c (h _ rfl)

end Cert.KernelIdealProof
-- ==== Proof.Body3.lean ====
/-
# The body, part by part
-/
module

public import proofs.«01_k».proof.Proof.Pre

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (xs : Dev nD → Vec F S256x4096 .bf16) (ws : Dev nD → Vec F S4096x128 .bf16) (K : Dev nD × CI → ℕ) (c : Dev nD) (f0 : (cc0_stg2_0 : Ref sig .tc).ty.Contents (Elt F))

set_option maxRecDepth 65536 in
theorem part68 {R : sProp 𝕄} (v1697 : BitVec 32) (v1701 : BitVec 32) (c4_i32_2149 : BitVec 32) {Q : _ → sProp 𝕄}
    (h : ∀ r, r.2.2.1 = (V1721 xs ws c) → r.2.2.2.2 = (V1730 xs ws c) → iprop(WO R c (wbF ws c) (O43 xs ws c f0) ∗ St (XS xs ws) K c 97) ⊢ Q r) :
    iprop(WO R c (wbF ws c) (O42 xs ws c f0) ∗ St (XS xs ws) K c 97) ⊢ WP c (k0_part68 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v1697 v1701 c4_i32_2149) Q := by
  rw [k0_part68_eq_skeleton]
  unfold k0_part68_skel
  simp only [Prog.lift, Prog.bind_op, Prog.bind_ret, Prog.pure_eq_ret]
  refine rd_cw (XS xs ws) K c (t := 97) 2 0 0 (by decide +kernel) ?_
  refine ld_wb c ?_
  refine ld_out c _ ?_
  refine st_out c _ (f' := O43 xs ws c f0) rfl ?_
  refine rd_ccw (XS xs ws) K c (t := 97) 2 0 0 (by decide +kernel) ?_
  refine ld_wb c ?_
  exact done c (h _ rfl rfl)

set_option maxRecDepth 65536 in
theorem part69 {R : sProp 𝕄} (v1704 : BitVec 32) (v1707 : BitVec 32) (v1726 : BitVec 32) {Q : _ → sProp 𝕄}
    (h : ∀ r, r.1 = (V1738 xs ws c) → r.2.1 = (V1752 xs ws c) → r.2.2.2 = (V1761 xs ws c) → iprop(WO R c (wbF ws c) (O45 xs ws c f0) ∗ St (XS xs ws) K c 97) ⊢ Q r) :
    iprop(WO R c (wbF ws c) (O43 xs ws c f0) ∗ St (XS xs ws) K c 97) ⊢ WP c (k0_part69 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V1692 xs ws c) v1704 v1707 (V1721 xs ws c) v1726 (V1730 xs ws c)) Q := by
  rw [k0_part69_eq_skeleton]
  unfold k0_part69_skel
  simp only [Prog.lift, Prog.bind_op, Prog.bind_ret, Prog.pure_eq_ret]
  refine ld_out c _ ?_
  refine st_out c _ (f' := O44 xs ws c f0) rfl ?_
  refine rd_cw (XS xs ws) K c (t := 97) 2 0 1 (by decide +kernel) ?_
  refine ld_wb c ?_
  refine ld_out c _ ?_
  refine st_out c _ (f' := O45 xs ws c f0) rfl ?_
  refine rd_ccw (XS xs ws) K c (t := 97) 2 0 1 (by decide +kernel) ?_
  refine ld_wb c ?_
  exact done c (h _ rfl rfl rfl)

set_option maxRecDepth 65536 in
theorem part70 {R : sProp 𝕄} (v11 : BitVec 32) (v14 : BitVec 32) (v1757 : BitVec 32) {Q : _ → sProp 𝕄}
    (h : ∀ r, r = (V1769 xs ws c) → iprop(WO R c (wbF ws c) (O46 xs ws c f0) ∗ St (XS xs ws) K c 98) ⊢ Q r) :
    iprop(WO R c (wbF ws c) (O45 xs ws c f0) ∗ St (XS xs ws) K c 97) ⊢ WP c (k0_part70 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14 (V1738 xs ws c) (V1752 xs ws c) v1757 (V1761 xs ws c)) Q := by
  rw [k0_part70_eq_skeleton]
  unfold k0_part70_skel
  simp only [Prog.lift, Prog.bind_op, Prog.bind_ret, Prog.pure_eq_ret]
  refine ld_out c _ ?_
  refine st_out c _ (f' := O46 xs ws c f0) rfl ?_
  refine step_rcv (XS xs ws) K c (t := 97) (.cwB 2 1 0) (by decide +kernel) rfl ?_
  exact done c (h _ rfl)

set_option maxRecDepth 65536 in
theorem part71 {R : sProp 𝕄} (v11 : BitVec 32) (v14 : BitVec 32) {Q : _ → sProp 𝕄}
    (h : ∀ r,  iprop(WO R c (wbF ws c) (O46 xs ws c f0) ∗ St (XS xs ws) K c 101) ⊢ Q r) :
    iprop(WO R c (wbF ws c) (O46 xs ws c f0) ∗ St (XS xs ws) K c 98) ⊢ WP c (k0_part71 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14) Q := by
  rw [k0_part71_eq_skeleton]
  unfold k0_part71_skel
  simp only [Prog.lift, Prog.bind_op, Prog.bind_ret, Prog.pure_eq_ret]
  refine step_rcv (XS xs ws) K c (t := 98) (.ccwB 2 1 0) (by decide +kernel) rfl ?_
  refine step_rcv (XS xs ws) K c (t := 99) (.cwB 2 1 1) (by decide +kernel) rfl ?_
  refine step_rcv (XS xs ws) K c (t := 100) (.ccwB 2 1 1) (by decide +kernel) rfl ?_
  exact done c (h _)

set_option maxRecDepth 65536 in
theorem part72 {R : sProp 𝕄} (v3 : BitVec 32) (v4 : BitVec 32) (c2_i32_2281 : BitVec 32) {Q : _ → sProp 𝕄}
    (h : ∀ r, r.2.2 = (V1830 xs ws c) → iprop(WO R c (wbF ws c) (O47 xs ws c f0) ∗ St (XS xs ws) K c 101) ⊢ Q r) :
    iprop(WO R c (wbF ws c) (O46 xs ws c f0) ∗ St (XS xs ws) K c 101) ⊢ WP c (k0_part72 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 c2_i32_2281) Q := by
  rw [k0_part72_eq_skeleton]
  unfold k0_part72_skel
  simp only [Prog.lift, Prog.bind_op, Prog.bind_ret, Prog.pure_eq_ret]
  refine rd_cw (XS xs ws) K c (t := 101) 2 2 0 (by decide +kernel) ?_
  refine ld_wb c ?_
  refine ld_out c _ ?_
  refine st_out c _ (f' := O47 xs ws c f0) rfl ?_
  exact done c (h _ rfl)

set_option maxRecDepth 65536 in
theorem part73 {R : sProp 𝕄} (v1813 : BitVec 32) (v1816 : BitVec 32) {Q : _ → sProp 𝕄}
    (h : ∀ r, r.1 = (V1847 xs ws c) → r.2 = (V1861 xs ws c) → iprop(WO R c (wbF ws c) (O49 xs ws c f0) ∗ St (XS xs ws) K c 101) ⊢ Q r) :
    iprop(WO R c (wbF ws c) (O47 xs ws c f0) ∗ St (XS xs ws) K c 101) ⊢ WP c (k0_part73 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V1769 xs ws c) v1813 v1816 (V1830 xs ws c)) Q := by
  rw [k0_part73_eq_skeleton]
  unfold k0_part73_skel
  simp only [Prog.lift, Prog.bind_op, Prog.bind_ret, Prog.pure_eq_ret]
  refine rd_ccw (XS xs ws) K c (t := 101) 2 2 0 (by decide +kernel) ?_
  refine ld_wb c ?_
  refine ld_out c _ ?_
  refine st_out c _ (f' := O48 xs ws c f0) rfl ?_
  refine rd_cw (XS xs ws) K c (t := 101) 2 2 1 (by decide +kernel) ?_
  refine ld_wb c ?_
  refine ld_out c _ ?_
  refine st_out c _ (f' := O49 xs ws c f0) rfl ?_
  exact done c (h _ rfl rfl)

set_option maxRecDepth 65536 in
theorem part74 {R : sProp 𝕄} (v11 : BitVec 32) (v1816 : BitVec 32) {Q : _ → sProp 𝕄}
    (h : ∀ r, r = (V1878 xs ws c) → iprop(WO R c (wbF ws c) (O50 xs ws c f0) ∗ St (XS xs ws) K c 102) ⊢ Q r) :
    iprop(WO R c (wbF ws c) (O49 xs ws c f0) ∗ St (XS xs ws) K c 101) ⊢ WP c (k0_part74 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v1816 (V1847 xs ws c) (V1861 xs ws c)) Q := by
  rw [k0_part74_eq_skeleton]
  unfold k0_part74_skel
  simp only [Prog.lift, Prog.bind_op, Prog.bind_ret, Prog.pure_eq_ret]
  refine rd_ccw (XS xs ws) K c (t := 101) 2 2 1 (by decide +kernel) ?_
  refine ld_wb c ?_
  refine ld_out c _ ?_
  refine st_out c _ (f' := O50 xs ws c f0) rfl ?_
  refine step_rcv (XS xs ws) K c (t := 101) (.cwA 3 0) (by decide +kernel) rfl ?_
  exact done c (h _ rfl)

set_option maxRecDepth 65536 in
theorem part75 {R : sProp 𝕄} (v11 : BitVec 32) (v14 : BitVec 32) {Q : _ → sProp 𝕄}
    (h : ∀ r,  iprop(WO R c (wbF ws c) (O50 xs ws c f0) ∗ St (XS xs ws) K c 104) ⊢ Q r) :
    iprop(WO R c (wbF ws c) (O50 xs ws c f0) ∗ St (XS xs ws) K c 102) ⊢ WP c (k0_part75 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part75_eq_skeleton]
  unfold k0_part75_skel
  simp only [Prog.lift, Prog.bind_op, Prog.bind_ret, Prog.pure_eq_ret]
  refine step_rcv (XS xs ws) K c (t := 102) (.ccwA 3 0) (by decide +kernel) rfl ?_
  refine step_enq (XS xs ws) K c (t := 103) (.cwB 3 0 0) (by decide +kernel) (by decide +kernel) (dev57 c) ?_
  exact done c (h _)

set_option maxRecDepth 65536 in
theorem part76 {R : sProp 𝕄} (v11 : BitVec 32) (v14 : BitVec 32) (v1905 : BitVec 32) {Q : _ → sProp 𝕄}
    (h : ∀ r,  iprop(WO R c (wbF ws c) (O50 xs ws c f0) ∗ St (XS xs ws) K c 106) ⊢ Q r) :
    iprop(WO R c (wbF ws c) (O50 xs ws c f0) ∗ St (XS xs ws) K c 104) ⊢ WP c (k0_part76 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14 v1905) Q := by
  rw [k0_part76_eq_skeleton]
  unfold k0_part76_skel
  simp only [Prog.lift, Prog.bind_op, Prog.bind_ret, Prog.pure_eq_ret]
  refine step_enq (XS xs ws) K c (t := 104) (.ccwB 3 0 0) (by decide +kernel) (by decide +kernel) (dev58 c) ?_
  refine step_rcv (XS xs ws) K c (t := 105) (.cwA 3 1) (by decide +kernel) rfl ?_
  exact done c (h _)

set_option maxRecDepth 65536 in
theorem part77 {R : sProp 𝕄} (v11 : BitVec 32) (v14 : BitVec 32) {Q : _ → sProp 𝕄}
    (h : ∀ r,  iprop(WO R c (wbF ws c) (O50 xs ws c f0) ∗ St (XS xs ws) K c 108) ⊢ Q r) :
    iprop(WO R c (wbF ws c) (O50 xs ws c f0) ∗ St (XS xs ws) K c 106) ⊢ WP c (k0_part77 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part77_eq_skeleton]
  unfold k0_part77_skel
  simp only [Prog.lift, Prog.bind_op, Prog.bind_ret, Prog.pure_eq_ret]
  refine step_rcv (XS xs ws) K c (t := 106) (.ccwA 3 1) (by decide +kernel) rfl ?_
  refine step_enq (XS xs ws) K c (t := 107) (.cwB 3 0 1) (by decide +kernel) (by decide +kernel) (dev59 c) ?_
  exact done c (h _)

set_option maxRecDepth 65536 in
theorem part78 {R : sProp 𝕄} (v3 : BitVec 32) (v4 : BitVec 32) (v8 : BitVec 32) {Q : _ → sProp 𝕄}
    (h : ∀ r, r.2.1 = (V1976 xs ws c) → iprop(WO R c (wbF ws c) (O51 xs ws c f0) ∗ St (XS xs ws) K c 110) ⊢ Q r) :
    iprop(WO R c (wbF ws c) (O50 xs ws c f0) ∗ St (XS xs ws) K c 108) ⊢ WP c (k0_part78 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v8 (V1878 xs ws c)) Q := by
  rw [k0_part78_eq_skeleton]
  unfold k0_part78_skel
  simp only [Prog.lift, Prog.bind_op, Prog.bind_ret, Prog.pure_eq_ret]
  refine step_enq (XS xs ws) K c (t := 108) (.ccwB 3 0 1) (by decide +kernel) (by decide +kernel) (dev60 c) ?_
  refine step_rcv (XS xs ws) K c (t := 109) (.b2A 1) (by decide +kernel) rfl ?_
  refine rd_aggr (XS xs ws) K c (t := 110) 2 0 (by decide +kernel) ?_
  refine ld_wb c ?_
  refine ld_out c _ ?_
  refine st_out c _ (f' := O51 xs ws c f0) rfl ?_
  exact done c (h _ rfl)

set_option maxRecDepth 65536 in
theorem part79 {R : sProp 𝕄} (v3 : BitVec 32) (v1957 : BitVec 32) (v1979 : BitVec 32) {Q : _ → sProp 𝕄}
    (h : ∀ r, r.1 = (V1995 xs ws c) → r.2 = (V2010 xs ws c) → iprop(WO R c (wbF ws c) (O53 xs ws c f0) ∗ St (XS xs ws) K c 110) ⊢ Q r) :
    iprop(WO R c (wbF ws c) (O51 xs ws c f0) ∗ St (XS xs ws) K c 110) ⊢ WP c (k0_part79 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v1957 (V1976 xs ws c) v1979) Q := by
  rw [k0_part79_eq_skeleton]
  unfold k0_part79_skel
  simp only [Prog.lift, Prog.bind_op, Prog.bind_ret, Prog.pure_eq_ret]
  refine rd_aggr (XS xs ws) K c (t := 110) 2 1 (by decide +kernel) ?_
  refine ld_wb c ?_
  refine ld_out c _ ?_
  refine st_out c _ (f' := O52 xs ws c f0) rfl ?_
  refine rd_aggr (XS xs ws) K c (t := 110) 2 2 (by decide +kernel) ?_
  refine ld_wb c ?_
  refine ld_out c _ ?_
  refine st_out c _ (f' := O53 xs ws c f0) rfl ?_
  exact done c (h _ rfl rfl)

set_option maxRecDepth 65536 in
theorem part80 {R : sProp 𝕄} (v3 : BitVec 32) (v4 : BitVec 32) (v1957 : BitVec 32) {Q : _ → sProp 𝕄}
    (h : ∀ r, r.1 = (V2033 xs ws c) → iprop(WO R c (wbF ws c) (O54 xs ws c f0) ∗ St (XS xs ws) K c 110) ⊢ Q r) :
    iprop(WO R c (wbF ws c) (O53 xs ws c f0) ∗ St (XS xs ws) K c 110) ⊢ WP c (k0_part80 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v1957 (V1995 xs ws c) (V2010 xs ws c)) Q := by
  rw [k0_part80_eq_skeleton]
  unfold k0_part80_skel
  simp only [Prog.lift, Prog.bind_op, Prog.bind_ret, Prog.pure_eq_ret]
  refine rd_aggr (XS xs ws) K c (t := 110) 2 3 (by decide +kernel) ?_
  refine ld_wb c ?_
  refine ld_out c _ ?_
  refine st_out c _ (f' := O54 xs ws c f0) rfl ?_
  exact done c (h _ rfl)

set_option maxRecDepth 65536 in
theorem part81 {R : sProp 𝕄} (v2042 : BitVec 32) (v2044 : BitVec 32) {Q : _ → sProp 𝕄}
    (h : ∀ r, r.2.2.1 = (V2062 xs ws c) → r.2.2.2 = (V2071 xs ws c) → iprop(WO R c (wbF ws c) (O55 xs ws c f0) ∗ St (XS xs ws) K c 110) ⊢ Q r) :
    iprop(WO R c (wbF ws c) (O54 xs ws c f0) ∗ St (XS xs ws) K c 110) ⊢ WP c (k0_part81 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2042 v2044) Q := by
  rw [k0_part81_eq_skeleton]
  unfold k0_part81_skel
  simp only [Prog.lift, Prog.bind_op, Prog.bind_ret, Prog.pure_eq_ret]
  refine rd_cw (XS xs ws) K c (t := 110) 3 1 0 (by decide +kernel) ?_
  refine ld_wb c ?_
  refine ld_out c _ ?_
  refine st_out c _ (f' := O55 xs ws c f0) rfl ?_
  refine rd_ccw (XS xs ws) K c (t := 110) 3 1 0 (by decide +kernel) ?_
  refine ld_wb c ?_
  refine ld_out c _ ?_
  exact done c (h _ rfl rfl)

set_option maxRecDepth 65536 in
theorem part82 {R : sProp 𝕄} (v2045 : BitVec 32) (v2048 : BitVec 32) {Q : _ → sProp 𝕄}
    (h : ∀ r, r.1 = (V2079 xs ws c) → r.2.1 = (V2093 xs ws c) → r.2.2 = (V2102 xs ws c) → iprop(WO R c (wbF ws c) (O57 xs ws c f0) ∗ St (XS xs ws) K c 110) ⊢ Q r) :
    iprop(WO R c (wbF ws c) (O55 xs ws c f0) ∗ St (XS xs ws) K c 110) ⊢ WP c (k0_part82 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V2033 xs ws c) v2045 v2048 (V2062 xs ws c) (V2071 xs ws c)) Q := by
  rw [k0_part82_eq_skeleton]
  unfold k0_part82_skel
  simp only [Prog.lift, Prog.bind_op, Prog.bind_ret, Prog.pure_eq_ret]
  refine st_out c _ (f' := O56 xs ws c f0) rfl ?_
  refine rd_cw (XS xs ws) K c (t := 110) 3 1 1 (by decide +kernel) ?_
  refine ld_wb c ?_
  refine ld_out c _ ?_
  refine st_out c _ (f' := O57 xs ws c f0) rfl ?_
  refine rd_ccw (XS xs ws) K c (t := 110) 3 1 1 (by decide +kernel) ?_
  refine ld_wb c ?_
  refine ld_out c _ ?_
  exact done c (h _ rfl rfl rfl)

set_option maxRecDepth 65536 in
theorem part83 {R : sProp 𝕄} (v11 : BitVec 32) (v14 : BitVec 32) {Q : _ → sProp 𝕄}
    (h : ∀ r, r = (V2110 xs ws c) → iprop(WO R c (wbF ws c) (O58 xs ws c f0) ∗ St (XS xs ws) K c 111) ⊢ Q r) :
    iprop(WO R c (wbF ws c) (O57 xs ws c f0) ∗ St (XS xs ws) K c 110) ⊢ WP c (k0_part83 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14 (V2079 xs ws c) (V2093 xs ws c) (V2102 xs ws c)) Q := by
  rw [k0_part83_eq_skeleton]
  unfold k0_part83_skel
  simp only [Prog.lift, Prog.bind_op, Prog.bind_ret, Prog.pure_eq_ret]
  refine st_out c _ (f' := O58 xs ws c f0) rfl ?_
  refine step_rcv (XS xs ws) K c (t := 110) (.cwB 3 0 0) (by decide +kernel) rfl ?_
  exact done c (h _ rfl)

set_option maxRecDepth 65536 in
theorem part84 {R : sProp 𝕄} (v11 : BitVec 32) (v14 : BitVec 32) {Q : _ → sProp 𝕄}
    (h : ∀ r,  iprop(WO R c (wbF ws c) (O58 xs ws c f0) ∗ St (XS xs ws) K c 114) ⊢ Q r) :
    iprop(WO R c (wbF ws c) (O58 xs ws c f0) ∗ St (XS xs ws) K c 111) ⊢ WP c (k0_part84 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 v14) Q := by
  rw [k0_part84_eq_skeleton]
  unfold k0_part84_skel
  simp only [Prog.lift, Prog.bind_op, Prog.bind_ret, Prog.pure_eq_ret]
  refine step_rcv (XS xs ws) K c (t := 111) (.ccwB 3 0 0) (by decide +kernel) rfl ?_
  refine step_enq (XS xs ws) K c (t := 112) (.cwB 3 1 0) (by decide +kernel) (by decide +kernel) (dev61 c) ?_
  refine step_enq (XS xs ws) K c (t := 113) (.ccwB 3 1 0) (by decide +kernel) (by decide +kernel) (dev62 c) ?_
  exact done c (h _)

set_option maxRecDepth 65536 in
theorem part85 {R : sProp 𝕄} (v11 : BitVec 32) (v14 : BitVec 32) {Q : _ → sProp 𝕄}
    (h : ∀ r,  iprop(WO R c (wbF ws c) (O58 xs ws c f0) ∗ St (XS xs ws) K c 116) ⊢ Q r) :
    iprop(WO R c (wbF ws c) (O58 xs ws c f0) ∗ St (XS xs ws) K c 114) ⊢ WP c (k0_part85 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14) Q := by
  rw [k0_part85_eq_skeleton]
  unfold k0_part85_skel
  simp only [Prog.lift, Prog.bind_op, Prog.bind_ret, Prog.pure_eq_ret]
  refine step_rcv (XS xs ws) K c (t := 114) (.cwB 3 0 1) (by decide +kernel) rfl ?_
  refine step_rcv (XS xs ws) K c (t := 115) (.ccwB 3 0 1) (by decide +kernel) rfl ?_
  exact done c (h _)

set_option maxRecDepth 65536 in
theorem part86 {R : sProp 𝕄} (v3 : BitVec 32) (v11 : BitVec 32) (v14 : BitVec 32) {Q : _ → sProp 𝕄}
    (h : ∀ r,  iprop(WO R c (wbF ws c) (O58 xs ws c f0) ∗ St (XS xs ws) K c 118) ⊢ Q r) :
    iprop(WO R c (wbF ws c) (O58 xs ws c f0) ∗ St (XS xs ws) K c 116) ⊢ WP c (k0_part86 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v11 v14) Q := by
  rw [k0_part86_eq_skeleton]
  unfold k0_part86_skel
  simp only [Prog.lift, Prog.bind_op, Prog.bind_ret, Prog.pure_eq_ret]
  refine step_enq (XS xs ws) K c (t := 116) (.cwB 3 1 1) (by decide +kernel) (by decide +kernel) (dev63 c) ?_
  refine step_enq (XS xs ws) K c (t := 117) (.ccwB 3 1 1) (by decide +kernel) (by decide +kernel) (dev64 c) ?_
  exact done c (h _)

set_option maxRecDepth 65536 in
theorem part87 {R : sProp 𝕄} (v3 : BitVec 32) (v4 : BitVec 32) (v2186 : BitVec 32) {Q : _ → sProp 𝕄}
    (h : ∀ r, r.2.2.1 = (V2211 xs ws c) → r.2.2.2.1 = (V2213 xs ws c) → iprop(WO R c (wbF ws c) (O59 xs ws c f0) ∗ St (XS xs ws) K c 118) ⊢ Q r) :
    iprop(WO R c (wbF ws c) (O58 xs ws c f0) ∗ St (XS xs ws) K c 118) ⊢ WP c (k0_part87 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4 v2186) Q := by
  rw [k0_part87_eq_skeleton]
  unfold k0_part87_skel
  simp only [Prog.lift, Prog.bind_op, Prog.bind_ret, Prog.pure_eq_ret]
  refine rd_cw (XS xs ws) K c (t := 118) 3 0 0 (by decide +kernel) ?_
  refine ld_wb c ?_
  refine ld_out c _ ?_
  refine st_out c _ (f' := O59 xs ws c f0) rfl ?_
  refine rd_ccw (XS xs ws) K c (t := 118) 3 0 0 (by decide +kernel) ?_
  exact done c (h _ rfl rfl)

set_option maxRecDepth 65536 in
theorem part88 {R : sProp 𝕄} (v2194 : BitVec 32) (v2197 : BitVec 32) (v2215 : BitVec 32) (c0_i32_2797 : BitVec 32) {Q : _ → sProp 𝕄}
    (h : ∀ r, r.1 = (V2228 xs ws c) → r.2.1 = (V2242 xs ws c) → r.2.2.1 = (V2244 xs ws c) → iprop(WO R c (wbF ws c) (O61 xs ws c f0) ∗ St (XS xs ws) K c 118) ⊢ Q r) :
    iprop(WO R c (wbF ws c) (O59 xs ws c f0) ∗ St (XS xs ws) K c 118) ⊢ WP c (k0_part88 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V2110 xs ws c) v2194 v2197 (V2211 xs ws c) (V2213 xs ws c) v2215 c0_i32_2797) Q := by
  rw [k0_part88_eq_skeleton]
  unfold k0_part88_skel
  simp only [Prog.lift, Prog.bind_op, Prog.bind_ret, Prog.pure_eq_ret]
  refine ld_wb c ?_
  refine ld_out c _ ?_
  refine st_out c _ (f' := O60 xs ws c f0) rfl ?_
  refine rd_cw (XS xs ws) K c (t := 118) 3 0 1 (by decide +kernel) ?_
  refine ld_wb c ?_
  refine ld_out c _ ?_
  refine st_out c _ (f' := O61 xs ws c f0) rfl ?_
  refine rd_ccw (XS xs ws) K c (t := 118) 3 0 1 (by decide +kernel) ?_
  exact done c (h _ rfl rfl rfl)

set_option maxRecDepth 65536 in
theorem part89 {R : sProp 𝕄} (v11 : BitVec 32) (v2246 : BitVec 32) (c48_i32_2824 : BitVec 32) {Q : _ → sProp 𝕄}
    (h : ∀ r, r.1 = (V2259 xs ws c) → iprop(WO R c (wbF ws c) (O62 xs ws c f0) ∗ St (XS xs ws) K c 119) ⊢ Q r) :
    iprop(WO R c (wbF ws c) (O61 xs ws c f0) ∗ St (XS xs ws) K c 118) ⊢ WP c (k0_part89 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v11 (V2228 xs ws c) (V2242 xs ws c) (V2244 xs ws c) v2246 c48_i32_2824) Q := by
  rw [k0_part89_eq_skeleton]
  unfold k0_part89_skel
  simp only [Prog.lift, Prog.bind_op, Prog.bind_ret, Prog.pure_eq_ret]
  refine ld_wb c ?_
  refine ld_out c _ ?_
  refine st_out c _ (f' := O62 xs ws c f0) rfl ?_
  refine step_rcv (XS xs ws) K c (t := 118) (.cwB 3 1 0) (by decide +kernel) rfl ?_
  exact done c (h _ rfl)

set_option maxRecDepth 65536 in
theorem part90 {R : sProp 𝕄} (v11 : BitVec 32) (v14 : BitVec 32) (c1_i32_2861 : BitVec 32) {Q : _ → sProp 𝕄}
    (h : ∀ r,  iprop(WO R c (wbF ws c) (O62 xs ws c f0) ∗ St (XS xs ws) K c 121) ⊢ Q r) :
    iprop(WO R c (wbF ws c) (O62 xs ws c f0) ∗ St (XS xs ws) K c 119) ⊢ WP c (k0_part90 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v11 v14 c1_i32_2861) Q := by
  rw [k0_part90_eq_skeleton]
  unfold k0_part90_skel
  simp only [Prog.lift, Prog.bind_op, Prog.bind_ret, Prog.pure_eq_ret]
  refine step_rcv (XS xs ws) K c (t := 119) (.ccwB 3 1 0) (by decide +kernel) rfl ?_
  refine step_rcv (XS xs ws) K c (t := 120) (.cwB 3 1 1) (by decide +kernel) rfl ?_
  exact done c (h _)

set_option maxRecDepth 65536 in
theorem part91 {R : sProp 𝕄} (v3 : BitVec 32) (v4 : BitVec 32) {Q : _ → sProp 𝕄}
    (h : ∀ r, r.2.2 = (V2317 xs ws c) → iprop(WO R c (wbF ws c) (O63 xs ws c f0) ∗ St (XS xs ws) K c 122) ⊢ Q r) :
    iprop(WO R c (wbF ws c) (O62 xs ws c f0) ∗ St (XS xs ws) K c 121) ⊢ WP c (k0_part91 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v4) Q := by
  rw [k0_part91_eq_skeleton]
  unfold k0_part91_skel
  simp only [Prog.lift, Prog.bind_op, Prog.bind_ret, Prog.pure_eq_ret]
  refine step_rcv (XS xs ws) K c (t := 121) (.ccwB 3 1 1) (by decide +kernel) rfl ?_
  refine rd_cw (XS xs ws) K c (t := 122) 3 2 0 (by decide +kernel) ?_
  refine ld_wb c ?_
  refine ld_out c _ ?_
  refine st_out c _ (f' := O63 xs ws c f0) rfl ?_
  exact done c (h _ rfl)

set_option maxRecDepth 65536 in
theorem part92 {R : sProp 𝕄} (v2303 : BitVec 32) (v2306 : BitVec 32) {Q : _ → sProp 𝕄}
    (h : ∀ r, r.1 = (V2337 xs ws c) → r.2 = (V2348 xs ws c) → iprop(WO R c (wbF ws c) (O65 xs ws c f0) ∗ St (XS xs ws) K c 122) ⊢ Q r) :
    iprop(WO R c (wbF ws c) (O63 xs ws c f0) ∗ St (XS xs ws) K c 122) ⊢ WP c (k0_part92 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V2259 xs ws c) v2303 v2306 (V2317 xs ws c)) Q := by
  rw [k0_part92_eq_skeleton]
  unfold k0_part92_skel
  simp only [Prog.lift, Prog.bind_op, Prog.bind_ret, Prog.pure_eq_ret]
  refine rd_ccw (XS xs ws) K c (t := 122) 3 2 0 (by decide +kernel) ?_
  refine ld_wb c ?_
  refine ld_out c _ ?_
  refine st_out c _ (f' := O64 xs ws c f0) rfl ?_
  refine rd_cw (XS xs ws) K c (t := 122) 3 2 1 (by decide +kernel) ?_
  refine ld_wb c ?_
  refine ld_out c _ ?_
  refine st_out c _ (f' := O65 xs ws c f0) rfl ?_
  exact done c (h _ rfl rfl)

set_option maxRecDepth 65536 in
theorem part93 {R : sProp 𝕄} (v4 : BitVec 32) (v6 : BitVec 32) (v2306 : BitVec 32) {Q : _ → sProp 𝕄}
    (h : ∀ r, r.1 = (V2368 xs ws c) → iprop(WO R c (wbF ws c) (O66 xs ws c f0) ∗ St (XS xs ws) K c 123) ⊢ Q r) :
    iprop(WO R c (wbF ws c) (O65 xs ws c f0) ∗ St (XS xs ws) K c 122) ⊢ WP c (k0_part93 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v4 v6 v2306 (V2337 xs ws c) (V2348 xs ws c)) Q := by
  rw [k0_part93_eq_skeleton]
  unfold k0_part93_skel
  simp only [Prog.lift, Prog.bind_op, Prog.bind_ret, Prog.pure_eq_ret]
  refine rd_ccw (XS xs ws) K c (t := 122) 3 2 1 (by decide +kernel) ?_
  refine ld_wb c ?_
  refine ld_out c _ ?_
  refine st_out c _ (f' := O66 xs ws c f0) rfl ?_
  refine step_rcv (XS xs ws) K c (t := 122) (.b2B) (by decide +kernel) rfl ?_
  exact done c (h _ rfl)

set_option maxRecDepth 65536 in
theorem part94 {R : sProp 𝕄} (v3 : BitVec 32) (v2377 : BitVec 32) (c0_i32_2983 : BitVec 32) {Q : _ → sProp 𝕄}
    (h : ∀ r, r.1 = (V2396 xs ws c) → r.2 = (V2408 xs ws c) → iprop(WO R c (wbF ws c) (O67 xs ws c f0) ∗ St (XS xs ws) K c 123) ⊢ Q r) :
    iprop(WO R c (wbF ws c) (O66 xs ws c f0) ∗ St (XS xs ws) K c 123) ⊢ WP c (k0_part94 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 (V2368 xs ws c) v2377 c0_i32_2983) Q := by
  rw [k0_part94_eq_skeleton]
  unfold k0_part94_skel
  simp only [Prog.lift, Prog.bind_op, Prog.bind_ret, Prog.pure_eq_ret]
  refine rd_aggr (XS xs ws) K c (t := 123) 1 0 (by decide +kernel) ?_
  refine ld_wb c ?_
  refine ld_out c _ ?_
  refine st_out c _ (f' := O67 xs ws c f0) rfl ?_
  refine rd_aggr (XS xs ws) K c (t := 123) 1 1 (by decide +kernel) ?_
  refine ld_wb c ?_
  exact done c (h _ rfl rfl)

set_option maxRecDepth 65536 in
theorem part95 {R : sProp 𝕄} (v3 : BitVec 32) (v2377 : BitVec 32) {Q : _ → sProp 𝕄}
    (h : ∀ r, r.1 = (V2434 xs ws c) → r.2.1 = (V2440 xs ws c) → iprop(WO R c (wbF ws c) (O69 xs ws c f0) ∗ St (XS xs ws) K c 123) ⊢ Q r) :
    iprop(WO R c (wbF ws c) (O67 xs ws c f0) ∗ St (XS xs ws) K c 123) ⊢ WP c (k0_part95 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v3 v2377 (V2396 xs ws c) (V2408 xs ws c)) Q := by
  rw [k0_part95_eq_skeleton]
  unfold k0_part95_skel
  simp only [Prog.lift, Prog.bind_op, Prog.bind_ret, Prog.pure_eq_ret]
  refine ld_out c _ ?_
  refine st_out c _ (f' := O68 xs ws c f0) rfl ?_
  refine rd_aggr (XS xs ws) K c (t := 123) 1 2 (by decide +kernel) ?_
  refine ld_wb c ?_
  refine ld_out c _ ?_
  refine st_out c _ (f' := O69 xs ws c f0) rfl ?_
  refine rd_aggr (XS xs ws) K c (t := 123) 1 3 (by decide +kernel) ?_
  exact done c (h _ rfl rfl)

end Cert.KernelIdealProof
-- ==== Proof.Body4.lean ====
/-
# The body, part by part
-/
module

public import proofs.«01_k».proof.Proof.Pre

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (xs : Dev nD → Vec F S256x4096 .bf16) (ws : Dev nD → Vec F S4096x128 .bf16) (K : Dev nD × CI → ℕ) (c : Dev nD) (f0 : (cc0_stg2_0 : Ref sig .tc).ty.Contents (Elt F))

set_option maxRecDepth 65536 in
theorem part96 {R : sProp 𝕄} (v2441 : BitVec 32) (c192_i32_3036 : BitVec 32) {Q : _ → sProp 𝕄}
    (h : ∀ r, r = (V2453 xs ws c) → iprop(WO R c (wbF ws c) (O70 xs ws c f0) ∗ St (XS xs ws) K c 124) ⊢ Q r) :
    iprop(WO R c (wbF ws c) (O69 xs ws c f0) ∗ St (XS xs ws) K c 123) ⊢ WP c (k0_part96 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c (V2434 xs ws c) (V2440 xs ws c) v2441 c192_i32_3036) Q := by
  rw [k0_part96_eq_skeleton]
  unfold k0_part96_skel
  simp only [Prog.lift, Prog.bind_op, Prog.bind_ret, Prog.pure_eq_ret]
  refine ld_wb c ?_
  refine ld_out c _ ?_
  refine st_out c _ (f' := O70 xs ws c f0) rfl ?_
  refine step_wsd (XS xs ws) K c (t := 123) (.cwA 0 0) (by decide +kernel) (credit_eq _) ?_
  exact done c (h _ rfl)

set_option maxRecDepth 65536 in
theorem part97 {R : sProp 𝕄}  {Q : _ → sProp 𝕄}
    (h : ∀ r,  iprop(WO R c (wbF ws c) (O70 xs ws c f0) ∗ St (XS xs ws) K c 127) ⊢ Q r) :
    iprop(WO R c (wbF ws c) (O70 xs ws c f0) ∗ St (XS xs ws) K c 124) ⊢ WP c (k0_part97 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part97_eq_skeleton]
  unfold k0_part97_skel
  simp only [Prog.lift, Prog.bind_op, Prog.bind_ret, Prog.pure_eq_ret]
  refine step_wsd (XS xs ws) K c (t := 124) (.ccwA 0 0) (by decide +kernel) (credit_eq _) ?_
  refine step_wsd (XS xs ws) K c (t := 125) (.cwA 0 1) (by decide +kernel) (credit_eq _) ?_
  refine step_wsd (XS xs ws) K c (t := 126) (.ccwA 0 1) (by decide +kernel) (credit_eq _) ?_
  exact done c (h _)

set_option maxRecDepth 65536 in
theorem part98 {R : sProp 𝕄}  {Q : _ → sProp 𝕄}
    (h : ∀ r,  iprop(WO R c (wbF ws c) (O70 xs ws c f0) ∗ St (XS xs ws) K c 130) ⊢ Q r) :
    iprop(WO R c (wbF ws c) (O70 xs ws c f0) ∗ St (XS xs ws) K c 127) ⊢ WP c (k0_part98 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part98_eq_skeleton]
  unfold k0_part98_skel
  simp only [Prog.lift, Prog.bind_op, Prog.bind_ret, Prog.pure_eq_ret]
  refine step_wsd (XS xs ws) K c (t := 127) (.cwB 0 0 0) (by decide +kernel) (credit_eq _) ?_
  refine step_wsd (XS xs ws) K c (t := 128) (.ccwB 0 0 0) (by decide +kernel) (credit_eq _) ?_
  refine step_wsd (XS xs ws) K c (t := 129) (.cwB 0 0 1) (by decide +kernel) (credit_eq _) ?_
  exact done c (h _)

set_option maxRecDepth 65536 in
theorem part99 {R : sProp 𝕄}  {Q : _ → sProp 𝕄}
    (h : ∀ r,  iprop(WO R c (wbF ws c) (O70 xs ws c f0) ∗ St (XS xs ws) K c 132) ⊢ Q r) :
    iprop(WO R c (wbF ws c) (O70 xs ws c f0) ∗ St (XS xs ws) K c 130) ⊢ WP c (k0_part99 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part99_eq_skeleton]
  unfold k0_part99_skel
  simp only [Prog.lift, Prog.bind_op, Prog.bind_ret, Prog.pure_eq_ret]
  refine step_wsd (XS xs ws) K c (t := 130) (.ccwB 0 0 1) (by decide +kernel) (credit_eq _) ?_
  refine step_wsd (XS xs ws) K c (t := 131) (.cwB 0 1 0) (by decide +kernel) (credit_eq _) ?_
  exact done c (h _)

set_option maxRecDepth 65536 in
theorem part100 {R : sProp 𝕄}  {Q : _ → sProp 𝕄}
    (h : ∀ r,  iprop(WO R c (wbF ws c) (O70 xs ws c f0) ∗ St (XS xs ws) K c 135) ⊢ Q r) :
    iprop(WO R c (wbF ws c) (O70 xs ws c f0) ∗ St (XS xs ws) K c 132) ⊢ WP c (k0_part100 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part100_eq_skeleton]
  unfold k0_part100_skel
  simp only [Prog.lift, Prog.bind_op, Prog.bind_ret, Prog.pure_eq_ret]
  refine step_wsd (XS xs ws) K c (t := 132) (.ccwB 0 1 0) (by decide +kernel) (credit_eq _) ?_
  refine step_wsd (XS xs ws) K c (t := 133) (.cwB 0 1 1) (by decide +kernel) (credit_eq _) ?_
  refine step_wsd (XS xs ws) K c (t := 134) (.ccwB 0 1 1) (by decide +kernel) (credit_eq _) ?_
  exact done c (h _)

set_option maxRecDepth 65536 in
theorem part101 {R : sProp 𝕄}  {Q : _ → sProp 𝕄}
    (h : ∀ r,  iprop(WO R c (wbF ws c) (O70 xs ws c f0) ∗ St (XS xs ws) K c 137) ⊢ Q r) :
    iprop(WO R c (wbF ws c) (O70 xs ws c f0) ∗ St (XS xs ws) K c 135) ⊢ WP c (k0_part101 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part101_eq_skeleton]
  unfold k0_part101_skel
  simp only [Prog.lift, Prog.bind_op, Prog.bind_ret, Prog.pure_eq_ret]
  refine step_wsd (XS xs ws) K c (t := 135) (.cwA 1 0) (by decide +kernel) (credit_eq _) ?_
  refine step_wsd (XS xs ws) K c (t := 136) (.ccwA 1 0) (by decide +kernel) (credit_eq _) ?_
  exact done c (h _)

set_option maxRecDepth 65536 in
theorem part102 {R : sProp 𝕄}  {Q : _ → sProp 𝕄}
    (h : ∀ r,  iprop(WO R c (wbF ws c) (O70 xs ws c f0) ∗ St (XS xs ws) K c 140) ⊢ Q r) :
    iprop(WO R c (wbF ws c) (O70 xs ws c f0) ∗ St (XS xs ws) K c 137) ⊢ WP c (k0_part102 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part102_eq_skeleton]
  unfold k0_part102_skel
  simp only [Prog.lift, Prog.bind_op, Prog.bind_ret, Prog.pure_eq_ret]
  refine step_wsd (XS xs ws) K c (t := 137) (.cwA 1 1) (by decide +kernel) (credit_eq _) ?_
  refine step_wsd (XS xs ws) K c (t := 138) (.ccwA 1 1) (by decide +kernel) (credit_eq _) ?_
  refine step_wsd (XS xs ws) K c (t := 139) (.cwB 1 0 0) (by decide +kernel) (credit_eq _) ?_
  exact done c (h _)

set_option maxRecDepth 65536 in
theorem part103 {R : sProp 𝕄}  {Q : _ → sProp 𝕄}
    (h : ∀ r,  iprop(WO R c (wbF ws c) (O70 xs ws c f0) ∗ St (XS xs ws) K c 142) ⊢ Q r) :
    iprop(WO R c (wbF ws c) (O70 xs ws c f0) ∗ St (XS xs ws) K c 140) ⊢ WP c (k0_part103 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part103_eq_skeleton]
  unfold k0_part103_skel
  simp only [Prog.lift, Prog.bind_op, Prog.bind_ret, Prog.pure_eq_ret]
  refine step_wsd (XS xs ws) K c (t := 140) (.ccwB 1 0 0) (by decide +kernel) (credit_eq _) ?_
  refine step_wsd (XS xs ws) K c (t := 141) (.cwB 1 0 1) (by decide +kernel) (credit_eq _) ?_
  exact done c (h _)

set_option maxRecDepth 65536 in
theorem part104 {R : sProp 𝕄}  {Q : _ → sProp 𝕄}
    (h : ∀ r,  iprop(WO R c (wbF ws c) (O70 xs ws c f0) ∗ St (XS xs ws) K c 145) ⊢ Q r) :
    iprop(WO R c (wbF ws c) (O70 xs ws c f0) ∗ St (XS xs ws) K c 142) ⊢ WP c (k0_part104 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part104_eq_skeleton]
  unfold k0_part104_skel
  simp only [Prog.lift, Prog.bind_op, Prog.bind_ret, Prog.pure_eq_ret]
  refine step_wsd (XS xs ws) K c (t := 142) (.ccwB 1 0 1) (by decide +kernel) (credit_eq _) ?_
  refine step_wsd (XS xs ws) K c (t := 143) (.cwB 1 1 0) (by decide +kernel) (credit_eq _) ?_
  refine step_wsd (XS xs ws) K c (t := 144) (.ccwB 1 1 0) (by decide +kernel) (credit_eq _) ?_
  exact done c (h _)

set_option maxRecDepth 65536 in
theorem part105 {R : sProp 𝕄}  {Q : _ → sProp 𝕄}
    (h : ∀ r,  iprop(WO R c (wbF ws c) (O70 xs ws c f0) ∗ St (XS xs ws) K c 147) ⊢ Q r) :
    iprop(WO R c (wbF ws c) (O70 xs ws c f0) ∗ St (XS xs ws) K c 145) ⊢ WP c (k0_part105 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part105_eq_skeleton]
  unfold k0_part105_skel
  simp only [Prog.lift, Prog.bind_op, Prog.bind_ret, Prog.pure_eq_ret]
  refine step_wsd (XS xs ws) K c (t := 145) (.cwB 1 1 1) (by decide +kernel) (credit_eq _) ?_
  refine step_wsd (XS xs ws) K c (t := 146) (.ccwB 1 1 1) (by decide +kernel) (credit_eq _) ?_
  exact done c (h _)

set_option maxRecDepth 65536 in
theorem part106 {R : sProp 𝕄}  {Q : _ → sProp 𝕄}
    (h : ∀ r,  iprop(WO R c (wbF ws c) (O70 xs ws c f0) ∗ St (XS xs ws) K c 150) ⊢ Q r) :
    iprop(WO R c (wbF ws c) (O70 xs ws c f0) ∗ St (XS xs ws) K c 147) ⊢ WP c (k0_part106 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part106_eq_skeleton]
  unfold k0_part106_skel
  simp only [Prog.lift, Prog.bind_op, Prog.bind_ret, Prog.pure_eq_ret]
  refine step_wsd (XS xs ws) K c (t := 147) (.cwA 2 0) (by decide +kernel) (credit_eq _) ?_
  refine step_wsd (XS xs ws) K c (t := 148) (.ccwA 2 0) (by decide +kernel) (credit_eq _) ?_
  refine step_wsd (XS xs ws) K c (t := 149) (.cwA 2 1) (by decide +kernel) (credit_eq _) ?_
  exact done c (h _)

set_option maxRecDepth 65536 in
theorem part107 {R : sProp 𝕄}  {Q : _ → sProp 𝕄}
    (h : ∀ r,  iprop(WO R c (wbF ws c) (O70 xs ws c f0) ∗ St (XS xs ws) K c 153) ⊢ Q r) :
    iprop(WO R c (wbF ws c) (O70 xs ws c f0) ∗ St (XS xs ws) K c 150) ⊢ WP c (k0_part107 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part107_eq_skeleton]
  unfold k0_part107_skel
  simp only [Prog.lift, Prog.bind_op, Prog.bind_ret, Prog.pure_eq_ret]
  refine step_wsd (XS xs ws) K c (t := 150) (.ccwA 2 1) (by decide +kernel) (credit_eq _) ?_
  refine step_wsd (XS xs ws) K c (t := 151) (.cwB 2 0 0) (by decide +kernel) (credit_eq _) ?_
  refine step_wsd (XS xs ws) K c (t := 152) (.ccwB 2 0 0) (by decide +kernel) (credit_eq _) ?_
  exact done c (h _)

set_option maxRecDepth 65536 in
theorem part108 {R : sProp 𝕄}  {Q : _ → sProp 𝕄}
    (h : ∀ r,  iprop(WO R c (wbF ws c) (O70 xs ws c f0) ∗ St (XS xs ws) K c 155) ⊢ Q r) :
    iprop(WO R c (wbF ws c) (O70 xs ws c f0) ∗ St (XS xs ws) K c 153) ⊢ WP c (k0_part108 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part108_eq_skeleton]
  unfold k0_part108_skel
  simp only [Prog.lift, Prog.bind_op, Prog.bind_ret, Prog.pure_eq_ret]
  refine step_wsd (XS xs ws) K c (t := 153) (.cwB 2 0 1) (by decide +kernel) (credit_eq _) ?_
  refine step_wsd (XS xs ws) K c (t := 154) (.ccwB 2 0 1) (by decide +kernel) (credit_eq _) ?_
  exact done c (h _)

set_option maxRecDepth 65536 in
theorem part109 {R : sProp 𝕄}  {Q : _ → sProp 𝕄}
    (h : ∀ r,  iprop(WO R c (wbF ws c) (O70 xs ws c f0) ∗ St (XS xs ws) K c 158) ⊢ Q r) :
    iprop(WO R c (wbF ws c) (O70 xs ws c f0) ∗ St (XS xs ws) K c 155) ⊢ WP c (k0_part109 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part109_eq_skeleton]
  unfold k0_part109_skel
  simp only [Prog.lift, Prog.bind_op, Prog.bind_ret, Prog.pure_eq_ret]
  refine step_wsd (XS xs ws) K c (t := 155) (.cwB 2 1 0) (by decide +kernel) (credit_eq _) ?_
  refine step_wsd (XS xs ws) K c (t := 156) (.ccwB 2 1 0) (by decide +kernel) (credit_eq _) ?_
  refine step_wsd (XS xs ws) K c (t := 157) (.cwB 2 1 1) (by decide +kernel) (credit_eq _) ?_
  exact done c (h _)

set_option maxRecDepth 65536 in
theorem part110 {R : sProp 𝕄}  {Q : _ → sProp 𝕄}
    (h : ∀ r,  iprop(WO R c (wbF ws c) (O70 xs ws c f0) ∗ St (XS xs ws) K c 160) ⊢ Q r) :
    iprop(WO R c (wbF ws c) (O70 xs ws c f0) ∗ St (XS xs ws) K c 158) ⊢ WP c (k0_part110 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part110_eq_skeleton]
  unfold k0_part110_skel
  simp only [Prog.lift, Prog.bind_op, Prog.bind_ret, Prog.pure_eq_ret]
  refine step_wsd (XS xs ws) K c (t := 158) (.ccwB 2 1 1) (by decide +kernel) (credit_eq _) ?_
  refine step_wsd (XS xs ws) K c (t := 159) (.cwA 3 0) (by decide +kernel) (credit_eq _) ?_
  exact done c (h _)

set_option maxRecDepth 65536 in
theorem part111 {R : sProp 𝕄}  {Q : _ → sProp 𝕄}
    (h : ∀ r,  iprop(WO R c (wbF ws c) (O70 xs ws c f0) ∗ St (XS xs ws) K c 163) ⊢ Q r) :
    iprop(WO R c (wbF ws c) (O70 xs ws c f0) ∗ St (XS xs ws) K c 160) ⊢ WP c (k0_part111 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part111_eq_skeleton]
  unfold k0_part111_skel
  simp only [Prog.lift, Prog.bind_op, Prog.bind_ret, Prog.pure_eq_ret]
  refine step_wsd (XS xs ws) K c (t := 160) (.ccwA 3 0) (by decide +kernel) (credit_eq _) ?_
  refine step_wsd (XS xs ws) K c (t := 161) (.cwA 3 1) (by decide +kernel) (credit_eq _) ?_
  refine step_wsd (XS xs ws) K c (t := 162) (.ccwA 3 1) (by decide +kernel) (credit_eq _) ?_
  exact done c (h _)

set_option maxRecDepth 65536 in
theorem part112 {R : sProp 𝕄}  {Q : _ → sProp 𝕄}
    (h : ∀ r,  iprop(WO R c (wbF ws c) (O70 xs ws c f0) ∗ St (XS xs ws) K c 166) ⊢ Q r) :
    iprop(WO R c (wbF ws c) (O70 xs ws c f0) ∗ St (XS xs ws) K c 163) ⊢ WP c (k0_part112 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part112_eq_skeleton]
  unfold k0_part112_skel
  simp only [Prog.lift, Prog.bind_op, Prog.bind_ret, Prog.pure_eq_ret]
  refine step_wsd (XS xs ws) K c (t := 163) (.cwB 3 0 0) (by decide +kernel) (credit_eq _) ?_
  refine step_wsd (XS xs ws) K c (t := 164) (.ccwB 3 0 0) (by decide +kernel) (credit_eq _) ?_
  refine step_wsd (XS xs ws) K c (t := 165) (.cwB 3 0 1) (by decide +kernel) (credit_eq _) ?_
  exact done c (h _)

set_option maxRecDepth 65536 in
theorem part113 {R : sProp 𝕄}  {Q : _ → sProp 𝕄}
    (h : ∀ r,  iprop(WO R c (wbF ws c) (O70 xs ws c f0) ∗ St (XS xs ws) K c 168) ⊢ Q r) :
    iprop(WO R c (wbF ws c) (O70 xs ws c f0) ∗ St (XS xs ws) K c 166) ⊢ WP c (k0_part113 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part113_eq_skeleton]
  unfold k0_part113_skel
  simp only [Prog.lift, Prog.bind_op, Prog.bind_ret, Prog.pure_eq_ret]
  refine step_wsd (XS xs ws) K c (t := 166) (.ccwB 3 0 1) (by decide +kernel) (credit_eq _) ?_
  refine step_wsd (XS xs ws) K c (t := 167) (.cwB 3 1 0) (by decide +kernel) (credit_eq _) ?_
  exact done c (h _)

set_option maxRecDepth 65536 in
theorem part114 {R : sProp 𝕄}  {Q : _ → sProp 𝕄}
    (h : ∀ r,  iprop(WO R c (wbF ws c) (O70 xs ws c f0) ∗ St (XS xs ws) K c 171) ⊢ Q r) :
    iprop(WO R c (wbF ws c) (O70 xs ws c f0) ∗ St (XS xs ws) K c 168) ⊢ WP c (k0_part114 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part114_eq_skeleton]
  unfold k0_part114_skel
  simp only [Prog.lift, Prog.bind_op, Prog.bind_ret, Prog.pure_eq_ret]
  refine step_wsd (XS xs ws) K c (t := 168) (.ccwB 3 1 0) (by decide +kernel) (credit_eq _) ?_
  refine step_wsd (XS xs ws) K c (t := 169) (.cwB 3 1 1) (by decide +kernel) (credit_eq _) ?_
  refine step_wsd (XS xs ws) K c (t := 170) (.ccwB 3 1 1) (by decide +kernel) (credit_eq _) ?_
  exact done c (h _)

set_option maxRecDepth 65536 in
theorem part115 {R : sProp 𝕄}  {Q : _ → sProp 𝕄}
    (h : ∀ r,  iprop(WO R c (wbF ws c) (O70 xs ws c f0) ∗ St (XS xs ws) K c 174) ⊢ Q r) :
    iprop(WO R c (wbF ws c) (O70 xs ws c f0) ∗ St (XS xs ws) K c 171) ⊢ WP c (k0_part115 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part115_eq_skeleton]
  unfold k0_part115_skel
  simp only [Prog.lift, Prog.bind_op, Prog.bind_ret, Prog.pure_eq_ret]
  refine step_wsd (XS xs ws) K c (t := 171) (.bcw 0) (by decide +kernel) (credit_eq _) ?_
  refine step_wsd (XS xs ws) K c (t := 172) (.bccw 0) (by decide +kernel) (credit_eq _) ?_
  refine step_wsd (XS xs ws) K c (t := 173) (.bcw 1) (by decide +kernel) (credit_eq _) ?_
  exact done c (h _)

set_option maxRecDepth 65536 in
theorem part116 {R : sProp 𝕄}  {Q : _ → sProp 𝕄}
    (h : ∀ r,  iprop(WO R c (wbF ws c) (O70 xs ws c f0) ∗ St (XS xs ws) K c 178) ⊢ Q r) :
    iprop(WO R c (wbF ws c) (O70 xs ws c f0) ∗ St (XS xs ws) K c 174) ⊢ WP c (k0_part116 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part116_eq_skeleton]
  unfold k0_part116_skel
  simp only [Prog.lift, Prog.bind_op, Prog.bind_ret, Prog.pure_eq_ret]
  refine step_wsd (XS xs ws) K c (t := 174) (.bccw 1) (by decide +kernel) (credit_eq _) ?_
  refine step_wsd (XS xs ws) K c (t := 175) (.bcw 2) (by decide +kernel) (credit_eq _) ?_
  refine step_wsd (XS xs ws) K c (t := 176) (.bccw 2) (by decide +kernel) (credit_eq _) ?_
  refine step_wsd (XS xs ws) K c (t := 177) (.a1 0) (by decide +kernel) (credit_eq _) ?_
  exact done c (h _)

set_option maxRecDepth 65536 in
theorem part117 {R : sProp 𝕄}  {Q : _ → sProp 𝕄}
    (h : ∀ r,  iprop(WO R c (wbF ws c) (O70 xs ws c f0) ∗ St (XS xs ws) K c 182) ⊢ Q r) :
    iprop(WO R c (wbF ws c) (O70 xs ws c f0) ∗ St (XS xs ws) K c 178) ⊢ WP c (k0_part117 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part117_eq_skeleton]
  unfold k0_part117_skel
  simp only [Prog.lift, Prog.bind_op, Prog.bind_ret, Prog.pure_eq_ret]
  refine step_wsd (XS xs ws) K c (t := 178) (.a1 1) (by decide +kernel) (credit_eq _) ?_
  refine step_wsd (XS xs ws) K c (t := 179) (.a1 2) (by decide +kernel) (credit_eq _) ?_
  refine step_wsd (XS xs ws) K c (t := 180) (.b2A 0) (by decide +kernel) (credit_eq _) ?_
  refine step_wsd (XS xs ws) K c (t := 181) (.b2B) (by decide +kernel) (credit_eq _) ?_
  exact done c (h _)

set_option maxRecDepth 65536 in
theorem part118 {R : sProp 𝕄} (v2 : BitVec 32) {Q : _ → sProp 𝕄}
    (h : ∀ r,  iprop(WO R c (wbF ws c) (O70 xs ws c f0) ∗ St (XS xs ws) K c 185) ⊢ Q r) :
    iprop(WO R c (wbF ws c) (O70 xs ws c f0) ∗ St (XS xs ws) K c 182) ⊢ WP c (k0_part118 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 (V2453 xs ws c)) Q := by
  rw [k0_part118_eq_skeleton]
  unfold k0_part118_skel
  simp only [Prog.lift, Prog.bind_op, Prog.bind_ret, Prog.pure_eq_ret]
  refine step_wsd (XS xs ws) K c (t := 182) (.b2A 1) (by decide +kernel) (credit_eq _) ?_
  refine stage_am (XS xs ws) K c (t := 183) (by decide +kernel) rfl ?_
  refine step_ax (XS xs ws) K c (t := 184) 0 (by decide +kernel) (dev65 c) ?_
  exact done c (h _)

set_option maxRecDepth 65536 in
theorem part119 {R : sProp 𝕄} (v2 : BitVec 32) {Q : _ → sProp 𝕄}
    (h : ∀ r,  iprop(WO R c (wbF ws c) (O70 xs ws c f0) ∗ St (XS xs ws) K c 188) ⊢ Q r) :
    iprop(WO R c (wbF ws c) (O70 xs ws c f0) ∗ St (XS xs ws) K c 185) ⊢ WP c (k0_part119 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2) Q := by
  rw [k0_part119_eq_skeleton]
  unfold k0_part119_skel
  simp only [Prog.lift, Prog.bind_op, Prog.bind_ret, Prog.pure_eq_ret]
  refine step_ax (XS xs ws) K c (t := 185) 1 (by decide +kernel) (dev66 c) ?_
  refine step_ax (XS xs ws) K c (t := 186) 2 (by decide +kernel) (dev67 c) ?_
  refine step_ax (XS xs ws) K c (t := 187) 3 (by decide +kernel) (dev68 c) ?_
  exact done c (h _)

set_option maxRecDepth 65536 in
theorem part120 {R : sProp 𝕄} (v2 : BitVec 32) (v2863 : BitVec 32) {Q : _ → sProp 𝕄}
    (h : ∀ r,  iprop(WO R c (wbF ws c) (O70 xs ws c f0) ∗ St (XS xs ws) K c 190) ⊢ Q r) :
    iprop(WO R c (wbF ws c) (O70 xs ws c f0) ∗ St (XS xs ws) K c 188) ⊢ WP c (k0_part120 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v2863) Q := by
  rw [k0_part120_eq_skeleton]
  unfold k0_part120_skel
  simp only [Prog.lift, Prog.bind_op, Prog.bind_ret, Prog.pure_eq_ret]
  refine step_ax (XS xs ws) K c (t := 188) 4 (by decide +kernel) (dev69 c) ?_
  refine step_ax (XS xs ws) K c (t := 189) 5 (by decide +kernel) (dev70 c) ?_
  exact done c (h _)

set_option maxRecDepth 65536 in
theorem part121 {R : sProp 𝕄} (v2 : BitVec 32) {Q : _ → sProp 𝕄}
    (h : ∀ r,  iprop(WO R c (wbF ws c) (O70 xs ws c f0) ∗ St (XS xs ws) K c 193) ⊢ Q r) :
    iprop(WO R c (wbF ws c) (O70 xs ws c f0) ∗ St (XS xs ws) K c 190) ⊢ WP c (k0_part121 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2) Q := by
  rw [k0_part121_eq_skeleton]
  unfold k0_part121_skel
  simp only [Prog.lift, Prog.bind_op, Prog.bind_ret, Prog.pure_eq_ret]
  refine step_ax (XS xs ws) K c (t := 190) 6 (by decide +kernel) (dev71 c) ?_
  refine step_ax (XS xs ws) K c (t := 191) 7 (by decide +kernel) (dev72 c) ?_
  refine step_ax (XS xs ws) K c (t := 192) 8 (by decide +kernel) (dev73 c) ?_
  exact done c (h _)

set_option maxRecDepth 65536 in
theorem part122 {R : sProp 𝕄} (v2 : BitVec 32) (v2922 : BitVec 32) {Q : _ → sProp 𝕄}
    (h : ∀ r,  iprop(WO R c (wbF ws c) (O70 xs ws c f0) ∗ St (XS xs ws) K c 195) ⊢ Q r) :
    iprop(WO R c (wbF ws c) (O70 xs ws c f0) ∗ St (XS xs ws) K c 193) ⊢ WP c (k0_part122 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v2922) Q := by
  rw [k0_part122_eq_skeleton]
  unfold k0_part122_skel
  simp only [Prog.lift, Prog.bind_op, Prog.bind_ret, Prog.pure_eq_ret]
  refine step_ax (XS xs ws) K c (t := 193) 9 (by decide +kernel) (dev74 c) ?_
  refine step_ax (XS xs ws) K c (t := 194) 10 (by decide +kernel) (dev75 c) ?_
  exact done c (h _)

set_option maxRecDepth 65536 in
theorem part123 {R : sProp 𝕄} (v2 : BitVec 32) {Q : _ → sProp 𝕄}
    (h : ∀ r,  iprop(WO R c (wbF ws c) (O70 xs ws c f0) ∗ St (XS xs ws) K c 197) ⊢ Q r) :
    iprop(WO R c (wbF ws c) (O70 xs ws c f0) ∗ St (XS xs ws) K c 195) ⊢ WP c (k0_part123 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2) Q := by
  rw [k0_part123_eq_skeleton]
  unfold k0_part123_skel
  simp only [Prog.lift, Prog.bind_op, Prog.bind_ret, Prog.pure_eq_ret]
  refine step_ax (XS xs ws) K c (t := 195) 11 (by decide +kernel) (dev76 c) ?_
  refine step_ax (XS xs ws) K c (t := 196) 12 (by decide +kernel) (dev77 c) ?_
  exact done c (h _)

set_option maxRecDepth 65536 in
theorem part124 {R : sProp 𝕄} (v2 : BitVec 32) (v2815 : BitVec 32) {Q : _ → sProp 𝕄}
    (h : ∀ r,  iprop(WO R c (wbF ws c) (O70 xs ws c f0) ∗ St (XS xs ws) K c 200) ⊢ Q r) :
    iprop(WO R c (wbF ws c) (O70 xs ws c f0) ∗ St (XS xs ws) K c 197) ⊢ WP c (k0_part124 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v2815) Q := by
  rw [k0_part124_eq_skeleton]
  unfold k0_part124_skel
  simp only [Prog.lift, Prog.bind_op, Prog.bind_ret, Prog.pure_eq_ret]
  refine step_ax (XS xs ws) K c (t := 197) 13 (by decide +kernel) (dev78 c) ?_
  refine step_ax (XS xs ws) K c (t := 198) 14 (by decide +kernel) (dev79 c) ?_
  refine step_wsd (XS xs ws) K c (t := 199) (.ax 0) (by decide +kernel) (credit_eq _) ?_
  exact done c (h _)

set_option maxRecDepth 65536 in
theorem part125 {R : sProp 𝕄} (v2827 : BitVec 32) {Q : _ → sProp 𝕄}
    (h : ∀ r, r = (V3027 xs ws c) → iprop(WO R c (wbF ws c) (O70 xs ws c f0) ∗ St (XS xs ws) K c 203) ⊢ Q r) :
    iprop(WO R c (wbF ws c) (O70 xs ws c f0) ∗ St (XS xs ws) K c 200) ⊢ WP c (k0_part125 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 (V2453 xs ws c) v2827) Q := by
  rw [k0_part125_eq_skeleton]
  unfold k0_part125_skel
  simp only [Prog.lift, Prog.bind_op, Prog.bind_ret, Prog.pure_eq_ret]
  refine step_rcv (XS xs ws) K c (t := 200) (.ax 0) (by decide +kernel) rfl ?_
  refine rd_am (XS xs ws) K c (t := 201) 0 (by decide +kernel) ?_
  refine step_wsd (XS xs ws) K c (t := 201) (.ax 1) (by decide +kernel) (credit_eq _) ?_
  refine step_rcv (XS xs ws) K c (t := 202) (.ax 1) (by decide +kernel) rfl ?_
  refine rd_am (XS xs ws) K c (t := 203) 1 (by decide +kernel) ?_
  exact done c (h _ rfl)

set_option maxRecDepth 65536 in
theorem part126 {R : sProp 𝕄} (v2839 : BitVec 32) (v2851 : BitVec 32) {Q : _ → sProp 𝕄}
    (h : ∀ r, r = (V3044 xs ws c) → iprop(WO R c (wbF ws c) (O70 xs ws c f0) ∗ St (XS xs ws) K c 206) ⊢ Q r) :
    iprop(WO R c (wbF ws c) (O70 xs ws c f0) ∗ St (XS xs ws) K c 203) ⊢ WP c (k0_part126 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2839 v2851 (V3027 xs ws c)) Q := by
  rw [k0_part126_eq_skeleton]
  unfold k0_part126_skel
  simp only [Prog.lift, Prog.bind_op, Prog.bind_ret, Prog.pure_eq_ret]
  refine step_wsd (XS xs ws) K c (t := 203) (.ax 2) (by decide +kernel) (credit_eq _) ?_
  refine step_rcv (XS xs ws) K c (t := 204) (.ax 2) (by decide +kernel) rfl ?_
  refine rd_am (XS xs ws) K c (t := 205) 2 (by decide +kernel) ?_
  refine step_wsd (XS xs ws) K c (t := 205) (.ax 3) (by decide +kernel) (credit_eq _) ?_
  exact done c (h _ rfl)

set_option maxRecDepth 65536 in
theorem part127 {R : sProp 𝕄} (v2863 : BitVec 32) {Q : _ → sProp 𝕄}
    (h : ∀ r, r = (V3078 xs ws c) → iprop(WO R c (wbF ws c) (O70 xs ws c f0) ∗ St (XS xs ws) K c 209) ⊢ Q r) :
    iprop(WO R c (wbF ws c) (O70 xs ws c f0) ∗ St (XS xs ws) K c 206) ⊢ WP c (k0_part127 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2863 (V3044 xs ws c)) Q := by
  rw [k0_part127_eq_skeleton]
  unfold k0_part127_skel
  simp only [Prog.lift, Prog.bind_op, Prog.bind_ret, Prog.pure_eq_ret]
  refine step_rcv (XS xs ws) K c (t := 206) (.ax 3) (by decide +kernel) rfl ?_
  refine rd_am (XS xs ws) K c (t := 207) 3 (by decide +kernel) ?_
  refine step_wsd (XS xs ws) K c (t := 207) (.ax 4) (by decide +kernel) (credit_eq _) ?_
  refine step_rcv (XS xs ws) K c (t := 208) (.ax 4) (by decide +kernel) rfl ?_
  refine rd_am (XS xs ws) K c (t := 209) 4 (by decide +kernel) ?_
  exact done c (h _ rfl)

set_option maxRecDepth 65536 in
theorem part128 {R : sProp 𝕄} (v2875 : BitVec 32) (v2887 : BitVec 32) {Q : _ → sProp 𝕄}
    (h : ∀ r, r = (V3095 xs ws c) → iprop(WO R c (wbF ws c) (O70 xs ws c f0) ∗ St (XS xs ws) K c 212) ⊢ Q r) :
    iprop(WO R c (wbF ws c) (O70 xs ws c f0) ∗ St (XS xs ws) K c 209) ⊢ WP c (k0_part128 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2875 v2887 (V3078 xs ws c)) Q := by
  rw [k0_part128_eq_skeleton]
  unfold k0_part128_skel
  simp only [Prog.lift, Prog.bind_op, Prog.bind_ret, Prog.pure_eq_ret]
  refine step_wsd (XS xs ws) K c (t := 209) (.ax 5) (by decide +kernel) (credit_eq _) ?_
  refine step_rcv (XS xs ws) K c (t := 210) (.ax 5) (by decide +kernel) rfl ?_
  refine rd_am (XS xs ws) K c (t := 211) 5 (by decide +kernel) ?_
  refine step_wsd (XS xs ws) K c (t := 211) (.ax 6) (by decide +kernel) (credit_eq _) ?_
  exact done c (h _ rfl)

set_option maxRecDepth 65536 in
theorem part129 {R : sProp 𝕄} (v2899 : BitVec 32) {Q : _ → sProp 𝕄}
    (h : ∀ r, r = (V3129 xs ws c) → iprop(WO R c (wbF ws c) (O70 xs ws c f0) ∗ St (XS xs ws) K c 215) ⊢ Q r) :
    iprop(WO R c (wbF ws c) (O70 xs ws c f0) ∗ St (XS xs ws) K c 212) ⊢ WP c (k0_part129 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2899 (V3095 xs ws c)) Q := by
  rw [k0_part129_eq_skeleton]
  unfold k0_part129_skel
  simp only [Prog.lift, Prog.bind_op, Prog.bind_ret, Prog.pure_eq_ret]
  refine step_rcv (XS xs ws) K c (t := 212) (.ax 6) (by decide +kernel) rfl ?_
  refine rd_am (XS xs ws) K c (t := 213) 6 (by decide +kernel) ?_
  refine step_wsd (XS xs ws) K c (t := 213) (.ax 7) (by decide +kernel) (credit_eq _) ?_
  refine step_rcv (XS xs ws) K c (t := 214) (.ax 7) (by decide +kernel) rfl ?_
  refine rd_am (XS xs ws) K c (t := 215) 7 (by decide +kernel) ?_
  exact done c (h _ rfl)

set_option maxRecDepth 65536 in
theorem part130 {R : sProp 𝕄} (v2911 : BitVec 32) (v2923 : BitVec 32) {Q : _ → sProp 𝕄}
    (h : ∀ r, r.1 = (V3146 xs ws c) → iprop(WO R c (wbF ws c) (O70 xs ws c f0) ∗ St (XS xs ws) K c 218) ⊢ Q r) :
    iprop(WO R c (wbF ws c) (O70 xs ws c f0) ∗ St (XS xs ws) K c 215) ⊢ WP c (k0_part130 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2911 v2923 (V3129 xs ws c)) Q := by
  rw [k0_part130_eq_skeleton]
  unfold k0_part130_skel
  simp only [Prog.lift, Prog.bind_op, Prog.bind_ret, Prog.pure_eq_ret]
  refine step_wsd (XS xs ws) K c (t := 215) (.ax 8) (by decide +kernel) (credit_eq _) ?_
  refine step_rcv (XS xs ws) K c (t := 216) (.ax 8) (by decide +kernel) rfl ?_
  refine rd_am (XS xs ws) K c (t := 217) 8 (by decide +kernel) ?_
  refine step_wsd (XS xs ws) K c (t := 217) (.ax 9) (by decide +kernel) (credit_eq _) ?_
  exact done c (h _ rfl)

set_option maxRecDepth 65536 in
theorem part131 {R : sProp 𝕄} (v2935 : BitVec 32) (v3153 : BitVec 32) (c0_i32_4313 : BitVec 32) {Q : _ → sProp 𝕄}
    (h : ∀ r, r = (V3180 xs ws c) → iprop(WO R c (wbF ws c) (O70 xs ws c f0) ∗ St (XS xs ws) K c 221) ⊢ Q r) :
    iprop(WO R c (wbF ws c) (O70 xs ws c f0) ∗ St (XS xs ws) K c 218) ⊢ WP c (k0_part131 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2935 (V3146 xs ws c) v3153 c0_i32_4313) Q := by
  rw [k0_part131_eq_skeleton]
  unfold k0_part131_skel
  simp only [Prog.lift, Prog.bind_op, Prog.bind_ret, Prog.pure_eq_ret]
  refine step_rcv (XS xs ws) K c (t := 218) (.ax 9) (by decide +kernel) rfl ?_
  refine rd_am (XS xs ws) K c (t := 219) 9 (by decide +kernel) ?_
  refine step_wsd (XS xs ws) K c (t := 219) (.ax 10) (by decide +kernel) (credit_eq _) ?_
  refine step_rcv (XS xs ws) K c (t := 220) (.ax 10) (by decide +kernel) rfl ?_
  refine rd_am (XS xs ws) K c (t := 221) 10 (by decide +kernel) ?_
  exact done c (h _ rfl)

set_option maxRecDepth 65536 in
theorem part132 {R : sProp 𝕄} (v2947 : BitVec 32) {Q : _ → sProp 𝕄}
    (h : ∀ r, r = (V3197 xs ws c) → iprop(WO R c (wbF ws c) (O70 xs ws c f0) ∗ St (XS xs ws) K c 224) ⊢ Q r) :
    iprop(WO R c (wbF ws c) (O70 xs ws c f0) ∗ St (XS xs ws) K c 221) ⊢ WP c (k0_part132 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2947 (V3180 xs ws c)) Q := by
  rw [k0_part132_eq_skeleton]
  unfold k0_part132_skel
  simp only [Prog.lift, Prog.bind_op, Prog.bind_ret, Prog.pure_eq_ret]
  refine step_wsd (XS xs ws) K c (t := 221) (.ax 11) (by decide +kernel) (credit_eq _) ?_
  refine step_rcv (XS xs ws) K c (t := 222) (.ax 11) (by decide +kernel) rfl ?_
  refine rd_am (XS xs ws) K c (t := 223) 11 (by decide +kernel) ?_
  refine step_wsd (XS xs ws) K c (t := 223) (.ax 12) (by decide +kernel) (credit_eq _) ?_
  exact done c (h _ rfl)

set_option maxRecDepth 65536 in
theorem part133 {R : sProp 𝕄} (v2959 : BitVec 32) (v2971 : BitVec 32) {Q : _ → sProp 𝕄}
    (h : ∀ r, r.1 = (V3214 xs ws c) → r.2 = (V3229 xs ws c) → iprop(WO R c (wbF ws c) (O70 xs ws c f0) ∗ St (XS xs ws) K c 227) ⊢ Q r) :
    iprop(WO R c (wbF ws c) (O70 xs ws c f0) ∗ St (XS xs ws) K c 224) ⊢ WP c (k0_part133 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2959 v2971 (V3197 xs ws c)) Q := by
  rw [k0_part133_eq_skeleton]
  unfold k0_part133_skel
  simp only [Prog.lift, Prog.bind_op, Prog.bind_ret, Prog.pure_eq_ret]
  refine step_rcv (XS xs ws) K c (t := 224) (.ax 12) (by decide +kernel) rfl ?_
  refine rd_am (XS xs ws) K c (t := 225) 12 (by decide +kernel) ?_
  refine step_wsd (XS xs ws) K c (t := 225) (.ax 13) (by decide +kernel) (credit_eq _) ?_
  refine step_rcv (XS xs ws) K c (t := 226) (.ax 13) (by decide +kernel) rfl ?_
  refine rd_am (XS xs ws) K c (t := 227) 13 (by decide +kernel) ?_
  exact done c (h _ rfl rfl)

set_option maxRecDepth 65536 in
theorem part134 {R : sProp 𝕄} (v2983 : BitVec 32) {Q : _ → sProp 𝕄}
    (h : ∀ r, r = (V3260 xs ws c f0) → iprop(WO R c (wbF ws c) (O70 xs ws c f0) ∗ St (XS xs ws) K c 229) ⊢ Q r) :
    iprop(WO R c (wbF ws c) (O70 xs ws c f0) ∗ St (XS xs ws) K c 227) ⊢ WP c (k0_part134 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 v2983 (V3214 xs ws c) (V3229 xs ws c)) Q := by
  rw [k0_part134_eq_skeleton]
  unfold k0_part134_skel
  simp only [Prog.lift, Prog.bind_op, Prog.bind_ret, Prog.pure_eq_ret]
  refine step_wsd (XS xs ws) K c (t := 227) (.ax 14) (by decide +kernel) (credit_eq _) ?_
  refine step_rcv (XS xs ws) K c (t := 228) (.ax 14) (by decide +kernel) rfl ?_
  refine rd_am (XS xs ws) K c (t := 229) 14 (by decide +kernel) ?_
  refine ld_out c _ ?_
  exact done c (h _ rfl)

end Cert.KernelIdealProof
-- ==== Proof.Whole.lean ====
/-
# The body whole
-/
module

public import proofs.«01_k».proof.Proof.First
public import proofs.«01_k».proof.Proof.Body1
public import proofs.«01_k».proof.Proof.Body2
public import proofs.«01_k».proof.Proof.Body3
public import proofs.«01_k».proof.Proof.Body4

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (xs : Dev nD → Vec F S256x4096 .bf16) (ws : Dev nD → Vec F S4096x128 .bf16) (K : Dev nD × CI → ℕ) (c : Dev nD) (f0 : (cc0_stg2_0 : Ref sig .tc).ty.Contents (Elt F))

theorem wp_seq {α β : Type} (c : Dev nD) {A : sProp 𝕄} {p : Prog (TpuEff nD τ sig (Elt F) Λ₀ .tc) α} {k : α → Prog (TpuEff nD τ sig (Elt F) Λ₀ .tc) β} {Q : β → sProp 𝕄}
    (h : A ⊢ WP c p fun r => WP c (k r) Q) : A ⊢ WP c (p >>= k) Q := by
  refine h.trans ?_
  unfold WP
  rw [wp_bind]

set_option maxHeartbeats 1600000 in
set_option maxRecDepth 65536 in
/-- The first sixty parts. -/
theorem part135 {R : sProp 𝕄} {gw : (cc0_scratch5 : Ref sig .tc).ty.Contents (Elt F)} {Q : _ → sProp 𝕄}
    (h : ∀ r, r.1 = c → r.2.2.2.2.2.2.2.2 = V1462 xs ws c → iprop(WO iprop(wPt c (ws c) ∗ xPt c (xs c) ∗ semVal (barCell c) 0 ∗ R) c (wbF ws c) (O37 xs ws c f0) ∗ St (XS xs ws) K c 87) ⊢ Q r) :
    iprop(WO iprop(wPt c (ws c) ∗ xPt c (xs c) ∗ R) c gw f0 ∗ St0 (XS xs ws) K c) ⊢ WP c (k0_part135 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [k0_part135_eq_skeleton]
  unfold k0_part135_skel
  refine wp_seq c (part1 xs ws K c f0 fun r hd h0 h1 => ?_)
  obtain ⟨d0, v2, v3, v4, v6, v8, v11, v14, v25, v26⟩ := r
  obtain rfl : c = d0 := hd.symm
  obtain rfl : v25 = V25 xs c := h0
  obtain rfl : v26 = V26 xs c := h1
  refine wp_seq c (part2 xs ws K c f0 _ _ fun r => ?_)
  refine wp_seq c (part3 xs ws K c f0 _ _ fun r => ?_)
  refine wp_seq c (part4 xs ws K c f0 _ _ fun r => ?_)
  refine wp_seq c (part5 xs ws K c f0 _ _ fun r h0 => ?_)
  rename' r => v129
  obtain rfl : v129 = V129 xs ws c := h0
  refine wp_seq c (part6 xs ws K c f0 _ _ fun r => ?_)
  rename' r => v146
  refine wp_seq c (part7 xs ws K c f0 _ _ _ fun r => ?_)
  refine wp_seq c (part8 xs ws K c f0 _ _ fun r => ?_)
  refine wp_seq c (part9 xs ws K c f0 _ _ fun r => ?_)
  refine wp_seq c (part10 xs ws K c f0 _ _ _ fun r => ?_)
  rename' r => v241
  refine wp_seq c (part11 xs ws K c f0 _ _ _ fun r h0 h1 => ?_)
  obtain ⟨v262, v271⟩ := r
  obtain rfl : v262 = V262 xs ws c := h0
  obtain rfl : v271 = V271 xs ws c := h1
  refine wp_seq c (part12 xs ws K c f0 _ _ fun r h0 h1 => ?_)
  obtain ⟨v279, v291, v294, v305⟩ := r
  obtain rfl : v279 = V279 xs ws c := h0
  obtain rfl : v305 = V305 xs ws c := h1
  refine wp_seq c (part13 xs ws K c f0 _ _ fun r h0 h1 => ?_)
  obtain ⟨v325, v336⟩ := r
  obtain rfl : v325 = V325 xs ws c := h0
  obtain rfl : v336 = V336 xs ws c := h1
  refine wp_seq c (part14 xs ws K c f0 _ _ fun r h0 => ?_)
  rename' r => v356
  obtain rfl : v356 = V356 xs ws c := h0
  refine wp_seq c (part15 xs ws K c f0 _ _ fun r => ?_)
  refine wp_seq c (part16 xs ws K c f0 _ _ fun r => ?_)
  refine wp_seq c (part17 xs ws K c f0 _ _ fun r => ?_)
  refine wp_seq c (part18 xs ws K c f0 _ _ fun r => ?_)
  refine wp_seq c (part19 xs ws K c f0 _ _ _ _ fun r => ?_)
  obtain ⟨v470, v475⟩ := r
  refine wp_seq c (part20 xs ws K c f0 _ _ fun r h0 => ?_)
  rename' r => v506
  obtain rfl : v506 = V506 xs ws c := h0
  refine wp_seq c (part21 xs ws K c f0 _ _ fun r h0 => ?_)
  rename' r => v534
  obtain rfl : v534 = V534 xs ws c := h0
  refine wp_seq c (part22 xs ws K c f0 _ _ fun r h0 => ?_)
  rename' r => v541
  obtain rfl : v541 = V541 xs ws c := h0
  refine wp_seq c (part23 xs ws K c f0 _ _ _ fun r => ?_)
  obtain ⟨v583, c8_i32_716⟩ := r
  refine wp_seq c (part24 xs ws K c f0 _ _ _ _ fun r h0 h1 => ?_)
  obtain ⟨v593, v596, v610, v612, v613⟩ := r
  obtain rfl : v610 = V610 xs ws c := h0
  obtain rfl : v612 = V612 xs ws c := h1
  refine wp_seq c (part25 xs ws K c f0 _ _ _ fun r h0 h1 h2 => ?_)
  obtain ⟨v627, v641, v643, v644⟩ := r
  obtain rfl : v627 = V627 xs ws c := h0
  obtain rfl : v641 = V641 xs ws c := h1
  obtain rfl : v643 = V643 xs ws c := h2
  refine wp_seq c (part26 xs ws K c f0 _ _ fun r h0 => ?_)
  rename' r => v658
  obtain rfl : v658 = V658 xs ws c := h0
  refine wp_seq c (part27 xs ws K c f0 _ _ fun r => ?_)
  refine wp_seq c (part28 xs ws K c f0 _ _ _ fun r => ?_)
  refine wp_seq c (part29 xs ws K c f0 _ _ _ fun r h0 => ?_)
  obtain ⟨v733, v737, v741⟩ := r
  obtain rfl : v741 = V741 xs ws c := h0
  refine wp_seq c (part30 xs ws K c f0 _ _ _ _ fun r h0 => ?_)
  obtain ⟨v764, v773, v775, c16_i32_930⟩ := r
  obtain rfl : v764 = V764 xs ws c := h0
  refine wp_seq c (part31 xs ws K c f0 _ _ _ fun r h0 h1 => ?_)
  obtain ⟨v776, v779, v793, v802⟩ := r
  obtain rfl : v793 = V793 xs ws c := h0
  obtain rfl : v802 = V802 xs ws c := h1
  refine wp_seq c (part32 xs ws K c f0 _ _ fun r h0 h1 h2 => ?_)
  obtain ⟨v810, v824, v833⟩ := r
  obtain rfl : v810 = V810 xs ws c := h0
  obtain rfl : v824 = V824 xs ws c := h1
  obtain rfl : v833 = V833 xs ws c := h2
  refine wp_seq c (part33 xs ws K c f0 _ _ fun r h0 => ?_)
  rename' r => v841
  obtain rfl : v841 = V841 xs ws c := h0
  refine wp_seq c (part34 xs ws K c f0 _ _ fun r => ?_)
  refine wp_seq c (part35 xs ws K c f0 _ _ fun r => ?_)
  obtain ⟨v894, c0_i32_1101⟩ := r
  refine wp_seq c (part36 xs ws K c f0 _ _ _ _ _ fun r => ?_)
  obtain ⟨v918, v922, c_m4_i32_1131⟩ := r
  refine wp_seq c (part37 xs ws K c f0 _ _ _ fun r h0 h1 => ?_)
  obtain ⟨v925, v928, v942, v947, v951⟩ := r
  obtain rfl : v942 = V942 xs ws c := h0
  obtain rfl : v951 = V951 xs ws c := h1
  refine wp_seq c (part38 xs ws K c f0 _ _ _ fun r h0 h1 h2 => ?_)
  obtain ⟨v959, v973, v978, v982⟩ := r
  obtain rfl : v959 = V959 xs ws c := h0
  obtain rfl : v973 = V973 xs ws c := h1
  obtain rfl : v982 = V982 xs ws c := h2
  refine wp_seq c (part39 xs ws K c f0 _ _ _ fun r h0 => ?_)
  rename' r => v990
  obtain rfl : v990 = V990 xs ws c := h0
  refine wp_seq c (part40 xs ws K c f0 _ _ fun r => ?_)
  refine wp_seq c (part41 xs ws K c f0 _ _ fun r => ?_)
  refine wp_seq c (part42 xs ws K c f0 _ _ fun r => ?_)
  rename' r => c1_i32_1339
  refine wp_seq c (part43 xs ws K c f0 _ _ _ _ fun r h0 => ?_)
  rename' r => v1087
  obtain rfl : v1087 = V1087 xs ws c := h0
  refine wp_seq c (part44 xs ws K c f0 _ _ fun r => ?_)
  refine wp_seq c (part45 xs ws K c f0 _ _ _ fun r => ?_)
  obtain ⟨v1139, v1141, c16_i32_1434⟩ := r
  refine wp_seq c (part46 xs ws K c f0 _ _ _ fun r h0 => ?_)
  obtain ⟨v1142, v1172⟩ := r
  obtain rfl : v1172 = V1172 xs ws c := h0
  refine wp_seq c (part47 xs ws K c f0 _ _ fun r h0 h1 => ?_)
  obtain ⟨v1173, v1203⟩ := r
  obtain rfl : v1173 = V1173 xs ws c := h0
  obtain rfl : v1203 = V1203 xs ws c := h1
  refine wp_seq c (part48 xs ws K c f0 _ _ fun r h0 => ?_)
  rename' r => v1204
  obtain rfl : v1204 = V1204 xs ws c := h0
  refine wp_seq c (part49 xs ws K c f0 _ _ _ _ fun r => ?_)
  obtain ⟨v1241, v1242⟩ := r
  refine wp_seq c (part50 xs ws K c f0 _ _ _ fun r h0 h1 => ?_)
  obtain ⟨v1248, v1251, v1265, v1267, v1270⟩ := r
  obtain rfl : v1265 = V1265 xs ws c := h0
  obtain rfl : v1267 = V1267 xs ws c := h1
  refine wp_seq c (part51 xs ws K c f0 _ _ _ fun r h0 h1 h2 => ?_)
  obtain ⟨v1282, v1296, v1298, v1301⟩ := r
  obtain rfl : v1282 = V1282 xs ws c := h0
  obtain rfl : v1296 = V1296 xs ws c := h1
  obtain rfl : v1298 = V1298 xs ws c := h2
  refine wp_seq c (part52 xs ws K c f0 _ _ _ fun r h0 => ?_)
  rename' r => v1313
  obtain rfl : v1313 = V1313 xs ws c := h0
  refine wp_seq c (part53 xs ws K c f0 _ _ fun r => ?_)
  refine wp_seq c (part54 xs ws K c f0 _ _ fun r => ?_)
  refine wp_seq c (part55 xs ws K c f0 _ _ _ fun r => ?_)
  obtain ⟨v1388, c4_i32_1767⟩ := r
  refine wp_seq c (part56 xs ws K c f0 _ _ _ _ fun r h0 h1 => ?_)
  obtain ⟨v1397, v1400, v1414, v1416, v1418⟩ := r
  obtain rfl : v1414 = V1414 xs ws c := h0
  obtain rfl : v1416 = V1416 xs ws c := h1
  refine wp_seq c (part57 xs ws K c f0 _ _ _ fun r h0 h1 h2 => ?_)
  obtain ⟨v1431, v1445, v1447, v1449⟩ := r
  obtain rfl : v1431 = V1431 xs ws c := h0
  obtain rfl : v1445 = V1445 xs ws c := h1
  obtain rfl : v1447 = V1447 xs ws c := h2
  refine wp_seq c (part58 xs ws K c f0 _ _ fun r h0 => ?_)
  rename' r => v1462
  obtain rfl : v1462 = V1462 xs ws c := h0
  refine wp_seq c (part59 xs ws K c f0 _ _ fun r => ?_)
  refine wp_seq c (part60 xs ws K c f0 _ _ fun r => ?_)
  exact done c (h _ rfl rfl)

set_option maxHeartbeats 1600000 in
set_option maxRecDepth 65536 in
/-- The next sixty. -/
theorem part136 {R : sProp 𝕄} (v2 : BitVec 32) (v3 : BitVec 32) (v4 : BitVec 32) (v6 : BitVec 32) (v8 : BitVec 32) (v11 : BitVec 32) (v14 : BitVec 32) {Q : _ → sProp 𝕄}
    (h : ∀ r, r.1 = V2453 xs ws c → iprop(WO R c (wbF ws c) (O70 xs ws c f0) ∗ St (XS xs ws) K c 190) ⊢ Q r) :
    iprop(WO R c (wbF ws c) (O37 xs ws c f0) ∗ St (XS xs ws) K c 87) ⊢ WP c (k0_part136 xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 c v2 v3 v4 v6 v8 v11 v14 (V1462 xs ws c)) Q := by
  rw [k0_part136_eq_skeleton]
  unfold k0_part136_skel
  refine wp_seq c (part61 xs ws K c f0 _ _ fun r => ?_)
  refine wp_seq c (part62 xs ws K c f0 _ _ fun r h0 => ?_)
  rename' r => v1559
  obtain rfl : v1559 = V1559 xs ws c := h0
  refine wp_seq c (part63 xs ws K c f0 _ _ fun r => ?_)
  rename' r => c1_i32_2039
  refine wp_seq c (part64 xs ws K c f0 _ _ _ _ fun r => ?_)
  refine wp_seq c (part65 xs ws K c f0 _ _ _ fun r h0 => ?_)
  obtain ⟨v1616, v1635, v1636⟩ := r
  obtain rfl : v1635 = V1635 xs ws c := h0
  refine wp_seq c (part66 xs ws K c f0 _ _ _ fun r h0 h1 => ?_)
  obtain ⟨v1654, v1666⟩ := r
  obtain rfl : v1654 = V1654 xs ws c := h0
  obtain rfl : v1666 = V1666 xs ws c := h1
  refine wp_seq c (part67 xs ws K c f0 _ _ _ fun r h0 => ?_)
  obtain ⟨v1692, v1697, v1701, c4_i32_2149⟩ := r
  obtain rfl : v1692 = V1692 xs ws c := h0
  refine wp_seq c (part68 xs ws K c f0 _ _ _ fun r h0 h1 => ?_)
  obtain ⟨v1704, v1707, v1721, v1726, v1730⟩ := r
  obtain rfl : v1721 = V1721 xs ws c := h0
  obtain rfl : v1730 = V1730 xs ws c := h1
  refine wp_seq c (part69 xs ws K c f0 _ _ _ fun r h0 h1 h2 => ?_)
  obtain ⟨v1738, v1752, v1757, v1761⟩ := r
  obtain rfl : v1738 = V1738 xs ws c := h0
  obtain rfl : v1752 = V1752 xs ws c := h1
  obtain rfl : v1761 = V1761 xs ws c := h2
  refine wp_seq c (part70 xs ws K c f0 _ _ _ fun r h0 => ?_)
  rename' r => v1769
  obtain rfl : v1769 = V1769 xs ws c := h0
  refine wp_seq c (part71 xs ws K c f0 _ _ fun r => ?_)
  rename' r => c2_i32_2281
  refine wp_seq c (part72 xs ws K c f0 _ _ _ fun r h0 => ?_)
  obtain ⟨v1813, v1816, v1830⟩ := r
  obtain rfl : v1830 = V1830 xs ws c := h0
  refine wp_seq c (part73 xs ws K c f0 _ _ fun r h0 h1 => ?_)
  obtain ⟨v1847, v1861⟩ := r
  obtain rfl : v1847 = V1847 xs ws c := h0
  obtain rfl : v1861 = V1861 xs ws c := h1
  refine wp_seq c (part74 xs ws K c f0 _ _ fun r h0 => ?_)
  rename' r => v1878
  obtain rfl : v1878 = V1878 xs ws c := h0
  refine wp_seq c (part75 xs ws K c f0 _ _ fun r => ?_)
  rename' r => v1905
  refine wp_seq c (part76 xs ws K c f0 _ _ _ fun r => ?_)
  refine wp_seq c (part77 xs ws K c f0 _ _ fun r => ?_)
  refine wp_seq c (part78 xs ws K c f0 _ _ _ fun r h0 => ?_)
  obtain ⟨v1957, v1976, v1979⟩ := r
  obtain rfl : v1976 = V1976 xs ws c := h0
  refine wp_seq c (part79 xs ws K c f0 _ _ _ fun r h0 h1 => ?_)
  obtain ⟨v1995, v2010⟩ := r
  obtain rfl : v1995 = V1995 xs ws c := h0
  obtain rfl : v2010 = V2010 xs ws c := h1
  refine wp_seq c (part80 xs ws K c f0 _ _ _ fun r h0 => ?_)
  obtain ⟨v2033, v2042, v2044⟩ := r
  obtain rfl : v2033 = V2033 xs ws c := h0
  refine wp_seq c (part81 xs ws K c f0 _ _ fun r h0 h1 => ?_)
  obtain ⟨v2045, v2048, v2062, v2071⟩ := r
  obtain rfl : v2062 = V2062 xs ws c := h0
  obtain rfl : v2071 = V2071 xs ws c := h1
  refine wp_seq c (part82 xs ws K c f0 _ _ fun r h0 h1 h2 => ?_)
  obtain ⟨v2079, v2093, v2102⟩ := r
  obtain rfl : v2079 = V2079 xs ws c := h0
  obtain rfl : v2093 = V2093 xs ws c := h1
  obtain rfl : v2102 = V2102 xs ws c := h2
  refine wp_seq c (part83 xs ws K c f0 _ _ fun r h0 => ?_)
  rename' r => v2110
  obtain rfl : v2110 = V2110 xs ws c := h0
  refine wp_seq c (part84 xs ws K c f0 _ _ fun r => ?_)
  refine wp_seq c (part85 xs ws K c f0 _ _ fun r => ?_)
  refine wp_seq c (part86 xs ws K c f0 _ _ _ fun r => ?_)
  rename' r => v2186
  refine wp_seq c (part87 xs ws K c f0 _ _ _ fun r h0 h1 => ?_)
  obtain ⟨v2194, v2197, v2211, v2213, v2215, c0_i32_2797⟩ := r
  obtain rfl : v2211 = V2211 xs ws c := h0
  obtain rfl : v2213 = V2213 xs ws c := h1
  refine wp_seq c (part88 xs ws K c f0 _ _ _ _ fun r h0 h1 h2 => ?_)
  obtain ⟨v2228, v2242, v2244, v2246, c48_i32_2824⟩ := r
  obtain rfl : v2228 = V2228 xs ws c := h0
  obtain rfl : v2242 = V2242 xs ws c := h1
  obtain rfl : v2244 = V2244 xs ws c := h2
  refine wp_seq c (part89 xs ws K c f0 _ _ _ fun r h0 => ?_)
  obtain ⟨v2259, c1_i32_2861⟩ := r
  obtain rfl : v2259 = V2259 xs ws c := h0
  refine wp_seq c (part90 xs ws K c f0 _ _ _ fun r => ?_)
  refine wp_seq c (part91 xs ws K c f0 _ _ fun r h0 => ?_)
  obtain ⟨v2303, v2306, v2317⟩ := r
  obtain rfl : v2317 = V2317 xs ws c := h0
  refine wp_seq c (part92 xs ws K c f0 _ _ fun r h0 h1 => ?_)
  obtain ⟨v2337, v2348⟩ := r
  obtain rfl : v2337 = V2337 xs ws c := h0
  obtain rfl : v2348 = V2348 xs ws c := h1
  refine wp_seq c (part93 xs ws K c f0 _ _ _ fun r h0 => ?_)
  obtain ⟨v2368, v2377, c0_i32_2983⟩ := r
  obtain rfl : v2368 = V2368 xs ws c := h0
  refine wp_seq c (part94 xs ws K c f0 _ _ _ fun r h0 h1 => ?_)
  obtain ⟨v2396, v2408⟩ := r
  obtain rfl : v2396 = V2396 xs ws c := h0
  obtain rfl : v2408 = V2408 xs ws c := h1
  refine wp_seq c (part95 xs ws K c f0 _ _ fun r h0 h1 => ?_)
  obtain ⟨v2434, v2440, v2441, c192_i32_3036⟩ := r
  obtain rfl : v2434 = V2434 xs ws c := h0
  obtain rfl : v2440 = V2440 xs ws c := h1
  refine wp_seq c (part96 xs ws K c f0 _ _ fun r h0 => ?_)
  rename' r => v2453
  obtain rfl : v2453 = V2453 xs ws c := h0
  refine wp_seq c (part97 xs ws K c f0 fun r => ?_)
  refine wp_seq c (part98 xs ws K c f0 fun r => ?_)
  refine wp_seq c (part99 xs ws K c f0 fun r => ?_)
  refine wp_seq c (part100 xs ws K c f0 fun r => ?_)
  refine wp_seq c (part101 xs ws K c f0 fun r => ?_)
  refine wp_seq c (part102 xs ws K c f0 fun r => ?_)
  refine wp_seq c (part103 xs ws K c f0 fun r => ?_)
  refine wp_seq c (part104 xs ws K c f0 fun r => ?_)
  refine wp_seq c (part105 xs ws K c f0 fun r => ?_)
  refine wp_seq c (part106 xs ws K c f0 fun r => ?_)
  refine wp_seq c (part107 xs ws K c f0 fun r => ?_)
  refine wp_seq c (part108 xs ws K c f0 fun r => ?_)
  refine wp_seq c (part109 xs ws K c f0 fun r => ?_)
  refine wp_seq c (part110 xs ws K c f0 fun r => ?_)
  refine wp_seq c (part111 xs ws K c f0 fun r => ?_)
  refine wp_seq c (part112 xs ws K c f0 fun r => ?_)
  refine wp_seq c (part113 xs ws K c f0 fun r => ?_)
  refine wp_seq c (part114 xs ws K c f0 fun r => ?_)
  refine wp_seq c (part115 xs ws K c f0 fun r => ?_)
  refine wp_seq c (part116 xs ws K c f0 fun r => ?_)
  refine wp_seq c (part117 xs ws K c f0 fun r => ?_)
  refine wp_seq c (part118 xs ws K c f0 _ fun r => ?_)
  obtain ⟨v2815, v2827⟩ := r
  refine wp_seq c (part119 xs ws K c f0 _ fun r => ?_)
  obtain ⟨v2839, v2851, v2863⟩ := r
  refine wp_seq c (part120 xs ws K c f0 _ _ fun r => ?_)
  obtain ⟨v2875, v2887⟩ := r
  exact done c (h _ rfl)

theorem put_all (v g : (cc0_stg2_0 : Ref sig .tc).ty.Contents (Elt F)) : put rAll v g = v :=
  Memref.write_access_unit_zero_univ (Elt F) cc0_stg2_0 (funext fun a => by fin_cases a <;> rfl) _ g v

set_option maxHeartbeats 1600000 in
set_option maxRecDepth 65536 in
/-- The body. -/
theorem whole {R : sProp 𝕄} {gw : (cc0_scratch5 : Ref sig .tc).ty.Contents (Elt F)} {Q : _ → sProp 𝕄}
    (h : iprop(WO iprop(wPt c (ws c) ∗ xPt c (xs c) ∗ semVal (barCell c) 0 ∗ R) c (wbF ws c) (V3260 xs ws c f0) ∗ St (XS xs ws) K c tEnd) ⊢ Q ⟨⟩) :
    iprop(WO iprop(wPt c (ws c) ∗ xPt c (xs c) ∗ R) c gw f0 ∗ St0 (XS xs ws) K c) ⊢ WP c (cc0_body xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) Q := by
  rw [cc0_body_eq_skeleton]
  unfold cc0_body_skel
  refine wp_seq c (part135 xs ws K c f0 fun r hd h0 => ?_)
  obtain ⟨d0, v2, v3, v4, v6, v8, v11, v14, v1462⟩ := r
  obtain rfl : c = d0 := hd.symm
  obtain rfl : v1462 = V1462 xs ws c := h0
  refine wp_seq c (part136 xs ws K c f0 _ _ _ _ _ _ _ fun r h0 => ?_)
  obtain ⟨v2453, v2815, v2827, v2839, v2851, v2863, v2875, v2887⟩ := r
  obtain rfl : v2453 = V2453 xs ws c := h0
  refine wp_seq c (part121 xs ws K c f0 _ fun r => ?_)
  obtain ⟨v2899, v2911, v2922⟩ := r
  refine wp_seq c (part122 xs ws K c f0 _ _ fun r => ?_)
  obtain ⟨v2923, v2935, v2947⟩ := r
  refine wp_seq c (part123 xs ws K c f0 _ fun r => ?_)
  obtain ⟨v2959, v2971⟩ := r
  refine wp_seq c (part124 xs ws K c f0 _ _ fun r => ?_)
  rename' r => v2983
  refine wp_seq c (part125 xs ws K c f0 _ fun r h0 => ?_)
  rename' r => v3027
  obtain rfl : v3027 = V3027 xs ws c := h0
  refine wp_seq c (part126 xs ws K c f0 _ _ fun r h0 => ?_)
  rename' r => v3044
  obtain rfl : v3044 = V3044 xs ws c := h0
  refine wp_seq c (part127 xs ws K c f0 _ fun r h0 => ?_)
  rename' r => v3078
  obtain rfl : v3078 = V3078 xs ws c := h0
  refine wp_seq c (part128 xs ws K c f0 _ _ fun r h0 => ?_)
  rename' r => v3095
  obtain rfl : v3095 = V3095 xs ws c := h0
  refine wp_seq c (part129 xs ws K c f0 _ fun r h0 => ?_)
  rename' r => v3129
  obtain rfl : v3129 = V3129 xs ws c := h0
  refine wp_seq c (part130 xs ws K c f0 _ _ fun r h0 => ?_)
  obtain ⟨v3146, v3153, c0_i32_4313⟩ := r
  obtain rfl : v3146 = V3146 xs ws c := h0
  refine wp_seq c (part131 xs ws K c f0 _ _ _ fun r h0 => ?_)
  rename' r => v3180
  obtain rfl : v3180 = V3180 xs ws c := h0
  refine wp_seq c (part132 xs ws K c f0 _ fun r h0 => ?_)
  rename' r => v3197
  obtain rfl : v3197 = V3197 xs ws c := h0
  refine wp_seq c (part133 xs ws K c f0 _ _ fun r h0 h1 => ?_)
  obtain ⟨v3214, v3229⟩ := r
  obtain rfl : v3214 = V3214 xs ws c := h0
  obtain rfl : v3229 = V3229 xs ws c := h1
  refine wp_seq c (part134 xs ws K c f0 _ fun r h0 => ?_)
  rename' r => v3260
  obtain rfl : v3260 = V3260 xs ws c f0 := h0
  simp only [Prog.lift, Prog.bind_op, Prog.bind_ret, Prog.pure_eq_ret]
  refine ld_out c rAll ?_
  refine st_out c rAll (f' := V3260 xs ws c f0) (put_all _ _).symm ?_
  exact done c h

end Cert.KernelIdealProof
-- ==== Proof.Cover.lean ====
/-
# The seventy blocks of rows cover the result
-/
module

public import proofs.«01_k».proof.Proof.Vals

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

/-- The numbers from `o` on, `n` of them, as bits. -/
def rowsM (o n : ℕ) : ℕ := (2 ^ n - 1) <<< o

theorem rowsM_bit (o n i : ℕ) : (rowsM o n).testBit i = true ↔ o ≤ i ∧ i < o + n := by
  unfold rowsM
  rw [Nat.testBit_shiftLeft, Nat.testBit_two_pow_sub_one]
  simp only [Bool.and_eq_true, decide_eq_true_eq]
  omega

/-- A block of rows written is what the rows then hold; -/
theorem put_in {off size : Fin 2 → ℕ} (inb : ∀ a : Fin 2, off a + size a ≤ S4096x128.size a) (v : Vec F (Rect.unit (s := S4096x128) off size inb).shape .f32)
    (f : (cc0_stg2_0 : Ref sig .tc).ty.Contents (Elt F)) (x : (Rect.unit (s := S4096x128) off size inb).shape.Idx) :
    put (Rect.unit (s := S4096x128) off size inb) v f ((Rect.unit (s := S4096x128) off size inb).emb x) = v x :=
  View.write_emb_of_mem (v := outM.access (Rect.unit (s := S4096x128) off size inb)) f v (Finset.mem_univ x)

/-- the others hold what they held. -/
theorem put_out {off size : Fin 2 → ℕ} (inb : ∀ a : Fin 2, off a + size a ≤ S4096x128.size a) (v : Vec F (Rect.unit (s := S4096x128) off size inb).shape .f32)
    (f : (cc0_stg2_0 : Ref sig .tc).ty.Contents (Elt F)) (y : S4096x128.Idx) (h : ¬ (off 0 ≤ (y 0).val ∧ (y 0).val < off 0 + size 0)) :
    put (Rect.unit (s := S4096x128) off size inb) v f y = f y :=
  View.write_of_not_mem (v := outM.access (Rect.unit (s := S4096x128) off size inb)) f v Finset.univ (by
    intro hm
    obtain ⟨x, -, hx⟩ := Finset.mem_map.mp hm
    subst hx
    refine h ?_
    have h1 := (x (0 : Fin 2)).isLt
    change off 0 ≤ off 0 + 1 * (x (0 : Fin 2)).val ∧ off 0 + 1 * (x (0 : Fin 2)).val < off 0 + size 0
    change (x (0 : Fin 2)).val < size 0 at h1
    omega)

/-- A row inside a block of whole rows has a place in it. -/
theorem put_place {off size : Fin 2 → ℕ} (inb : ∀ a : Fin 2, off a + size a ≤ S4096x128.size a) (h1 : off 1 = 0) (h2 : size 1 = 128)
    (y : S4096x128.Idx) (h : off 0 ≤ (y 0).val ∧ (y 0).val < off 0 + size 0) :
    ∃ x : (Rect.unit (s := S4096x128) off size inb).shape.Idx, (Rect.unit (s := S4096x128) off size inb).emb x = y := by
  have hy := (y 1).isLt
  change (y 1).val < 128 at hy
  refine ⟨fun a => ⟨(y a).val - off a, ?_⟩, funext fun a => Fin.ext ?_⟩
  · change (y a).val - off a < size a
    fin_cases a
    · change (y 0).val - off 0 < size 0; omega
    · change (y 1).val - off 1 < size 1; omega
  · change off a + 1 * ((y a).val - off a) = (y a).val
    fin_cases a
    · change off 0 + 1 * ((y 0).val - off 0) = (y 0).val; omega
    · change off 1 + 1 * ((y 1).val - off 1) = (y 1).val; omega

/-- Two contents of the result's buffer are the same in the rows `M`. -/
def Agree (M : ℕ) (f g : (cc0_stg2_0 : Ref sig .tc).ty.Contents (Elt F)) : Prop := ∀ y : S4096x128.Idx, M.testBit (y 0).val = true → f y = g y

theorem agree_none (f g : (cc0_stg2_0 : Ref sig .tc).ty.Contents (Elt F)) : Agree 0 f g := fun y h => by
  rw [Nat.zero_testBit] at h; exact absurd h (by decide)

theorem agree_put {M : ℕ} {f g : (cc0_stg2_0 : Ref sig .tc).ty.Contents (Elt F)} {off size : Fin 2 → ℕ} (inb : ∀ a : Fin 2, off a + size a ≤ S4096x128.size a) (h1 : off 1 = 0) (h2 : size 1 = 128)
    (v : Vec F (Rect.unit (s := S4096x128) off size inb).shape .f32) (h : Agree M f g) :
    Agree (M ||| rowsM (off 0) (size 0)) (put (Rect.unit (s := S4096x128) off size inb) v f) (put (Rect.unit (s := S4096x128) off size inb) v g) := fun y hy => by
  by_cases hr : off 0 ≤ (y 0).val ∧ (y 0).val < off 0 + size 0
  · obtain ⟨x, rfl⟩ := put_place inb h1 h2 y hr
    rw [put_in, put_in]
  · rw [put_out inb v f y hr, put_out inb v g y hr]
    refine h y ?_
    rw [Nat.testBit_or, Bool.or_eq_true] at hy
    exact hy.resolve_right fun h' => hr ((rowsM_bit _ _ _).mp h')

/-- A contents of the result's buffer is `Y` in the rows `M`. -/
theorem holds_put {M : ℕ} {f Y : (cc0_stg2_0 : Ref sig .tc).ty.Contents (Elt F)} {off size : Fin 2 → ℕ} (inb : ∀ a : Fin 2, off a + size a ≤ S4096x128.size a) (h1 : off 1 = 0) (h2 : size 1 = 128)
    (v : Vec F (Rect.unit (s := S4096x128) off size inb).shape .f32) (hv : ∀ x, v x = Y ((Rect.unit (s := S4096x128) off size inb).emb x)) (h : Agree M f Y) :
    Agree (M ||| rowsM (off 0) (size 0)) (put (Rect.unit (s := S4096x128) off size inb) v f) Y := fun y hy => by
  by_cases hr : off 0 ≤ (y 0).val ∧ (y 0).val < off 0 + size 0
  · obtain ⟨x, rfl⟩ := put_place inb h1 h2 y hr
    rw [put_in, hv]
  · rw [put_out inb v f y hr]
    refine h y ?_
    rw [Nat.testBit_or, Bool.or_eq_true] at hy
    exact hy.resolve_right fun h' => hr ((rowsM_bit _ _ _).mp h')

/-! The rows written, block after block. -/

def M1 (c : Dev nD) : ℕ := 0 ||| rowsM (k0_off1 c 0) (S256x128.size 0)
def M2 (c : Dev nD) : ℕ := M1 c ||| rowsM (k0_off2 c 0#32 0) (S32x128.size 0)
def M3 (c : Dev nD) : ℕ := M2 c ||| rowsM (k0_off3 c 0#32 0) (S32x128.size 0)
def M4 (c : Dev nD) : ℕ := M3 c ||| rowsM (k0_off4 c 0#32 0#32 0#32 0) (S48x128.size 0)
def M5 (c : Dev nD) : ℕ := M4 c ||| rowsM (k0_off5 c 0#32 0#32 0#32 0) (S48x128.size 0)
def M6 (c : Dev nD) : ℕ := M5 c ||| rowsM (k0_off4 c 0#32 0#32 48#32 0) (S48x128.size 0)
def M7 (c : Dev nD) : ℕ := M6 c ||| rowsM (k0_off5 c 0#32 0#32 48#32 0) (S48x128.size 0)
def M8 (c : Dev nD) : ℕ := M7 c ||| rowsM (k0_off2 c 1#32 0) (S32x128.size 0)
def M9 (c : Dev nD) : ℕ := M8 c ||| rowsM (k0_off3 c 1#32 0) (S32x128.size 0)
def M10 (c : Dev nD) : ℕ := M9 c ||| rowsM (k0_off6 c 4294967292#32 0) (S192x128.size 0)
def M11 (c : Dev nD) : ℕ := M10 c ||| rowsM (k0_off4 c 1#32 0#32 0#32 0) (S48x128.size 0)
def M12 (c : Dev nD) : ℕ := M11 c ||| rowsM (k0_off5 c 1#32 0#32 0#32 0) (S48x128.size 0)
def M13 (c : Dev nD) : ℕ := M12 c ||| rowsM (k0_off4 c 1#32 0#32 48#32 0) (S48x128.size 0)
def M14 (c : Dev nD) : ℕ := M13 c ||| rowsM (k0_off5 c 1#32 0#32 48#32 0) (S48x128.size 0)
def M15 (c : Dev nD) : ℕ := M14 c ||| rowsM (k0_off2 c 2#32 0) (S32x128.size 0)
def M16 (c : Dev nD) : ℕ := M15 c ||| rowsM (k0_off3 c 2#32 0) (S32x128.size 0)
def M17 (c : Dev nD) : ℕ := M16 c ||| rowsM (k0_off4 c 2#32 0#32 0#32 0) (S48x128.size 0)
def M18 (c : Dev nD) : ℕ := M17 c ||| rowsM (k0_off5 c 2#32 0#32 0#32 0) (S48x128.size 0)
def M19 (c : Dev nD) : ℕ := M18 c ||| rowsM (k0_off4 c 2#32 0#32 48#32 0) (S48x128.size 0)
def M20 (c : Dev nD) : ℕ := M19 c ||| rowsM (k0_off5 c 2#32 0#32 48#32 0) (S48x128.size 0)
def M21 (c : Dev nD) : ℕ := M20 c ||| rowsM (k0_off4 c 0#32 4294967292#32 0#32 0) (S48x128.size 0)
def M22 (c : Dev nD) : ℕ := M21 c ||| rowsM (k0_off5 c 0#32 4294967292#32 0#32 0) (S48x128.size 0)
def M23 (c : Dev nD) : ℕ := M22 c ||| rowsM (k0_off4 c 0#32 4294967292#32 48#32 0) (S48x128.size 0)
def M24 (c : Dev nD) : ℕ := M23 c ||| rowsM (k0_off5 c 0#32 4294967292#32 48#32 0) (S48x128.size 0)
def M25 (c : Dev nD) : ℕ := M24 c ||| rowsM (k0_off6 c 4#32 0) (S192x128.size 0)
def M26 (c : Dev nD) : ℕ := M25 c ||| rowsM (k0_off4 c 1#32 4294967292#32 0#32 0) (S48x128.size 0)
def M27 (c : Dev nD) : ℕ := M26 c ||| rowsM (k0_off5 c 1#32 4294967292#32 0#32 0) (S48x128.size 0)
def M28 (c : Dev nD) : ℕ := M27 c ||| rowsM (k0_off4 c 1#32 4294967292#32 48#32 0) (S48x128.size 0)
def M29 (c : Dev nD) : ℕ := M28 c ||| rowsM (k0_off5 c 1#32 4294967292#32 48#32 0) (S48x128.size 0)
def M30 (c : Dev nD) : ℕ := M29 c ||| rowsM (k0_off4 c 2#32 4294967292#32 0#32 0) (S48x128.size 0)
def M31 (c : Dev nD) : ℕ := M30 c ||| rowsM (k0_off5 c 2#32 4294967292#32 0#32 0) (S48x128.size 0)
def M32 (c : Dev nD) : ℕ := M31 c ||| rowsM (k0_off4 c 2#32 4294967292#32 48#32 0) (S48x128.size 0)
def M33 (c : Dev nD) : ℕ := M32 c ||| rowsM (k0_off5 c 2#32 4294967292#32 48#32 0) (S48x128.size 0)
def M34 (c : Dev nD) : ℕ := M33 c ||| rowsM (k0_off4 c 0#32 4#32 0#32 0) (S48x128.size 0)
def M35 (c : Dev nD) : ℕ := M34 c ||| rowsM (k0_off5 c 0#32 4#32 0#32 0) (S48x128.size 0)
def M36 (c : Dev nD) : ℕ := M35 c ||| rowsM (k0_off4 c 0#32 4#32 48#32 0) (S48x128.size 0)
def M37 (c : Dev nD) : ℕ := M36 c ||| rowsM (k0_off5 c 0#32 4#32 48#32 0) (S48x128.size 0)
def M38 (c : Dev nD) : ℕ := M37 c ||| rowsM (k0_off6 c 4294967288#32 0) (S192x128.size 0)
def M39 (c : Dev nD) : ℕ := M38 c ||| rowsM (k0_off7 c 12#32 0#32 0) (S64x128.size 0)
def M40 (c : Dev nD) : ℕ := M39 c ||| rowsM (k0_off7 c 12#32 1#32 0) (S64x128.size 0)
def M41 (c : Dev nD) : ℕ := M40 c ||| rowsM (k0_off7 c 12#32 2#32 0) (S64x128.size 0)
def M42 (c : Dev nD) : ℕ := M41 c ||| rowsM (k0_off7 c 12#32 3#32 0) (S64x128.size 0)
def M43 (c : Dev nD) : ℕ := M42 c ||| rowsM (k0_off4 c 1#32 4#32 0#32 0) (S48x128.size 0)
def M44 (c : Dev nD) : ℕ := M43 c ||| rowsM (k0_off5 c 1#32 4#32 0#32 0) (S48x128.size 0)
def M45 (c : Dev nD) : ℕ := M44 c ||| rowsM (k0_off4 c 1#32 4#32 48#32 0) (S48x128.size 0)
def M46 (c : Dev nD) : ℕ := M45 c ||| rowsM (k0_off5 c 1#32 4#32 48#32 0) (S48x128.size 0)
def M47 (c : Dev nD) : ℕ := M46 c ||| rowsM (k0_off4 c 2#32 4#32 0#32 0) (S48x128.size 0)
def M48 (c : Dev nD) : ℕ := M47 c ||| rowsM (k0_off5 c 2#32 4#32 0#32 0) (S48x128.size 0)
def M49 (c : Dev nD) : ℕ := M48 c ||| rowsM (k0_off4 c 2#32 4#32 48#32 0) (S48x128.size 0)
def M50 (c : Dev nD) : ℕ := M49 c ||| rowsM (k0_off5 c 2#32 4#32 48#32 0) (S48x128.size 0)
def M51 (c : Dev nD) : ℕ := M50 c ||| rowsM (k0_off7 c 4#32 0#32 0) (S64x128.size 0)
def M52 (c : Dev nD) : ℕ := M51 c ||| rowsM (k0_off7 c 4#32 1#32 0) (S64x128.size 0)
def M53 (c : Dev nD) : ℕ := M52 c ||| rowsM (k0_off7 c 4#32 2#32 0) (S64x128.size 0)
def M54 (c : Dev nD) : ℕ := M53 c ||| rowsM (k0_off7 c 4#32 3#32 0) (S64x128.size 0)
def M55 (c : Dev nD) : ℕ := M54 c ||| rowsM (k0_off4 c 0#32 4294967288#32 0#32 0) (S48x128.size 0)
def M56 (c : Dev nD) : ℕ := M55 c ||| rowsM (k0_off5 c 0#32 4294967288#32 0#32 0) (S48x128.size 0)
def M57 (c : Dev nD) : ℕ := M56 c ||| rowsM (k0_off4 c 0#32 4294967288#32 48#32 0) (S48x128.size 0)
def M58 (c : Dev nD) : ℕ := M57 c ||| rowsM (k0_off5 c 0#32 4294967288#32 48#32 0) (S48x128.size 0)
def M59 (c : Dev nD) : ℕ := M58 c ||| rowsM (k0_off4 c 1#32 4294967288#32 0#32 0) (S48x128.size 0)
def M60 (c : Dev nD) : ℕ := M59 c ||| rowsM (k0_off5 c 1#32 4294967288#32 0#32 0) (S48x128.size 0)
def M61 (c : Dev nD) : ℕ := M60 c ||| rowsM (k0_off4 c 1#32 4294967288#32 48#32 0) (S48x128.size 0)
def M62 (c : Dev nD) : ℕ := M61 c ||| rowsM (k0_off5 c 1#32 4294967288#32 48#32 0) (S48x128.size 0)
def M63 (c : Dev nD) : ℕ := M62 c ||| rowsM (k0_off4 c 2#32 4294967288#32 0#32 0) (S48x128.size 0)
def M64 (c : Dev nD) : ℕ := M63 c ||| rowsM (k0_off5 c 2#32 4294967288#32 0#32 0) (S48x128.size 0)
def M65 (c : Dev nD) : ℕ := M64 c ||| rowsM (k0_off4 c 2#32 4294967288#32 48#32 0) (S48x128.size 0)
def M66 (c : Dev nD) : ℕ := M65 c ||| rowsM (k0_off5 c 2#32 4294967288#32 48#32 0) (S48x128.size 0)
def M67 (c : Dev nD) : ℕ := M66 c ||| rowsM (k0_off7 c 8#32 0#32 0) (S64x128.size 0)
def M68 (c : Dev nD) : ℕ := M67 c ||| rowsM (k0_off7 c 8#32 1#32 0) (S64x128.size 0)
def M69 (c : Dev nD) : ℕ := M68 c ||| rowsM (k0_off7 c 8#32 2#32 0) (S64x128.size 0)
def M70 (c : Dev nD) : ℕ := M69 c ||| rowsM (k0_off7 c 8#32 3#32 0) (S64x128.size 0)

/-- Every row is in some block. -/
theorem cover : ∀ c : Dev nD, M70 c = 2 ^ 4096 - 1 := by decide +kernel

variable (xs : Dev nD → Vec F S256x4096 .bf16) (ws : Dev nD → Vec F S4096x128 .bf16) (c : Dev nD) (f0 f1 : (cc0_stg2_0 : Ref sig .tc).ty.Contents (Elt F))

theorem ag1 : Agree (M1 c) (O1 xs ws c f0) (O1 xs ws c f1) := by
  unfold O1 M1
  exact agree_put (off := k0_off1 c) (size := S256x128.size) (k0_off1_inb c) rfl rfl (P1 xs ws c) (agree_none f0 f1)
theorem ag2 : Agree (M2 c) (O2 xs ws c f0) (O2 xs ws c f1) := by
  unfold O2 M2
  exact agree_put (off := k0_off2 c 0#32) (size := S32x128.size) (k0_off2_inb c 0) rfl rfl (P2 xs ws c) (ag1 xs ws c f0 f1)
theorem ag3 : Agree (M3 c) (O3 xs ws c f0) (O3 xs ws c f1) := by
  unfold O3 M3
  exact agree_put (off := k0_off3 c 0#32) (size := S32x128.size) (k0_off3_inb c 0) rfl rfl (P3 xs ws c) (ag2 xs ws c f0 f1)
theorem ag4 : Agree (M4 c) (O4 xs ws c f0) (O4 xs ws c f1) := by
  unfold O4 M4
  exact agree_put (off := k0_off4 c 0#32 0#32 0#32) (size := S48x128.size) (k0_off4_inb c 0) rfl rfl (P4 xs ws c) (ag3 xs ws c f0 f1)
theorem ag5 : Agree (M5 c) (O5 xs ws c f0) (O5 xs ws c f1) := by
  unfold O5 M5
  exact agree_put (off := k0_off5 c 0#32 0#32 0#32) (size := S48x128.size) (k0_off5_inb c 0) rfl rfl (P5 xs ws c) (ag4 xs ws c f0 f1)
theorem ag6 : Agree (M6 c) (O6 xs ws c f0) (O6 xs ws c f1) := by
  unfold O6 M6
  exact agree_put (off := k0_off4 c 0#32 0#32 48#32) (size := S48x128.size) (k0_off4_inb c 1) rfl rfl (P6 xs ws c) (ag5 xs ws c f0 f1)
theorem ag7 : Agree (M7 c) (O7 xs ws c f0) (O7 xs ws c f1) := by
  unfold O7 M7
  exact agree_put (off := k0_off5 c 0#32 0#32 48#32) (size := S48x128.size) (k0_off5_inb c 1) rfl rfl (P7 xs ws c) (ag6 xs ws c f0 f1)
theorem ag8 : Agree (M8 c) (O8 xs ws c f0) (O8 xs ws c f1) := by
  unfold O8 M8
  exact agree_put (off := k0_off2 c 1#32) (size := S32x128.size) (k0_off2_inb c 1) rfl rfl (P8 xs ws c) (ag7 xs ws c f0 f1)
theorem ag9 : Agree (M9 c) (O9 xs ws c f0) (O9 xs ws c f1) := by
  unfold O9 M9
  exact agree_put (off := k0_off3 c 1#32) (size := S32x128.size) (k0_off3_inb c 1) rfl rfl (P9 xs ws c) (ag8 xs ws c f0 f1)
theorem ag10 : Agree (M10 c) (O10 xs ws c f0) (O10 xs ws c f1) := by
  unfold O10 M10
  exact agree_put (off := k0_off6 c 4294967292#32) (size := S192x128.size) (k0_off6_inb c 0) rfl rfl (P10 xs ws c) (ag9 xs ws c f0 f1)
theorem ag11 : Agree (M11 c) (O11 xs ws c f0) (O11 xs ws c f1) := by
  unfold O11 M11
  exact agree_put (off := k0_off4 c 1#32 0#32 0#32) (size := S48x128.size) (k0_off4_inb c 2) rfl rfl (P11 xs ws c) (ag10 xs ws c f0 f1)
theorem ag12 : Agree (M12 c) (O12 xs ws c f0) (O12 xs ws c f1) := by
  unfold O12 M12
  exact agree_put (off := k0_off5 c 1#32 0#32 0#32) (size := S48x128.size) (k0_off5_inb c 2) rfl rfl (P12 xs ws c) (ag11 xs ws c f0 f1)
theorem ag13 : Agree (M13 c) (O13 xs ws c f0) (O13 xs ws c f1) := by
  unfold O13 M13
  exact agree_put (off := k0_off4 c 1#32 0#32 48#32) (size := S48x128.size) (k0_off4_inb c 3) rfl rfl (P13 xs ws c) (ag12 xs ws c f0 f1)
theorem ag14 : Agree (M14 c) (O14 xs ws c f0) (O14 xs ws c f1) := by
  unfold O14 M14
  exact agree_put (off := k0_off5 c 1#32 0#32 48#32) (size := S48x128.size) (k0_off5_inb c 3) rfl rfl (P14 xs ws c) (ag13 xs ws c f0 f1)
theorem ag15 : Agree (M15 c) (O15 xs ws c f0) (O15 xs ws c f1) := by
  unfold O15 M15
  exact agree_put (off := k0_off2 c 2#32) (size := S32x128.size) (k0_off2_inb c 2) rfl rfl (P15 xs ws c) (ag14 xs ws c f0 f1)
theorem ag16 : Agree (M16 c) (O16 xs ws c f0) (O16 xs ws c f1) := by
  unfold O16 M16
  exact agree_put (off := k0_off3 c 2#32) (size := S32x128.size) (k0_off3_inb c 2) rfl rfl (P16 xs ws c) (ag15 xs ws c f0 f1)
theorem ag17 : Agree (M17 c) (O17 xs ws c f0) (O17 xs ws c f1) := by
  unfold O17 M17
  exact agree_put (off := k0_off4 c 2#32 0#32 0#32) (size := S48x128.size) (k0_off4_inb c 4) rfl rfl (P17 xs ws c) (ag16 xs ws c f0 f1)
theorem ag18 : Agree (M18 c) (O18 xs ws c f0) (O18 xs ws c f1) := by
  unfold O18 M18
  exact agree_put (off := k0_off5 c 2#32 0#32 0#32) (size := S48x128.size) (k0_off5_inb c 4) rfl rfl (P18 xs ws c) (ag17 xs ws c f0 f1)
theorem ag19 : Agree (M19 c) (O19 xs ws c f0) (O19 xs ws c f1) := by
  unfold O19 M19
  exact agree_put (off := k0_off4 c 2#32 0#32 48#32) (size := S48x128.size) (k0_off4_inb c 5) rfl rfl (P19 xs ws c) (ag18 xs ws c f0 f1)
theorem ag20 : Agree (M20 c) (O20 xs ws c f0) (O20 xs ws c f1) := by
  unfold O20 M20
  exact agree_put (off := k0_off5 c 2#32 0#32 48#32) (size := S48x128.size) (k0_off5_inb c 5) rfl rfl (P20 xs ws c) (ag19 xs ws c f0 f1)
theorem ag21 : Agree (M21 c) (O21 xs ws c f0) (O21 xs ws c f1) := by
  unfold O21 M21
  exact agree_put (off := k0_off4 c 0#32 4294967292#32 0#32) (size := S48x128.size) (k0_off4_inb c 6) rfl rfl (P21 xs ws c) (ag20 xs ws c f0 f1)
theorem ag22 : Agree (M22 c) (O22 xs ws c f0) (O22 xs ws c f1) := by
  unfold O22 M22
  exact agree_put (off := k0_off5 c 0#32 4294967292#32 0#32) (size := S48x128.size) (k0_off5_inb c 6) rfl rfl (P22 xs ws c) (ag21 xs ws c f0 f1)
theorem ag23 : Agree (M23 c) (O23 xs ws c f0) (O23 xs ws c f1) := by
  unfold O23 M23
  exact agree_put (off := k0_off4 c 0#32 4294967292#32 48#32) (size := S48x128.size) (k0_off4_inb c 7) rfl rfl (P23 xs ws c) (ag22 xs ws c f0 f1)
theorem ag24 : Agree (M24 c) (O24 xs ws c f0) (O24 xs ws c f1) := by
  unfold O24 M24
  exact agree_put (off := k0_off5 c 0#32 4294967292#32 48#32) (size := S48x128.size) (k0_off5_inb c 7) rfl rfl (P24 xs ws c) (ag23 xs ws c f0 f1)
theorem ag25 : Agree (M25 c) (O25 xs ws c f0) (O25 xs ws c f1) := by
  unfold O25 M25
  exact agree_put (off := k0_off6 c 4#32) (size := S192x128.size) (k0_off6_inb c 1) rfl rfl (P25 xs ws c) (ag24 xs ws c f0 f1)
theorem ag26 : Agree (M26 c) (O26 xs ws c f0) (O26 xs ws c f1) := by
  unfold O26 M26
  exact agree_put (off := k0_off4 c 1#32 4294967292#32 0#32) (size := S48x128.size) (k0_off4_inb c 8) rfl rfl (P26 xs ws c) (ag25 xs ws c f0 f1)
theorem ag27 : Agree (M27 c) (O27 xs ws c f0) (O27 xs ws c f1) := by
  unfold O27 M27
  exact agree_put (off := k0_off5 c 1#32 4294967292#32 0#32) (size := S48x128.size) (k0_off5_inb c 8) rfl rfl (P27 xs ws c) (ag26 xs ws c f0 f1)
theorem ag28 : Agree (M28 c) (O28 xs ws c f0) (O28 xs ws c f1) := by
  unfold O28 M28
  exact agree_put (off := k0_off4 c 1#32 4294967292#32 48#32) (size := S48x128.size) (k0_off4_inb c 9) rfl rfl (P28 xs ws c) (ag27 xs ws c f0 f1)
theorem ag29 : Agree (M29 c) (O29 xs ws c f0) (O29 xs ws c f1) := by
  unfold O29 M29
  exact agree_put (off := k0_off5 c 1#32 4294967292#32 48#32) (size := S48x128.size) (k0_off5_inb c 9) rfl rfl (P29 xs ws c) (ag28 xs ws c f0 f1)
theorem ag30 : Agree (M30 c) (O30 xs ws c f0) (O30 xs ws c f1) := by
  unfold O30 M30
  exact agree_put (off := k0_off4 c 2#32 4294967292#32 0#32) (size := S48x128.size) (k0_off4_inb c 10) rfl rfl (P30 xs ws c) (ag29 xs ws c f0 f1)
theorem ag31 : Agree (M31 c) (O31 xs ws c f0) (O31 xs ws c f1) := by
  unfold O31 M31
  exact agree_put (off := k0_off5 c 2#32 4294967292#32 0#32) (size := S48x128.size) (k0_off5_inb c 10) rfl rfl (P31 xs ws c) (ag30 xs ws c f0 f1)
theorem ag32 : Agree (M32 c) (O32 xs ws c f0) (O32 xs ws c f1) := by
  unfold O32 M32
  exact agree_put (off := k0_off4 c 2#32 4294967292#32 48#32) (size := S48x128.size) (k0_off4_inb c 11) rfl rfl (P32 xs ws c) (ag31 xs ws c f0 f1)
theorem ag33 : Agree (M33 c) (O33 xs ws c f0) (O33 xs ws c f1) := by
  unfold O33 M33
  exact agree_put (off := k0_off5 c 2#32 4294967292#32 48#32) (size := S48x128.size) (k0_off5_inb c 11) rfl rfl (P33 xs ws c) (ag32 xs ws c f0 f1)
theorem ag34 : Agree (M34 c) (O34 xs ws c f0) (O34 xs ws c f1) := by
  unfold O34 M34
  exact agree_put (off := k0_off4 c 0#32 4#32 0#32) (size := S48x128.size) (k0_off4_inb c 12) rfl rfl (P34 xs ws c) (ag33 xs ws c f0 f1)
theorem ag35 : Agree (M35 c) (O35 xs ws c f0) (O35 xs ws c f1) := by
  unfold O35 M35
  exact agree_put (off := k0_off5 c 0#32 4#32 0#32) (size := S48x128.size) (k0_off5_inb c 12) rfl rfl (P35 xs ws c) (ag34 xs ws c f0 f1)
theorem ag36 : Agree (M36 c) (O36 xs ws c f0) (O36 xs ws c f1) := by
  unfold O36 M36
  exact agree_put (off := k0_off4 c 0#32 4#32 48#32) (size := S48x128.size) (k0_off4_inb c 13) rfl rfl (P36 xs ws c) (ag35 xs ws c f0 f1)
theorem ag37 : Agree (M37 c) (O37 xs ws c f0) (O37 xs ws c f1) := by
  unfold O37 M37
  exact agree_put (off := k0_off5 c 0#32 4#32 48#32) (size := S48x128.size) (k0_off5_inb c 13) rfl rfl (P37 xs ws c) (ag36 xs ws c f0 f1)
theorem ag38 : Agree (M38 c) (O38 xs ws c f0) (O38 xs ws c f1) := by
  unfold O38 M38
  exact agree_put (off := k0_off6 c 4294967288#32) (size := S192x128.size) (k0_off6_inb c 2) rfl rfl (P38 xs ws c) (ag37 xs ws c f0 f1)
theorem ag39 : Agree (M39 c) (O39 xs ws c f0) (O39 xs ws c f1) := by
  unfold O39 M39
  exact agree_put (off := k0_off7 c 12#32 0#32) (size := S64x128.size) (k0_off7_inb c 2 0) rfl rfl (P39 xs ws c) (ag38 xs ws c f0 f1)
theorem ag40 : Agree (M40 c) (O40 xs ws c f0) (O40 xs ws c f1) := by
  unfold O40 M40
  exact agree_put (off := k0_off7 c 12#32 1#32) (size := S64x128.size) (k0_off7_inb c 2 1) rfl rfl (P40 xs ws c) (ag39 xs ws c f0 f1)
theorem ag41 : Agree (M41 c) (O41 xs ws c f0) (O41 xs ws c f1) := by
  unfold O41 M41
  exact agree_put (off := k0_off7 c 12#32 2#32) (size := S64x128.size) (k0_off7_inb c 2 2) rfl rfl (P41 xs ws c) (ag40 xs ws c f0 f1)
theorem ag42 : Agree (M42 c) (O42 xs ws c f0) (O42 xs ws c f1) := by
  unfold O42 M42
  exact agree_put (off := k0_off7 c 12#32 3#32) (size := S64x128.size) (k0_off7_inb c 2 3) rfl rfl (P42 xs ws c) (ag41 xs ws c f0 f1)
theorem ag43 : Agree (M43 c) (O43 xs ws c f0) (O43 xs ws c f1) := by
  unfold O43 M43
  exact agree_put (off := k0_off4 c 1#32 4#32 0#32) (size := S48x128.size) (k0_off4_inb c 14) rfl rfl (P43 xs ws c) (ag42 xs ws c f0 f1)
theorem ag44 : Agree (M44 c) (O44 xs ws c f0) (O44 xs ws c f1) := by
  unfold O44 M44
  exact agree_put (off := k0_off5 c 1#32 4#32 0#32) (size := S48x128.size) (k0_off5_inb c 14) rfl rfl (P44 xs ws c) (ag43 xs ws c f0 f1)
theorem ag45 : Agree (M45 c) (O45 xs ws c f0) (O45 xs ws c f1) := by
  unfold O45 M45
  exact agree_put (off := k0_off4 c 1#32 4#32 48#32) (size := S48x128.size) (k0_off4_inb c 15) rfl rfl (P45 xs ws c) (ag44 xs ws c f0 f1)
theorem ag46 : Agree (M46 c) (O46 xs ws c f0) (O46 xs ws c f1) := by
  unfold O46 M46
  exact agree_put (off := k0_off5 c 1#32 4#32 48#32) (size := S48x128.size) (k0_off5_inb c 15) rfl rfl (P46 xs ws c) (ag45 xs ws c f0 f1)
theorem ag47 : Agree (M47 c) (O47 xs ws c f0) (O47 xs ws c f1) := by
  unfold O47 M47
  exact agree_put (off := k0_off4 c 2#32 4#32 0#32) (size := S48x128.size) (k0_off4_inb c 16) rfl rfl (P47 xs ws c) (ag46 xs ws c f0 f1)
theorem ag48 : Agree (M48 c) (O48 xs ws c f0) (O48 xs ws c f1) := by
  unfold O48 M48
  exact agree_put (off := k0_off5 c 2#32 4#32 0#32) (size := S48x128.size) (k0_off5_inb c 16) rfl rfl (P48 xs ws c) (ag47 xs ws c f0 f1)
theorem ag49 : Agree (M49 c) (O49 xs ws c f0) (O49 xs ws c f1) := by
  unfold O49 M49
  exact agree_put (off := k0_off4 c 2#32 4#32 48#32) (size := S48x128.size) (k0_off4_inb c 17) rfl rfl (P49 xs ws c) (ag48 xs ws c f0 f1)
theorem ag50 : Agree (M50 c) (O50 xs ws c f0) (O50 xs ws c f1) := by
  unfold O50 M50
  exact agree_put (off := k0_off5 c 2#32 4#32 48#32) (size := S48x128.size) (k0_off5_inb c 17) rfl rfl (P50 xs ws c) (ag49 xs ws c f0 f1)
theorem ag51 : Agree (M51 c) (O51 xs ws c f0) (O51 xs ws c f1) := by
  unfold O51 M51
  exact agree_put (off := k0_off7 c 4#32 0#32) (size := S64x128.size) (k0_off7_inb c 0 0) rfl rfl (P51 xs ws c) (ag50 xs ws c f0 f1)
theorem ag52 : Agree (M52 c) (O52 xs ws c f0) (O52 xs ws c f1) := by
  unfold O52 M52
  exact agree_put (off := k0_off7 c 4#32 1#32) (size := S64x128.size) (k0_off7_inb c 0 1) rfl rfl (P52 xs ws c) (ag51 xs ws c f0 f1)
theorem ag53 : Agree (M53 c) (O53 xs ws c f0) (O53 xs ws c f1) := by
  unfold O53 M53
  exact agree_put (off := k0_off7 c 4#32 2#32) (size := S64x128.size) (k0_off7_inb c 0 2) rfl rfl (P53 xs ws c) (ag52 xs ws c f0 f1)
theorem ag54 : Agree (M54 c) (O54 xs ws c f0) (O54 xs ws c f1) := by
  unfold O54 M54
  exact agree_put (off := k0_off7 c 4#32 3#32) (size := S64x128.size) (k0_off7_inb c 0 3) rfl rfl (P54 xs ws c) (ag53 xs ws c f0 f1)
theorem ag55 : Agree (M55 c) (O55 xs ws c f0) (O55 xs ws c f1) := by
  unfold O55 M55
  exact agree_put (off := k0_off4 c 0#32 4294967288#32 0#32) (size := S48x128.size) (k0_off4_inb c 18) rfl rfl (P55 xs ws c) (ag54 xs ws c f0 f1)
theorem ag56 : Agree (M56 c) (O56 xs ws c f0) (O56 xs ws c f1) := by
  unfold O56 M56
  exact agree_put (off := k0_off5 c 0#32 4294967288#32 0#32) (size := S48x128.size) (k0_off5_inb c 18) rfl rfl (P56 xs ws c) (ag55 xs ws c f0 f1)
theorem ag57 : Agree (M57 c) (O57 xs ws c f0) (O57 xs ws c f1) := by
  unfold O57 M57
  exact agree_put (off := k0_off4 c 0#32 4294967288#32 48#32) (size := S48x128.size) (k0_off4_inb c 19) rfl rfl (P57 xs ws c) (ag56 xs ws c f0 f1)
theorem ag58 : Agree (M58 c) (O58 xs ws c f0) (O58 xs ws c f1) := by
  unfold O58 M58
  exact agree_put (off := k0_off5 c 0#32 4294967288#32 48#32) (size := S48x128.size) (k0_off5_inb c 19) rfl rfl (P58 xs ws c) (ag57 xs ws c f0 f1)
theorem ag59 : Agree (M59 c) (O59 xs ws c f0) (O59 xs ws c f1) := by
  unfold O59 M59
  exact agree_put (off := k0_off4 c 1#32 4294967288#32 0#32) (size := S48x128.size) (k0_off4_inb c 20) rfl rfl (P59 xs ws c) (ag58 xs ws c f0 f1)
theorem ag60 : Agree (M60 c) (O60 xs ws c f0) (O60 xs ws c f1) := by
  unfold O60 M60
  exact agree_put (off := k0_off5 c 1#32 4294967288#32 0#32) (size := S48x128.size) (k0_off5_inb c 20) rfl rfl (P60 xs ws c) (ag59 xs ws c f0 f1)
theorem ag61 : Agree (M61 c) (O61 xs ws c f0) (O61 xs ws c f1) := by
  unfold O61 M61
  exact agree_put (off := k0_off4 c 1#32 4294967288#32 48#32) (size := S48x128.size) (k0_off4_inb c 21) rfl rfl (P61 xs ws c) (ag60 xs ws c f0 f1)
theorem ag62 : Agree (M62 c) (O62 xs ws c f0) (O62 xs ws c f1) := by
  unfold O62 M62
  exact agree_put (off := k0_off5 c 1#32 4294967288#32 48#32) (size := S48x128.size) (k0_off5_inb c 21) rfl rfl (P62 xs ws c) (ag61 xs ws c f0 f1)
theorem ag63 : Agree (M63 c) (O63 xs ws c f0) (O63 xs ws c f1) := by
  unfold O63 M63
  exact agree_put (off := k0_off4 c 2#32 4294967288#32 0#32) (size := S48x128.size) (k0_off4_inb c 22) rfl rfl (P63 xs ws c) (ag62 xs ws c f0 f1)
theorem ag64 : Agree (M64 c) (O64 xs ws c f0) (O64 xs ws c f1) := by
  unfold O64 M64
  exact agree_put (off := k0_off5 c 2#32 4294967288#32 0#32) (size := S48x128.size) (k0_off5_inb c 22) rfl rfl (P64 xs ws c) (ag63 xs ws c f0 f1)
theorem ag65 : Agree (M65 c) (O65 xs ws c f0) (O65 xs ws c f1) := by
  unfold O65 M65
  exact agree_put (off := k0_off4 c 2#32 4294967288#32 48#32) (size := S48x128.size) (k0_off4_inb c 23) rfl rfl (P65 xs ws c) (ag64 xs ws c f0 f1)
theorem ag66 : Agree (M66 c) (O66 xs ws c f0) (O66 xs ws c f1) := by
  unfold O66 M66
  exact agree_put (off := k0_off5 c 2#32 4294967288#32 48#32) (size := S48x128.size) (k0_off5_inb c 23) rfl rfl (P66 xs ws c) (ag65 xs ws c f0 f1)
theorem ag67 : Agree (M67 c) (O67 xs ws c f0) (O67 xs ws c f1) := by
  unfold O67 M67
  exact agree_put (off := k0_off7 c 8#32 0#32) (size := S64x128.size) (k0_off7_inb c 1 0) rfl rfl (P67 xs ws c) (ag66 xs ws c f0 f1)
theorem ag68 : Agree (M68 c) (O68 xs ws c f0) (O68 xs ws c f1) := by
  unfold O68 M68
  exact agree_put (off := k0_off7 c 8#32 1#32) (size := S64x128.size) (k0_off7_inb c 1 1) rfl rfl (P68 xs ws c) (ag67 xs ws c f0 f1)
theorem ag69 : Agree (M69 c) (O69 xs ws c f0) (O69 xs ws c f1) := by
  unfold O69 M69
  exact agree_put (off := k0_off7 c 8#32 2#32) (size := S64x128.size) (k0_off7_inb c 1 2) rfl rfl (P69 xs ws c) (ag68 xs ws c f0 f1)
theorem ag70 : Agree (M70 c) (O70 xs ws c f0) (O70 xs ws c f1) := by
  unfold O70 M70
  exact agree_put (off := k0_off7 c 8#32 3#32) (size := S64x128.size) (k0_off7_inb c 1 3) rfl rfl (P70 xs ws c) (ag69 xs ws c f0 f1)

theorem agree_all {f g : (cc0_stg2_0 : Ref sig .tc).ty.Contents (Elt F)} (h : Agree (M70 c) f g) : f = g := funext fun y => h y (by
  rw [cover, Nat.testBit_two_pow_sub_one]
  exact decide_eq_true (y 0).isLt)

/-- What the rows hold at the end doesn't depend on what the buffer held. -/
theorem out_same : O70 xs ws c f0 = O70 xs ws c f1 := agree_all c (ag70 xs ws c f0 f1)

theorem V_same : V3260 xs ws c f0 = V3260 xs ws c f1 := by
  unfold V3260
  rw [out_same xs ws c f0 f1]

end Cert.KernelIdealProof
-- ==== Proof.Pieces.lean ====
/-
# The buffers and their pieces
-/
module

public import proofs.«01_k».proof.Proof.Contents

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

/-! ## The buffers whole, and their pieces -/

abbrev JJ : Type := (Fin 4 × Fin 4) ⊕ (Fin 4 × Fin 3 × Fin 2) ⊕ (Fin 4 × Fin 3 × Fin 2) ⊕ (Fin 4 × Fin 2) ⊕ Fin 3 ⊕ Fin 16

/-- The pieces by buffer. -/
def pcE : JJ ≃ Pc where
  toFun
    | .inl j => .col j.1 j.2
    | .inr (.inl j) => .cw j.1 j.2.1 j.2.2
    | .inr (.inr (.inl j)) => .ccw j.1 j.2.1 j.2.2
    | .inr (.inr (.inr (.inl j))) => .agg j.1 j.2
    | .inr (.inr (.inr (.inr (.inl j)))) => .aggr j
    | .inr (.inr (.inr (.inr (.inr j)))) => .am j
  invFun
    | .col s q => .inl (s, q)
    | .cw i d j => .inr (.inl (i, d, j))
    | .ccw i d j => .inr (.inr (.inl (i, d, j)))
    | .agg s f => .inr (.inr (.inr (.inl (s, f))))
    | .aggr s => .inr (.inr (.inr (.inr (.inl s))))
    | .am s => .inr (.inr (.inr (.inr (.inr s))))
  left_inv j := by rcases j with j | j | j | j | j | j <;> rfl
  right_inv p := by cases p <;> rfl

/-- The pieces of one device, buffer by buffer. -/
theorem Rw_split (c : Dev nD) : bigSep Finset.univ (Rw (F := F) c)
    = iprop((bigSep Finset.univ fun j : Fin 4 × Fin 4 => Rw (F := F) c (.col j.1 j.2)) ∗ (bigSep Finset.univ fun j : Fin 4 × Fin 3 × Fin 2 => Rw (F := F) c (.cw j.1 j.2.1 j.2.2))
      ∗ (bigSep Finset.univ fun j : Fin 4 × Fin 3 × Fin 2 => Rw (F := F) c (.ccw j.1 j.2.1 j.2.2)) ∗ (bigSep Finset.univ fun j : Fin 4 × Fin 2 => Rw (F := F) c (.agg j.1 j.2))
      ∗ (bigSep Finset.univ fun j : Fin 3 => Rw (F := F) c (.aggr j)) ∗ (bigSep Finset.univ fun j : Fin 16 => Rw (F := F) c (.am j))) := by
  rw [bigSep_univ_equiv pcE (Rw (F := F) c), bigSep_univ_sum, bigSep_univ_sum, bigSep_univ_sum, bigSep_univ_sum, bigSep_univ_sum]
  rfl

theorem wrap {ℓ : Loc nD τ sig} (S : Finset (Idx ℓ)) (f : Buf (Elt F) ℓ) : (ℓ ↦[S]{fullShare} f : sProp 𝕄) ⊢ iprop(∃ f : Buf (Elt F) ℓ, (ℓ ↦[S]{fullShare} f : sProp 𝕄)) := by
  iintro H; iexists f; iexact H

/-- A buffer whole is its pieces, each at some contents; -/
theorem cut {J : Type} [Fintype J] [DecidableEq J] {ℓ : Loc nD τ sig} (K : J → Finset (Idx ℓ)) (key : Idx ℓ → J)
    (hk : ∀ j i, i ∈ K j → key i = j) (hS : ∀ i, i ∈ (Finset.univ : Finset (Idx ℓ)) ↔ i ∈ K (key i)) :
    iprop(∃ f : Buf (Elt F) ℓ, (ℓ ↦{fullShare} f : sProp 𝕄)) ⊢ bigSep Finset.univ (fun j => iprop(∃ f : Buf (Elt F) ℓ, (ℓ ↦[K j]{fullShare} f : sProp 𝕄))) := by
  iintro ⟨%f, H⟩
  ihave H := (Entails.of_eq (pts_parts (F := F) Finset.univ K key (fun i j h => hk j i h) hS fullShare f)) $$ H
  iapply (show (bigSep Finset.univ fun j => (ℓ ↦[K j]{fullShare} f : sProp 𝕄)) ⊢ bigSep Finset.univ (fun j => iprop(∃ f : Buf (Elt F) ℓ, (ℓ ↦[K j]{fullShare} f : sProp 𝕄))) from
    bigSep_mono fun j _ => wrap (K j) f)
  iexact H

/-- and back. -/
theorem glue {J : Type} [Fintype J] [DecidableEq J] [Nonempty J] {ℓ : Loc nD τ sig} (K : J → Finset (Idx ℓ)) (key : Idx ℓ → J)
    (hk : ∀ j i, i ∈ K j → key i = j) (hS : ∀ i, i ∈ (Finset.univ : Finset (Idx ℓ)) ↔ i ∈ K (key i)) :
    bigSep Finset.univ (fun j => iprop(∃ f : Buf (Elt F) ℓ, (ℓ ↦[K j]{fullShare} f : sProp 𝕄))) ⊢ iprop(∃ f : Buf (Elt F) ℓ, (ℓ ↦{fullShare} f : sProp 𝕄)) :=
  pts_join Finset.univ K key (fun i j h => hk j i h) hS

/-- Some contents of a buffer. -/
abbrev someB (c : Dev nD) (b : Ref sig .tc) : sProp 𝕄 := iprop(∃ f : Buf (Elt F) ((c : Thread nD τ).loc b), ((c : Thread nD τ).loc b) ↦{fullShare} f)

theorem cut_all (c : Dev nD) :
    iprop(someB (F := F) c cc0_scratch0 ∗ someB (F := F) c cc0_scratch1 ∗ someB (F := F) c cc0_scratch2 ∗ someB (F := F) c cc0_scratch3 ∗ someB (F := F) c cc0_scratch4 ∗ someB (F := F) c cc0_scratch6)
      ⊢ bigSep Finset.univ (Rw (F := F) c) := by
  rw [Rw_split]
  iintro ⟨H0, H1, H2, H3, H4, H6⟩
  isplitl [H0]; · iapply (cut (ℓ := (c : Thread nD τ).loc cc0_scratch0) (fun j : Fin 4 × Fin 4 => (colQ j.1 j.2).view.set) keyCol (fun j i => keyCol_mem i j) keyCol_set); iexact H0
  isplitl [H1]; · iapply (cut (ℓ := (c : Thread nD τ).loc cc0_scratch1) (fun j : Fin 4 × Fin 3 × Fin 2 => (cwSl j.1 j.2.1 j.2.2).view.set) keyCw (fun j i => keyCw_mem i j) keyCw_set); iexact H1
  isplitl [H2]; · iapply (cut (ℓ := (c : Thread nD τ).loc cc0_scratch2) (fun j : Fin 4 × Fin 3 × Fin 2 => (ccwSl j.1 j.2.1 j.2.2).view.set) keyCcw (fun j i => keyCcw_mem i j) keyCcw_set); iexact H2
  isplitl [H3]; · iapply (cut (ℓ := (c : Thread nD τ).loc cc0_scratch3) (fun j : Fin 4 × Fin 2 => (aggSl j.1 j.2).view.set) keyAgg (fun j i => keyAgg_mem i j) keyAgg_set); iexact H3
  isplitl [H4]; · iapply (cut (ℓ := (c : Thread nD τ).loc cc0_scratch4) (fun j : Fin 3 => (aggrSl j).view.set) keyAggr (fun j i => keyAggr_mem i j) keyAggr_set); iexact H4
  iapply (cut (ℓ := (c : Thread nD τ).loc cc0_scratch6) (fun j : Fin 16 => (amSl j).view.set) keyAm (fun j i => keyAm_mem i j) keyAm_set); iexact H6

theorem glue_all (c : Dev nD) :
    bigSep Finset.univ (Rw (F := F) c)
      ⊢ iprop(someB (F := F) c cc0_scratch0 ∗ someB (F := F) c cc0_scratch1 ∗ someB (F := F) c cc0_scratch2 ∗ someB (F := F) c cc0_scratch3 ∗ someB (F := F) c cc0_scratch4 ∗ someB (F := F) c cc0_scratch6) := by
  rw [Rw_split]
  iintro ⟨H0, H1, H2, H3, H4, H6⟩
  isplitl [H0]; · iapply (glue (ℓ := (c : Thread nD τ).loc cc0_scratch0) (fun j : Fin 4 × Fin 4 => (colQ j.1 j.2).view.set) keyCol (fun j i => keyCol_mem i j) keyCol_set); iexact H0
  isplitl [H1]; · iapply (glue (ℓ := (c : Thread nD τ).loc cc0_scratch1) (fun j : Fin 4 × Fin 3 × Fin 2 => (cwSl j.1 j.2.1 j.2.2).view.set) keyCw (fun j i => keyCw_mem i j) keyCw_set); iexact H1
  isplitl [H2]; · iapply (glue (ℓ := (c : Thread nD τ).loc cc0_scratch2) (fun j : Fin 4 × Fin 3 × Fin 2 => (ccwSl j.1 j.2.1 j.2.2).view.set) keyCcw (fun j i => keyCcw_mem i j) keyCcw_set); iexact H2
  isplitl [H3]; · iapply (glue (ℓ := (c : Thread nD τ).loc cc0_scratch3) (fun j : Fin 4 × Fin 2 => (aggSl j.1 j.2).view.set) keyAgg (fun j i => keyAgg_mem i j) keyAgg_set); iexact H3
  isplitl [H4]; · iapply (glue (ℓ := (c : Thread nD τ).loc cc0_scratch4) (fun j : Fin 3 => (aggrSl j).view.set) keyAggr (fun j i => keyAggr_mem i j) keyAggr_set); iexact H4
  iapply (glue (ℓ := (c : Thread nD τ).loc cc0_scratch6) (fun j : Fin 16 => (amSl j).view.set) keyAm (fun j i => keyAm_mem i j) keyAm_set); iexact H6

end Cert.KernelIdealProof
-- ==== Proof.Launched.lean ====
/-
# The launch
-/
module

public import proofs.«01_k».proof.Proof.Whole
public import proofs.«01_k».proof.Proof.Cover
public import proofs.«01_k».proof.Proof.Pieces
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

set_option backward.proofsInPublic true

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

abbrev s₀ : MemSt nD τ sig (Elt F) := ⟨m, fun _ => 0, ρ⟩

/-! ## What the body is given and leaves -/

/-- The devices' blocks of the two arrays, as staged. -/
def xst (c : Dev nD) : (cc0_stg0_0 : Ref sig .tc).ty.Contents (Elt F) := (win0_0.blk t0_0).view.read (Elt F) (m ((c : Thread nD τ).loc main_arg0))
def wst (c : Dev nD) : (cc0_stg1_0 : Ref sig .tc).ty.Contents (Elt F) := (win0_1.blk t0_0).view.read (Elt F) (m ((c : Thread nD τ).loc main_arg1))
/-- The result's block. -/
def ost (c : Dev nD) : (cc0_stg2_0 : Ref sig .tc).ty.Contents (Elt F) := V3260 (xst m) (wst m) c (m ((c : Thread nD τ).loc main_v1))

abbrev XX : Src F := XS (xst m) (wst m)

def start (c : Dev nD) : sProp 𝕄 := iprop(∃ K, records (XX m) K ∗ tokens c ∗ barToks c)
def Φ₀ (c : Dev nD) : sProp 𝕄 := iprop(start m c ∗ bigSep Finset.univ (Rw (F := F) c) ∗ someB (F := F) c cc0_scratch5)
def Φ₁ (c : Dev nD) : sProp 𝕄 :=
  iprop(semVal (barCell c) 0 ∗ ((bigSep Finset.univ fun κ => semVal (sndCell κ c) 0) ∗ (bigSep Finset.univ fun κ => semVal (rcvCell κ c) 0))
    ∗ bigSep Finset.univ (Rw (F := F) c) ∗ someB (F := F) c cc0_scratch5)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wst m c
    | ⟨2, _⟩ => ost m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg' (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg' c cc0_stg0_0 ((dats m ρ 0 c).before (0 : Fin 3) t0_0 d))
    ∗ (∃ d, stg' c cc0_stg1_0 ((dats m ρ 0 c).before (1 : Fin 3) t0_0 d))
    ∗ (∃ d, stg' c cc0_stg2_0 ((dats m ρ 0 c).before (2 : Fin 3) t0_0 d)))

def bodyPost (c : Dev nD) : sProp 𝕄 :=
  iprop(Φ₁ c ∗ (dats m ρ 0 c).owesAt () t0_0.succ ∗ stg' c cc0_stg0_0 (xst m c) ∗ stg' c cc0_stg1_0 (wst m c) ∗ stg' c cc0_stg2_0 (ost m c))

set_option maxRecDepth 65536 in
/-- After the body. -/
theorem body_end (c : Dev nD) (K : Dev nD × CI → ℕ) (f0 : (cc0_stg2_0 : Ref sig .tc).ty.Contents (Elt F)) :
    iprop(WO iprop(wPt c (wst m c) ∗ xPt c (xst m c) ∗ semVal (barCell c) 0 ∗ emp) c (wbF (wst m) c) (V3260 (xst m) (wst m) c f0) ∗ St (XX m) K c tEnd) ⊢ bodyPost m ρ c := by
  rw [V_same (xst m) (wst m) c f0 (m ((c : Thread nD τ).loc main_v1))]
  iintro ⟨⟨Hg, Hf, Hw, Hx, Hz, -⟩, HS⟩
  ihave HS := (st_end (XX m) K c) $$ HS
  icases HS with ⟨Hs, Hr, Hp, ⟨%W, HO⟩⟩
  unfold bodyPost Φ₁ Dat.owesAt Pipeline.owesWithin
  rw [show (dats m ρ 0 c).owed t0_0.succ = 0 from rfl]
  isplitl [Hz Hs Hr Hp Hg]
  · isplitl [Hz]; · iexact Hz
    isplitl [Hs Hr]
    · isplitl [Hs] <;> iassumption
    isplitl [Hp]; · iexact Hp
    iexists _; iexact Hg
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hf

set_option maxRecDepth 65536 in
set_option maxHeartbeats 800000 in
theorem body_run (c : Dev nD) :
    bodyPre m ρ c ⊢ WP c (cc0_body xM (Memref.isWhole_whole _) wM (Memref.isWhole_whole _) outM (Memref.isWhole_whole _) colM (Memref.isWhole_whole _) cwM (Memref.isWhole_whole _) ccwM (Memref.isWhole_whole _) aggM (Memref.isWhole_whole _) aggrM (Memref.isWhole_whole _) wbM (Memref.isWhole_whole _) amM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) (fun _ => bodyPost m ρ c) := by
  unfold bodyPre Φ₀ start Dat.owesAt Pipeline.owesWithin
  rw [show (dats m ρ 0 c).owed t0_0.castSucc = O₀ c from rfl]
  iintro ⟨⟨⟨%K, Hrec, Ht, Hb⟩, Hp, ⟨%gw, Hg⟩⟩, ⟨%W, %hW, HO⟩, ⟨%d0, %g0, %hg0, Hx⟩, ⟨%d1, %g1, %hg1, Hw⟩, ⟨%d2, %g2, %hg2, Hf⟩⟩
  have hx : g0 = xst m c := by rw [hg0]; unfold Dat.before; rw [if_pos (fetch0_0 t0_0)]; rfl
  subst hx
  have hw : g1 = wst m c := by rw [hg1]; unfold Dat.before; rw [if_pos (fetch0_1 t0_0)]; rfl
  subst hw
  iapply (whole (xst m) (wst m) K c g2 (R := iprop(emp)) (gw := gw) (body_end m ρ c K g2))
  isplitl [Hx Hw Hf Hg]
  · isplitl [Hg]; · iexact Hg
    isplitl [Hf]; · iexact Hf
    isplitl [Hw]; · iexact Hw
    isplitl [Hx]; · iexact Hx
    iempintro
  unfold St0
  isplitl [Hrec]; · iexact Hrec
  isplitl [Ht]; · iexact Ht
  isplitl [Hb]; · iexact Hb
  isplitl [Hp]; · iexact Hp
  iexists W; iexact HO

set_option maxRecDepth 65536 in
/-- The body obligation of device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch -/

theorem ownSemFacts : Pipeline.OwnSemFacts cfg0.spec osem where
  isScoped k := by rcases k with κ | κ <;> revert κ <;> decide +kernel
  inj := osem_inj
  disj k w s := by rcases k with κ | κ <;> revert κ w s <;> decide +kernel

theorem share_eq (c : Dev nD) (w : Fin cfg0.W) : (dats m ρ 0 c).share w = fullShare := by unfold Dat.share; split <;> rfl

def ringCells : Finset (GSem nD τ sig) := Finset.univ.map ⟨kcell, kcell_inj⟩

abbrev TI : Type := Fin 4 ⊕ (Cp ⊕ Cp)
/-- A device's own cells' duties. -/
abbrev tokOf (x : Dev nD × TI) : GSem nD τ sig × ℕ × Fin 4 := match x.2 with
  | .inl d => (barCell x.1, 0, d)
  | .inr k => (((x.1 : Thread nD τ), osem k), 0, 0)
theorem tokOf_inj : Function.Injective (tokOf : Dev nD × TI → GSem nD τ sig × ℕ × Fin 4) := by
  rintro ⟨c, k⟩ ⟨c', k'⟩ h
  have h1 : c = c' := by
    have := congrArg (fun x : GSem nD τ sig × ℕ × Fin 4 => x.1.1.1) h
    rcases k with k | k <;> rcases k' with k' | k' <;> exact this
  subst h1
  rcases k with k | k <;> rcases k' with k' | k'
  · rw [show k = k' from congrArg (fun x : GSem nD τ sig × ℕ × Fin 4 => x.2.2) h]
  · have := congrArg (fun x : GSem nD τ sig × ℕ × Fin 4 => x.1.2) h
    rcases k' with κ | κ <;> cases this
  · have := congrArg (fun x : GSem nD τ sig × ℕ × Fin 4 => x.1.2) h
    rcases k with κ | κ <;> cases this
  · rw [osem_inj (show osem k = osem k' from congrArg (fun x : GSem nD τ sig × ℕ × Fin 4 => x.1.2) h)]
def ringToks : Finset (GSem nD τ sig × ℕ × Fin 4) := Finset.univ.map ⟨tokOf, tokOf_inj⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 4 => dutyTok ER (barCell c) 0 d)
    ∗ (bigSep Finset.univ fun κ => dutyTok ER (sndCell κ c) 0 0) ∗ (bigSep Finset.univ fun κ => dutyTok ER (rcvCell κ c) 0 0))
/-- Those of the duties it pays. -/
def pays (c : Dev nD) : sProp 𝕄 :=
  iprop((bigSep Finset.univ fun b : Fin 4 => dutyTok ER (barCell (nb b c)) 0 (opp b))
    ∗ (bigSep Finset.univ fun κ => dutyTok ER (sndCell κ c) 0 0) ∗ (bigSep Finset.univ fun κ => dutyTok ER (rcvCell κ (tgt κ c)) 0 0))

def G (c : Dev nD) : sProp 𝕄 :=
  iprop((bigSep Finset.univ fun k : CI => roundState ER (Rd (XX m)) (kcell (c, k)) 0)
    ∗ (bigSep Finset.univ fun k : CI => iprop(atPos ER (kcell (c, k)) 0 ∅ 0 ∗ reached ER (kcell (c, k)) 0)) ∗ toks c)

def rec0 (K : Dev nD × CI → ℕ) : sProp 𝕄 :=
  iprop((bigSep Finset.univ fun ck : Dev nD × CI => cellInv ER (Rd (XX m)) (K ck) (kcell ck))
    ∗ bigSep Finset.univ fun ck : Dev nD × CI => reached ER (kcell ck) 0)

instance rec0_persistent (K : Dev nD × CI → ℕ) : BI.Persistent (rec0 m K) := by unfold rec0; infer_instance

/-- What stays with device `c`. -/
def linear (c : Dev nD) : sProp 𝕄 := iprop((bigSep Finset.univ fun k : CI => atPos ER (kcell (c, k)) 0 ∅ 0) ∗ pays c)

def G' (c : Dev nD) : sProp 𝕄 := iprop(∃ K, rec0 m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd (XX m)) ringCells ringToks) $$ HX with ⟨Hst, Hr, Hat, Htok⟩
  imodintro
  ihave Hst' := (Entails.of_eq (hX fun g => roundState ER (Rd (XX m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun κ => semVal (sndCell κ c) 0) ∗ (bigSep Finset.univ fun κ => semVal (rcvCell κ c) 0)) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_univ_sum, bigSep_univ_sum, Finset.univ_unique (α := Unit), bigSep_singleton]
  show _ ⊢ iprop(semVal (barCell c) 0 ∗ (bigSep Finset.univ fun κ => semVal (sndCell κ c) 0) ∗ (bigSep Finset.univ fun κ => semVal (rcvCell κ c) 0))
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (XX m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd (XX m)) (kcell (c, k)) 0)
      ⊢ (|={Set.univ}=> bigSep Finset.univ fun k => iprop(∃ κ : ℕ, cellInv ER (Rd (XX m)) κ (kcell (c, k))) : sProp 𝕄) from by
        rw [← bigSep_sep']
        exact (bigSep_mono fun k _ => (Rounds.body_intro ER (Rd (XX m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device and a neighbour, seen from the other. -/
def nbE : (Dev nD × Fin 4) ≃ (Dev nD × Fin 4) where
  toFun x := (nb x.2 x.1, opp x.2)
  invFun x := (nb x.2 x.1, opp x.2)
  left_inv x := Prod.ext (nb_opp x.2 x.1) (opp_opp x.2)
  right_inv x := Prod.ext (nb_opp x.2 x.1) (opp_opp x.2)
/-- Where a copy goes, one to one. -/
def tgtE (κ : Cp) : Dev nD ≃ Dev nD := ⟨tgt κ, org κ, org_tgt κ, tgt_org κ⟩

/-- Every duty's token goes to the device that pays it. -/
theorem toks_around : (bigSep Finset.univ fun c : Dev nD => (toks c : sProp 𝕄)) = bigSep Finset.univ fun c : Dev nD => pays c := by
  have h1 : (bigSep Finset.univ fun c : Dev nD => bigSep Finset.univ fun d : Fin 4 => (dutyTok ER (barCell c) 0 d : sProp 𝕄))
      = bigSep Finset.univ fun c : Dev nD => bigSep Finset.univ fun b : Fin 4 => dutyTok ER (barCell (nb b c)) 0 (opp b) := by
    rw [← bigSep_univ_prod (fun x : Dev nD × Fin 4 => (dutyTok ER (barCell x.1) 0 x.2 : sProp 𝕄)), bigSep_univ_equiv nbE, bigSep_univ_prod]
    rfl
  have h2 : (bigSep Finset.univ fun c : Dev nD => bigSep Finset.univ fun κ : Cp => (dutyTok ER (rcvCell κ c) 0 0 : sProp 𝕄))
      = bigSep Finset.univ fun c : Dev nD => bigSep Finset.univ fun κ : Cp => dutyTok ER (rcvCell κ (tgt κ c)) 0 0 := by
    rw [bigSep_univ_comm, bigSep_univ_comm (fun (c : Dev nD) (κ : Cp) => (dutyTok ER (rcvCell κ (tgt κ c)) 0 0 : sProp 𝕄))]
    exact bigSep_congr fun κ _ => bigSep_univ_equiv (tgtE κ) (fun c : Dev nD => (dutyTok ER (rcvCell κ c) 0 0 : sProp 𝕄))
  unfold toks pays
  rw [bigSep_sep', bigSep_sep', bigSep_sep', bigSep_sep', h1, h2]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give (K : Dev nD × CI → ℕ) (c : Dev nD) : iprop(rec0 m K ∗ linear c) ⊢ G' m c := by
  unfold G'; iintro H; iexists K; iexact H

theorem regroup :
    (bigSep Finset.univ fun c : Dev nD => iprop((bigSep Finset.univ fun k => iprop(∃ κ : ℕ, cellInv ER (Rd (XX m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', toks_around, ← bigSep_univ_prod (fun ck : Dev nD × CI => iprop(∃ κ : ℕ, cellInv ER (Rd (XX m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd (XX m)) κ (kcell ck) : sProp 𝕄))) $$ HI
  icases HK with ⟨%K, #HI⟩
  iapply (bigSep_with_persistent (R := rec0 m K) fun c _ => give m K c)
  isplitr
  · unfold rec0; isplitl; · iexact HI
    iexact HR
  · iapply (Entails.of_eq (bigSep_sep' Finset.univ (fun c : Dev nD => bigSep Finset.univ fun k : CI => (atPos ER (kcell (c, k)) 0 ∅ 0 : sProp 𝕄)) pays).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_sums : ∀ c : Dev nD, (∑ d : Dev nD, ∑ b : Fin 4, if c = nb b d then 1 else 0) = 4 := by decide +kernel

theorem bar_eq_iff {a b : Dev nD} : Iff (barCell a = barCell b) (a = b) :=
  ⟨fun h => congrArg (fun g : GSem nD τ sig => g.1.1) h, fun h => h ▸ rfl⟩

theorem owed_bar (d c : Dev nD) : O₀ d (barCell c) () = ∑ b : Fin 4, if c = nb b d then 1 else 0 := by
  have h0 : Ow d 1 (barCell c) () = 0 := by
    by_contra h
    obtain ⟨κ, -, hk⟩ := Ow_pos (Nat.pos_iff_ne_zero.mpr h)
    exact absurd (congrArg Prod.snd hk).symm (dma_ne_bar _)
  have hb (b : Fin 4) : (tallyAt (barCell (nb b d)) () 1 : CellTallies nD τ sig Unit) (barCell c) () = if c = nb b d then 1 else 0 := by
    rw [tallyAt_apply]
    by_cases h : c = nb b d
    · rw [if_pos h, if_pos ⟨bar_eq_iff.mpr h, rfl⟩]
    · rw [if_neg h, if_neg fun h' => h (bar_eq_iff.mp h'.1)]
  unfold O₀
  simp only [Ob, Pi.add_apply, Finsupp.add_apply, h0, hb, Fin.sum_univ_four]
  omega

theorem owed_rcv (κ : Cp) (d c : Dev nD) : O₀ d (rcvCell κ c) () = if d = org κ c then cr κ else 0 := by
  have hb (b : Fin 4) : (tallyAt (barCell (nb b d)) () 1 : CellTallies nD τ sig Unit) (rcvCell κ c) () = 0 := by
    rw [tallyAt_apply]; exact if_neg fun h => absurd (congrArg Prod.snd h.1) (dma_ne_bar _)
  have h0 : Ow d 1 (rcvCell κ c) () = if d = org κ c then cr κ else 0 := by
    unfold Ow
    rw [Finset.sum_apply, Finsupp.finset_sum_apply, Finset.sum_eq_single κ]
    · rw [tallyAt_apply]
      by_cases h : d = org κ c
      · subst h; rw [tgt_org, if_pos ⟨rfl, rfl⟩, if_pos rfl]
      · rw [if_neg h, if_neg fun h' => h (by rw [show c = tgt κ d from congrArg (fun g : GSem nD τ sig => g.1.1) h'.1, org_tgt])]
    · intro κ' _ hne
      rw [tallyAt_apply]
      exact if_neg fun h' => hne (rcvS_inj (SemLoc.dma.inj (congrArg Prod.snd h'.1))).symm
    · intro h
      exact absurd (Finset.mem_filter.mpr ⟨Finset.mem_univ κ, show 1 ≤ tS κ from (tS_end κ).1⟩) h
  unfold O₀
  simp only [Ob, Pi.add_apply, Finsupp.add_apply, h0, hb, Nat.add_zero]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, bar_sums]

theorem launch_rcv (κ : Cp) (c : Dev nD) :
    tallyOn (rcvCell κ c) (launchCredit (Pipeline.owing O₀) 0 (rcvCell κ c)) = (tallyAt (rcvCell κ c) () (cr κ) : CellTallies nD τ sig Unit) := by
  unfold tallyAt; refine congrArg _ (Finsupp.ext fun u => ?_); cases u
  rw [Pipeline.launchCredit_owing, Finsupp.single_eq_same, Finset.sum_congr rfl fun d _ => owed_rcv κ d c, Finset.sum_ite_eq' Finset.univ (org κ c) fun _ => cr κ,
    if_pos (Finset.mem_univ _)]

theorem creds (c : Dev nD) :
    (Pipeline.launchCred O₀ c : sProp 𝕄) ⊢ iprop(cred (tallyAt (barCell c) () 4) ∗ bigSep Finset.univ fun κ => cred (tallyAt (rcvCell κ c) () (cr κ))) := by
  unfold Pipeline.launchCred
  rw [bigSep_univ_at _ (SemLoc.reg barS), launch_bar]
  refine sep_mono_right ?_
  have e : (bigSep Finset.univ fun κ : Cp => (cred (tallyAt (rcvCell κ c) () (cr κ)) : sProp 𝕄))
      = bigSep (Finset.univ.map ⟨fun κ : Cp => (SemLoc.dma (rcvS κ) : SemLoc sig), fun a b h => rcvS_inj (SemLoc.dma.inj h)⟩)
          (fun sm : SemLoc sig => (cred (tallyOn ((c : Thread nD τ), sm) (launchCredit (Pipeline.owing O₀) 0 ((c : Thread nD τ), sm))) : sProp 𝕄)) := by
    rw [bigSep_map]
    exact bigSep_congr fun κ _ => by rw [← launch_rcv]; rfl
  rw [e]
  refine bigSep_subset fun sm h => ?_
  obtain ⟨κ, -, rfl⟩ := Finset.mem_map.mp h
  exact Finset.mem_erase.mpr ⟨dma_ne_bar _, Finset.mem_univ _⟩

/-! ### The theorem's side conditions -/

theorem three {A B C : Cp → sProp 𝕄} : (bigSep Finset.univ fun κ => iprop(A κ ∗ B κ ∗ C κ)) = iprop(bigSep Finset.univ A ∗ bigSep Finset.univ B ∗ bigSep Finset.univ C) := by
  rw [bigSep_sep', bigSep_sep']

theorem ats (c : Dev nD) : (bigSep Finset.univ fun k : CI => (atPos ER (kcell (c, k)) 0 ∅ 0 : sProp 𝕄))
    = iprop(atPos ER (barCell c) 0 ∅ 0 ∗ (bigSep Finset.univ fun κ => atPos ER (sndCell κ c) 0 ∅ 0) ∗ (bigSep Finset.univ fun κ => atPos ER (rcvCell κ c) 0 ∅ 0)) := by
  rw [bigSep_univ_sum, bigSep_univ_sum, Finset.univ_unique (α := Unit), bigSep_singleton]; rfl

theorem start_of (c : Dev nD) : iprop(levAts L lv ∗ Pipeline.launchCred O₀ c ∗ G' m c) ⊢ start m c := by
  unfold G' linear pays
  rw [ats]
  iintro ⟨#Hlev, Hcr, ⟨%K, Hrec, ⟨Hb, Hs, Hr⟩, Tb, Ts, Tr⟩⟩
  ihave Hc := (creds (F := F) c) $$ Hcr
  icases Hc with ⟨H4, HN⟩
  unfold start tokens barToks
  rw [three, bigSep_sep']
  iexists K
  isplitl [Hrec]
  · unfold records rec0
    icases Hrec with ⟨H1, H2⟩
    isplitl [H1]; · iexact H1
    isplitl [H2]; · iexact H2
    iexact Hlev
  isplitl [Hs Ts Tr Hr HN]
  · isplitl [Hs Ts Tr]
    · isplitl [Hs]; · iexact Hs
      isplitl [Ts] <;> iassumption
    isplitl [Hr] <;> iassumption
  isplitl [Hb]; · iexact Hb
  isplitl [H4] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  isplitl
  · iapply (start_of m c)
    isplitl [Hlev]; · iexact Hlev
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = Pipeline.scopedRest spec0 c from rfl, scopedRest0_eq]
  unfold Φ₀
  iintro ⟨Hs, -, H0, H1, H2, H3, H4, H5, H6⟩
  isplitl [Hs]; · iexact Hs
  isplitr [H5]
  · iapply (cut_all (F := F) c)
    isplitl [H0]; · iexact H0
    isplitl [H1]; · iexact H1
    isplitl [H2]; · iexact H2
    isplitl [H3]; · iexact H3
    isplitl [H4] <;> iassumption
  iexact H5

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = Pipeline.scopedRest spec0 c from rfl, scopedRest0_eq, ownSems0_eq, unscopedSems0_eq]
  unfold Φ₁
  iintro ⟨Hb, Hs, Hp, H5⟩
  ihave Hp := (glue_all (F := F) c) $$ Hp
  icases Hp with ⟨H0, H1, H2, H3, H4, H6⟩
  isplitl [Hb]; · iexact Hb
  isplitl [Hs]; · iexact Hs
  isplitl [H0]; · iexact H0
  isplitl [H1]; · iexact H1
  isplitl [H2]; · iexact H2
  isplitl [H3]; · iexact H3
  isplitl [H4]; · iexact H4
  isplitl [H5] <;> iassumption

theorem stage_sem (κ : Cp) : ∀ w : Fin 3, ∀ s, (spec0 w).sem s ≠ rcvS κ := by revert κ; decide +kernel

theorem waits (c : Dev nD) : (levAts L lv : sProp 𝕄) ⊢ Pipeline.cellsWaits cfgs (dats m ρ) () 0 c :=
  Pipeline.cellsWaits_intro cfgs (dats m ρ) () 0 c fun w s t =>
    mayWait_zero_lv c _ (fun κ => stage_sem κ w s) _ (by
      rcases t with ⟨_ | _, ht⟩
      · exact fun g u h => Ob_pos (n := 4) h
      · exact fun g u h => absurd h (Nat.lt_irrefl 0))

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every weakly fair execution of the sixteen kernels terminates; the result's
    array is then as computed, the operands unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held; -/
theorem finalA_0 (c : Dev nD) : finalA m ρ c (0 : Fin 3) = m (win0_0.arr.view.loc (c : Thread nD τ)) :=
  (dats (F := F) m ρ 0 c).arrAt_in (0 : Fin 3) rfl _
theorem finalA_1 (c : Dev nD) : finalA m ρ c (1 : Fin 3) = m (win0_1.arr.view.loc (c : Thread nD τ)) :=
  (dats (F := F) m ρ 0 c).arrAt_in (1 : Fin 3) rfl _

end Cert.KernelIdealProof
-- ==== Proof.Frames.lean ====
/-
# The frames
-/
module

public import proofs.«01_k».proof.Defs
public import proofs.«01_k».proof.Proof.Launched
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem
open Idealize.ShloMosaic.TcCoe

/-- At every kind of number the run leaves the operands and the counters as they were. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdealProof.finalA_0 m ρ c),
      (h.1 c (1 : Fin 3)).trans (Cert.KernelIdealProof.finalA_1 m ρ c)⟩, h.2⟩)
    (Cert.KernelIdealProof.run_main m ρ)

set_option maxRecDepth 65536 in
/-- The two printings of the kernel name one body. -/
theorem bodies_eq : @Cert.Kernel.defs₀ Bits _ Cert.Kernel.Gen.facts = @Cert.KernelIdeal.defs₀ Bits _ Cert.KernelIdeal.Gen.facts := by
  refine congrArg (Defs.onTc (nD := Cert.KernelIdeal.nD) (τ := Cert.KernelIdeal.τ) (sig := Cert.KernelIdeal.sig) (Val := Elt Bits) (Λ := Cert.KernelIdeal.Λ₀)) (funext fun l => ?_)
  rcases l with ⟨_ | l, h⟩
  · exact funext fun ⟨t, s⟩ => rfl
  · exact absurd h (by omega)

set_option maxRecDepth 65536 in
theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

set_option maxRecDepth 65536 in
/-- The kernel's frame with the machine's numbers: one text runs at every kind of number. -/
theorem frame_kernel : Cert.quiescent_Kernel (hKernel := Cert.Kernel.Gen.facts) := fun m ρ _ => by
  rw [defs_eq]
  exact frame_any (F := Bits) m ρ

/-- The same over the reals. -/
theorem frame_ideal : Cert.quiescent_KernelIdeal := fun m ρ _ => frame_any (F := Ideal) m ρ

/-- The reference runs, leaves its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Gemm.lean ====
/-
# What one block of rows is at the ideal values, and its maximum
-/
module

public import proofs.«01_k».proof.Proof.Cover
public import Idealize.ShloMosaic.Lib.MatmulPlain
public import Idealize.ShloMosaic.Lib.ValueLayout

@[expose] public section

set_option backward.proofsInPublic true

noncomputable section

namespace Cert.KernelIdealProof

open Cert.KernelIdeal Cert.KernelIdeal.Gen
open Idealize.ShloMosaic
open Idealize.ShloMosaic.TcCoe
open Idealize.ShloMosaic.ValueIdx
open scoped BigOperators

variable (xs : Dev nD → Vec Ideal S256x4096 .bf16) (ws : Dev nD → Vec Ideal S4096x128 .bf16) (c : Dev nD)

/-! ## The product's entries -/

/-- Row `r` of device `d`'s rows times column `j` of device `c`'s columns, cut off below at zero. -/
def yAt (d : Dev nD) (r : Fin 256) (j : Fin 128) : Ideal .f32 :=
  max (∑ k : Fin 4096, xs d (ix2 r k) * ws c (ix2 k j)) 0

/-- Device `c`'s columns of the product, cut off below at zero. -/
def yOf : (cc0_stg2_0 : Ref sig .tc).ty.Contents (Elt Ideal) := fun i =>
  yAt xs ws c ⟨(i 0).val / 256, by have : (i 0).val < 4096 := (i 0).isLt; show _ < 16; omega⟩ ⟨(i 0).val % 256, Nat.mod_lt _ (by decide)⟩ (i 1)

/-- An entry at row `256 d + r`. -/
theorem yOf_at (i : S4096x128.Idx) (d : Dev nD) (r : Fin 256) (j : Fin 128) (h0 : (i 0).val = 256 * d.val + r.val) (h1 : (i 1).val = j.val) :
    yOf xs ws c i = yAt xs ws c d r j := by
  have hr := r.isLt
  have e1 : (⟨(i 0).val / 256, by have : (i 0).val < 4096 := (i 0).isLt; show _ < 16; omega⟩ : Dev nD) = d := Fin.ext (by show (i 0).val / 256 = d.val; omega)
  have e2 : (⟨(i 0).val % 256, Nat.mod_lt _ (by decide)⟩ : Fin 256) = r := Fin.ext (by show (i 0).val % 256 = r.val; omega)
  have e3 : (i 1 : Fin 128) = j := Fin.ext h1
  unfold yOf
  rw [e1, e2, e3]

/-- A cast to the same shape changes nothing. -/
theorem cast_self {s : Shape} {α : Type} (v : s.Idx → α) (h : s.ShapeCasts s) : shapeCast s v h = v := funext fun j => shapeCast_apply v h j j rfl

/-- A one-element vector has one index. -/
theorem one_idx (a b : S1.Idx) : a = b := funext fun x => Fin.ext (by
  match x with
  | ⟨0, _⟩ =>
    have h1 : (a 0).val < 1 := (a 0).isLt
    have h2 : (b 0).val < 1 := (b 0).isLt
    show (a 0).val = (b 0).val
    omega)

/-- The weights as kept are the weights. -/
theorem wbF_eq : wbF ws c = ws c := funext fun i => by
  unfold wbF k0_pay5
  exact (congrFun (cast_self _ _) i).trans (congrFun (cast_self _ _) i)

/-- The rows as read are the rows. -/
theorem V25_eq : V25 xs c = xs c := by
  unfold V25 k0_pay1
  exact cast_self _ _

/-- The forwarded rows are the first 192. -/
theorem cvOf_at (d : Dev nD) (u : Fin 1) (r : Fin 192) (k : Fin 4096) : cvOf xs d (ix3 u r k) = xs d (ix2 (⟨r.val, by omega⟩ : Fin 256) k) := by
  unfold cvOf k0_pay3 V26 k0_pay2 k0_pay1
  refine (shapeCast_ab_1ab_apply _ _ u r k).trans ?_
  refine (slice2_axis0_apply 0 _ _ r k (⟨r.val, by omega⟩ : Fin 256) (by show r.val = 0 + r.val; omega)).trans ?_
  exact congrFun (cast_self _ _) _

/-- The aggregated rows are the last 64. -/
theorem avOf_at (d : Dev nD) (u : Fin 1) (r : Fin 64) (k : Fin 4096) : avOf xs d (ix3 u r k) = xs d (ix2 (⟨192 + r.val, by omega⟩ : Fin 256) k) := by
  unfold avOf k0_pay4
  rw [V25_eq]
  refine (shapeCast_ab_1ab_apply _ _ u r k).trans ?_
  exact slice2_axis0_apply 192 _ _ r k (⟨192 + r.val, by omega⟩ : Fin 256) rfl

/-! ## A block -/

/-- The block of rows computed from `v`. -/
abbrev reluOf (n : ℕ) (v : FVec Ideal ⟨2, ![n, 4096]⟩ .bf16) (w : FVec Ideal S4096x128 .bf16) : FVec Ideal ⟨2, ![n, 128]⟩ .f32 :=
  maximumf (matmul (DotDims.plain n 4096 128) none v w (constant ⟨2, ![n, 128]⟩ .f32 0x00000000#32)) (broadcast ⟨2, ![n, 128]⟩ (Scalar.ofBits .f32 0x00000000#32))

/-- The block's entries: the rows' products. -/
theorem reluOf_at (n : ℕ) (v : FVec Ideal ⟨2, ![n, 4096]⟩ .bf16) (w : FVec Ideal S4096x128 .bf16) (r : Fin n) (j : Fin 128) :
    reluOf n v w (ix2 r j) = max (∑ k : Fin 4096, v (ix2 r k) * w (ix2 k j)) 0 := by
  show max (FloatOps.matmul (DotDims.plain n 4096 128) none v w (constant ⟨2, ![n, 128]⟩ .f32 0x00000000#32) (ix2 r j)) (Ideal.ofBits .f32 0x00000000#32) = _
  rw [Ideal.matmul_plain_apply]
  show max (Ideal.ofBits .f32 0x00000000#32 + _) (Ideal.ofBits .f32 0x00000000#32) = _
  rw [Ideal.ofBits_zero_f32, zero_add]

/-- A block of rows holds device `c`'s entries at the place it is written to. -/
abbrev Fits {off size : Fin 2 → ℕ} (inb : ∀ a : Fin 2, off a + size a ≤ S4096x128.size a) (v : Vec Ideal (Rect.unit (s := S4096x128) off size inb).shape .f32) : Prop :=
  ∀ x, v x = yOf xs ws c ((Rect.unit (s := S4096x128) off size inb).emb x)

/-- So it does, when the rows it is computed from are rows `a` on of device `d`'s and it goes to the same rows of the result. -/
theorem fits (n : ℕ) (v : FVec Ideal ⟨2, ![n, 4096]⟩ .bf16) (d : Dev nD) (a : ℕ) (hn : a + n ≤ 256)
    (hv : ∀ (r : Fin n) (k : Fin 4096), v (ix2 r k) = xs d (ix2 (⟨a + r.val, by have := r.isLt; omega⟩ : Fin 256) k))
    {off : Fin 2 → ℕ} (inb : ∀ b : Fin 2, off b + (⟨2, ![n, 128]⟩ : Shape).size b ≤ S4096x128.size b) (h0 : off 0 = 256 * d.val + a) (h1 : off 1 = 0) :
    Fits xs ws c (size := (⟨2, ![n, 128]⟩ : Shape).size) inb (reluOf n v (wbF ws c)) := by
  intro x
  have hx : x = (ix2 (x 0 : Fin n) (x 1 : Fin 128) : (⟨2, ![n, 128]⟩ : Shape).Idx) := funext fun b => by fin_cases b <;> rfl
  have hlt : (x 0).val < n := (x 0).isLt
  refine Eq.trans ?_ (yOf_at xs ws c _ d (⟨a + (x 0).val, by omega⟩ : Fin 256) (x 1 : Fin 128) ?_ ?_).symm
  · refine (congrArg _ hx).trans ((reluOf_at n v _ (x 0) (x 1)).trans ?_)
    rw [wbF_eq]
    unfold yAt
    refine congrArg (max · 0) (Finset.sum_congr rfl fun k _ => ?_)
    rw [hv (x 0) k]
  · show off 0 + 1 * (x 0).val = 256 * d.val + (a + (x 0).val)
    omega
  · show off 1 + 1 * (x 1).val = (x 1).val
    omega

/-! ## The blocks by where their rows come from -/

/-- A device's own rows. -/
theorem fits_own {off : Fin 2 → ℕ} (inb : ∀ b : Fin 2, off b + S256x128.size b ≤ S4096x128.size b) (h0 : off 0 = 256 * c.val) (h1 : off 1 = 0) :
    Fits xs ws c (size := S256x128.size) inb (reluOf 256 (V25 xs c) (wbF ws c)) :=
  fits xs ws c 256 _ c 0 (by decide) (fun r k => by
    rw [V25_eq]
    exact congrArg (fun r' : Fin 256 => xs c (ix2 r' k)) (Fin.ext (Nat.zero_add _).symm)) inb h0 h1

/-- Half the aggregated rows of a device in the same row of devices. -/
theorem fits_agg (s : Fin 4) (f : Fin 2) (h : S1x32x4096.ShapeCasts S32x4096) {off : Fin 2 → ℕ} (inb : ∀ b : Fin 2, off b + S32x128.size b ≤ S4096x128.size b)
    (h0 : off 0 = 256 * (right s.val c).val + (192 + 32 * f.val)) (h1 : off 1 = 0) :
    Fits xs ws c (size := S32x128.size) inb (reluOf 32 (shapeCast S32x4096 (aggR (avOf xs) c s f) h) (wbF ws c)) := by
  have hf := f.isLt
  refine fits xs ws c 32 _ (right s.val c) (192 + 32 * f.val) (by omega) (fun r k => ?_) inb h0 h1
  have hr := r.isLt
  refine (shapeCast_1ab_ab_apply _ _ r k).trans ?_
  have e : (rAgg s f).emb (ix3 (0 : Fin 1) r k) = (ix3 s (⟨32 * f.val + r.val, by omega⟩ : Fin 64) k : S4x64x4096.Idx) := by
    funext b
    apply Fin.ext
    match b with
    | ⟨0, _⟩ => show s.val + 1 * 0 = s.val; omega
    | ⟨1, _⟩ => show 32 * f.val + 1 * r.val = 32 * f.val + r.val; omega
    | ⟨2, _⟩ => show 0 + 1 * k.val = k.val; omega
  refine (congrArg (aggF (avOf xs) c) e).trans ((avOf_at xs (right s.val c) 0 (⟨32 * f.val + r.val, by omega⟩ : Fin 64) k).trans ?_)
  exact congrArg (fun r' : Fin 256 => xs (right s.val c) (ix2 r' k)) (Fin.ext (by show 192 + (32 * f.val + r.val) = 192 + 32 * f.val + r.val; omega))

/-- The forwarded rows of a device in the same column of devices. -/
theorem fits_col (s : Fin 4) (h : S1x192x4096.ShapeCasts S192x4096) {off : Fin 2 → ℕ} (inb : ∀ b : Fin 2, off b + S192x128.size b ≤ S4096x128.size b)
    (h0 : off 0 = 256 * (shift (colO s) c).val) (h1 : off 1 = 0) :
    Fits xs ws c (size := S192x128.size) inb (reluOf 192 (shapeCast S192x4096 (colR (cvOf xs) c s) h) (wbF ws c)) := by
  refine fits xs ws c 192 _ (shift (colO s) c) 0 (by decide) (fun r k => ?_) inb h0 h1
  refine (shapeCast_1ab_ab_apply _ _ r k).trans ?_
  have e : (rCol s).emb (ix3 (0 : Fin 1) r k) = (ix3 s r k : S4x192x4096.Idx) := by
    funext b
    apply Fin.ext
    match b with
    | ⟨0, _⟩ => show s.val + 1 * 0 = s.val; omega
    | ⟨1, _⟩ => show 0 + 1 * r.val = r.val; omega
    | ⟨2, _⟩ => show 0 + 1 * k.val = k.val; omega
  refine (congrArg (colF (cvOf xs) c) e).trans ((cvOf_at xs (shift (colO s) c) 0 r k).trans ?_)
  exact congrArg (fun r' : Fin 256 => xs (shift (colO s) c) (ix2 r' k)) (Fin.ext (by show r.val = 0 + r.val; omega))

/-- A block of one row read as that row. -/
theorem cast5 {α : Type} (v : S1x1x1x48x4096.Idx → α) (h : S1x1x1x48x4096.ShapeCasts S48x4096) (r : Fin 48) (k : Fin 4096) :
    shapeCast S48x4096 v h (ix2 r k) = v (ix5 (0 : Fin 1) (0 : Fin 1) (0 : Fin 1) r k) :=
  shapeCast_apply v h _ _ (by
    rw [Shape.rowMajor_val_five, Shape.rowMajor_val_two]
    show (((0 * 1 + 0) * 1 + 0) * 48 + r.val) * 4096 + k.val = r.val * 4096 + k.val
    omega)

theorem rRow_emb (i : Fin 4) (d : Fin 3) (j : Fin 2) (r : Fin 48) (k : Fin 4096) :
    (rRow i d j).emb (ix5 (0 : Fin 1) (0 : Fin 1) (0 : Fin 1) r k) = (ix5 i d j r k : S4x3x2x48x4096.Idx) := by
  funext b
  apply Fin.ext
  match b with
  | ⟨0, _⟩ => show i.val + 1 * 0 = i.val; omega
  | ⟨1, _⟩ => show d.val + 1 * 0 = d.val; omega
  | ⟨2, _⟩ => show j.val + 1 * 0 = j.val; omega
  | ⟨3, _⟩ => show 0 + 1 * r.val = r.val; omega
  | ⟨4, _⟩ => show 0 + 1 * k.val = k.val; omega

/-- A quarter of the forwarded rows, come clockwise. -/
theorem fits_cw (i : Fin 4) (d : Fin 3) (j : Fin 2) (v : FVec Ideal S48x4096 .bf16) (h : S1x1x1x48x4096.ShapeCasts S48x4096)
    (hv : v = shapeCast S48x4096 (cwR (cvOf xs) c i d j) h) {off : Fin 2 → ℕ} (inb : ∀ b : Fin 2, off b + S48x128.size b ≤ S4096x128.size b)
    (h0 : off 0 = 256 * (shift (colO (slI i)) (right (4 - hop d) c)).val + 48 * j.val) (h1 : off 1 = 0) :
    Fits xs ws c (size := S48x128.size) inb (reluOf 48 v (wbF ws c)) := by
  subst hv
  have hj := j.isLt
  refine fits xs ws c 48 _ (shift (colO (slI i)) (right (4 - hop d) c)) (48 * j.val) (by omega) (fun r k => ?_) inb h0 h1
  have hr := r.isLt
  refine (cast5 _ h r k).trans ?_
  refine (congrArg (cwF (cvOf xs) c) (rRow_emb i d j r k)).trans ?_
  exact cvOf_at xs (shift (colO (slI i)) (right (4 - hop d) c)) 0 (⟨48 * j.val + r.val, by omega⟩ : Fin 192) k

/-- A quarter of the forwarded rows, come counter-clockwise. -/
theorem fits_ccw (i : Fin 4) (d : Fin 3) (j : Fin 2) (v : FVec Ideal S48x4096 .bf16) (h : S1x1x1x48x4096.ShapeCasts S48x4096)
    (hv : v = shapeCast S48x4096 (ccwR (cvOf xs) c i d j) h) {off : Fin 2 → ℕ} (inb : ∀ b : Fin 2, off b + S48x128.size b ≤ S4096x128.size b)
    (h0 : off 0 = 256 * (shift (colO (slI i)) (right (hop d) c)).val + (96 + 48 * j.val)) (h1 : off 1 = 0) :
    Fits xs ws c (size := S48x128.size) inb (reluOf 48 v (wbF ws c)) := by
  subst hv
  have hj := j.isLt
  refine fits xs ws c 48 _ (shift (colO (slI i)) (right (hop d) c)) (96 + 48 * j.val) (by omega) (fun r k => ?_) inb h0 h1
  have hr := r.isLt
  refine (cast5 _ h r k).trans ?_
  refine (congrArg (ccwF (cvOf xs) c) (rRow_emb i d j r k)).trans ?_
  exact cvOf_at xs (shift (colO (slI i)) (right (hop d) c)) 0 (⟨96 + 48 * j.val + r.val, by omega⟩ : Fin 192) k

/-- The aggregated rows of a device in another row of devices. -/
theorem fits_aggr (s : Fin 3) (q : Fin 4) (v : FVec Ideal S64x4096 .bf16) (h : S1x1x64x4096.ShapeCasts S64x4096)
    (hv : v = shapeCast S64x4096 (aggrR (avOf xs) c s q) h) {off : Fin 2 → ℕ} (inb : ∀ b : Fin 2, off b + S64x128.size b ≤ S4096x128.size b)
    (h0 : off 0 = 256 * (right q.val (shift ((![12, 8, 4] : Fin 3 → ℕ) s) c)).val + 192) (h1 : off 1 = 0) :
    Fits xs ws c (size := S64x128.size) inb (reluOf 64 v (wbF ws c)) := by
  subst hv
  refine fits xs ws c 64 _ (right q.val (shift ((![12, 8, 4] : Fin 3 → ℕ) s) c)) 192 (by decide) (fun r k => ?_) inb h0 h1
  refine (shapeCast_apply _ h _ (ix4 (0 : Fin 1) (0 : Fin 1) r k) ?_).trans ?_
  · rw [Shape.rowMajor_val_four, Shape.rowMajor_val_two]
    show ((0 * 1 + 0) * 64 + r.val) * 4096 + k.val = r.val * 4096 + k.val
    omega
  have e : (rAggr s q).emb (ix4 (0 : Fin 1) (0 : Fin 1) r k) = (ix4 s q r k : S3x4x64x4096.Idx) := by
    funext b
    apply Fin.ext
    match b with
    | ⟨0, _⟩ => show s.val + 1 * 0 = s.val; omega
    | ⟨1, _⟩ => show q.val + 1 * 0 = q.val; omega
    | ⟨2, _⟩ => show 0 + 1 * r.val = r.val; omega
    | ⟨3, _⟩ => show 0 + 1 * k.val = k.val; omega
  refine (congrArg (aggrF (avOf xs) c) e).trans ?_
  exact avOf_at xs (right q.val (shift ((![12, 8, 4] : Fin 3 → ℕ) s) c)) 0 r k

/-! ## A block's maximum -/

/-- A block's maximum, as the body takes it. -/
abbrev mxOf (n : ℕ) (P : FVec Ideal ⟨2, ![n, 128]⟩ .f32) (h1 : (⟨2, ![n, 128]⟩ : Shape).ShapeCasts ⟨3, ![1, n, 128]⟩)
    (h2 : (⟨3, ![1, n, 128]⟩ : Shape).Reduces [1, 2] S1) : Ideal .f32 :=
  extractAt ![0, 0, 0] (shapeCast S1x1x1 (multiReduction .maximumf [1, 2] S1 (shapeCast ⟨3, ![1, n, 128]⟩ P h1) 0xFF800000#32 h2 (.inl rfl) rfl) shapeCasts_S1_S1x1x1) inpos_S1x1x1_p0_0_0

theorem neg_inf : Ideal.ofBits .f32 0xFF800000#32 = (⊥ : EReal) := by
  simp [Ideal.ofBits, Ideal.ieee]

/-- A block's maximum is at most `b` when every entry is. -/
theorem mxOf_le (n : ℕ) (P : FVec Ideal ⟨2, ![n, 128]⟩ .f32) (h1 : (⟨2, ![n, 128]⟩ : Shape).ShapeCasts ⟨3, ![1, n, 128]⟩)
    (h2 : (⟨3, ![1, n, 128]⟩ : Shape).Reduces [1, 2] S1) (b : EReal) : mxOf n P h1 h2 ≤ b ↔ ∀ x, P x ≤ b := by
  have e : mxOf n P h1 h2 = (Finset.univ.filter fun i => h2.drop i = ix1 (0 : Fin 1)).fold max (Ideal.ofBits .f32 0xFF800000#32) (shapeCast ⟨3, ![1, n, 128]⟩ P h1) := by
    refine Eq.trans ?_ (multiReduction_maximumf_eq_fold (F := Ideal) (φ := .f32) (shapeCast ⟨3, ![1, n, 128]⟩ P h1) 0xFF800000#32 h2 (.inl rfl) rfl (ix1 (0 : Fin 1)))
    exact congrArg (multiReduction (F := Ideal) (φ := .f32) .maximumf [1, 2] S1 (shapeCast ⟨3, ![1, n, 128]⟩ P h1) 0xFF800000#32 h2 (.inl rfl) rfl) (one_idx _ _)
  rw [e, neg_inf]
  refine (Finset.fold_max_le (b := (⊥ : EReal)) b).trans ⟨fun h x => ?_, fun h => ⟨bot_le, fun i _ => ?_⟩⟩
  · have hx : x = ix2 (x 0 : Fin n) (x 1 : Fin 128) := funext fun a => by fin_cases a <;> rfl
    have := h.2 (ix3 (0 : Fin 1) (x 0 : Fin n) (x 1 : Fin 128)) (Finset.mem_filter.mpr ⟨Finset.mem_univ _, one_idx _ _⟩)
    exact le_of_eq_of_le ((congrArg P hx).trans (shapeCast_ab_1ab_apply P h1 0 (x 0 : Fin n) (x 1 : Fin 128)).symm) this
  · have hi : i = ix3 (i 0 : Fin 1) (i 1 : Fin n) (i 2 : Fin 128) := funext fun a => by fin_cases a <;> rfl
    exact le_of_eq_of_le ((congrArg (shapeCast ⟨3, ![1, n, 128]⟩ P h1) hi).trans (shapeCast_ab_1ab_apply P h1 (i 0 : Fin 1) (i 1 : Fin n) (i 2 : Fin 128))) (h _)

/-- `v` is the maximum of device `c`'s entries in the rows `M`. -/
def Top (M : ℕ) (v : Ideal .f32) : Prop := ∀ b : EReal, v ≤ b ↔ ∀ y : S4096x128.Idx, M.testBit (y 0).val = true → LE.le (α := EReal) (yOf xs ws c y) b

variable {xs ws c}

/-- A block's maximum is the maximum over the block's rows. -/
theorem top_mx (n : ℕ) {off : Fin 2 → ℕ} {inb : ∀ b : Fin 2, off b + (⟨2, ![n, 128]⟩ : Shape).size b ≤ S4096x128.size b} {P : FVec Ideal ⟨2, ![n, 128]⟩ .f32}
    (hP : Fits xs ws c (size := (⟨2, ![n, 128]⟩ : Shape).size) inb P) (h0 : off 1 = 0) (h1 : (⟨2, ![n, 128]⟩ : Shape).ShapeCasts ⟨3, ![1, n, 128]⟩)
    (h2 : (⟨3, ![1, n, 128]⟩ : Shape).Reduces [1, 2] S1) : Top xs ws c (rowsM (off 0) n) (mxOf n P h1 h2) := fun b => by
  rw [mxOf_le]
  constructor
  · intro h y hy
    obtain ⟨x, rfl⟩ := put_place inb h0 rfl y ((rowsM_bit _ _ _).mp hy)
    rw [← hP]
    exact h x
  · intro h x
    rw [hP]
    refine h _ ((rowsM_bit _ _ _).mpr ?_)
    have hx : (x 0).val < n := (x 0).isLt
    show off 0 ≤ off 0 + 1 * (x 0).val ∧ off 0 + 1 * (x 0).val < off 0 + n
    omega

/-- The larger of two maxima is the maximum over both sets of rows. -/
theorem top_max {M M' : ℕ} {v v' : Ideal .f32} (h : Top xs ws c M v) (h' : Top xs ws c M' v') : Top xs ws c (M ||| M') (Scalar.maximumf v v') := fun b => by
  rw [show Scalar.maximumf v v' = max v v' from rfl, max_le_iff, h b, h' b]
  constructor
  · rintro ⟨hl, hr⟩ y hy
    rw [Nat.testBit_or, Bool.or_eq_true] at hy
    exact hy.elim (hl y) (hr y)
  · intro h
    refine ⟨fun y hy => h y ?_, fun y hy => h y ?_⟩ <;> rw [Nat.testBit_or, hy] <;> simp

/-- Two blocks more. -/
theorem top_two {M M' M'' : ℕ} {v v' v'' : Ideal .f32} (h : Top xs ws c M v) (h' : Top xs ws c M' v') (h'' : Top xs ws c M'' v'') :
    Top xs ws c ((M ||| M') ||| M'') (Scalar.maximumf v (Scalar.maximumf v' v'')) := by
  rw [Nat.or_assoc]
  exact top_max h (top_max h' h'')

end Cert.KernelIdealProof
-- ==== Proof.Blocks.lean ====
/-
# The seventy blocks are the product's entries, and the running maximum is theirs
-/
module

public import proofs.«01_k».proof.Proof.Gemm

@[expose] public section

set_option backward.proofsInPublic true

noncomputable section

namespace Cert.KernelIdealProof

open Cert.KernelIdeal Cert.KernelIdeal.Gen
open Idealize.ShloMosaic
open Idealize.ShloMosaic.TcCoe
open Idealize.ShloMosaic.ValueIdx

variable (xs : Dev nD → Vec Ideal S256x4096 .bf16) (ws : Dev nD → Vec Ideal S4096x128 .bf16) (c : Dev nD) (f0 : (cc0_stg2_0 : Ref sig .tc).ty.Contents (Elt Ideal))

/-! Every block is the entries at its place. -/

theorem ft1 : Fits xs ws c (off := k0_off1 c) (size := S256x128.size) (k0_off1_inb c) (P1 xs ws c) :=
  fits_own xs ws c (off := k0_off1 c) (k0_off1_inb c) (by revert c; decide +kernel) rfl
theorem ft2 : Fits xs ws c (off := k0_off2 c 0#32) (size := S32x128.size) (k0_off2_inb c 0) (P2 xs ws c) :=
  fits_agg xs ws c 3 0 shapeCasts_S1x32x4096_S32x4096 (off := k0_off2 c 0#32) (k0_off2_inb c 0) (by revert c; decide +kernel) rfl
theorem ft3 : Fits xs ws c (off := k0_off3 c 0#32) (size := S32x128.size) (k0_off3_inb c 0) (P3 xs ws c) :=
  fits_agg xs ws c 1 1 shapeCasts_S1x32x4096_S32x4096 (off := k0_off3 c 0#32) (k0_off3_inb c 0) (by revert c; decide +kernel) rfl
theorem ft4 : Fits xs ws c (off := k0_off4 c 0#32 0#32 0#32) (size := S48x128.size) (k0_off4_inb c 0) (P4 xs ws c) :=
  fits_cw xs ws c 0 1 0 _ shapeCasts_S1x1x1x48x4096_S48x4096 rfl (off := k0_off4 c 0#32 0#32 0#32) (k0_off4_inb c 0) (by revert c; decide +kernel) rfl
theorem ft5 : Fits xs ws c (off := k0_off5 c 0#32 0#32 0#32) (size := S48x128.size) (k0_off5_inb c 0) (P5 xs ws c) :=
  fits_ccw xs ws c 0 1 0 _ shapeCasts_S1x1x1x48x4096_S48x4096 rfl (off := k0_off5 c 0#32 0#32 0#32) (k0_off5_inb c 0) (by revert c; decide +kernel) rfl
theorem ft6 : Fits xs ws c (off := k0_off4 c 0#32 0#32 48#32) (size := S48x128.size) (k0_off4_inb c 1) (P6 xs ws c) :=
  fits_cw xs ws c 0 1 1 _ shapeCasts_S1x1x1x48x4096_S48x4096 rfl (off := k0_off4 c 0#32 0#32 48#32) (k0_off4_inb c 1) (by revert c; decide +kernel) rfl
theorem ft7 : Fits xs ws c (off := k0_off5 c 0#32 0#32 48#32) (size := S48x128.size) (k0_off5_inb c 1) (P7 xs ws c) :=
  fits_ccw xs ws c 0 1 1 _ shapeCasts_S1x1x1x48x4096_S48x4096 rfl (off := k0_off5 c 0#32 0#32 48#32) (k0_off5_inb c 1) (by revert c; decide +kernel) rfl
theorem ft8 : Fits xs ws c (off := k0_off2 c 1#32) (size := S32x128.size) (k0_off2_inb c 1) (P8 xs ws c) :=
  fits_agg xs ws c 2 0 shapeCasts_S1x32x4096_S32x4096 (off := k0_off2 c 1#32) (k0_off2_inb c 1) (by revert c; decide +kernel) rfl
theorem ft9 : Fits xs ws c (off := k0_off3 c 1#32) (size := S32x128.size) (k0_off3_inb c 1) (P9 xs ws c) :=
  fits_agg xs ws c 2 1 shapeCasts_S1x32x4096_S32x4096 (off := k0_off3 c 1#32) (k0_off3_inb c 1) (by revert c; decide +kernel) rfl
theorem ft10 : Fits xs ws c (off := k0_off6 c 4294967292#32) (size := S192x128.size) (k0_off6_inb c 0) (P10 xs ws c) :=
  fits_col xs ws c 0 shapeCasts_S1x192x4096_S192x4096 (off := k0_off6 c 4294967292#32) (k0_off6_inb c 0) (by revert c; decide +kernel) rfl
theorem ft11 : Fits xs ws c (off := k0_off4 c 1#32 0#32 0#32) (size := S48x128.size) (k0_off4_inb c 2) (P11 xs ws c) :=
  fits_cw xs ws c 0 0 0 _ shapeCasts_S1x1x1x48x4096_S48x4096 rfl (off := k0_off4 c 1#32 0#32 0#32) (k0_off4_inb c 2) (by revert c; decide +kernel) rfl
theorem ft12 : Fits xs ws c (off := k0_off5 c 1#32 0#32 0#32) (size := S48x128.size) (k0_off5_inb c 2) (P12 xs ws c) :=
  fits_ccw xs ws c 0 0 0 _ shapeCasts_S1x1x1x48x4096_S48x4096 rfl (off := k0_off5 c 1#32 0#32 0#32) (k0_off5_inb c 2) (by revert c; decide +kernel) rfl
theorem ft13 : Fits xs ws c (off := k0_off4 c 1#32 0#32 48#32) (size := S48x128.size) (k0_off4_inb c 3) (P13 xs ws c) :=
  fits_cw xs ws c 0 0 1 _ shapeCasts_S1x1x1x48x4096_S48x4096 rfl (off := k0_off4 c 1#32 0#32 48#32) (k0_off4_inb c 3) (by revert c; decide +kernel) rfl
theorem ft14 : Fits xs ws c (off := k0_off5 c 1#32 0#32 48#32) (size := S48x128.size) (k0_off5_inb c 3) (P14 xs ws c) :=
  fits_ccw xs ws c 0 0 1 _ shapeCasts_S1x1x1x48x4096_S48x4096 rfl (off := k0_off5 c 1#32 0#32 48#32) (k0_off5_inb c 3) (by revert c; decide +kernel) rfl
theorem ft15 : Fits xs ws c (off := k0_off2 c 2#32) (size := S32x128.size) (k0_off2_inb c 2) (P15 xs ws c) :=
  fits_agg xs ws c 1 0 shapeCasts_S1x32x4096_S32x4096 (off := k0_off2 c 2#32) (k0_off2_inb c 2) (by revert c; decide +kernel) rfl
theorem ft16 : Fits xs ws c (off := k0_off3 c 2#32) (size := S32x128.size) (k0_off3_inb c 2) (P16 xs ws c) :=
  fits_agg xs ws c 3 1 shapeCasts_S1x32x4096_S32x4096 (off := k0_off3 c 2#32) (k0_off3_inb c 2) (by revert c; decide +kernel) rfl
theorem ft17 : Fits xs ws c (off := k0_off4 c 2#32 0#32 0#32) (size := S48x128.size) (k0_off4_inb c 4) (P17 xs ws c) :=
  fits_cw xs ws c 0 2 0 _ shapeCasts_S1x1x1x48x4096_S48x4096 rfl (off := k0_off4 c 2#32 0#32 0#32) (k0_off4_inb c 4) (by revert c; decide +kernel) rfl
theorem ft18 : Fits xs ws c (off := k0_off5 c 2#32 0#32 0#32) (size := S48x128.size) (k0_off5_inb c 4) (P18 xs ws c) :=
  fits_ccw xs ws c 0 2 0 _ shapeCasts_S1x1x1x48x4096_S48x4096 rfl (off := k0_off5 c 2#32 0#32 0#32) (k0_off5_inb c 4) (by revert c; decide +kernel) rfl
theorem ft19 : Fits xs ws c (off := k0_off4 c 2#32 0#32 48#32) (size := S48x128.size) (k0_off4_inb c 5) (P19 xs ws c) :=
  fits_cw xs ws c 0 2 1 _ shapeCasts_S1x1x1x48x4096_S48x4096 rfl (off := k0_off4 c 2#32 0#32 48#32) (k0_off4_inb c 5) (by revert c; decide +kernel) rfl
theorem ft20 : Fits xs ws c (off := k0_off5 c 2#32 0#32 48#32) (size := S48x128.size) (k0_off5_inb c 5) (P20 xs ws c) :=
  fits_ccw xs ws c 0 2 1 _ shapeCasts_S1x1x1x48x4096_S48x4096 rfl (off := k0_off5 c 2#32 0#32 48#32) (k0_off5_inb c 5) (by revert c; decide +kernel) rfl
theorem ft21 : Fits xs ws c (off := k0_off4 c 0#32 4294967292#32 0#32) (size := S48x128.size) (k0_off4_inb c 6) (P21 xs ws c) :=
  fits_cw xs ws c 1 1 0 _ shapeCasts_S1x1x1x48x4096_S48x4096 rfl (off := k0_off4 c 0#32 4294967292#32 0#32) (k0_off4_inb c 6) (by revert c; decide +kernel) rfl
theorem ft22 : Fits xs ws c (off := k0_off5 c 0#32 4294967292#32 0#32) (size := S48x128.size) (k0_off5_inb c 6) (P22 xs ws c) :=
  fits_ccw xs ws c 1 1 0 _ shapeCasts_S1x1x1x48x4096_S48x4096 rfl (off := k0_off5 c 0#32 4294967292#32 0#32) (k0_off5_inb c 6) (by revert c; decide +kernel) rfl
theorem ft23 : Fits xs ws c (off := k0_off4 c 0#32 4294967292#32 48#32) (size := S48x128.size) (k0_off4_inb c 7) (P23 xs ws c) :=
  fits_cw xs ws c 1 1 1 _ shapeCasts_S1x1x1x48x4096_S48x4096 rfl (off := k0_off4 c 0#32 4294967292#32 48#32) (k0_off4_inb c 7) (by revert c; decide +kernel) rfl
theorem ft24 : Fits xs ws c (off := k0_off5 c 0#32 4294967292#32 48#32) (size := S48x128.size) (k0_off5_inb c 7) (P24 xs ws c) :=
  fits_ccw xs ws c 1 1 1 _ shapeCasts_S1x1x1x48x4096_S48x4096 rfl (off := k0_off5 c 0#32 4294967292#32 48#32) (k0_off5_inb c 7) (by revert c; decide +kernel) rfl
theorem ft25 : Fits xs ws c (off := k0_off6 c 4#32) (size := S192x128.size) (k0_off6_inb c 1) (P25 xs ws c) :=
  fits_col xs ws c 2 shapeCasts_S1x192x4096_S192x4096 (off := k0_off6 c 4#32) (k0_off6_inb c 1) (by revert c; decide +kernel) rfl
theorem ft26 : Fits xs ws c (off := k0_off4 c 1#32 4294967292#32 0#32) (size := S48x128.size) (k0_off4_inb c 8) (P26 xs ws c) :=
  fits_cw xs ws c 1 0 0 _ shapeCasts_S1x1x1x48x4096_S48x4096 rfl (off := k0_off4 c 1#32 4294967292#32 0#32) (k0_off4_inb c 8) (by revert c; decide +kernel) rfl
theorem ft27 : Fits xs ws c (off := k0_off5 c 1#32 4294967292#32 0#32) (size := S48x128.size) (k0_off5_inb c 8) (P27 xs ws c) :=
  fits_ccw xs ws c 1 0 0 _ shapeCasts_S1x1x1x48x4096_S48x4096 rfl (off := k0_off5 c 1#32 4294967292#32 0#32) (k0_off5_inb c 8) (by revert c; decide +kernel) rfl
theorem ft28 : Fits xs ws c (off := k0_off4 c 1#32 4294967292#32 48#32) (size := S48x128.size) (k0_off4_inb c 9) (P28 xs ws c) :=
  fits_cw xs ws c 1 0 1 _ shapeCasts_S1x1x1x48x4096_S48x4096 rfl (off := k0_off4 c 1#32 4294967292#32 48#32) (k0_off4_inb c 9) (by revert c; decide +kernel) rfl
theorem ft29 : Fits xs ws c (off := k0_off5 c 1#32 4294967292#32 48#32) (size := S48x128.size) (k0_off5_inb c 9) (P29 xs ws c) :=
  fits_ccw xs ws c 1 0 1 _ shapeCasts_S1x1x1x48x4096_S48x4096 rfl (off := k0_off5 c 1#32 4294967292#32 48#32) (k0_off5_inb c 9) (by revert c; decide +kernel) rfl
theorem ft30 : Fits xs ws c (off := k0_off4 c 2#32 4294967292#32 0#32) (size := S48x128.size) (k0_off4_inb c 10) (P30 xs ws c) :=
  fits_cw xs ws c 1 2 0 _ shapeCasts_S1x1x1x48x4096_S48x4096 rfl (off := k0_off4 c 2#32 4294967292#32 0#32) (k0_off4_inb c 10) (by revert c; decide +kernel) rfl
theorem ft31 : Fits xs ws c (off := k0_off5 c 2#32 4294967292#32 0#32) (size := S48x128.size) (k0_off5_inb c 10) (P31 xs ws c) :=
  fits_ccw xs ws c 1 2 0 _ shapeCasts_S1x1x1x48x4096_S48x4096 rfl (off := k0_off5 c 2#32 4294967292#32 0#32) (k0_off5_inb c 10) (by revert c; decide +kernel) rfl
theorem ft32 : Fits xs ws c (off := k0_off4 c 2#32 4294967292#32 48#32) (size := S48x128.size) (k0_off4_inb c 11) (P32 xs ws c) :=
  fits_cw xs ws c 1 2 1 _ shapeCasts_S1x1x1x48x4096_S48x4096 rfl (off := k0_off4 c 2#32 4294967292#32 48#32) (k0_off4_inb c 11) (by revert c; decide +kernel) rfl
theorem ft33 : Fits xs ws c (off := k0_off5 c 2#32 4294967292#32 48#32) (size := S48x128.size) (k0_off5_inb c 11) (P33 xs ws c) :=
  fits_ccw xs ws c 1 2 1 _ shapeCasts_S1x1x1x48x4096_S48x4096 rfl (off := k0_off5 c 2#32 4294967292#32 48#32) (k0_off5_inb c 11) (by revert c; decide +kernel) rfl
theorem ft34 : Fits xs ws c (off := k0_off4 c 0#32 4#32 0#32) (size := S48x128.size) (k0_off4_inb c 12) (P34 xs ws c) :=
  fits_cw xs ws c 2 1 0 _ shapeCasts_S1x1x1x48x4096_S48x4096 rfl (off := k0_off4 c 0#32 4#32 0#32) (k0_off4_inb c 12) (by revert c; decide +kernel) rfl
theorem ft35 : Fits xs ws c (off := k0_off5 c 0#32 4#32 0#32) (size := S48x128.size) (k0_off5_inb c 12) (P35 xs ws c) :=
  fits_ccw xs ws c 2 1 0 _ shapeCasts_S1x1x1x48x4096_S48x4096 rfl (off := k0_off5 c 0#32 4#32 0#32) (k0_off5_inb c 12) (by revert c; decide +kernel) rfl
theorem ft36 : Fits xs ws c (off := k0_off4 c 0#32 4#32 48#32) (size := S48x128.size) (k0_off4_inb c 13) (P36 xs ws c) :=
  fits_cw xs ws c 2 1 1 _ shapeCasts_S1x1x1x48x4096_S48x4096 rfl (off := k0_off4 c 0#32 4#32 48#32) (k0_off4_inb c 13) (by revert c; decide +kernel) rfl
theorem ft37 : Fits xs ws c (off := k0_off5 c 0#32 4#32 48#32) (size := S48x128.size) (k0_off5_inb c 13) (P37 xs ws c) :=
  fits_ccw xs ws c 2 1 1 _ shapeCasts_S1x1x1x48x4096_S48x4096 rfl (off := k0_off5 c 0#32 4#32 48#32) (k0_off5_inb c 13) (by revert c; decide +kernel) rfl
theorem ft38 : Fits xs ws c (off := k0_off6 c 4294967288#32) (size := S192x128.size) (k0_off6_inb c 2) (P38 xs ws c) :=
  fits_col xs ws c 1 shapeCasts_S1x192x4096_S192x4096 (off := k0_off6 c 4294967288#32) (k0_off6_inb c 2) (by revert c; decide +kernel) rfl
theorem ft39 : Fits xs ws c (off := k0_off7 c 12#32 0#32) (size := S64x128.size) (k0_off7_inb c 2 0) (P39 xs ws c) :=
  fits_aggr xs ws c 0 0 _ shapeCasts_S1x1x64x4096_S64x4096 rfl (off := k0_off7 c 12#32 0#32) (k0_off7_inb c 2 0) (by revert c; decide +kernel) rfl
theorem ft40 : Fits xs ws c (off := k0_off7 c 12#32 1#32) (size := S64x128.size) (k0_off7_inb c 2 1) (P40 xs ws c) :=
  fits_aggr xs ws c 0 1 _ shapeCasts_S1x1x64x4096_S64x4096 rfl (off := k0_off7 c 12#32 1#32) (k0_off7_inb c 2 1) (by revert c; decide +kernel) rfl
theorem ft41 : Fits xs ws c (off := k0_off7 c 12#32 2#32) (size := S64x128.size) (k0_off7_inb c 2 2) (P41 xs ws c) :=
  fits_aggr xs ws c 0 2 _ shapeCasts_S1x1x64x4096_S64x4096 rfl (off := k0_off7 c 12#32 2#32) (k0_off7_inb c 2 2) (by revert c; decide +kernel) rfl
theorem ft42 : Fits xs ws c (off := k0_off7 c 12#32 3#32) (size := S64x128.size) (k0_off7_inb c 2 3) (P42 xs ws c) :=
  fits_aggr xs ws c 0 3 _ shapeCasts_S1x1x64x4096_S64x4096 rfl (off := k0_off7 c 12#32 3#32) (k0_off7_inb c 2 3) (by revert c; decide +kernel) rfl
theorem ft43 : Fits xs ws c (off := k0_off4 c 1#32 4#32 0#32) (size := S48x128.size) (k0_off4_inb c 14) (P43 xs ws c) :=
  fits_cw xs ws c 2 0 0 _ shapeCasts_S1x1x1x48x4096_S48x4096 rfl (off := k0_off4 c 1#32 4#32 0#32) (k0_off4_inb c 14) (by revert c; decide +kernel) rfl
theorem ft44 : Fits xs ws c (off := k0_off5 c 1#32 4#32 0#32) (size := S48x128.size) (k0_off5_inb c 14) (P44 xs ws c) :=
  fits_ccw xs ws c 2 0 0 _ shapeCasts_S1x1x1x48x4096_S48x4096 rfl (off := k0_off5 c 1#32 4#32 0#32) (k0_off5_inb c 14) (by revert c; decide +kernel) rfl
theorem ft45 : Fits xs ws c (off := k0_off4 c 1#32 4#32 48#32) (size := S48x128.size) (k0_off4_inb c 15) (P45 xs ws c) :=
  fits_cw xs ws c 2 0 1 _ shapeCasts_S1x1x1x48x4096_S48x4096 rfl (off := k0_off4 c 1#32 4#32 48#32) (k0_off4_inb c 15) (by revert c; decide +kernel) rfl
theorem ft46 : Fits xs ws c (off := k0_off5 c 1#32 4#32 48#32) (size := S48x128.size) (k0_off5_inb c 15) (P46 xs ws c) :=
  fits_ccw xs ws c 2 0 1 _ shapeCasts_S1x1x1x48x4096_S48x4096 rfl (off := k0_off5 c 1#32 4#32 48#32) (k0_off5_inb c 15) (by revert c; decide +kernel) rfl
theorem ft47 : Fits xs ws c (off := k0_off4 c 2#32 4#32 0#32) (size := S48x128.size) (k0_off4_inb c 16) (P47 xs ws c) :=
  fits_cw xs ws c 2 2 0 _ shapeCasts_S1x1x1x48x4096_S48x4096 rfl (off := k0_off4 c 2#32 4#32 0#32) (k0_off4_inb c 16) (by revert c; decide +kernel) rfl
theorem ft48 : Fits xs ws c (off := k0_off5 c 2#32 4#32 0#32) (size := S48x128.size) (k0_off5_inb c 16) (P48 xs ws c) :=
  fits_ccw xs ws c 2 2 0 _ shapeCasts_S1x1x1x48x4096_S48x4096 rfl (off := k0_off5 c 2#32 4#32 0#32) (k0_off5_inb c 16) (by revert c; decide +kernel) rfl
theorem ft49 : Fits xs ws c (off := k0_off4 c 2#32 4#32 48#32) (size := S48x128.size) (k0_off4_inb c 17) (P49 xs ws c) :=
  fits_cw xs ws c 2 2 1 _ shapeCasts_S1x1x1x48x4096_S48x4096 rfl (off := k0_off4 c 2#32 4#32 48#32) (k0_off4_inb c 17) (by revert c; decide +kernel) rfl
theorem ft50 : Fits xs ws c (off := k0_off5 c 2#32 4#32 48#32) (size := S48x128.size) (k0_off5_inb c 17) (P50 xs ws c) :=
  fits_ccw xs ws c 2 2 1 _ shapeCasts_S1x1x1x48x4096_S48x4096 rfl (off := k0_off5 c 2#32 4#32 48#32) (k0_off5_inb c 17) (by revert c; decide +kernel) rfl
theorem ft51 : Fits xs ws c (off := k0_off7 c 4#32 0#32) (size := S64x128.size) (k0_off7_inb c 0 0) (P51 xs ws c) :=
  fits_aggr xs ws c 2 0 _ shapeCasts_S1x1x64x4096_S64x4096 rfl (off := k0_off7 c 4#32 0#32) (k0_off7_inb c 0 0) (by revert c; decide +kernel) rfl
theorem ft52 : Fits xs ws c (off := k0_off7 c 4#32 1#32) (size := S64x128.size) (k0_off7_inb c 0 1) (P52 xs ws c) :=
  fits_aggr xs ws c 2 1 _ shapeCasts_S1x1x64x4096_S64x4096 rfl (off := k0_off7 c 4#32 1#32) (k0_off7_inb c 0 1) (by revert c; decide +kernel) rfl
theorem ft53 : Fits xs ws c (off := k0_off7 c 4#32 2#32) (size := S64x128.size) (k0_off7_inb c 0 2) (P53 xs ws c) :=
  fits_aggr xs ws c 2 2 _ shapeCasts_S1x1x64x4096_S64x4096 rfl (off := k0_off7 c 4#32 2#32) (k0_off7_inb c 0 2) (by revert c; decide +kernel) rfl
theorem ft54 : Fits xs ws c (off := k0_off7 c 4#32 3#32) (size := S64x128.size) (k0_off7_inb c 0 3) (P54 xs ws c) :=
  fits_aggr xs ws c 2 3 _ shapeCasts_S1x1x64x4096_S64x4096 rfl (off := k0_off7 c 4#32 3#32) (k0_off7_inb c 0 3) (by revert c; decide +kernel) rfl
theorem ft55 : Fits xs ws c (off := k0_off4 c 0#32 4294967288#32 0#32) (size := S48x128.size) (k0_off4_inb c 18) (P55 xs ws c) :=
  fits_cw xs ws c 3 1 0 _ shapeCasts_S1x1x1x48x4096_S48x4096 rfl (off := k0_off4 c 0#32 4294967288#32 0#32) (k0_off4_inb c 18) (by revert c; decide +kernel) rfl
theorem ft56 : Fits xs ws c (off := k0_off5 c 0#32 4294967288#32 0#32) (size := S48x128.size) (k0_off5_inb c 18) (P56 xs ws c) :=
  fits_ccw xs ws c 3 1 0 _ shapeCasts_S1x1x1x48x4096_S48x4096 rfl (off := k0_off5 c 0#32 4294967288#32 0#32) (k0_off5_inb c 18) (by revert c; decide +kernel) rfl
theorem ft57 : Fits xs ws c (off := k0_off4 c 0#32 4294967288#32 48#32) (size := S48x128.size) (k0_off4_inb c 19) (P57 xs ws c) :=
  fits_cw xs ws c 3 1 1 _ shapeCasts_S1x1x1x48x4096_S48x4096 rfl (off := k0_off4 c 0#32 4294967288#32 48#32) (k0_off4_inb c 19) (by revert c; decide +kernel) rfl
theorem ft58 : Fits xs ws c (off := k0_off5 c 0#32 4294967288#32 48#32) (size := S48x128.size) (k0_off5_inb c 19) (P58 xs ws c) :=
  fits_ccw xs ws c 3 1 1 _ shapeCasts_S1x1x1x48x4096_S48x4096 rfl (off := k0_off5 c 0#32 4294967288#32 48#32) (k0_off5_inb c 19) (by revert c; decide +kernel) rfl
theorem ft59 : Fits xs ws c (off := k0_off4 c 1#32 4294967288#32 0#32) (size := S48x128.size) (k0_off4_inb c 20) (P59 xs ws c) :=
  fits_cw xs ws c 3 0 0 _ shapeCasts_S1x1x1x48x4096_S48x4096 rfl (off := k0_off4 c 1#32 4294967288#32 0#32) (k0_off4_inb c 20) (by revert c; decide +kernel) rfl
theorem ft60 : Fits xs ws c (off := k0_off5 c 1#32 4294967288#32 0#32) (size := S48x128.size) (k0_off5_inb c 20) (P60 xs ws c) :=
  fits_ccw xs ws c 3 0 0 _ shapeCasts_S1x1x1x48x4096_S48x4096 rfl (off := k0_off5 c 1#32 4294967288#32 0#32) (k0_off5_inb c 20) (by revert c; decide +kernel) rfl
theorem ft61 : Fits xs ws c (off := k0_off4 c 1#32 4294967288#32 48#32) (size := S48x128.size) (k0_off4_inb c 21) (P61 xs ws c) :=
  fits_cw xs ws c 3 0 1 _ shapeCasts_S1x1x1x48x4096_S48x4096 rfl (off := k0_off4 c 1#32 4294967288#32 48#32) (k0_off4_inb c 21) (by revert c; decide +kernel) rfl
theorem ft62 : Fits xs ws c (off := k0_off5 c 1#32 4294967288#32 48#32) (size := S48x128.size) (k0_off5_inb c 21) (P62 xs ws c) :=
  fits_ccw xs ws c 3 0 1 _ shapeCasts_S1x1x1x48x4096_S48x4096 rfl (off := k0_off5 c 1#32 4294967288#32 48#32) (k0_off5_inb c 21) (by revert c; decide +kernel) rfl
theorem ft63 : Fits xs ws c (off := k0_off4 c 2#32 4294967288#32 0#32) (size := S48x128.size) (k0_off4_inb c 22) (P63 xs ws c) :=
  fits_cw xs ws c 3 2 0 _ shapeCasts_S1x1x1x48x4096_S48x4096 rfl (off := k0_off4 c 2#32 4294967288#32 0#32) (k0_off4_inb c 22) (by revert c; decide +kernel) rfl
theorem ft64 : Fits xs ws c (off := k0_off5 c 2#32 4294967288#32 0#32) (size := S48x128.size) (k0_off5_inb c 22) (P64 xs ws c) :=
  fits_ccw xs ws c 3 2 0 _ shapeCasts_S1x1x1x48x4096_S48x4096 rfl (off := k0_off5 c 2#32 4294967288#32 0#32) (k0_off5_inb c 22) (by revert c; decide +kernel) rfl
theorem ft65 : Fits xs ws c (off := k0_off4 c 2#32 4294967288#32 48#32) (size := S48x128.size) (k0_off4_inb c 23) (P65 xs ws c) :=
  fits_cw xs ws c 3 2 1 _ shapeCasts_S1x1x1x48x4096_S48x4096 rfl (off := k0_off4 c 2#32 4294967288#32 48#32) (k0_off4_inb c 23) (by revert c; decide +kernel) rfl
theorem ft66 : Fits xs ws c (off := k0_off5 c 2#32 4294967288#32 48#32) (size := S48x128.size) (k0_off5_inb c 23) (P66 xs ws c) :=
  fits_ccw xs ws c 3 2 1 _ shapeCasts_S1x1x1x48x4096_S48x4096 rfl (off := k0_off5 c 2#32 4294967288#32 48#32) (k0_off5_inb c 23) (by revert c; decide +kernel) rfl
theorem ft67 : Fits xs ws c (off := k0_off7 c 8#32 0#32) (size := S64x128.size) (k0_off7_inb c 1 0) (P67 xs ws c) :=
  fits_aggr xs ws c 1 0 _ shapeCasts_S1x1x64x4096_S64x4096 rfl (off := k0_off7 c 8#32 0#32) (k0_off7_inb c 1 0) (by revert c; decide +kernel) rfl
theorem ft68 : Fits xs ws c (off := k0_off7 c 8#32 1#32) (size := S64x128.size) (k0_off7_inb c 1 1) (P68 xs ws c) :=
  fits_aggr xs ws c 1 1 _ shapeCasts_S1x1x64x4096_S64x4096 rfl (off := k0_off7 c 8#32 1#32) (k0_off7_inb c 1 1) (by revert c; decide +kernel) rfl
theorem ft69 : Fits xs ws c (off := k0_off7 c 8#32 2#32) (size := S64x128.size) (k0_off7_inb c 1 2) (P69 xs ws c) :=
  fits_aggr xs ws c 1 2 _ shapeCasts_S1x1x64x4096_S64x4096 rfl (off := k0_off7 c 8#32 2#32) (k0_off7_inb c 1 2) (by revert c; decide +kernel) rfl
theorem ft70 : Fits xs ws c (off := k0_off7 c 8#32 3#32) (size := S64x128.size) (k0_off7_inb c 1 3) (P70 xs ws c) :=
  fits_aggr xs ws c 1 3 _ shapeCasts_S1x1x64x4096_S64x4096 rfl (off := k0_off7 c 8#32 3#32) (k0_off7_inb c 1 3) (by revert c; decide +kernel) rfl

/-! So the result holds the entries once the blocks are written. -/

theorem hd1 : Agree (M1 c) (O1 xs ws c f0) (yOf xs ws c) := by
  unfold O1 M1
  exact holds_put (off := k0_off1 c) (size := S256x128.size) (k0_off1_inb c) rfl rfl (P1 xs ws c) (ft1 xs ws c) (agree_none _ _)
theorem hd2 : Agree (M2 c) (O2 xs ws c f0) (yOf xs ws c) := by
  unfold O2 M2
  exact holds_put (off := k0_off2 c 0#32) (size := S32x128.size) (k0_off2_inb c 0) rfl rfl (P2 xs ws c) (ft2 xs ws c) (hd1 xs ws c f0)
theorem hd3 : Agree (M3 c) (O3 xs ws c f0) (yOf xs ws c) := by
  unfold O3 M3
  exact holds_put (off := k0_off3 c 0#32) (size := S32x128.size) (k0_off3_inb c 0) rfl rfl (P3 xs ws c) (ft3 xs ws c) (hd2 xs ws c f0)
theorem hd4 : Agree (M4 c) (O4 xs ws c f0) (yOf xs ws c) := by
  unfold O4 M4
  exact holds_put (off := k0_off4 c 0#32 0#32 0#32) (size := S48x128.size) (k0_off4_inb c 0) rfl rfl (P4 xs ws c) (ft4 xs ws c) (hd3 xs ws c f0)
theorem hd5 : Agree (M5 c) (O5 xs ws c f0) (yOf xs ws c) := by
  unfold O5 M5
  exact holds_put (off := k0_off5 c 0#32 0#32 0#32) (size := S48x128.size) (k0_off5_inb c 0) rfl rfl (P5 xs ws c) (ft5 xs ws c) (hd4 xs ws c f0)
theorem hd6 : Agree (M6 c) (O6 xs ws c f0) (yOf xs ws c) := by
  unfold O6 M6
  exact holds_put (off := k0_off4 c 0#32 0#32 48#32) (size := S48x128.size) (k0_off4_inb c 1) rfl rfl (P6 xs ws c) (ft6 xs ws c) (hd5 xs ws c f0)
theorem hd7 : Agree (M7 c) (O7 xs ws c f0) (yOf xs ws c) := by
  unfold O7 M7
  exact holds_put (off := k0_off5 c 0#32 0#32 48#32) (size := S48x128.size) (k0_off5_inb c 1) rfl rfl (P7 xs ws c) (ft7 xs ws c) (hd6 xs ws c f0)
theorem hd8 : Agree (M8 c) (O8 xs ws c f0) (yOf xs ws c) := by
  unfold O8 M8
  exact holds_put (off := k0_off2 c 1#32) (size := S32x128.size) (k0_off2_inb c 1) rfl rfl (P8 xs ws c) (ft8 xs ws c) (hd7 xs ws c f0)
theorem hd9 : Agree (M9 c) (O9 xs ws c f0) (yOf xs ws c) := by
  unfold O9 M9
  exact holds_put (off := k0_off3 c 1#32) (size := S32x128.size) (k0_off3_inb c 1) rfl rfl (P9 xs ws c) (ft9 xs ws c) (hd8 xs ws c f0)
theorem hd10 : Agree (M10 c) (O10 xs ws c f0) (yOf xs ws c) := by
  unfold O10 M10
  exact holds_put (off := k0_off6 c 4294967292#32) (size := S192x128.size) (k0_off6_inb c 0) rfl rfl (P10 xs ws c) (ft10 xs ws c) (hd9 xs ws c f0)
theorem hd11 : Agree (M11 c) (O11 xs ws c f0) (yOf xs ws c) := by
  unfold O11 M11
  exact holds_put (off := k0_off4 c 1#32 0#32 0#32) (size := S48x128.size) (k0_off4_inb c 2) rfl rfl (P11 xs ws c) (ft11 xs ws c) (hd10 xs ws c f0)
theorem hd12 : Agree (M12 c) (O12 xs ws c f0) (yOf xs ws c) := by
  unfold O12 M12
  exact holds_put (off := k0_off5 c 1#32 0#32 0#32) (size := S48x128.size) (k0_off5_inb c 2) rfl rfl (P12 xs ws c) (ft12 xs ws c) (hd11 xs ws c f0)
theorem hd13 : Agree (M13 c) (O13 xs ws c f0) (yOf xs ws c) := by
  unfold O13 M13
  exact holds_put (off := k0_off4 c 1#32 0#32 48#32) (size := S48x128.size) (k0_off4_inb c 3) rfl rfl (P13 xs ws c) (ft13 xs ws c) (hd12 xs ws c f0)
theorem hd14 : Agree (M14 c) (O14 xs ws c f0) (yOf xs ws c) := by
  unfold O14 M14
  exact holds_put (off := k0_off5 c 1#32 0#32 48#32) (size := S48x128.size) (k0_off5_inb c 3) rfl rfl (P14 xs ws c) (ft14 xs ws c) (hd13 xs ws c f0)
theorem hd15 : Agree (M15 c) (O15 xs ws c f0) (yOf xs ws c) := by
  unfold O15 M15
  exact holds_put (off := k0_off2 c 2#32) (size := S32x128.size) (k0_off2_inb c 2) rfl rfl (P15 xs ws c) (ft15 xs ws c) (hd14 xs ws c f0)
theorem hd16 : Agree (M16 c) (O16 xs ws c f0) (yOf xs ws c) := by
  unfold O16 M16
  exact holds_put (off := k0_off3 c 2#32) (size := S32x128.size) (k0_off3_inb c 2) rfl rfl (P16 xs ws c) (ft16 xs ws c) (hd15 xs ws c f0)
theorem hd17 : Agree (M17 c) (O17 xs ws c f0) (yOf xs ws c) := by
  unfold O17 M17
  exact holds_put (off := k0_off4 c 2#32 0#32 0#32) (size := S48x128.size) (k0_off4_inb c 4) rfl rfl (P17 xs ws c) (ft17 xs ws c) (hd16 xs ws c f0)
theorem hd18 : Agree (M18 c) (O18 xs ws c f0) (yOf xs ws c) := by
  unfold O18 M18
  exact holds_put (off := k0_off5 c 2#32 0#32 0#32) (size := S48x128.size) (k0_off5_inb c 4) rfl rfl (P18 xs ws c) (ft18 xs ws c) (hd17 xs ws c f0)
theorem hd19 : Agree (M19 c) (O19 xs ws c f0) (yOf xs ws c) := by
  unfold O19 M19
  exact holds_put (off := k0_off4 c 2#32 0#32 48#32) (size := S48x128.size) (k0_off4_inb c 5) rfl rfl (P19 xs ws c) (ft19 xs ws c) (hd18 xs ws c f0)
theorem hd20 : Agree (M20 c) (O20 xs ws c f0) (yOf xs ws c) := by
  unfold O20 M20
  exact holds_put (off := k0_off5 c 2#32 0#32 48#32) (size := S48x128.size) (k0_off5_inb c 5) rfl rfl (P20 xs ws c) (ft20 xs ws c) (hd19 xs ws c f0)
theorem hd21 : Agree (M21 c) (O21 xs ws c f0) (yOf xs ws c) := by
  unfold O21 M21
  exact holds_put (off := k0_off4 c 0#32 4294967292#32 0#32) (size := S48x128.size) (k0_off4_inb c 6) rfl rfl (P21 xs ws c) (ft21 xs ws c) (hd20 xs ws c f0)
theorem hd22 : Agree (M22 c) (O22 xs ws c f0) (yOf xs ws c) := by
  unfold O22 M22
  exact holds_put (off := k0_off5 c 0#32 4294967292#32 0#32) (size := S48x128.size) (k0_off5_inb c 6) rfl rfl (P22 xs ws c) (ft22 xs ws c) (hd21 xs ws c f0)
theorem hd23 : Agree (M23 c) (O23 xs ws c f0) (yOf xs ws c) := by
  unfold O23 M23
  exact holds_put (off := k0_off4 c 0#32 4294967292#32 48#32) (size := S48x128.size) (k0_off4_inb c 7) rfl rfl (P23 xs ws c) (ft23 xs ws c) (hd22 xs ws c f0)
theorem hd24 : Agree (M24 c) (O24 xs ws c f0) (yOf xs ws c) := by
  unfold O24 M24
  exact holds_put (off := k0_off5 c 0#32 4294967292#32 48#32) (size := S48x128.size) (k0_off5_inb c 7) rfl rfl (P24 xs ws c) (ft24 xs ws c) (hd23 xs ws c f0)
theorem hd25 : Agree (M25 c) (O25 xs ws c f0) (yOf xs ws c) := by
  unfold O25 M25
  exact holds_put (off := k0_off6 c 4#32) (size := S192x128.size) (k0_off6_inb c 1) rfl rfl (P25 xs ws c) (ft25 xs ws c) (hd24 xs ws c f0)
theorem hd26 : Agree (M26 c) (O26 xs ws c f0) (yOf xs ws c) := by
  unfold O26 M26
  exact holds_put (off := k0_off4 c 1#32 4294967292#32 0#32) (size := S48x128.size) (k0_off4_inb c 8) rfl rfl (P26 xs ws c) (ft26 xs ws c) (hd25 xs ws c f0)
theorem hd27 : Agree (M27 c) (O27 xs ws c f0) (yOf xs ws c) := by
  unfold O27 M27
  exact holds_put (off := k0_off5 c 1#32 4294967292#32 0#32) (size := S48x128.size) (k0_off5_inb c 8) rfl rfl (P27 xs ws c) (ft27 xs ws c) (hd26 xs ws c f0)
theorem hd28 : Agree (M28 c) (O28 xs ws c f0) (yOf xs ws c) := by
  unfold O28 M28
  exact holds_put (off := k0_off4 c 1#32 4294967292#32 48#32) (size := S48x128.size) (k0_off4_inb c 9) rfl rfl (P28 xs ws c) (ft28 xs ws c) (hd27 xs ws c f0)
theorem hd29 : Agree (M29 c) (O29 xs ws c f0) (yOf xs ws c) := by
  unfold O29 M29
  exact holds_put (off := k0_off5 c 1#32 4294967292#32 48#32) (size := S48x128.size) (k0_off5_inb c 9) rfl rfl (P29 xs ws c) (ft29 xs ws c) (hd28 xs ws c f0)
theorem hd30 : Agree (M30 c) (O30 xs ws c f0) (yOf xs ws c) := by
  unfold O30 M30
  exact holds_put (off := k0_off4 c 2#32 4294967292#32 0#32) (size := S48x128.size) (k0_off4_inb c 10) rfl rfl (P30 xs ws c) (ft30 xs ws c) (hd29 xs ws c f0)
theorem hd31 : Agree (M31 c) (O31 xs ws c f0) (yOf xs ws c) := by
  unfold O31 M31
  exact holds_put (off := k0_off5 c 2#32 4294967292#32 0#32) (size := S48x128.size) (k0_off5_inb c 10) rfl rfl (P31 xs ws c) (ft31 xs ws c) (hd30 xs ws c f0)
theorem hd32 : Agree (M32 c) (O32 xs ws c f0) (yOf xs ws c) := by
  unfold O32 M32
  exact holds_put (off := k0_off4 c 2#32 4294967292#32 48#32) (size := S48x128.size) (k0_off4_inb c 11) rfl rfl (P32 xs ws c) (ft32 xs ws c) (hd31 xs ws c f0)
theorem hd33 : Agree (M33 c) (O33 xs ws c f0) (yOf xs ws c) := by
  unfold O33 M33
  exact holds_put (off := k0_off5 c 2#32 4294967292#32 48#32) (size := S48x128.size) (k0_off5_inb c 11) rfl rfl (P33 xs ws c) (ft33 xs ws c) (hd32 xs ws c f0)
theorem hd34 : Agree (M34 c) (O34 xs ws c f0) (yOf xs ws c) := by
  unfold O34 M34
  exact holds_put (off := k0_off4 c 0#32 4#32 0#32) (size := S48x128.size) (k0_off4_inb c 12) rfl rfl (P34 xs ws c) (ft34 xs ws c) (hd33 xs ws c f0)
theorem hd35 : Agree (M35 c) (O35 xs ws c f0) (yOf xs ws c) := by
  unfold O35 M35
  exact holds_put (off := k0_off5 c 0#32 4#32 0#32) (size := S48x128.size) (k0_off5_inb c 12) rfl rfl (P35 xs ws c) (ft35 xs ws c) (hd34 xs ws c f0)
theorem hd36 : Agree (M36 c) (O36 xs ws c f0) (yOf xs ws c) := by
  unfold O36 M36
  exact holds_put (off := k0_off4 c 0#32 4#32 48#32) (size := S48x128.size) (k0_off4_inb c 13) rfl rfl (P36 xs ws c) (ft36 xs ws c) (hd35 xs ws c f0)
theorem hd37 : Agree (M37 c) (O37 xs ws c f0) (yOf xs ws c) := by
  unfold O37 M37
  exact holds_put (off := k0_off5 c 0#32 4#32 48#32) (size := S48x128.size) (k0_off5_inb c 13) rfl rfl (P37 xs ws c) (ft37 xs ws c) (hd36 xs ws c f0)
theorem hd38 : Agree (M38 c) (O38 xs ws c f0) (yOf xs ws c) := by
  unfold O38 M38
  exact holds_put (off := k0_off6 c 4294967288#32) (size := S192x128.size) (k0_off6_inb c 2) rfl rfl (P38 xs ws c) (ft38 xs ws c) (hd37 xs ws c f0)
theorem hd39 : Agree (M39 c) (O39 xs ws c f0) (yOf xs ws c) := by
  unfold O39 M39
  exact holds_put (off := k0_off7 c 12#32 0#32) (size := S64x128.size) (k0_off7_inb c 2 0) rfl rfl (P39 xs ws c) (ft39 xs ws c) (hd38 xs ws c f0)
theorem hd40 : Agree (M40 c) (O40 xs ws c f0) (yOf xs ws c) := by
  unfold O40 M40
  exact holds_put (off := k0_off7 c 12#32 1#32) (size := S64x128.size) (k0_off7_inb c 2 1) rfl rfl (P40 xs ws c) (ft40 xs ws c) (hd39 xs ws c f0)
theorem hd41 : Agree (M41 c) (O41 xs ws c f0) (yOf xs ws c) := by
  unfold O41 M41
  exact holds_put (off := k0_off7 c 12#32 2#32) (size := S64x128.size) (k0_off7_inb c 2 2) rfl rfl (P41 xs ws c) (ft41 xs ws c) (hd40 xs ws c f0)
theorem hd42 : Agree (M42 c) (O42 xs ws c f0) (yOf xs ws c) := by
  unfold O42 M42
  exact holds_put (off := k0_off7 c 12#32 3#32) (size := S64x128.size) (k0_off7_inb c 2 3) rfl rfl (P42 xs ws c) (ft42 xs ws c) (hd41 xs ws c f0)
theorem hd43 : Agree (M43 c) (O43 xs ws c f0) (yOf xs ws c) := by
  unfold O43 M43
  exact holds_put (off := k0_off4 c 1#32 4#32 0#32) (size := S48x128.size) (k0_off4_inb c 14) rfl rfl (P43 xs ws c) (ft43 xs ws c) (hd42 xs ws c f0)
theorem hd44 : Agree (M44 c) (O44 xs ws c f0) (yOf xs ws c) := by
  unfold O44 M44
  exact holds_put (off := k0_off5 c 1#32 4#32 0#32) (size := S48x128.size) (k0_off5_inb c 14) rfl rfl (P44 xs ws c) (ft44 xs ws c) (hd43 xs ws c f0)
theorem hd45 : Agree (M45 c) (O45 xs ws c f0) (yOf xs ws c) := by
  unfold O45 M45
  exact holds_put (off := k0_off4 c 1#32 4#32 48#32) (size := S48x128.size) (k0_off4_inb c 15) rfl rfl (P45 xs ws c) (ft45 xs ws c) (hd44 xs ws c f0)
theorem hd46 : Agree (M46 c) (O46 xs ws c f0) (yOf xs ws c) := by
  unfold O46 M46
  exact holds_put (off := k0_off5 c 1#32 4#32 48#32) (size := S48x128.size) (k0_off5_inb c 15) rfl rfl (P46 xs ws c) (ft46 xs ws c) (hd45 xs ws c f0)
theorem hd47 : Agree (M47 c) (O47 xs ws c f0) (yOf xs ws c) := by
  unfold O47 M47
  exact holds_put (off := k0_off4 c 2#32 4#32 0#32) (size := S48x128.size) (k0_off4_inb c 16) rfl rfl (P47 xs ws c) (ft47 xs ws c) (hd46 xs ws c f0)
theorem hd48 : Agree (M48 c) (O48 xs ws c f0) (yOf xs ws c) := by
  unfold O48 M48
  exact holds_put (off := k0_off5 c 2#32 4#32 0#32) (size := S48x128.size) (k0_off5_inb c 16) rfl rfl (P48 xs ws c) (ft48 xs ws c) (hd47 xs ws c f0)
theorem hd49 : Agree (M49 c) (O49 xs ws c f0) (yOf xs ws c) := by
  unfold O49 M49
  exact holds_put (off := k0_off4 c 2#32 4#32 48#32) (size := S48x128.size) (k0_off4_inb c 17) rfl rfl (P49 xs ws c) (ft49 xs ws c) (hd48 xs ws c f0)
theorem hd50 : Agree (M50 c) (O50 xs ws c f0) (yOf xs ws c) := by
  unfold O50 M50
  exact holds_put (off := k0_off5 c 2#32 4#32 48#32) (size := S48x128.size) (k0_off5_inb c 17) rfl rfl (P50 xs ws c) (ft50 xs ws c) (hd49 xs ws c f0)
theorem hd51 : Agree (M51 c) (O51 xs ws c f0) (yOf xs ws c) := by
  unfold O51 M51
  exact holds_put (off := k0_off7 c 4#32 0#32) (size := S64x128.size) (k0_off7_inb c 0 0) rfl rfl (P51 xs ws c) (ft51 xs ws c) (hd50 xs ws c f0)
theorem hd52 : Agree (M52 c) (O52 xs ws c f0) (yOf xs ws c) := by
  unfold O52 M52
  exact holds_put (off := k0_off7 c 4#32 1#32) (size := S64x128.size) (k0_off7_inb c 0 1) rfl rfl (P52 xs ws c) (ft52 xs ws c) (hd51 xs ws c f0)
theorem hd53 : Agree (M53 c) (O53 xs ws c f0) (yOf xs ws c) := by
  unfold O53 M53
  exact holds_put (off := k0_off7 c 4#32 2#32) (size := S64x128.size) (k0_off7_inb c 0 2) rfl rfl (P53 xs ws c) (ft53 xs ws c) (hd52 xs ws c f0)
theorem hd54 : Agree (M54 c) (O54 xs ws c f0) (yOf xs ws c) := by
  unfold O54 M54
  exact holds_put (off := k0_off7 c 4#32 3#32) (size := S64x128.size) (k0_off7_inb c 0 3) rfl rfl (P54 xs ws c) (ft54 xs ws c) (hd53 xs ws c f0)
theorem hd55 : Agree (M55 c) (O55 xs ws c f0) (yOf xs ws c) := by
  unfold O55 M55
  exact holds_put (off := k0_off4 c 0#32 4294967288#32 0#32) (size := S48x128.size) (k0_off4_inb c 18) rfl rfl (P55 xs ws c) (ft55 xs ws c) (hd54 xs ws c f0)
theorem hd56 : Agree (M56 c) (O56 xs ws c f0) (yOf xs ws c) := by
  unfold O56 M56
  exact holds_put (off := k0_off5 c 0#32 4294967288#32 0#32) (size := S48x128.size) (k0_off5_inb c 18) rfl rfl (P56 xs ws c) (ft56 xs ws c) (hd55 xs ws c f0)
theorem hd57 : Agree (M57 c) (O57 xs ws c f0) (yOf xs ws c) := by
  unfold O57 M57
  exact holds_put (off := k0_off4 c 0#32 4294967288#32 48#32) (size := S48x128.size) (k0_off4_inb c 19) rfl rfl (P57 xs ws c) (ft57 xs ws c) (hd56 xs ws c f0)
theorem hd58 : Agree (M58 c) (O58 xs ws c f0) (yOf xs ws c) := by
  unfold O58 M58
  exact holds_put (off := k0_off5 c 0#32 4294967288#32 48#32) (size := S48x128.size) (k0_off5_inb c 19) rfl rfl (P58 xs ws c) (ft58 xs ws c) (hd57 xs ws c f0)
theorem hd59 : Agree (M59 c) (O59 xs ws c f0) (yOf xs ws c) := by
  unfold O59 M59
  exact holds_put (off := k0_off4 c 1#32 4294967288#32 0#32) (size := S48x128.size) (k0_off4_inb c 20) rfl rfl (P59 xs ws c) (ft59 xs ws c) (hd58 xs ws c f0)
theorem hd60 : Agree (M60 c) (O60 xs ws c f0) (yOf xs ws c) := by
  unfold O60 M60
  exact holds_put (off := k0_off5 c 1#32 4294967288#32 0#32) (size := S48x128.size) (k0_off5_inb c 20) rfl rfl (P60 xs ws c) (ft60 xs ws c) (hd59 xs ws c f0)
theorem hd61 : Agree (M61 c) (O61 xs ws c f0) (yOf xs ws c) := by
  unfold O61 M61
  exact holds_put (off := k0_off4 c 1#32 4294967288#32 48#32) (size := S48x128.size) (k0_off4_inb c 21) rfl rfl (P61 xs ws c) (ft61 xs ws c) (hd60 xs ws c f0)
theorem hd62 : Agree (M62 c) (O62 xs ws c f0) (yOf xs ws c) := by
  unfold O62 M62
  exact holds_put (off := k0_off5 c 1#32 4294967288#32 48#32) (size := S48x128.size) (k0_off5_inb c 21) rfl rfl (P62 xs ws c) (ft62 xs ws c) (hd61 xs ws c f0)
theorem hd63 : Agree (M63 c) (O63 xs ws c f0) (yOf xs ws c) := by
  unfold O63 M63
  exact holds_put (off := k0_off4 c 2#32 4294967288#32 0#32) (size := S48x128.size) (k0_off4_inb c 22) rfl rfl (P63 xs ws c) (ft63 xs ws c) (hd62 xs ws c f0)
theorem hd64 : Agree (M64 c) (O64 xs ws c f0) (yOf xs ws c) := by
  unfold O64 M64
  exact holds_put (off := k0_off5 c 2#32 4294967288#32 0#32) (size := S48x128.size) (k0_off5_inb c 22) rfl rfl (P64 xs ws c) (ft64 xs ws c) (hd63 xs ws c f0)
theorem hd65 : Agree (M65 c) (O65 xs ws c f0) (yOf xs ws c) := by
  unfold O65 M65
  exact holds_put (off := k0_off4 c 2#32 4294967288#32 48#32) (size := S48x128.size) (k0_off4_inb c 23) rfl rfl (P65 xs ws c) (ft65 xs ws c) (hd64 xs ws c f0)
theorem hd66 : Agree (M66 c) (O66 xs ws c f0) (yOf xs ws c) := by
  unfold O66 M66
  exact holds_put (off := k0_off5 c 2#32 4294967288#32 48#32) (size := S48x128.size) (k0_off5_inb c 23) rfl rfl (P66 xs ws c) (ft66 xs ws c) (hd65 xs ws c f0)
theorem hd67 : Agree (M67 c) (O67 xs ws c f0) (yOf xs ws c) := by
  unfold O67 M67
  exact holds_put (off := k0_off7 c 8#32 0#32) (size := S64x128.size) (k0_off7_inb c 1 0) rfl rfl (P67 xs ws c) (ft67 xs ws c) (hd66 xs ws c f0)
theorem hd68 : Agree (M68 c) (O68 xs ws c f0) (yOf xs ws c) := by
  unfold O68 M68
  exact holds_put (off := k0_off7 c 8#32 1#32) (size := S64x128.size) (k0_off7_inb c 1 1) rfl rfl (P68 xs ws c) (ft68 xs ws c) (hd67 xs ws c f0)
theorem hd69 : Agree (M69 c) (O69 xs ws c f0) (yOf xs ws c) := by
  unfold O69 M69
  exact holds_put (off := k0_off7 c 8#32 2#32) (size := S64x128.size) (k0_off7_inb c 1 2) rfl rfl (P69 xs ws c) (ft69 xs ws c) (hd68 xs ws c f0)
theorem hd70 : Agree (M70 c) (O70 xs ws c f0) (yOf xs ws c) := by
  unfold O70 M70
  exact holds_put (off := k0_off7 c 8#32 3#32) (size := S64x128.size) (k0_off7_inb c 1 3) rfl rfl (P70 xs ws c) (ft70 xs ws c) (hd69 xs ws c f0)

/-! And the running maximum is the maximum of the entries so far. -/

theorem tp1 : Top xs ws c (M1 c) (V129 xs ws c) := by
  unfold M1
  rw [Nat.zero_or]
  exact top_mx 256 (ft1 xs ws c) rfl shapeCasts_S256x128_S1x256x128 reduces_S1x256x128_S1
theorem tp3 : Top xs ws c (M3 c) (V279 xs ws c) := by
  unfold M3 M2 V279 k0_pay11
  exact top_two (tp1 xs ws c) (top_mx 32 (ft2 xs ws c) rfl shapeCasts_S32x128_S1x32x128 reduces_S1x32x128_S1) (top_mx 32 (ft3 xs ws c) rfl shapeCasts_S32x128_S1x32x128 reduces_S1x32x128_S1)
theorem tp5 : Top xs ws c (M5 c) (V325 xs ws c) := by
  unfold M5 M4 V325 k0_pay15
  exact top_two (tp3 xs ws c) (top_mx 48 (ft4 xs ws c) rfl shapeCasts_S48x128_S1x48x128 reduces_S1x48x128_S1) (top_mx 48 (ft5 xs ws c) rfl shapeCasts_S48x128_S1x48x128 reduces_S1x48x128_S1)
theorem tp7 : Top xs ws c (M7 c) (V356 xs ws c) := by
  unfold M7 M6 V356 k0_pay19
  exact top_two (tp5 xs ws c) (top_mx 48 (ft6 xs ws c) rfl shapeCasts_S48x128_S1x48x128 reduces_S1x48x128_S1) (top_mx 48 (ft7 xs ws c) rfl shapeCasts_S48x128_S1x48x128 reduces_S1x48x128_S1)
theorem tp9 : Top xs ws c (M9 c) (V506 xs ws c) := by
  unfold M9 M8 V506 k0_pay22
  exact top_two (tp7 xs ws c) (top_mx 32 (ft8 xs ws c) rfl shapeCasts_S32x128_S1x32x128 reduces_S1x32x128_S1) (top_mx 32 (ft9 xs ws c) rfl shapeCasts_S32x128_S1x32x128 reduces_S1x32x128_S1)
theorem tp10 : Top xs ws c (M10 c) (V541 xs ws c) := by
  unfold M10 V541 k0_pay24
  exact top_max (tp9 xs ws c) (top_mx 192 (ft10 xs ws c) rfl shapeCasts_S192x128_S1x192x128 reduces_S1x192x128_S1)
theorem tp12 : Top xs ws c (M12 c) (V627 xs ws c) := by
  unfold M12 M11 V627 k0_pay29
  exact top_two (tp10 xs ws c) (top_mx 48 (ft11 xs ws c) rfl shapeCasts_S48x128_S1x48x128 reduces_S1x48x128_S1) (top_mx 48 (ft12 xs ws c) rfl shapeCasts_S48x128_S1x48x128 reduces_S1x48x128_S1)
theorem tp14 : Top xs ws c (M14 c) (V658 xs ws c) := by
  unfold M14 M13 V658 k0_pay34
  exact top_two (tp12 xs ws c) (top_mx 48 (ft13 xs ws c) rfl shapeCasts_S48x128_S1x48x128 reduces_S1x48x128_S1) (top_mx 48 (ft14 xs ws c) rfl shapeCasts_S48x128_S1x48x128 reduces_S1x48x128_S1)
theorem tp16 : Top xs ws c (M16 c) (V764 xs ws c) := by
  unfold M16 M15 V764 k0_pay37
  exact top_two (tp14 xs ws c) (top_mx 32 (ft15 xs ws c) rfl shapeCasts_S32x128_S1x32x128 reduces_S1x32x128_S1) (top_mx 32 (ft16 xs ws c) rfl shapeCasts_S32x128_S1x32x128 reduces_S1x32x128_S1)
theorem tp18 : Top xs ws c (M18 c) (V810 xs ws c) := by
  unfold M18 M17 V810 k0_pay41
  exact top_two (tp16 xs ws c) (top_mx 48 (ft17 xs ws c) rfl shapeCasts_S48x128_S1x48x128 reduces_S1x48x128_S1) (top_mx 48 (ft18 xs ws c) rfl shapeCasts_S48x128_S1x48x128 reduces_S1x48x128_S1)
theorem tp20 : Top xs ws c (M20 c) (V841 xs ws c) := by
  unfold M20 M19 V841 k0_pay45
  exact top_two (tp18 xs ws c) (top_mx 48 (ft19 xs ws c) rfl shapeCasts_S48x128_S1x48x128 reduces_S1x48x128_S1) (top_mx 48 (ft20 xs ws c) rfl shapeCasts_S48x128_S1x48x128 reduces_S1x48x128_S1)
theorem tp22 : Top xs ws c (M22 c) (V959 xs ws c) := by
  unfold M22 M21 V959 k0_pay49
  exact top_two (tp20 xs ws c) (top_mx 48 (ft21 xs ws c) rfl shapeCasts_S48x128_S1x48x128 reduces_S1x48x128_S1) (top_mx 48 (ft22 xs ws c) rfl shapeCasts_S48x128_S1x48x128 reduces_S1x48x128_S1)
theorem tp24 : Top xs ws c (M24 c) (V990 xs ws c) := by
  unfold M24 M23 V990 k0_pay53
  exact top_two (tp22 xs ws c) (top_mx 48 (ft23 xs ws c) rfl shapeCasts_S48x128_S1x48x128 reduces_S1x48x128_S1) (top_mx 48 (ft24 xs ws c) rfl shapeCasts_S48x128_S1x48x128 reduces_S1x48x128_S1)
theorem tp25 : Top xs ws c (M25 c) (V1087 xs ws c) := by
  unfold M25 V1087 k0_pay55
  exact top_max (tp24 xs ws c) (top_mx 192 (ft25 xs ws c) rfl shapeCasts_S192x128_S1x192x128 reduces_S1x192x128_S1)
theorem tp27 : Top xs ws c (M27 c) (V1173 xs ws c) := by
  unfold M27 M26 V1173 k0_pay59
  exact top_two (tp25 xs ws c) (top_mx 48 (ft26 xs ws c) rfl shapeCasts_S48x128_S1x48x128 reduces_S1x48x128_S1) (top_mx 48 (ft27 xs ws c) rfl shapeCasts_S48x128_S1x48x128 reduces_S1x48x128_S1)
theorem tp29 : Top xs ws c (M29 c) (V1204 xs ws c) := by
  unfold M29 M28 V1204 k0_pay63
  exact top_two (tp27 xs ws c) (top_mx 48 (ft28 xs ws c) rfl shapeCasts_S48x128_S1x48x128 reduces_S1x48x128_S1) (top_mx 48 (ft29 xs ws c) rfl shapeCasts_S48x128_S1x48x128 reduces_S1x48x128_S1)
theorem tp31 : Top xs ws c (M31 c) (V1282 xs ws c) := by
  unfold M31 M30 V1282 k0_pay68
  exact top_two (tp29 xs ws c) (top_mx 48 (ft30 xs ws c) rfl shapeCasts_S48x128_S1x48x128 reduces_S1x48x128_S1) (top_mx 48 (ft31 xs ws c) rfl shapeCasts_S48x128_S1x48x128 reduces_S1x48x128_S1)
theorem tp33 : Top xs ws c (M33 c) (V1313 xs ws c) := by
  unfold M33 M32 V1313 k0_pay73
  exact top_two (tp31 xs ws c) (top_mx 48 (ft32 xs ws c) rfl shapeCasts_S48x128_S1x48x128 reduces_S1x48x128_S1) (top_mx 48 (ft33 xs ws c) rfl shapeCasts_S48x128_S1x48x128 reduces_S1x48x128_S1)
theorem tp35 : Top xs ws c (M35 c) (V1431 xs ws c) := by
  unfold M35 M34 V1431 k0_pay78
  exact top_two (tp33 xs ws c) (top_mx 48 (ft34 xs ws c) rfl shapeCasts_S48x128_S1x48x128 reduces_S1x48x128_S1) (top_mx 48 (ft35 xs ws c) rfl shapeCasts_S48x128_S1x48x128 reduces_S1x48x128_S1)
theorem tp37 : Top xs ws c (M37 c) (V1462 xs ws c) := by
  unfold M37 M36 V1462 k0_pay83
  exact top_two (tp35 xs ws c) (top_mx 48 (ft36 xs ws c) rfl shapeCasts_S48x128_S1x48x128 reduces_S1x48x128_S1) (top_mx 48 (ft37 xs ws c) rfl shapeCasts_S48x128_S1x48x128 reduces_S1x48x128_S1)
theorem tp38 : Top xs ws c (M38 c) (V1559 xs ws c) := by
  unfold M38 V1559 k0_pay85
  exact top_max (tp37 xs ws c) (top_mx 192 (ft38 xs ws c) rfl shapeCasts_S192x128_S1x192x128 reduces_S1x192x128_S1)
theorem tp39 : Top xs ws c (M39 c) (V1635 xs ws c) := by
  unfold M39 V1635 k0_pay87
  exact top_max (tp38 xs ws c) (top_mx 64 (ft39 xs ws c) rfl shapeCasts_S64x128_S1x64x128 reduces_S1x64x128_S1)
theorem tp40 : Top xs ws c (M40 c) (V1654 xs ws c) := by
  unfold M40 V1654 k0_pay89
  exact top_max (tp39 xs ws c) (top_mx 64 (ft40 xs ws c) rfl shapeCasts_S64x128_S1x64x128 reduces_S1x64x128_S1)
theorem tp42 : Top xs ws c (M42 c) (V1692 xs ws c) := by
  unfold M42 M41 V1692 k0_pay92
  exact top_max (top_max (tp40 xs ws c) (top_mx 64 (ft41 xs ws c) rfl shapeCasts_S64x128_S1x64x128 reduces_S1x64x128_S1)) (top_mx 64 (ft42 xs ws c) rfl shapeCasts_S64x128_S1x64x128 reduces_S1x64x128_S1)
theorem tp44 : Top xs ws c (M44 c) (V1738 xs ws c) := by
  unfold M44 M43 V1738 k0_pay96
  exact top_two (tp42 xs ws c) (top_mx 48 (ft43 xs ws c) rfl shapeCasts_S48x128_S1x48x128 reduces_S1x48x128_S1) (top_mx 48 (ft44 xs ws c) rfl shapeCasts_S48x128_S1x48x128 reduces_S1x48x128_S1)
theorem tp46 : Top xs ws c (M46 c) (V1769 xs ws c) := by
  unfold M46 M45 V1769 k0_pay100
  exact top_two (tp44 xs ws c) (top_mx 48 (ft45 xs ws c) rfl shapeCasts_S48x128_S1x48x128 reduces_S1x48x128_S1) (top_mx 48 (ft46 xs ws c) rfl shapeCasts_S48x128_S1x48x128 reduces_S1x48x128_S1)
theorem tp48 : Top xs ws c (M48 c) (V1847 xs ws c) := by
  unfold M48 M47 V1847 k0_pay104
  exact top_two (tp46 xs ws c) (top_mx 48 (ft47 xs ws c) rfl shapeCasts_S48x128_S1x48x128 reduces_S1x48x128_S1) (top_mx 48 (ft48 xs ws c) rfl shapeCasts_S48x128_S1x48x128 reduces_S1x48x128_S1)
theorem tp50 : Top xs ws c (M50 c) (V1878 xs ws c) := by
  unfold M50 M49 V1878 k0_pay108
  exact top_two (tp48 xs ws c) (top_mx 48 (ft49 xs ws c) rfl shapeCasts_S48x128_S1x48x128 reduces_S1x48x128_S1) (top_mx 48 (ft50 xs ws c) rfl shapeCasts_S48x128_S1x48x128 reduces_S1x48x128_S1)
theorem tp51 : Top xs ws c (M51 c) (V1976 xs ws c) := by
  unfold M51 V1976 k0_pay110
  exact top_max (tp50 xs ws c) (top_mx 64 (ft51 xs ws c) rfl shapeCasts_S64x128_S1x64x128 reduces_S1x64x128_S1)
theorem tp52 : Top xs ws c (M52 c) (V1995 xs ws c) := by
  unfold M52 V1995 k0_pay112
  exact top_max (tp51 xs ws c) (top_mx 64 (ft52 xs ws c) rfl shapeCasts_S64x128_S1x64x128 reduces_S1x64x128_S1)
theorem tp54 : Top xs ws c (M54 c) (V2033 xs ws c) := by
  unfold M54 M53 V2033 k0_pay116
  exact top_max (top_max (tp52 xs ws c) (top_mx 64 (ft53 xs ws c) rfl shapeCasts_S64x128_S1x64x128 reduces_S1x64x128_S1)) (top_mx 64 (ft54 xs ws c) rfl shapeCasts_S64x128_S1x64x128 reduces_S1x64x128_S1)
theorem tp56 : Top xs ws c (M56 c) (V2079 xs ws c) := by
  unfold M56 M55 V2079 k0_pay120
  exact top_two (tp54 xs ws c) (top_mx 48 (ft55 xs ws c) rfl shapeCasts_S48x128_S1x48x128 reduces_S1x48x128_S1) (top_mx 48 (ft56 xs ws c) rfl shapeCasts_S48x128_S1x48x128 reduces_S1x48x128_S1)
theorem tp58 : Top xs ws c (M58 c) (V2110 xs ws c) := by
  unfold M58 M57 V2110 k0_pay124
  exact top_two (tp56 xs ws c) (top_mx 48 (ft57 xs ws c) rfl shapeCasts_S48x128_S1x48x128 reduces_S1x48x128_S1) (top_mx 48 (ft58 xs ws c) rfl shapeCasts_S48x128_S1x48x128 reduces_S1x48x128_S1)
theorem tp60 : Top xs ws c (M60 c) (V2228 xs ws c) := by
  unfold M60 M59 V2228 k0_pay129
  exact top_two (tp58 xs ws c) (top_mx 48 (ft59 xs ws c) rfl shapeCasts_S48x128_S1x48x128 reduces_S1x48x128_S1) (top_mx 48 (ft60 xs ws c) rfl shapeCasts_S48x128_S1x48x128 reduces_S1x48x128_S1)
theorem tp62 : Top xs ws c (M62 c) (V2259 xs ws c) := by
  unfold M62 M61 V2259 k0_pay134
  exact top_two (tp60 xs ws c) (top_mx 48 (ft61 xs ws c) rfl shapeCasts_S48x128_S1x48x128 reduces_S1x48x128_S1) (top_mx 48 (ft62 xs ws c) rfl shapeCasts_S48x128_S1x48x128 reduces_S1x48x128_S1)
theorem tp64 : Top xs ws c (M64 c) (V2337 xs ws c) := by
  unfold M64 M63 V2337 k0_pay138
  exact top_two (tp62 xs ws c) (top_mx 48 (ft63 xs ws c) rfl shapeCasts_S48x128_S1x48x128 reduces_S1x48x128_S1) (top_mx 48 (ft64 xs ws c) rfl shapeCasts_S48x128_S1x48x128 reduces_S1x48x128_S1)
theorem tp66 : Top xs ws c (M66 c) (V2368 xs ws c) := by
  unfold M66 M65 V2368 k0_pay142
  exact top_two (tp64 xs ws c) (top_mx 48 (ft65 xs ws c) rfl shapeCasts_S48x128_S1x48x128 reduces_S1x48x128_S1) (top_mx 48 (ft66 xs ws c) rfl shapeCasts_S48x128_S1x48x128 reduces_S1x48x128_S1)
theorem tp67 : Top xs ws c (M67 c) (V2396 xs ws c) := by
  unfold M67 V2396 k0_pay144
  exact top_max (tp66 xs ws c) (top_mx 64 (ft67 xs ws c) rfl shapeCasts_S64x128_S1x64x128 reduces_S1x64x128_S1)
theorem tp69 : Top xs ws c (M69 c) (V2434 xs ws c) := by
  unfold M69 M68 V2434 k0_pay147
  exact top_max (top_max (tp67 xs ws c) (top_mx 64 (ft68 xs ws c) rfl shapeCasts_S64x128_S1x64x128 reduces_S1x64x128_S1)) (top_mx 64 (ft69 xs ws c) rfl shapeCasts_S64x128_S1x64x128 reduces_S1x64x128_S1)
theorem tp70 : Top xs ws c (M70 c) (V2453 xs ws c) := by
  unfold M70 V2453 k0_pay150
  exact top_max (tp69 xs ws c) (top_mx 64 (ft70 xs ws c) rfl shapeCasts_S64x128_S1x64x128 reduces_S1x64x128_S1)

end Cert.KernelIdealProof
-- ==== Proof.Answer.lean ====
/-
# What a device's result is at the ideal values
-/
module

public import proofs.«01_k».proof.Proof.Blocks

@[expose] public section

set_option backward.proofsInPublic true

noncomputable section

namespace Cert.KernelIdealProof

open Cert.KernelIdeal Cert.KernelIdeal.Gen
open Idealize.ShloMosaic
open Idealize.ShloMosaic.TcCoe
open Idealize.ShloMosaic.ValueIdx

variable (xs : Dev nD → Vec Ideal S256x4096 .bf16) (ws : Dev nD → Vec Ideal S4096x128 .bf16) (c : Dev nD) (f0 : (cc0_stg2_0 : Ref sig .tc).ty.Contents (Elt Ideal))

/-- What the body has written before it scales: the product's entries. -/
theorem out_eq : O70 xs ws c f0 = yOf xs ws c := agree_all c (hd70 xs ws c f0)

/-- A device's maximum is the maximum of its entries. -/
theorem dev_max (b : EReal) : LE.le (α := EReal) (V2453 xs ws c) b ↔ ∀ y : S4096x128.Idx, LE.le (α := EReal) (yOf xs ws c y) b := by
  refine (tp70 xs ws c b).trans ⟨fun h y => h y ?_, fun h y _ => h y⟩
  rw [cover, Nat.testBit_two_pow_sub_one]
  exact decide_eq_true (y 0).isLt

/-- A slot of the maxima holds the maximum of the device it came from. -/
theorem amR_at (k : Fin 16) : extractAt ![0, 0, 0] (amR (maOf xs ws) c k) inpos_S1x1x1_p0_0_0 = V2453 xs ws (shift (15 - k.val) c) := rfl

/-- `v` is the maximum of this device's and of the first `n` slots' maxima. -/
def Over (n : ℕ) (v : Ideal .f32) : Prop :=
  ∀ b : EReal, v ≤ b ↔ LE.le (α := EReal) (V2453 xs ws c) b ∧ ∀ k : Fin 16, k.val < n → LE.le (α := EReal) (V2453 xs ws (shift (15 - k.val) c)) b

theorem over_none : Over xs ws c 0 (V2453 xs ws c) := fun b => ⟨fun h => ⟨h, fun k hk => absurd hk (Nat.not_lt_zero _)⟩, fun h => h.1⟩

variable {xs ws c}

/-- One slot more. -/
theorem over_step {v : Ideal .f32} (k : Fin 16) (h : Over xs ws c k.val v) :
    Over xs ws c (k.val + 1) (Scalar.maximumf v (extractAt ![0, 0, 0] (amR (maOf xs ws) c k) inpos_S1x1x1_p0_0_0)) := fun b => by
  rw [amR_at, show Scalar.maximumf v (V2453 xs ws (shift (15 - k.val) c)) = max v (V2453 xs ws (shift (15 - k.val) c)) from rfl, max_le_iff, h b]
  constructor
  · rintro ⟨⟨h1, h2⟩, h3⟩
    refine ⟨h1, fun k' hk' => ?_⟩
    rcases Nat.lt_succ_iff_lt_or_eq.mp hk' with hl | he
    · exact h2 k' hl
    · rw [Fin.ext he]; exact h3
  · rintro ⟨h1, h2⟩
    exact ⟨⟨h1, fun k' hk' => h2 k' (Nat.lt_succ_of_lt hk')⟩, h2 k (Nat.lt_succ_self _)⟩

variable (xs ws c)

/-- The maximum the body divides by. -/
def gMax : Ideal .f32 :=
  Scalar.maximumf (Scalar.maximumf (V3214 xs ws c) (extractAt ![0, 0, 0] (V3229 xs ws c) inpos_S1x1x1_p0_0_0)) (extractAt ![0, 0, 0] (amR (maOf xs ws) c 14) inpos_S1x1x1_p0_0_0)

/-- It is over all fifteen slots. -/
theorem over_all : Over xs ws c 15 (gMax xs ws c) := by
  have h2 : Over xs ws c 2 (V3027 xs ws c) := over_step 1 (over_step 0 (over_none xs ws c))
  have h3 : Over xs ws c 3 (V3044 xs ws c) := over_step 2 h2
  have h5 : Over xs ws c 5 (V3078 xs ws c) := over_step 4 (over_step 3 h3)
  have h6 : Over xs ws c 6 (V3095 xs ws c) := over_step 5 h5
  have h8 : Over xs ws c 8 (V3129 xs ws c) := over_step 7 (over_step 6 h6)
  have h9 : Over xs ws c 9 (V3146 xs ws c) := over_step 8 h8
  have h11 : Over xs ws c 11 (V3180 xs ws c) := over_step 10 (over_step 9 h9)
  have h12 : Over xs ws c 12 (V3197 xs ws c) := over_step 11 h11
  have h13 : Over xs ws c 13 (V3214 xs ws c) := over_step 12 h12
  exact over_step 14 (over_step 13 h13)

/-- The slots are the other devices. -/
theorem others : ∀ c d : Dev nD, d = c ∨ ∃ k : Fin 16, k.val < 15 ∧ shift (15 - k.val) c = d := by decide +kernel

/-- The maximum is the maximum of all devices' entries. -/
theorem gMax_le (b : EReal) : LE.le (α := EReal) (gMax xs ws c) b ↔ ∀ (d : Dev nD) (y : S4096x128.Idx), LE.le (α := EReal) (yOf xs ws d y) b := by
  refine (over_all xs ws c b).trans ⟨fun h d => ?_, fun h => ⟨(dev_max xs ws c b).mpr (h c), fun k _ => (dev_max xs ws _ b).mpr (h _)⟩⟩
  rcases others c d with rfl | ⟨k, hk, rfl⟩
  · exact (dev_max xs ws _ b).mp h.1
  · exact (dev_max xs ws _ b).mp (h.2 k hk)

/-- An entry scaled, rounded, cut off and scaled back, at the maximum `g`. -/
def quant (g y : Ideal .f32) : Ideal .f32 :=
  FloatOps.mulf (FloatOps.minimumf (FloatOps.ofBits .f32 0x42FE0000#32) (FloatOps.maximumf (FloatOps.ofBits .f32 0xC2FE0000#32)
    (FloatOps.roundeven (FloatOps.divf y (FloatOps.divf g (FloatOps.ofBits .f32 0x42FE0000#32)))))) (FloatOps.divf g (FloatOps.ofBits .f32 0x42FE0000#32))

theorem out_all (g : (cc0_stg2_0 : Ref sig .tc).ty.Contents (Elt Ideal)) : outM.view.readAt (Elt Ideal) rAll.toLoadRect g = g := by
  funext i
  refine congrArg g (funext fun a => Fin.ext ?_)
  match a with
  | ⟨0, _⟩ => show 0 + 1 * (i 0).val = (i 0).val; omega
  | ⟨1, _⟩ => show 0 + 1 * (i 1).val = (i 1).val; omega

/-- A device's result. -/
theorem result_at (i : S4096x128.Idx) : V3260 xs ws c f0 i = quant (gMax xs ws c) (yOf xs ws c i) := by
  unfold V3260
  rw [out_all, out_eq]
  unfold k0_pay161
  rw [cast_self]
  rfl

end Cert.KernelIdealProof
-- ==== Proof.Value.lean ====
/-
# The kernel's result is the reference's
-/
module

public import proofs.«01_k».proof.Defs
public import proofs.«01_k».proof.Proof.Answer
public import proofs.«01_k».proof.Proof.Frames
public import Idealize.ShloMosaic.Lib.StackMember

@[expose] public section

set_option backward.proofsInPublic true

noncomputable section

namespace Cert.Proof

open Idealize.ShloMosaic Idealize.SL.Sem
open Idealize.ShloMosaic.TcCoe
open Idealize.ShloMosaic.ValueIdx
open Cert.KernelIdealProof

/-! ## The reference's value -/

section Ref

open Cert.ReferenceIdeal Cert.ReferenceIdeal.Gen

variable (A : FVec Ideal S4096x4096 .bf16) (B : FVec Ideal S4096x2048 .bf16)

/-- The reference's product, cut off below at zero. -/
def refY : FVec Ideal S4096x2048 .f32 :=
  maximumf (Host.dotGeneral dot_S4096x4096_S4096x2048_S4096x2048_1_0_0_1_n_n none (extf .f32 A bitsLt_bf16_f32) (extf .f32 B bitsLt_bf16_f32))
    (broadcastInDim S4096x2048 ![] bcast_S_S4096x2048 (constant S_ .f32 0x00000000#32))

/-- An entry of it. -/
theorem refY_at (r : Fin 4096) (j : Fin 2048) : refY A B (ix2 r j) = max (∑ k : Fin 4096, A (ix2 r k) * B (ix2 k j)) (0 : EReal) := by
  show max (Host.dotGeneral (DotDims.plain 4096 4096 2048) none (extf .f32 A bitsLt_bf16_f32) (extf .f32 B bitsLt_bf16_f32) (ix2 r j)) (Ideal.ofBits .f32 0x00000000#32) = _
  rw [StackMember.dotGeneral_plain_apply, Ideal.ofBits_zero_f32]
  rfl

/-- The reference's maximum. -/
def refG : FVec Ideal S_ .f32 := Host.reduce FloatOps.maximumf (Host.absf (refY A B)) (constant S_ .f32 0xFF800000#32) reducesTo_S4096x2048_S_d0_1 h_S_

theorem refY_nonneg (i : S4096x2048.Idx) : LE.le (α := EReal) 0 (refY A B i) := by
  have hi : i = ix2 (i 0 : Fin 4096) (i 1 : Fin 2048) := funext fun a => by fin_cases a <;> rfl
  exact le_of_le_of_eq (le_max_right _ _) ((congrArg (refY A B) hi).trans (refY_at A B (i 0 : Fin 4096) (i 1 : Fin 2048))).symm

/-- A number from zero on is its own magnitude. -/
theorem abs_self {y : EReal} (h : 0 ≤ y) : max y (-y) = y := max_eq_left ((EReal.neg_le_neg_iff.mpr h).trans (by simpa using h))

/-- It is at most `b` when every entry is. -/
theorem refG_le (j : S_.Idx) (b : EReal) : LE.le (α := EReal) (refG A B j) b ↔ ∀ i, LE.le (α := EReal) (refY A B i) b := by
  have e : refG A B j = (Finset.univ.filter fun i => reducesTo_S4096x2048_S_d0_1.drop i = j).fold (max : EReal → EReal → EReal) (Ideal.ofBits .f32 0xFF800000#32) (fun i => max (refY A B i : EReal) (-(refY A B i : EReal))) :=
    Host.reduce_eq_fold (FloatOps.maximumf (F := Ideal) (φ := .f32)) (Host.absf (refY A B)) (constant S_ .f32 0xFF800000#32) reducesTo_S4096x2048_S_d0_1 h_S_ j
  rw [e, neg_inf]
  refine (Finset.fold_max_le (b := (⊥ : EReal)) b).trans ⟨fun h i => ?_, fun h => ⟨bot_le, fun i _ => ?_⟩⟩
  · exact le_of_eq_of_le (abs_self (refY_nonneg A B i)).symm (h.2 i (Finset.mem_filter.mpr ⟨Finset.mem_univ _, funext fun a => a.elim0⟩))
  · exact le_of_eq_of_le (abs_self (refY_nonneg A B i)) (h i)

/-- The reference's result. -/
def refOut : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (refY A B) (broadcastInDim S4096x2048 ![] bcast_S_S4096x2048 (Host.divf (refG A B) (constant S_ .f32 0x42FE0000#32)))))))
    (broadcastInDim S4096x2048 ![] bcast_S_S4096x2048 (Host.divf (refG A B) (constant S_ .f32 0x42FE0000#32)))

/-- An entry of it. -/
theorem refOut_at (i : S4096x2048.Idx) : refOut A B i = quant (refG A B fun a => a.elim0) (refY A B i) := by
  have hj : ∀ j : S_.Idx, j = fun a => a.elim0 := fun j => funext fun a => a.elim0
  show quant (refG A B _) (refY A B i) = _
  rw [hj (fun a => _)]

end Ref

/-! ## The blocks -/

section Blocks

open Cert.KernelIdeal Cert.KernelIdeal.Gen

variable (A : FVec Ideal Cert.ReferenceIdeal.S4096x4096 .bf16) (B : FVec Ideal Cert.ReferenceIdeal.S4096x2048 .bf16)

/-- What device `c` holds of the left operand. -/
abbrev xBlk (c : Dev nD) : Vec Ideal S256x4096 .bf16 := Layout.block ⟨2, ![256, 4096]⟩ ⟨2, ![4096, 4096]⟩ 0 16 c A
/-- What it holds of the right operand. -/
abbrev wBlk (c : Dev nD) : Vec Ideal S4096x128 .bf16 := Layout.block ⟨2, ![4096, 128]⟩ ⟨2, ![4096, 2048]⟩ 1 16 c B

theorem xBlk_at (c : Dev nD) (r : Fin 256) (k : Fin 4096) : xBlk A c (ix2 r k) = A (ix2 (⟨c.val * 256 + r.val, by have : c.val < 16 := c.isLt; omega⟩ : Fin 4096) k) :=
  congrArg A (funext fun a => Fin.ext (by match a with | ⟨0, _⟩ => rfl | ⟨1, _⟩ => rfl))

theorem wBlk_at (c : Dev nD) (k : Fin 4096) (j : Fin 128) : wBlk B c (ix2 k j) = B (ix2 k (⟨c.val * 128 + j.val, by have : c.val < 16 := c.isLt; omega⟩ : Fin 2048)) :=
  congrArg B (funext fun a => Fin.ext (by match a with | ⟨0, _⟩ => rfl | ⟨1, _⟩ => rfl))

/-- Device `c`'s entries are the reference's in its columns. -/
theorem yOf_ref (c : Dev nD) (r : Fin 4096) (j : Fin 128) :
    yOf (xBlk A) (wBlk B) c (ix2 r j) = refY A B (ix2 r (⟨c.val * 128 + j.val, by have : c.val < 16 := c.isLt; omega⟩ : Fin 2048)) := by
  have hr := r.isLt
  refine (yOf_at (xBlk A) (wBlk B) c (ix2 r j) (⟨r.val / 256, by show _ < 16; omega⟩ : Dev nD) (⟨r.val % 256, Nat.mod_lt _ (by decide)⟩ : Fin 256) j ?_ rfl).trans ?_
  · show r.val = 256 * (r.val / 256) + r.val % 256
    omega
  rw [refY_at]
  unfold yAt
  refine congrArg (max · (0 : EReal)) (Finset.sum_congr rfl fun k _ => ?_)
  rw [xBlk_at, wBlk_at]
  refine congrArg (fun r' : Fin 4096 => A (ix2 r' k) * B (ix2 k (⟨c.val * 128 + j.val, _⟩ : Fin 2048))) (Fin.ext ?_)
  show r.val / 256 * 256 + r.val % 256 = r.val
  omega

/-- The kernel divides by the reference's maximum. -/
theorem gMax_ref (c : Dev nD) : gMax (xBlk A) (wBlk B) c = refG A B fun a => a.elim0 := by
  refine eq_of_forall_ge_iff (α := EReal) fun b => ?_
  refine (gMax_le (xBlk A) (wBlk B) c b).trans (Iff.trans ⟨fun h i => ?_, fun h d y => ?_⟩ (refG_le A B _ b).symm)
  · have hi : i = ix2 (i 0 : Fin 4096) (i 1 : Fin 2048) := funext fun a => by fin_cases a <;> rfl
    have h1 : (i 1).val < 2048 := (i 1).isLt
    have := h (⟨(i 1).val / 128, by show _ < 16; omega⟩ : Dev nD) (ix2 (i 0 : Fin 4096) (⟨(i 1).val % 128, Nat.mod_lt _ (by decide)⟩ : Fin 128))
    refine le_of_eq_of_le ((congrArg (refY A B) ?_).trans (yOf_ref A B _ (i 0 : Fin 4096) _).symm) this
    refine hi.trans (congrArg (ix2 (i 0 : Fin 4096)) (Fin.ext ?_))
    show (i 1).val = (i 1).val / 128 * 128 + (i 1).val % 128
    omega
  · have hy : y = ix2 (y 0 : Fin 4096) (y 1 : Fin 128) := funext fun a => by fin_cases a <;> rfl
    exact le_of_eq_of_le ((congrArg (yOf (xBlk A) (wBlk B) d) hy).trans (yOf_ref A B d (y 0 : Fin 4096) (y 1 : Fin 128))) (h _)

/-- A device's result is its block of the reference's. -/
theorem result_ref (c : Dev nD) (f0 : (cc0_stg2_0 : Ref sig .tc).ty.Contents (Elt Ideal)) :
    V3260 (xBlk A) (wBlk B) c f0 = Layout.block ⟨2, ![4096, 128]⟩ ⟨2, ![4096, 2048]⟩ 1 16 c (refOut A B) := funext fun i => by
  have hi : i = ix2 (i 0 : Fin 4096) (i 1 : Fin 128) := funext fun a => by fin_cases a <;> rfl
  refine (result_at (xBlk A) (wBlk B) c f0 i).trans ?_
  refine Eq.trans ?_ (refOut_at A B _).symm
  rw [gMax_ref]
  refine congrArg (quant _) (((congrArg (yOf (xBlk A) (wBlk B) c) hi).trans (yOf_ref A B c (i 0 : Fin 4096) (i 1 : Fin 128))).trans (congrArg (refY A B) ?_))
  exact funext fun a => Fin.ext (by match a with | ⟨0, _⟩ => rfl | ⟨1, _⟩ => rfl)

end Blocks

/-! ## The claim -/

section Claim

open Cert.KernelIdeal Cert.KernelIdeal.Gen

variable (m : (ℓ : Loc nD τ sig) → Buf (Elt Ideal) ℓ) (ρ : Dev nD → PrngReg)

/-- A device's rows as staged are its rows. -/
theorem xst_eq (c : Dev nD) : xst m c = m ((c : Thread nD τ).loc main_arg0) :=
  Memref.read_access_unit_zero (Elt Ideal) main_arg0 (funext fun a => by fin_cases a <;> decide) (fun a => by fin_cases a <;> decide) _

/-- Its columns as staged are its columns. -/
theorem wst_eq (c : Dev nD) : wst m c = m ((c : Thread nD τ).loc main_arg1) :=
  Memref.read_access_unit_zero (Elt Ideal) main_arg1 (funext fun a => by fin_cases a <;> decide) (fun a => by fin_cases a <;> decide) _

/-- The result's array after the run is what the body left. -/
theorem finalA_2 (c : Dev nD) : finalA m ρ c (2 : Fin 3) = ost m c := by
  have h : (win0_2.blk t0_0).view.read (Elt Ideal) (finalA m ρ c (2 : Fin 3)) = ost m c := by
    unfold finalA
    rw [show cfg0.N = (t0_0 : Fin cfg0.N).val + 1 from N_0, (dats m ρ 0 c).arrAt_succ (2 : Fin 3) t0_0]
    rw [show (cfg0.win (2 : Fin 3)).flush t0_0 = true from flush0_2 t0_0, if_pos rfl]
    exact View.read_write_univ _ _
  exact (Memref.read_access_unit_zero (Elt Ideal) main_v1 (funext fun a => by fin_cases a <;> decide) (fun a => by fin_cases a <;> decide) _).symm.trans h

/-- From blocks of the whole operands the kernels leave the blocks of the reference's result. -/
theorem algebraic : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run defs _ _).mono (fun _ h c => ⟨(h.1 c (2 : Fin 3)).trans ?_, (h.1 c (0 : Fin 3)).trans (finalA_0 m ρ c), (h.1 c (1 : Fin 3)).trans (finalA_1 m ρ c)⟩)
      (run_main (F := Ideal) m ρ)
    refine (finalA_2 m ρ c).trans ?_
    unfold ost
    rw [show xst m = _ from funext fun d => (xst_eq m d).trans (hagree d).1, show wst m = _ from funext fun d => (wst_eq m d).trans (hagree d).2]
    exact result_ref _ _ c _
  · exact (θ_run Cert.ReferenceIdeal.defs _ _).mono (fun _ h => h 0) (Cert.ReferenceIdeal.Value.run (F := Ideal) m' ρ')

end Claim

end Cert.Proof
-- ==== Proof.lean ====
/-
# The claims
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
